-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_finite1 [hPre_finite1 : Cert.Pre_finite1.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.2.2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.2.2.2.2.1 = (fun _ => 1#1)
    ∧ (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))).2.2.2.2.2.2.2.2 = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_finite1 [hPre_finite1 : Cert.Pre_finite1.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.2.2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.2.2.2.2.1 = (fun _ => 1#1)
    ∧ (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))).2.2.2.2.2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite1 [hPre_finite1 : Cert.Pre_finite1.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite1.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).1 = (fun _ => 1#1)
    ∧ (Cert.Pre_finite1.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.1 = (fun _ => 1#1)
    ∧ (Cert.Pre_finite1.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.1 = (fun _ => 1#1)
    ∧ (Cert.Pre_finite1.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.1 = (fun _ => 1#1)
    ∧ (Cert.Pre_finite1.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.1 = (fun _ => 1#1)
    ∧ (Cert.Pre_finite1.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.2.1 = (fun _ => 1#1)
    ∧ (Cert.Pre_finite1.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.2.2.1 = (fun _ => 1#1)
    ∧ (Cert.Pre_finite1.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.2.2.2.1 = (fun _ => 1#1)
    ∧ (Cert.Pre_finite1.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite1 [hPre_finite1 : Cert.Pre_finite1.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite1.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).1 = (fun _ => 1#1)
    ∧ (Cert.Pre_finite1.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.1 = (fun _ => 1#1)
    ∧ (Cert.Pre_finite1.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.1 = (fun _ => 1#1)
    ∧ (Cert.Pre_finite1.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.1 = (fun _ => 1#1)
    ∧ (Cert.Pre_finite1.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.1 = (fun _ => 1#1)
    ∧ (Cert.Pre_finite1.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.2.1 = (fun _ => 1#1)
    ∧ (Cert.Pre_finite1.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.2.2.1 = (fun _ => 1#1)
    ∧ (Cert.Pre_finite1.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.2.2.2.1 = (fun _ => 1#1)
    ∧ (Cert.Pre_finite1.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ r.2.sem = fun _ => 0)

def quiescent_Kernel1Ideal_pre_finite1 [hKernel1Ideal : Cert.Kernel1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_finite1 m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8))
      ∧ r.2.sem = fun _ => 0)

def quiescent_Reference1Ideal_pre_finite1 [hReference1Ideal : Cert.Reference1Ideal.Facts] [hPre_finite1 : Cert.Pre_finite1.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_finite1 m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Kernel12Ideal_pre_finite1 [hKernel12Ideal : Cert.Kernel12Ideal.Facts] [hPre_finite1 : Cert.Pre_finite1.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite1 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Reference12Ideal_pre_finite1 [hReference12Ideal : Cert.Reference12Ideal.Facts] [hPre_finite1 : Cert.Pre_finite1.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite1 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10)
      ∧ r.2.mem ((c.tc : Thread Cert.Kernel17.nD Cert.Kernel17.τ).loc Cert.Kernel17.main_arg11) = m ((c.tc : Thread Cert.Kernel17.nD Cert.Kernel17.τ).loc Cert.Kernel17.main_arg11)
      ∧ r.2.mem ((c.tc : Thread Cert.Kernel17.nD Cert.Kernel17.τ).loc Cert.Kernel17.main_arg12) = m ((c.tc : Thread Cert.Kernel17.nD Cert.Kernel17.τ).loc Cert.Kernel17.main_arg12)
      ∧ r.2.mem ((c.tc : Thread Cert.Kernel17.nD Cert.Kernel17.τ).loc Cert.Kernel17.main_arg13) = m ((c.tc : Thread Cert.Kernel17.nD Cert.Kernel17.τ).loc Cert.Kernel17.main_arg13)
      ∧ r.2.mem ((c.tc : Thread Cert.Kernel17.nD Cert.Kernel17.τ).loc Cert.Kernel17.main_arg14) = m ((c.tc : Thread Cert.Kernel17.nD Cert.Kernel17.τ).loc Cert.Kernel17.main_arg14)
      ∧ r.2.mem ((c.tc : Thread Cert.Kernel17.nD Cert.Kernel17.τ).loc Cert.Kernel17.main_arg15) = m ((c.tc : Thread Cert.Kernel17.nD Cert.Kernel17.τ).loc Cert.Kernel17.main_arg15)
      ∧ r.2.mem ((c.tc : Thread Cert.Kernel17.nD Cert.Kernel17.τ).loc Cert.Kernel17.main_arg16) = m ((c.tc : Thread Cert.Kernel17.nD Cert.Kernel17.τ).loc Cert.Kernel17.main_arg16)
      ∧ r.2.mem ((c.tc : Thread Cert.Kernel17.nD Cert.Kernel17.τ).loc Cert.Kernel17.main_arg17) = m ((c.tc : Thread Cert.Kernel17.nD Cert.Kernel17.τ).loc Cert.Kernel17.main_arg17)
      ∧ r.2.mem ((c.tc : Thread Cert.Kernel17.nD Cert.Kernel17.τ).loc Cert.Kernel17.main_arg18) = m ((c.tc : Thread Cert.Kernel17.nD Cert.Kernel17.τ).loc Cert.Kernel17.main_arg18))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
      ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
      ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12)
      ∧ r.2.mem ((c.tc : Thread Cert.Kernel17Ideal.nD Cert.Kernel17Ideal.τ).loc Cert.Kernel17Ideal.main_arg13) = m ((c.tc : Thread Cert.Kernel17Ideal.nD Cert.Kernel17Ideal.τ).loc Cert.Kernel17Ideal.main_arg13)
      ∧ r.2.mem ((c.tc : Thread Cert.Kernel17Ideal.nD Cert.Kernel17Ideal.τ).loc Cert.Kernel17Ideal.main_arg14) = m ((c.tc : Thread Cert.Kernel17Ideal.nD Cert.Kernel17Ideal.τ).loc Cert.Kernel17Ideal.main_arg14)
      ∧ r.2.mem ((c.tc : Thread Cert.Kernel17Ideal.nD Cert.Kernel17Ideal.τ).loc Cert.Kernel17Ideal.main_arg15) = m ((c.tc : Thread Cert.Kernel17Ideal.nD Cert.Kernel17Ideal.τ).loc Cert.Kernel17Ideal.main_arg15)
      ∧ r.2.mem ((c.tc : Thread Cert.Kernel17Ideal.nD Cert.Kernel17Ideal.τ).loc Cert.Kernel17Ideal.main_arg16) = m ((c.tc : Thread Cert.Kernel17Ideal.nD Cert.Kernel17Ideal.τ).loc Cert.Kernel17Ideal.main_arg16)
      ∧ r.2.mem ((c.tc : Thread Cert.Kernel17Ideal.nD Cert.Kernel17Ideal.τ).loc Cert.Kernel17Ideal.main_arg17) = m ((c.tc : Thread Cert.Kernel17Ideal.nD Cert.Kernel17Ideal.τ).loc Cert.Kernel17Ideal.main_arg17)
      ∧ r.2.mem ((c.tc : Thread Cert.Kernel17Ideal.nD Cert.Kernel17Ideal.τ).loc Cert.Kernel17Ideal.main_arg18) = m ((c.tc : Thread Cert.Kernel17Ideal.nD Cert.Kernel17Ideal.τ).loc Cert.Kernel17Ideal.main_arg18))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11)
      ∧ r.2.mem ((c.tc : Thread Cert.Reference17Ideal.nD Cert.Reference17Ideal.τ).loc Cert.Reference17Ideal.main_arg12) = m ((c.tc : Thread Cert.Reference17Ideal.nD Cert.Reference17Ideal.τ).loc Cert.Reference17Ideal.main_arg12)
      ∧ r.2.mem ((c.tc : Thread Cert.Reference17Ideal.nD Cert.Reference17Ideal.τ).loc Cert.Reference17Ideal.main_arg13) = m ((c.tc : Thread Cert.Reference17Ideal.nD Cert.Reference17Ideal.τ).loc Cert.Reference17Ideal.main_arg13)
      ∧ r.2.mem ((c.tc : Thread Cert.Reference17Ideal.nD Cert.Reference17Ideal.τ).loc Cert.Reference17Ideal.main_arg14) = m ((c.tc : Thread Cert.Reference17Ideal.nD Cert.Reference17Ideal.τ).loc Cert.Reference17Ideal.main_arg14)
      ∧ r.2.mem ((c.tc : Thread Cert.Reference17Ideal.nD Cert.Reference17Ideal.τ).loc Cert.Reference17Ideal.main_arg15) = m ((c.tc : Thread Cert.Reference17Ideal.nD Cert.Reference17Ideal.τ).loc Cert.Reference17Ideal.main_arg15)
      ∧ r.2.mem ((c.tc : Thread Cert.Reference17Ideal.nD Cert.Reference17Ideal.τ).loc Cert.Reference17Ideal.main_arg16) = m ((c.tc : Thread Cert.Reference17Ideal.nD Cert.Reference17Ideal.τ).loc Cert.Reference17Ideal.main_arg16)
      ∧ r.2.mem ((c.tc : Thread Cert.Reference17Ideal.nD Cert.Reference17Ideal.τ).loc Cert.Reference17Ideal.main_arg17) = m ((c.tc : Thread Cert.Reference17Ideal.nD Cert.Reference17Ideal.τ).loc Cert.Reference17Ideal.main_arg17)
      ∧ r.2.mem ((c.tc : Thread Cert.Reference17Ideal.nD Cert.Reference17Ideal.τ).loc Cert.Reference17Ideal.main_arg18) = m ((c.tc : Thread Cert.Reference17Ideal.nD Cert.Reference17Ideal.τ).loc Cert.Reference17Ideal.main_arg18))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel1_Kernel1Ideal : Prop :=
  True

def algebraic_Kernel1Ideal_Reference1Ideal_pre_finite1 [hKernel1Ideal : Cert.Kernel1Ideal.Facts] [hReference1Ideal : Cert.Reference1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_finite1 m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)) →
    ∃ (v0 : (c : Dev Cert.Kernel1Ideal.nD) → Buf (Elt Ideal) ((c.tc : Thread Cert.Kernel1Ideal.nD Cert.Kernel1Ideal.τ).loc Cert.Kernel1Ideal.main_v46_0)) (v1 : (c : Dev Cert.Kernel1Ideal.nD) → Buf (Elt Ideal) ((c.tc : Thread Cert.Kernel1Ideal.nD Cert.Kernel1Ideal.τ).loc Cert.Kernel1Ideal.main_v46_1)) (v2 : (c : Dev Cert.Kernel1Ideal.nD) → Buf (Elt Ideal) ((c.tc : Thread Cert.Kernel1Ideal.nD Cert.Kernel1Ideal.τ).loc Cert.Kernel1Ideal.main_v46_2)) (v3 : (c : Dev Cert.Kernel1Ideal.nD) → Buf (Elt Ideal) ((c.tc : Thread Cert.Kernel1Ideal.nD Cert.Kernel1Ideal.τ).loc Cert.Kernel1Ideal.main_v46_3)) (v4 : (c : Dev Cert.Kernel1Ideal.nD) → Buf (Elt Ideal) ((c.tc : Thread Cert.Kernel1Ideal.nD Cert.Kernel1Ideal.τ).loc Cert.Kernel1Ideal.main_v46_4)) (v5 : (c : Dev Cert.Kernel1Ideal.nD) → Buf (Elt Ideal) ((c.tc : Thread Cert.Kernel1Ideal.nD Cert.Kernel1Ideal.τ).loc Cert.Kernel1Ideal.main_v46_5)) (v6 : (c : Dev Cert.Kernel1Ideal.nD) → Buf (Elt Ideal) ((c.tc : Thread Cert.Kernel1Ideal.nD Cert.Kernel1Ideal.τ).loc Cert.Kernel1Ideal.main_v46_6)) (v7 : (c : Dev Cert.Kernel1Ideal.nD) → Buf (Elt Ideal) ((c.tc : Thread Cert.Kernel1Ideal.nD Cert.Kernel1Ideal.τ).loc Cert.Kernel1Ideal.main_v46_7)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v46_0) = v0 c
          ∧ r.2.mem ((c.tc : Thread Cert.Kernel1Ideal.nD Cert.Kernel1Ideal.τ).loc Cert.Kernel1Ideal.main_v46_1) = v1 c
          ∧ r.2.mem ((c.tc : Thread Cert.Kernel1Ideal.nD Cert.Kernel1Ideal.τ).loc Cert.Kernel1Ideal.main_v46_2) = v2 c
          ∧ r.2.mem ((c.tc : Thread Cert.Kernel1Ideal.nD Cert.Kernel1Ideal.τ).loc Cert.Kernel1Ideal.main_v46_3) = v3 c
          ∧ r.2.mem ((c.tc : Thread Cert.Kernel1Ideal.nD Cert.Kernel1Ideal.τ).loc Cert.Kernel1Ideal.main_v46_4) = v4 c
          ∧ r.2.mem ((c.tc : Thread Cert.Kernel1Ideal.nD Cert.Kernel1Ideal.τ).loc Cert.Kernel1Ideal.main_v46_5) = v5 c
          ∧ r.2.mem ((c.tc : Thread Cert.Kernel1Ideal.nD Cert.Kernel1Ideal.τ).loc Cert.Kernel1Ideal.main_v46_6) = v6 c
          ∧ r.2.mem ((c.tc : Thread Cert.Kernel1Ideal.nD Cert.Kernel1Ideal.τ).loc Cert.Kernel1Ideal.main_v46_7) = v7 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v78) = v0 c
          ∧ r.2.mem ((c.tc : Thread Cert.Reference1Ideal.nD Cert.Reference1Ideal.τ).loc Cert.Reference1Ideal.main_v107) = v1 c
          ∧ r.2.mem ((c.tc : Thread Cert.Reference1Ideal.nD Cert.Reference1Ideal.τ).loc Cert.Reference1Ideal.main_v108) = v2 c
          ∧ r.2.mem ((c.tc : Thread Cert.Reference1Ideal.nD Cert.Reference1Ideal.τ).loc Cert.Reference1Ideal.main_v83) = v3 c
          ∧ r.2.mem ((c.tc : Thread Cert.Reference1Ideal.nD Cert.Reference1Ideal.τ).loc Cert.Reference1Ideal.main_v99) = v4 c
          ∧ r.2.mem ((c.tc : Thread Cert.Reference1Ideal.nD Cert.Reference1Ideal.τ).loc Cert.Reference1Ideal.main_v106) = v5 c
          ∧ r.2.mem ((c.tc : Thread Cert.Reference1Ideal.nD Cert.Reference1Ideal.τ).loc Cert.Reference1Ideal.main_v80) = v6 c
          ∧ r.2.mem ((c.tc : Thread Cert.Reference1Ideal.nD Cert.Reference1Ideal.τ).loc Cert.Reference1Ideal.main_v101) = v7 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8))

def preserves_Kernel12_Kernel12Ideal : Prop :=
  True

def algebraic_Kernel12Ideal_Reference12Ideal_pre_finite1 [hKernel12Ideal : Cert.Kernel12Ideal.Facts] [hReference12Ideal : Cert.Reference12Ideal.Facts] [hPre_finite1 : Cert.Pre_finite1.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite1 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v46_0)) (v1 : (c : Dev Cert.Kernel12Ideal.nD) → Buf (Elt Ideal) ((c.tc : Thread Cert.Kernel12Ideal.nD Cert.Kernel12Ideal.τ).loc Cert.Kernel12Ideal.main_v46_1)) (v2 : (c : Dev Cert.Kernel12Ideal.nD) → Buf (Elt Ideal) ((c.tc : Thread Cert.Kernel12Ideal.nD Cert.Kernel12Ideal.τ).loc Cert.Kernel12Ideal.main_v46_2)) (v3 : (c : Dev Cert.Kernel12Ideal.nD) → Buf (Elt Ideal) ((c.tc : Thread Cert.Kernel12Ideal.nD Cert.Kernel12Ideal.τ).loc Cert.Kernel12Ideal.main_v46_3)) (v4 : (c : Dev Cert.Kernel12Ideal.nD) → Buf (Elt Ideal) ((c.tc : Thread Cert.Kernel12Ideal.nD Cert.Kernel12Ideal.τ).loc Cert.Kernel12Ideal.main_v46_4)) (v5 : (c : Dev Cert.Kernel12Ideal.nD) → Buf (Elt Ideal) ((c.tc : Thread Cert.Kernel12Ideal.nD Cert.Kernel12Ideal.τ).loc Cert.Kernel12Ideal.main_v46_5)) (v6 : (c : Dev Cert.Kernel12Ideal.nD) → Buf (Elt Ideal) ((c.tc : Thread Cert.Kernel12Ideal.nD Cert.Kernel12Ideal.τ).loc Cert.Kernel12Ideal.main_v46_6)) (v7 : (c : Dev Cert.Kernel12Ideal.nD) → Buf (Elt Ideal) ((c.tc : Thread Cert.Kernel12Ideal.nD Cert.Kernel12Ideal.τ).loc Cert.Kernel12Ideal.main_v46_7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v46_0) = v0 c
          ∧ r.2.mem ((c.tc : Thread Cert.Kernel12Ideal.nD Cert.Kernel12Ideal.τ).loc Cert.Kernel12Ideal.main_v46_1) = v1 c
          ∧ r.2.mem ((c.tc : Thread Cert.Kernel12Ideal.nD Cert.Kernel12Ideal.τ).loc Cert.Kernel12Ideal.main_v46_2) = v2 c
          ∧ r.2.mem ((c.tc : Thread Cert.Kernel12Ideal.nD Cert.Kernel12Ideal.τ).loc Cert.Kernel12Ideal.main_v46_3) = v3 c
          ∧ r.2.mem ((c.tc : Thread Cert.Kernel12Ideal.nD Cert.Kernel12Ideal.τ).loc Cert.Kernel12Ideal.main_v46_4) = v4 c
          ∧ r.2.mem ((c.tc : Thread Cert.Kernel12Ideal.nD Cert.Kernel12Ideal.τ).loc Cert.Kernel12Ideal.main_v46_5) = v5 c
          ∧ r.2.mem ((c.tc : Thread Cert.Kernel12Ideal.nD Cert.Kernel12Ideal.τ).loc Cert.Kernel12Ideal.main_v46_6) = v6 c
          ∧ r.2.mem ((c.tc : Thread Cert.Kernel12Ideal.nD Cert.Kernel12Ideal.τ).loc Cert.Kernel12Ideal.main_v46_7) = v7 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v78) = v0 c
          ∧ r.2.mem ((c.tc : Thread Cert.Reference12Ideal.nD Cert.Reference12Ideal.τ).loc Cert.Reference12Ideal.main_v107) = v1 c
          ∧ r.2.mem ((c.tc : Thread Cert.Reference12Ideal.nD Cert.Reference12Ideal.τ).loc Cert.Reference12Ideal.main_v108) = v2 c
          ∧ r.2.mem ((c.tc : Thread Cert.Reference12Ideal.nD Cert.Reference12Ideal.τ).loc Cert.Reference12Ideal.main_v83) = v3 c
          ∧ r.2.mem ((c.tc : Thread Cert.Reference12Ideal.nD Cert.Reference12Ideal.τ).loc Cert.Reference12Ideal.main_v99) = v4 c
          ∧ r.2.mem ((c.tc : Thread Cert.Reference12Ideal.nD Cert.Reference12Ideal.τ).loc Cert.Reference12Ideal.main_v106) = v5 c
          ∧ r.2.mem ((c.tc : Thread Cert.Reference12Ideal.nD Cert.Reference12Ideal.τ).loc Cert.Reference12Ideal.main_v80) = v6 c
          ∧ r.2.mem ((c.tc : Thread Cert.Reference12Ideal.nD Cert.Reference12Ideal.τ).loc Cert.Reference12Ideal.main_v101) = v7 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite [hKernel7Ideal : Cert.Kernel7Ideal.Facts] [hReference7Ideal : Cert.Reference7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)) (v2 : (c : Dev Cert.Kernel7Ideal.nD) → Buf (Elt Ideal) ((c.tc : Thread Cert.Kernel7Ideal.nD Cert.Kernel7Ideal.τ).loc Cert.Kernel7Ideal.main_v9_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_v9_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_v41) = v1 c
          ∧ r.2.mem ((c.tc : Thread Cert.Reference7Ideal.nD Cert.Reference7Ideal.τ).loc Cert.Reference7Ideal.main_v39) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)) (v2 : (c : Dev Cert.Kernel8Ideal.nD) → Buf (Elt Ideal) ((c.tc : Thread Cert.Kernel8Ideal.nD Cert.Kernel8Ideal.τ).loc Cert.Kernel8Ideal.main_v10_2)) (v3 : (c : Dev Cert.Kernel8Ideal.nD) → Buf (Elt Ideal) ((c.tc : Thread Cert.Kernel8Ideal.nD Cert.Kernel8Ideal.τ).loc Cert.Kernel8Ideal.main_v10_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_v10_2) = v2 c
          ∧ r.2.mem ((c.tc : Thread Cert.Kernel8Ideal.nD Cert.Kernel8Ideal.τ).loc Cert.Kernel8Ideal.main_v10_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v1) = v1 c
          ∧ r.2.mem ((c.tc : Thread Cert.Reference8Ideal.nD Cert.Reference8Ideal.τ).loc Cert.Reference8Ideal.main_v22) = v2 c
          ∧ r.2.mem ((c.tc : Thread Cert.Reference8Ideal.nD Cert.Reference8Ideal.τ).loc Cert.Reference8Ideal.main_v23) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v11_0)) (v1 : (c : Dev Cert.Kernel9Ideal.nD) → Buf (Elt Ideal) ((c.tc : Thread Cert.Kernel9Ideal.nD Cert.Kernel9Ideal.τ).loc Cert.Kernel9Ideal.main_v11_1)) (v2 : (c : Dev Cert.Kernel9Ideal.nD) → Buf (Elt Ideal) ((c.tc : Thread Cert.Kernel9Ideal.nD Cert.Kernel9Ideal.τ).loc Cert.Kernel9Ideal.main_v11_2)) (v3 : (c : Dev Cert.Kernel9Ideal.nD) → Buf (Elt Ideal) ((c.tc : Thread Cert.Kernel9Ideal.nD Cert.Kernel9Ideal.τ).loc Cert.Kernel9Ideal.main_v11_3)) (v4 : (c : Dev Cert.Kernel9Ideal.nD) → Buf (Elt Ideal) ((c.tc : Thread Cert.Kernel9Ideal.nD Cert.Kernel9Ideal.τ).loc Cert.Kernel9Ideal.main_v11_4)) (v5 : (c : Dev Cert.Kernel9Ideal.nD) → Buf (Elt Ideal) ((c.tc : Thread Cert.Kernel9Ideal.nD Cert.Kernel9Ideal.τ).loc Cert.Kernel9Ideal.main_v11_5)) (v6 : (c : Dev Cert.Kernel9Ideal.nD) → Buf (Elt Ideal) ((c.tc : Thread Cert.Kernel9Ideal.nD Cert.Kernel9Ideal.τ).loc Cert.Kernel9Ideal.main_v11_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11_0) = v0 c
          ∧ r.2.mem ((c.tc : Thread Cert.Kernel9Ideal.nD Cert.Kernel9Ideal.τ).loc Cert.Kernel9Ideal.main_v11_1) = v1 c
          ∧ r.2.mem ((c.tc : Thread Cert.Kernel9Ideal.nD Cert.Kernel9Ideal.τ).loc Cert.Kernel9Ideal.main_v11_2) = v2 c
          ∧ r.2.mem ((c.tc : Thread Cert.Kernel9Ideal.nD Cert.Kernel9Ideal.τ).loc Cert.Kernel9Ideal.main_v11_3) = v3 c
          ∧ r.2.mem ((c.tc : Thread Cert.Kernel9Ideal.nD Cert.Kernel9Ideal.τ).loc Cert.Kernel9Ideal.main_v11_4) = v4 c
          ∧ r.2.mem ((c.tc : Thread Cert.Kernel9Ideal.nD Cert.Kernel9Ideal.τ).loc Cert.Kernel9Ideal.main_v11_5) = v5 c
          ∧ r.2.mem ((c.tc : Thread Cert.Kernel9Ideal.nD Cert.Kernel9Ideal.τ).loc Cert.Kernel9Ideal.main_v11_6) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v71) = v0 c
          ∧ r.2.mem ((c.tc : Thread Cert.Reference9Ideal.nD Cert.Reference9Ideal.τ).loc Cert.Reference9Ideal.main_v1) = v1 c
          ∧ r.2.mem ((c.tc : Thread Cert.Reference9Ideal.nD Cert.Reference9Ideal.τ).loc Cert.Reference9Ideal.main_v78) = v2 c
          ∧ r.2.mem ((c.tc : Thread Cert.Reference9Ideal.nD Cert.Reference9Ideal.τ).loc Cert.Reference9Ideal.main_v79) = v3 c
          ∧ r.2.mem ((c.tc : Thread Cert.Reference9Ideal.nD Cert.Reference9Ideal.τ).loc Cert.Reference9Ideal.main_v80) = v4 c
          ∧ r.2.mem ((c.tc : Thread Cert.Reference9Ideal.nD Cert.Reference9Ideal.τ).loc Cert.Reference9Ideal.main_v73) = v5 c
          ∧ r.2.mem ((c.tc : Thread Cert.Reference9Ideal.nD Cert.Reference9Ideal.τ).loc Cert.Reference9Ideal.main_v77) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v27_0)) (v1 : (c : Dev Cert.Kernel10Ideal.nD) → Buf (Elt Ideal) ((c.tc : Thread Cert.Kernel10Ideal.nD Cert.Kernel10Ideal.τ).loc Cert.Kernel10Ideal.main_v27_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v27_0) = v0 c
          ∧ r.2.mem ((c.tc : Thread Cert.Kernel10Ideal.nD Cert.Kernel10Ideal.τ).loc Cert.Kernel10Ideal.main_v27_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v85) = v0 c
          ∧ r.2.mem ((c.tc : Thread Cert.Reference10Ideal.nD Cert.Reference10Ideal.τ).loc Cert.Reference10Ideal.main_v86) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v27_0)) (v1 : (c : Dev Cert.Kernel11Ideal.nD) → Buf (Elt Ideal) ((c.tc : Thread Cert.Kernel11Ideal.nD Cert.Kernel11Ideal.τ).loc Cert.Kernel11Ideal.main_v27_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v27_0) = v0 c
          ∧ r.2.mem ((c.tc : Thread Cert.Kernel11Ideal.nD Cert.Kernel11Ideal.τ).loc Cert.Kernel11Ideal.main_v27_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v85) = v0 c
          ∧ r.2.mem ((c.tc : Thread Cert.Reference11Ideal.nD Cert.Reference11Ideal.τ).loc Cert.Reference11Ideal.main_v86) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v17) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_v17) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)
      ∧ m' ((c.tc : Thread Cert.Reference17Ideal.nD Cert.Reference17Ideal.τ).loc Cert.Reference17Ideal.main_arg11) = m ((c.tc : Thread Cert.Kernel17Ideal.nD Cert.Kernel17Ideal.τ).loc Cert.Kernel17Ideal.main_arg11)
      ∧ m' ((c.tc : Thread Cert.Reference17Ideal.nD Cert.Reference17Ideal.τ).loc Cert.Reference17Ideal.main_arg12) = m ((c.tc : Thread Cert.Kernel17Ideal.nD Cert.Kernel17Ideal.τ).loc Cert.Kernel17Ideal.main_arg12)
      ∧ m' ((c.tc : Thread Cert.Reference17Ideal.nD Cert.Reference17Ideal.τ).loc Cert.Reference17Ideal.main_arg13) = m ((c.tc : Thread Cert.Kernel17Ideal.nD Cert.Kernel17Ideal.τ).loc Cert.Kernel17Ideal.main_arg13)
      ∧ m' ((c.tc : Thread Cert.Reference17Ideal.nD Cert.Reference17Ideal.τ).loc Cert.Reference17Ideal.main_arg14) = m ((c.tc : Thread Cert.Kernel17Ideal.nD Cert.Kernel17Ideal.τ).loc Cert.Kernel17Ideal.main_arg14)
      ∧ m' ((c.tc : Thread Cert.Reference17Ideal.nD Cert.Reference17Ideal.τ).loc Cert.Reference17Ideal.main_arg15) = m ((c.tc : Thread Cert.Kernel17Ideal.nD Cert.Kernel17Ideal.τ).loc Cert.Kernel17Ideal.main_arg15)
      ∧ m' ((c.tc : Thread Cert.Reference17Ideal.nD Cert.Reference17Ideal.τ).loc Cert.Reference17Ideal.main_arg16) = m ((c.tc : Thread Cert.Kernel17Ideal.nD Cert.Kernel17Ideal.τ).loc Cert.Kernel17Ideal.main_arg16)
      ∧ m' ((c.tc : Thread Cert.Reference17Ideal.nD Cert.Reference17Ideal.τ).loc Cert.Reference17Ideal.main_arg17) = m ((c.tc : Thread Cert.Kernel17Ideal.nD Cert.Kernel17Ideal.τ).loc Cert.Kernel17Ideal.main_arg17)
      ∧ m' ((c.tc : Thread Cert.Reference17Ideal.nD Cert.Reference17Ideal.τ).loc Cert.Reference17Ideal.main_arg18) = m ((c.tc : Thread Cert.Kernel17Ideal.nD Cert.Kernel17Ideal.τ).loc Cert.Kernel17Ideal.main_arg18)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)) (v6 : (c : Dev Cert.Kernel17Ideal.nD) → Buf (Elt Ideal) ((c.tc : Thread Cert.Kernel17Ideal.nD Cert.Kernel17Ideal.τ).loc Cert.Kernel17Ideal.main_v0_6)) (v7 : (c : Dev Cert.Kernel17Ideal.nD) → Buf (Elt Ideal) ((c.tc : Thread Cert.Kernel17Ideal.nD Cert.Kernel17Ideal.τ).loc Cert.Kernel17Ideal.main_v0_7)) (v8 : (c : Dev Cert.Kernel17Ideal.nD) → Buf (Elt Ideal) ((c.tc : Thread Cert.Kernel17Ideal.nD Cert.Kernel17Ideal.τ).loc Cert.Kernel17Ideal.main_v0_8)) (v9 : (c : Dev Cert.Kernel17Ideal.nD) → Buf (Elt Ideal) ((c.tc : Thread Cert.Kernel17Ideal.nD Cert.Kernel17Ideal.τ).loc Cert.Kernel17Ideal.main_v0_9)) (v10 : (c : Dev Cert.Kernel17Ideal.nD) → Buf (Elt Ideal) ((c.tc : Thread Cert.Kernel17Ideal.nD Cert.Kernel17Ideal.τ).loc Cert.Kernel17Ideal.main_v0_10)) (v11 : (c : Dev Cert.Kernel17Ideal.nD) → Buf (Elt Ideal) ((c.tc : Thread Cert.Kernel17Ideal.nD Cert.Kernel17Ideal.τ).loc Cert.Kernel17Ideal.main_v0_11)) (v12 : (c : Dev Cert.Kernel17Ideal.nD) → Buf (Elt Ideal) ((c.tc : Thread Cert.Kernel17Ideal.nD Cert.Kernel17Ideal.τ).loc Cert.Kernel17Ideal.main_v0_12)) (v13 : (c : Dev Cert.Kernel17Ideal.nD) → Buf (Elt Ideal) ((c.tc : Thread Cert.Kernel17Ideal.nD Cert.Kernel17Ideal.τ).loc Cert.Kernel17Ideal.main_v0_13)) (v14 : (c : Dev Cert.Kernel17Ideal.nD) → Buf (Elt Ideal) ((c.tc : Thread Cert.Kernel17Ideal.nD Cert.Kernel17Ideal.τ).loc Cert.Kernel17Ideal.main_v0_14)) (v15 : (c : Dev Cert.Kernel17Ideal.nD) → Buf (Elt Ideal) ((c.tc : Thread Cert.Kernel17Ideal.nD Cert.Kernel17Ideal.τ).loc Cert.Kernel17Ideal.main_v0_15)) (v16 : (c : Dev Cert.Kernel17Ideal.nD) → Buf (Elt Ideal) ((c.tc : Thread Cert.Kernel17Ideal.nD Cert.Kernel17Ideal.τ).loc Cert.Kernel17Ideal.main_v0_16)) (v17 : (c : Dev Cert.Kernel17Ideal.nD) → Buf (Elt Ideal) ((c.tc : Thread Cert.Kernel17Ideal.nD Cert.Kernel17Ideal.τ).loc Cert.Kernel17Ideal.main_v0_17)) (v18 : (c : Dev Cert.Kernel17Ideal.nD) → Buf (Elt Ideal) ((c.tc : Thread Cert.Kernel17Ideal.nD Cert.Kernel17Ideal.τ).loc Cert.Kernel17Ideal.main_v0_18)) (v19 : (c : Dev Cert.Kernel17Ideal.nD) → Buf (Elt Ideal) ((c.tc : Thread Cert.Kernel17Ideal.nD Cert.Kernel17Ideal.τ).loc Cert.Kernel17Ideal.main_v0_19)) (v20 : (c : Dev Cert.Kernel17Ideal.nD) → Buf (Elt Ideal) ((c.tc : Thread Cert.Kernel17Ideal.nD Cert.Kernel17Ideal.τ).loc Cert.Kernel17Ideal.main_v0_20)) (v21 : (c : Dev Cert.Kernel17Ideal.nD) → Buf (Elt Ideal) ((c.tc : Thread Cert.Kernel17Ideal.nD Cert.Kernel17Ideal.τ).loc Cert.Kernel17Ideal.main_v0_21)) (v22 : (c : Dev Cert.Kernel17Ideal.nD) → Buf (Elt Ideal) ((c.tc : Thread Cert.Kernel17Ideal.nD Cert.Kernel17Ideal.τ).loc Cert.Kernel17Ideal.main_v0_22)) (v23 : (c : Dev Cert.Kernel17Ideal.nD) → Buf (Elt Ideal) ((c.tc : Thread Cert.Kernel17Ideal.nD Cert.Kernel17Ideal.τ).loc Cert.Kernel17Ideal.main_v0_23)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_v0_6) = v6 c
          ∧ r.2.mem ((c.tc : Thread Cert.Kernel17Ideal.nD Cert.Kernel17Ideal.τ).loc Cert.Kernel17Ideal.main_v0_7) = v7 c
          ∧ r.2.mem ((c.tc : Thread Cert.Kernel17Ideal.nD Cert.Kernel17Ideal.τ).loc Cert.Kernel17Ideal.main_v0_8) = v8 c
          ∧ r.2.mem ((c.tc : Thread Cert.Kernel17Ideal.nD Cert.Kernel17Ideal.τ).loc Cert.Kernel17Ideal.main_v0_9) = v9 c
          ∧ r.2.mem ((c.tc : Thread Cert.Kernel17Ideal.nD Cert.Kernel17Ideal.τ).loc Cert.Kernel17Ideal.main_v0_10) = v10 c
          ∧ r.2.mem ((c.tc : Thread Cert.Kernel17Ideal.nD Cert.Kernel17Ideal.τ).loc Cert.Kernel17Ideal.main_v0_11) = v11 c
          ∧ r.2.mem ((c.tc : Thread Cert.Kernel17Ideal.nD Cert.Kernel17Ideal.τ).loc Cert.Kernel17Ideal.main_v0_12) = v12 c
          ∧ r.2.mem ((c.tc : Thread Cert.Kernel17Ideal.nD Cert.Kernel17Ideal.τ).loc Cert.Kernel17Ideal.main_v0_13) = v13 c
          ∧ r.2.mem ((c.tc : Thread Cert.Kernel17Ideal.nD Cert.Kernel17Ideal.τ).loc Cert.Kernel17Ideal.main_v0_14) = v14 c
          ∧ r.2.mem ((c.tc : Thread Cert.Kernel17Ideal.nD Cert.Kernel17Ideal.τ).loc Cert.Kernel17Ideal.main_v0_15) = v15 c
          ∧ r.2.mem ((c.tc : Thread Cert.Kernel17Ideal.nD Cert.Kernel17Ideal.τ).loc Cert.Kernel17Ideal.main_v0_16) = v16 c
          ∧ r.2.mem ((c.tc : Thread Cert.Kernel17Ideal.nD Cert.Kernel17Ideal.τ).loc Cert.Kernel17Ideal.main_v0_17) = v17 c
          ∧ r.2.mem ((c.tc : Thread Cert.Kernel17Ideal.nD Cert.Kernel17Ideal.τ).loc Cert.Kernel17Ideal.main_v0_18) = v18 c
          ∧ r.2.mem ((c.tc : Thread Cert.Kernel17Ideal.nD Cert.Kernel17Ideal.τ).loc Cert.Kernel17Ideal.main_v0_19) = v19 c
          ∧ r.2.mem ((c.tc : Thread Cert.Kernel17Ideal.nD Cert.Kernel17Ideal.τ).loc Cert.Kernel17Ideal.main_v0_20) = v20 c
          ∧ r.2.mem ((c.tc : Thread Cert.Kernel17Ideal.nD Cert.Kernel17Ideal.τ).loc Cert.Kernel17Ideal.main_v0_21) = v21 c
          ∧ r.2.mem ((c.tc : Thread Cert.Kernel17Ideal.nD Cert.Kernel17Ideal.τ).loc Cert.Kernel17Ideal.main_v0_22) = v22 c
          ∧ r.2.mem ((c.tc : Thread Cert.Kernel17Ideal.nD Cert.Kernel17Ideal.τ).loc Cert.Kernel17Ideal.main_v0_23) = v23 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
          ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
          ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12)
          ∧ r.2.mem ((c.tc : Thread Cert.Kernel17Ideal.nD Cert.Kernel17Ideal.τ).loc Cert.Kernel17Ideal.main_arg13) = m ((c.tc : Thread Cert.Kernel17Ideal.nD Cert.Kernel17Ideal.τ).loc Cert.Kernel17Ideal.main_arg13)
          ∧ r.2.mem ((c.tc : Thread Cert.Kernel17Ideal.nD Cert.Kernel17Ideal.τ).loc Cert.Kernel17Ideal.main_arg14) = m ((c.tc : Thread Cert.Kernel17Ideal.nD Cert.Kernel17Ideal.τ).loc Cert.Kernel17Ideal.main_arg14)
          ∧ r.2.mem ((c.tc : Thread Cert.Kernel17Ideal.nD Cert.Kernel17Ideal.τ).loc Cert.Kernel17Ideal.main_arg15) = m ((c.tc : Thread Cert.Kernel17Ideal.nD Cert.Kernel17Ideal.τ).loc Cert.Kernel17Ideal.main_arg15)
          ∧ r.2.mem ((c.tc : Thread Cert.Kernel17Ideal.nD Cert.Kernel17Ideal.τ).loc Cert.Kernel17Ideal.main_arg16) = m ((c.tc : Thread Cert.Kernel17Ideal.nD Cert.Kernel17Ideal.τ).loc Cert.Kernel17Ideal.main_arg16)
          ∧ r.2.mem ((c.tc : Thread Cert.Kernel17Ideal.nD Cert.Kernel17Ideal.τ).loc Cert.Kernel17Ideal.main_arg17) = m ((c.tc : Thread Cert.Kernel17Ideal.nD Cert.Kernel17Ideal.τ).loc Cert.Kernel17Ideal.main_arg17)
          ∧ r.2.mem ((c.tc : Thread Cert.Kernel17Ideal.nD Cert.Kernel17Ideal.τ).loc Cert.Kernel17Ideal.main_arg18) = m ((c.tc : Thread Cert.Kernel17Ideal.nD Cert.Kernel17Ideal.τ).loc Cert.Kernel17Ideal.main_arg18))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v36) = v1 c
          ∧ r.2.mem ((c.tc : Thread Cert.Reference17Ideal.nD Cert.Reference17Ideal.τ).loc Cert.Reference17Ideal.main_v17) = v2 c
          ∧ r.2.mem ((c.tc : Thread Cert.Reference17Ideal.nD Cert.Reference17Ideal.τ).loc Cert.Reference17Ideal.main_v23) = v3 c
          ∧ r.2.mem ((c.tc : Thread Cert.Reference17Ideal.nD Cert.Reference17Ideal.τ).loc Cert.Reference17Ideal.main_v3) = v4 c
          ∧ r.2.mem ((c.tc : Thread Cert.Reference17Ideal.nD Cert.Reference17Ideal.τ).loc Cert.Reference17Ideal.main_v60) = v5 c
          ∧ r.2.mem ((c.tc : Thread Cert.Reference17Ideal.nD Cert.Reference17Ideal.τ).loc Cert.Reference17Ideal.main_v41) = v6 c
          ∧ r.2.mem ((c.tc : Thread Cert.Reference17Ideal.nD Cert.Reference17Ideal.τ).loc Cert.Reference17Ideal.main_v47) = v7 c
          ∧ r.2.mem ((c.tc : Thread Cert.Reference17Ideal.nD Cert.Reference17Ideal.τ).loc Cert.Reference17Ideal.main_v6) = v8 c
          ∧ r.2.mem ((c.tc : Thread Cert.Reference17Ideal.nD Cert.Reference17Ideal.τ).loc Cert.Reference17Ideal.main_v84) = v9 c
          ∧ r.2.mem ((c.tc : Thread Cert.Reference17Ideal.nD Cert.Reference17Ideal.τ).loc Cert.Reference17Ideal.main_v65) = v10 c
          ∧ r.2.mem ((c.tc : Thread Cert.Reference17Ideal.nD Cert.Reference17Ideal.τ).loc Cert.Reference17Ideal.main_v71) = v11 c
          ∧ r.2.mem ((c.tc : Thread Cert.Reference17Ideal.nD Cert.Reference17Ideal.τ).loc Cert.Reference17Ideal.main_v10) = v12 c
          ∧ r.2.mem ((c.tc : Thread Cert.Reference17Ideal.nD Cert.Reference17Ideal.τ).loc Cert.Reference17Ideal.main_v108) = v13 c
          ∧ r.2.mem ((c.tc : Thread Cert.Reference17Ideal.nD Cert.Reference17Ideal.τ).loc Cert.Reference17Ideal.main_v89) = v14 c
          ∧ r.2.mem ((c.tc : Thread Cert.Reference17Ideal.nD Cert.Reference17Ideal.τ).loc Cert.Reference17Ideal.main_v95) = v15 c
          ∧ r.2.mem ((c.tc : Thread Cert.Reference17Ideal.nD Cert.Reference17Ideal.τ).loc Cert.Reference17Ideal.main_v11) = v16 c
          ∧ r.2.mem ((c.tc : Thread Cert.Reference17Ideal.nD Cert.Reference17Ideal.τ).loc Cert.Reference17Ideal.main_v132) = v17 c
          ∧ r.2.mem ((c.tc : Thread Cert.Reference17Ideal.nD Cert.Reference17Ideal.τ).loc Cert.Reference17Ideal.main_v113) = v18 c
          ∧ r.2.mem ((c.tc : Thread Cert.Reference17Ideal.nD Cert.Reference17Ideal.τ).loc Cert.Reference17Ideal.main_v119) = v19 c
          ∧ r.2.mem ((c.tc : Thread Cert.Reference17Ideal.nD Cert.Reference17Ideal.τ).loc Cert.Reference17Ideal.main_v12) = v20 c
          ∧ r.2.mem ((c.tc : Thread Cert.Reference17Ideal.nD Cert.Reference17Ideal.τ).loc Cert.Reference17Ideal.main_v156) = v21 c
          ∧ r.2.mem ((c.tc : Thread Cert.Reference17Ideal.nD Cert.Reference17Ideal.τ).loc Cert.Reference17Ideal.main_v137) = v22 c
          ∧ r.2.mem ((c.tc : Thread Cert.Reference17Ideal.nD Cert.Reference17Ideal.τ).loc Cert.Reference17Ideal.main_v143) = v23 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10)
          ∧ r.2.mem ((c.tc : Thread Cert.Reference17Ideal.nD Cert.Reference17Ideal.τ).loc Cert.Reference17Ideal.main_arg11) = m' ((c.tc : Thread Cert.Reference17Ideal.nD Cert.Reference17Ideal.τ).loc Cert.Reference17Ideal.main_arg11)
          ∧ r.2.mem ((c.tc : Thread Cert.Reference17Ideal.nD Cert.Reference17Ideal.τ).loc Cert.Reference17Ideal.main_arg12) = m' ((c.tc : Thread Cert.Reference17Ideal.nD Cert.Reference17Ideal.τ).loc Cert.Reference17Ideal.main_arg12)
          ∧ r.2.mem ((c.tc : Thread Cert.Reference17Ideal.nD Cert.Reference17Ideal.τ).loc Cert.Reference17Ideal.main_arg13) = m' ((c.tc : Thread Cert.Reference17Ideal.nD Cert.Reference17Ideal.τ).loc Cert.Reference17Ideal.main_arg13)
          ∧ r.2.mem ((c.tc : Thread Cert.Reference17Ideal.nD Cert.Reference17Ideal.τ).loc Cert.Reference17Ideal.main_arg14) = m' ((c.tc : Thread Cert.Reference17Ideal.nD Cert.Reference17Ideal.τ).loc Cert.Reference17Ideal.main_arg14)
          ∧ r.2.mem ((c.tc : Thread Cert.Reference17Ideal.nD Cert.Reference17Ideal.τ).loc Cert.Reference17Ideal.main_arg15) = m' ((c.tc : Thread Cert.Reference17Ideal.nD Cert.Reference17Ideal.τ).loc Cert.Reference17Ideal.main_arg15)
          ∧ r.2.mem ((c.tc : Thread Cert.Reference17Ideal.nD Cert.Reference17Ideal.τ).loc Cert.Reference17Ideal.main_arg16) = m' ((c.tc : Thread Cert.Reference17Ideal.nD Cert.Reference17Ideal.τ).loc Cert.Reference17Ideal.main_arg16)
          ∧ r.2.mem ((c.tc : Thread Cert.Reference17Ideal.nD Cert.Reference17Ideal.τ).loc Cert.Reference17Ideal.main_arg17) = m' ((c.tc : Thread Cert.Reference17Ideal.nD Cert.Reference17Ideal.τ).loc Cert.Reference17Ideal.main_arg17)
          ∧ r.2.mem ((c.tc : Thread Cert.Reference17Ideal.nD Cert.Reference17Ideal.τ).loc Cert.Reference17Ideal.main_arg18) = m' ((c.tc : Thread Cert.Reference17Ideal.nD Cert.Reference17Ideal.τ).loc Cert.Reference17Ideal.main_arg18))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel1 : Cert.Kernel1.Facts) (hKernel1Ideal : Cert.Kernel1Ideal.Facts) (hReference1Ideal : Cert.Reference1Ideal.Facts) (hKernel12 : Cert.Kernel12.Facts) (hKernel12Ideal : Cert.Kernel12Ideal.Facts) (hReference12Ideal : Cert.Reference12Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite1 : Cert.Pre_finite1.Facts) (hPre_finite : Cert.Pre_finite.Facts) (hPre_finite9 : Cert.Pre_finite9.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel1 (hKernel1 := hKernel1)
    ∧ quiescent_Kernel1Ideal (hKernel1Ideal := hKernel1Ideal)
    ∧ quiescent_Kernel1Ideal_pre_finite1 (hKernel1Ideal := hKernel1Ideal) (hPre_finite1 := hPre_finite1)
    ∧ quiescent_Reference1Ideal (hReference1Ideal := hReference1Ideal)
    ∧ quiescent_Reference1Ideal_pre_finite1 (hReference1Ideal := hReference1Ideal) (hPre_finite1 := hPre_finite1)
    ∧ quiescent_Kernel12 (hKernel12 := hKernel12)
    ∧ quiescent_Kernel12Ideal (hKernel12Ideal := hKernel12Ideal)
    ∧ quiescent_Kernel12Ideal_pre_finite1 (hKernel12Ideal := hKernel12Ideal) (hPre_finite1 := hPre_finite1)
    ∧ quiescent_Reference12Ideal (hReference12Ideal := hReference12Ideal)
    ∧ quiescent_Reference12Ideal_pre_finite1 (hReference12Ideal := hReference12Ideal) (hPre_finite1 := hPre_finite1)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference7Ideal_pre_finite (hReference7Ideal := hReference7Ideal) (hPre_finite := hPre_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel1_Kernel1Ideal
    ∧ algebraic_Kernel1Ideal_Reference1Ideal_pre_finite1 (hKernel1Ideal := hKernel1Ideal) (hReference1Ideal := hReference1Ideal) (hPre_finite1 := hPre_finite1)
    ∧ preserves_Kernel12_Kernel12Ideal
    ∧ algebraic_Kernel12Ideal_Reference12Ideal_pre_finite1 (hKernel12Ideal := hKernel12Ideal) (hReference12Ideal := hReference12Ideal) (hPre_finite1 := hPre_finite1)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal_pre_finite (hKernel7Ideal := hKernel7Ideal) (hReference7Ideal := hReference7Ideal) (hPre_finite := hPre_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S4096x1024 : Shape := ⟨2, ![4096, 1024]⟩
abbrev S2x1024 : Shape := ⟨2, ![2, 1024]⟩
abbrev S1024x3584 : Shape := ⟨2, ![1024, 3584]⟩
abbrev S4096x3584 : Shape := ⟨2, ![4096, 3584]⟩
abbrev S_ : Shape := ⟨0, ![]⟩

class Facts : Prop where
  bcast_S_S4096x1024 : S_.BroadcastsInDim S4096x1024 (![] : Fin 0 → Fin S4096x1024.rank)
  bcast_S_S2x1024 : S_.BroadcastsInDim S2x1024 (![] : Fin 0 → Fin S2x1024.rank)
  bcast_S_S1024x3584 : S_.BroadcastsInDim S1024x3584 (![] : Fin 0 → Fin S1024x3584.rank)
  bcast_S_S4096x3584 : S_.BroadcastsInDim S4096x3584 (![] : Fin 0 → Fin S4096x3584.rank)

variable [Facts]

def fn {F : FTy → Type} [FloatOps F] (main_arg0 : FVec F S4096x1024 .f32) (main_arg1 : FVec F S2x1024 .f32) (main_arg2 : FVec F S1024x3584 .f32) (main_arg3 : FVec F S4096x3584 .f32) (main_arg4 : FVec F S4096x1024 .f32) : IVec S4096x1024 1 × IVec S2x1024 1 × IVec S1024x3584 1 × IVec S4096x3584 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1024x3584 .f32 := Host.absf main_arg2
  let main_cst_1 : FVec F S_ .f32 := constant S_ .f32 0x7F800000#32
  let main_v7 : FVec F S1024x3584 .f32 := broadcastInDim S1024x3584 ![] bcast_S_S1024x3584 main_cst_1
  let main_v8 : IVec S1024x3584 1 := cmpf .olt main_v6 main_v7
  let main_v9 : FVec F S4096x3584 .f32 := Host.absf main_arg3
  let main_cst_2 : FVec F S_ .f32 := constant S_ .f32 0x7F800000#32
  let main_v10 : FVec F S4096x3584 .f32 := broadcastInDim S4096x3584 ![] bcast_S_S4096x3584 main_cst_2
  let main_v11 : IVec S4096x3584 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite1.lean ====
abbrev S4096x1024 : Shape := ⟨2, ![4096, 1024]⟩
abbrev S4096x512 : Shape := ⟨2, ![4096, 512]⟩
abbrev S2x512 : Shape := ⟨2, ![2, 512]⟩
abbrev S2x1024 : Shape := ⟨2, ![2, 1024]⟩
abbrev S1024x1024 : Shape := ⟨2, ![1024, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S2x512 : S_.BroadcastsInDim S2x512 (![] : Fin 0 → Fin S2x512.rank)
  bcast_S_S2x1024 : S_.BroadcastsInDim S2x1024 (![] : Fin 0 → Fin S2x1024.rank)
  bcast_S_S1024x1024 : S_.BroadcastsInDim S1024x1024 (![] : Fin 0 → Fin S1024x1024.rank)
  bcast_S_S1024x4096 : S_.BroadcastsInDim S1024x4096 (![] : Fin 0 → Fin S1024x4096.rank)

variable [Facts]

def fn_part1 {F : FTy → Type} [FloatOps F] (main_arg6 : FVec F S1024x4096 .f32) (main_arg7 : FVec F S4096x1024 .f32) (main_arg8 : FVec F S4096x1024 .f32) (main_v2 : IVec S4096x1024 1) (main_v5 : IVec S4096x512 1) (main_v8 : IVec S4096x512 1) (main_v11 : IVec S2x512 1) (main_v14 : IVec S2x1024 1) (main_v17 : IVec S1024x1024 1) : IVec S4096x1024 1 × IVec S4096x512 1 × IVec S4096x512 1 × IVec S2x512 1 × IVec S2x1024 1 × IVec S1024x1024 1 × IVec S1024x4096 1 × IVec S4096x1024 1 × IVec S4096x1024 1 :=
  let main_v18 : FVec F S1024x4096 .f32 := Host.absf main_arg6
  let main_cst_5 : FVec F S_ .f32 := constant S_ .f32 0x7F800000#32
  let main_v19 : FVec F S1024x4096 .f32 := broadcastInDim S1024x4096 ![] bcast_S_S1024x4096 main_cst_5
  let main_v20 : IVec S1024x4096 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S4096x512 .f32) (main_arg2 : FVec F S4096x512 .f32) (main_arg3 : FVec F S2x512 .f32) (main_arg4 : FVec F S2x1024 .f32) (main_arg5 : FVec F S1024x1024 .f32) (main_arg6 : FVec F S1024x4096 .f32) (main_arg7 : FVec F S4096x1024 .f32) (main_arg8 : FVec F S4096x1024 .f32) : IVec S4096x1024 1 × IVec S4096x512 1 × IVec S4096x512 1 × IVec S2x512 1 × IVec S2x1024 1 × IVec S1024x1024 1 × IVec S1024x4096 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S2x512 .f32 := Host.absf main_arg3
  let main_cst_2 : FVec F S_ .f32 := constant S_ .f32 0x7F800000#32
  let main_v10 : FVec F S2x512 .f32 := broadcastInDim S2x512 ![] bcast_S_S2x512 main_cst_2
  let main_v11 : IVec S2x512 1 := cmpf .olt main_v9 main_v10
  let main_v12 : FVec F S2x1024 .f32 := Host.absf main_arg4
  let main_cst_3 : FVec F S_ .f32 := constant S_ .f32 0x7F800000#32
  let main_v13 : FVec F S2x1024 .f32 := broadcastInDim S2x1024 ![] bcast_S_S2x1024 main_cst_3
  let main_v14 : IVec S2x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_v2 main_v5 main_v8 main_v11 main_v14 main_v17
-- ==== Pre_finite9.lean ====
abbrev S4096x1024 : Shape := ⟨2, ![4096, 1024]⟩
abbrev S2x1024 : Shape := ⟨2, ![2, 1024]⟩
abbrev S1024x1024 : Shape := ⟨2, ![1024, 1024]⟩
abbrev S1024x4096 : Shape := ⟨2, ![1024, 4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S2x1024 : S_.BroadcastsInDim S2x1024 (![] : Fin 0 → Fin S2x1024.rank)
  bcast_S_S1024x1024 : S_.BroadcastsInDim S1024x1024 (![] : Fin 0 → Fin S1024x1024.rank)
  bcast_S_S1024x4096 : S_.BroadcastsInDim S1024x4096 (![] : Fin 0 → Fin S1024x4096.rank)
  bcast_S_S1024 : S_.BroadcastsInDim S1024 (![] : Fin 0 → Fin S1024.rank)

variable [Facts]

def fn_part1 {F : FTy → Type} [FloatOps F] (main_arg6 : FVec F S1024 .f32) (main_arg7 : FVec F S4096x1024 .f32) (main_v2 : IVec S4096x1024 1) (main_v5 : IVec S4096x1024 1) (main_v8 : IVec S2x1024 1) (main_v11 : IVec S1024x1024 1) (main_v14 : IVec S1024x4096 1) (main_v17 : IVec S4096x1024 1) : IVec S4096x1024 1 × IVec S4096x1024 1 × IVec S2x1024 1 × IVec S1024x1024 1 × IVec S1024x4096 1 × IVec S4096x1024 1 × IVec S1024 1 × IVec S4096x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S2x1024 .f32) (main_arg3 : FVec F S1024x1024 .f32) (main_arg4 : FVec F S1024x4096 .f32) (main_arg5 : FVec F S4096x1024 .f32) (main_arg6 : FVec F S1024 .f32) (main_arg7 : FVec F S4096x1024 .f32) : IVec S4096x1024 1 × IVec S4096x1024 1 × IVec S2x1024 1 × IVec S1024x1024 1 × IVec S1024x4096 1 × IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_v2 main_v5 main_v8 main_v11 main_v14 main_v17
-- ==== Kernel2.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S8x1024x512 : Shape := ⟨3, ![8, 1024, 512]⟩
abbrev S4096x512 : Shape := ⟨2, ![4096, 512]⟩
abbrev S2x512x512 : Shape := ⟨3, ![2, 512, 512]⟩
abbrev S512x512 : Shape := ⟨2, ![512, 512]⟩
abbrev S512x1024 : Shape := ⟨2, ![512, 1024]⟩
abbrev S1x512x512 : Shape := ⟨3, ![1, 512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S8x1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S2x512x512, .bf16⟩
  | .local _ .vmem, ⟨5, _⟩ => ⟨S2x512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel1.lean ====
abbrev S4096x1024 : Shape := ⟨2, ![4096, 1024]⟩
abbrev S4096x512 : Shape := ⟨2, ![4096, 512]⟩
abbrev S2x512 : Shape := ⟨2, ![2, 512]⟩
abbrev S2x1024 : Shape := ⟨2, ![2, 1024]⟩
abbrev S1024x1024 : Shape := ⟨2, ![1024, 1024]⟩
abbrev S1024x4096 : Shape := ⟨2, ![1024, 4096]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024 : Shape := ⟨1, ![1024]⟩
abbrev S4096x4096 : Shape := ⟨2, ![4096, 4096]⟩
abbrev S1024x8x512 : Shape := ⟨3, ![1024, 8, 512]⟩
abbrev S8x1024x512 : Shape := ⟨3, ![8, 1024, 512]⟩
abbrev S2x1x1024 : Shape := ⟨3, ![2, 1, 1024]⟩
abbrev S2x1x512 : Shape := ⟨3, ![2, 1, 512]⟩
abbrev S1x1024x1024 : Shape := ⟨3, ![1, 1024, 1024]⟩
abbrev S1x8x1024x512 : Shape := ⟨4, ![1, 8, 1024, 512]⟩
abbrev S1x4096x1024 : Shape := ⟨3, ![1, 4096, 1024]⟩
abbrev S8x1024 : Shape := ⟨2, ![8, 1024]⟩
abbrev S8x512 : Shape := ⟨2, ![8, 512]⟩
abbrev S256x1024 : Shape := ⟨2, ![256, 1024]⟩
abbrev S1x1x1024 : Shape := ⟨3, ![1, 1, 1024]⟩
abbrev S256x4096 : Shape := ⟨2, ![256, 4096]⟩
abbrev S256x512 : Shape := ⟨2, ![256, 512]⟩
abbrev S1x1x512 : Shape := ⟨3, ![1, 1, 512]⟩
abbrev S1x512x1024 : Shape := ⟨3, ![1, 512, 1024]⟩
abbrev S512x1024 : Shape := ⟨2, ![512, 1024]⟩
abbrev S1x1x1024x512 : Shape := ⟨4, ![1, 1, 1024, 512]⟩
abbrev S1024x512 : Shape := ⟨2, ![1024, 512]⟩
abbrev S256 : Shape := ⟨1, ![256]⟩
abbrev S256x1 : Shape := ⟨2, ![256, 1]⟩
abbrev S512x512 : Shape := ⟨2, ![512, 512]⟩
abbrev S32x8x1024 : Shape := ⟨3, ![32, 8, 1024]⟩
abbrev S32x8x512 : Shape := ⟨3, ![32, 8, 512]⟩

abbrev nBuf : Space → Nat
  | .hbm => 69
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S2x512, .f32⟩
  | .hbm, ⟨4, _⟩ => ⟨S2x1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S1x512, .f32⟩
  | .hbm, ⟨10, _⟩ => ⟨S512, .f32⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x4096, .f32⟩
  | .hbm, ⟨49, _⟩ => ⟨S1024x4096, .bf16⟩
  | .hbm, ⟨50, _⟩ => ⟨S1024x8x512, .bf16⟩
  | .hbm, ⟨51, _⟩ => ⟨S8x1024x512, .bf16⟩
  | .hbm, ⟨52, _⟩ => ⟨S4096x1024, .bf16⟩
  | .hbm, ⟨53, _⟩ => ⟨S2x1x1024, .f32⟩
  | .hbm, ⟨54, _⟩ => ⟨S4096x4096, .bf16⟩
  | .hbm, ⟨55, _⟩ => ⟨S2x1x512, .f32⟩
  | .hbm, ⟨56, _⟩ => ⟨S1024x1024, .bf16⟩
  | .hbm, ⟨57, _⟩ => ⟨S1x1024x1024, .bf16⟩
  | .hbm, ⟨58, _⟩ => ⟨S1x8x1024x512, .bf16⟩
  | .hbm, ⟨59, _⟩ => ⟨S4096x1024, .bf16⟩
  | .hbm, ⟨60, _⟩ => ⟨S1x4096x1024, .bf16⟩
  | .hbm, ⟨61, _⟩ => ⟨S4096x1024, .f32⟩
  | .hbm, ⟨62, _⟩ => ⟨S4096x1024, .bf16⟩
  | .hbm, ⟨63, _⟩ => ⟨S4096x4096, .bf16⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S8x1024, .f32⟩
  | .hbm, ⟨68, _⟩ => ⟨S8x512, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S256x4096, .bf16⟩
  | .local _ .vmem, ⟨8, _⟩ => ⟨S256x4096, .bf16⟩
  | .local _ .vmem, ⟨9, _⟩ => ⟨S256x512, .f32⟩
  | .local _ .vmem, ⟨10, _⟩ => ⟨S256x512, .f32⟩
  | .local _ .vmem, ⟨11, _⟩ => ⟨S1x1x512, .f32⟩
  | .local _ .vmem, ⟨12, _⟩ => ⟨S1x1024x1024, .bf16⟩
  | .local _ .vmem, ⟨13, _⟩ => ⟨S1x8x1024x512, .bf16⟩
  | .local _ .vmem, ⟨14, _⟩ => ⟨S1x4096x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S8x1024, .f32⟩
  | .local _ .vmem, ⟨28, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v46_2 : Ref sig .tc := ⟨.hbm, 63, rfl⟩
abbrev main_v46_3 : Ref sig .tc := ⟨.hbm, 64, rfl⟩
abbrev main_v46_4 : Ref sig .tc := ⟨.hbm, 65, rfl⟩
abbrev main_v46_5 : Ref sig .tc := ⟨.hbm, 66, rfl⟩
abbrev main_v46_6 : Ref sig .tc := ⟨.hbm, 67, rfl⟩
abbrev main_v46_7 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_175 : BitVec 32 := 0#32
  let v286 : BitVec 1 := Scalar.cmpi .eq arg0 c0_i32_175
  let v287 : BitVec 32 := Scalar.extui v286
  let c0_i32_176 : BitVec 32 := 0#32
  let v288 : BitVec 1 := Scalar.cmpi .ne v287 c0_i32_176
  v288

def k0_cond2 (i : grid0.Coords) : BitVec 1 :=
  let arg0 : BitVec 32 := BitVec.ofNat 32 (i 0).val
  let c0_i32_177 : BitVec 32 := 0#32
  let v289 : BitVec 1 := Scalar.cmpi .sgt arg0 c0_i32_177
  let v290 : BitVec 32 := Scalar.extui v289
  let c0_i32_178 : BitVec 32 := 0#32
  let v291 : BitVec 1 := Scalar.cmpi .ne v290 c0_i32_178
  v291

def k0_cond3 (i : grid0.Coords) : BitVec 1 :=
  let arg0 : BitVec 32 := BitVec.ofNat 32 (i 0).val
  let c0_i32_180 : BitVec 32 := 0#32
  let v294 : BitVec 1 := Scalar.cmpi .eq arg0 c0_i32_180
  let v295 : BitVec 32 := Scalar.extui v294
  let c0_i32_181 : BitVec 32 := 0#32
  let v296 : BitVec 1 := Scalar.cmpi .ne v295 c0_i32_181
  v296

def k0_cond4 (i : grid0.Coords) : BitVec 1 :=
  let arg0 : BitVec 32 := BitVec.ofNat 32 (i 0).val
  let c0_i32_182 : BitVec 32 := 0#32
  let v297 : BitVec 1 := Scalar.cmpi .sgt arg0 c0_i32_182
  let v298 : BitVec 32 := Scalar.extui v297
  let c0_i32_183 : BitVec 32 := 0#32
  let v299 : BitVec 1 := Scalar.cmpi .ne v298 c0_i32_183
  v299

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel1Ideal.lean ====
abbrev S4096x1024 : Shape := ⟨2, ![4096, 1024]⟩
abbrev S4096x512 : Shape := ⟨2, ![4096, 512]⟩
abbrev S2x512 : Shape := ⟨2, ![2, 512]⟩
abbrev S2x1024 : Shape := ⟨2, ![2, 1024]⟩
abbrev S1024x1024 : Shape := ⟨2, ![1024, 1024]⟩
abbrev S1024x4096 : Shape := ⟨2, ![1024, 4096]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024 : Shape := ⟨1, ![1024]⟩
abbrev S4096x4096 : Shape := ⟨2, ![4096, 4096]⟩
abbrev S1024x8x512 : Shape := ⟨3, ![1024, 8, 512]⟩
abbrev S8x1024x512 : Shape := ⟨3, ![8, 1024, 512]⟩
abbrev S2x1x1024 : Shape := ⟨3, ![2, 1, 1024]⟩
abbrev S2x1x512 : Shape := ⟨3, ![2, 1, 512]⟩
abbrev S1x1024x1024 : Shape := ⟨3, ![1, 1024, 1024]⟩
abbrev S1x8x1024x512 : Shape := ⟨4, ![1, 8, 1024, 512]⟩
abbrev S1x4096x1024 : Shape := ⟨3, ![1, 4096, 1024]⟩
abbrev S8x1024 : Shape := ⟨2, ![8, 1024]⟩
abbrev S8x512 : Shape := ⟨2, ![8, 512]⟩
abbrev S256x1024 : Shape := ⟨2, ![256, 1024]⟩
abbrev S1x1x1024 : Shape := ⟨3, ![1, 1, 1024]⟩
abbrev S256x4096 : Shape := ⟨2, ![256, 4096]⟩
abbrev S256x512 : Shape := ⟨2, ![256, 512]⟩
abbrev S1x1x512 : Shape := ⟨3, ![1, 1, 512]⟩
abbrev S1x512x1024 : Shape := ⟨3, ![1, 512, 1024]⟩
abbrev S512x1024 : Shape := ⟨2, ![512, 1024]⟩
abbrev S1x1x1024x512 : Shape := ⟨4, ![1, 1, 1024, 512]⟩
abbrev S1024x512 : Shape := ⟨2, ![1024, 512]⟩
abbrev S256 : Shape := ⟨1, ![256]⟩
abbrev S256x1 : Shape := ⟨2, ![256, 1]⟩
abbrev S512x512 : Shape := ⟨2, ![512, 512]⟩
abbrev S32x8x1024 : Shape := ⟨3, ![32, 8, 1024]⟩
abbrev S32x8x512 : Shape := ⟨3, ![32, 8, 512]⟩

abbrev nBuf : Space → Nat
  | .hbm => 69
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S2x512, .f32⟩
  | .hbm, ⟨4, _⟩ => ⟨S2x1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S1x512, .f32⟩
  | .hbm, ⟨10, _⟩ => ⟨S512, .f32⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x4096, .f32⟩
  | .hbm, ⟨49, _⟩ => ⟨S1024x4096, .bf16⟩
  | .hbm, ⟨50, _⟩ => ⟨S1024x8x512, .bf16⟩
  | .hbm, ⟨51, _⟩ => ⟨S8x1024x512, .bf16⟩
  | .hbm, ⟨52, _⟩ => ⟨S4096x1024, .bf16⟩
  | .hbm, ⟨53, _⟩ => ⟨S2x1x1024, .f32⟩
  | .hbm, ⟨54, _⟩ => ⟨S4096x4096, .bf16⟩
  | .hbm, ⟨55, _⟩ => ⟨S2x1x512, .f32⟩
  | .hbm, ⟨56, _⟩ => ⟨S1024x1024, .bf16⟩
  | .hbm, ⟨57, _⟩ => ⟨S1x1024x1024, .bf16⟩
  | .hbm, ⟨58, _⟩ => ⟨S1x8x1024x512, .bf16⟩
  | .hbm, ⟨59, _⟩ => ⟨S4096x1024, .bf16⟩
  | .hbm, ⟨60, _⟩ => ⟨S1x4096x1024, .bf16⟩
  | .hbm, ⟨61, _⟩ => ⟨S4096x1024, .f32⟩
  | .hbm, ⟨62, _⟩ => ⟨S4096x1024, .bf16⟩
  | .hbm, ⟨63, _⟩ => ⟨S4096x4096, .bf16⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S8x1024, .f32⟩
  | .hbm, ⟨68, _⟩ => ⟨S8x512, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S256x4096, .bf16⟩
  | .local _ .vmem, ⟨8, _⟩ => ⟨S256x4096, .bf16⟩
  | .local _ .vmem, ⟨9, _⟩ => ⟨S256x512, .f32⟩
  | .local _ .vmem, ⟨10, _⟩ => ⟨S256x512, .f32⟩
  | .local _ .vmem, ⟨11, _⟩ => ⟨S1x1x512, .f32⟩
  | .local _ .vmem, ⟨12, _⟩ => ⟨S1x1024x1024, .bf16⟩
  | .local _ .vmem, ⟨13, _⟩ => ⟨S1x8x1024x512, .bf16⟩
  | .local _ .vmem, ⟨14, _⟩ => ⟨S1x4096x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S8x1024, .f32⟩
  | .local _ .vmem, ⟨28, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v46_2 : Ref sig .tc := ⟨.hbm, 63, rfl⟩
abbrev main_v46_3 : Ref sig .tc := ⟨.hbm, 64, rfl⟩
abbrev main_v46_4 : Ref sig .tc := ⟨.hbm, 65, rfl⟩
abbrev main_v46_5 : Ref sig .tc := ⟨.hbm, 66, rfl⟩
abbrev main_v46_6 : Ref sig .tc := ⟨.hbm, 67, rfl⟩
abbrev main_v46_7 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_175 : BitVec 32 := 0#32
  let v286 : BitVec 1 := Scalar.cmpi .eq arg0 c0_i32_175
  let v287 : BitVec 32 := Scalar.extui v286
  let c0_i32_176 : BitVec 32 := 0#32
  let v288 : BitVec 1 := Scalar.cmpi .ne v287 c0_i32_176
  v288

def k0_cond2 (i : grid0.Coords) : BitVec 1 :=
  let arg0 : BitVec 32 := BitVec.ofNat 32 (i 0).val
  let c0_i32_177 : BitVec 32 := 0#32
  let v289 : BitVec 1 := Scalar.cmpi .sgt arg0 c0_i32_177
  let v290 : BitVec 32 := Scalar.extui v289
  let c0_i32_178 : BitVec 32 := 0#32
  let v291 : BitVec 1 := Scalar.cmpi .ne v290 c0_i32_178
  v291

def k0_cond3 (i : grid0.Coords) : BitVec 1 :=
  let arg0 : BitVec 32 := BitVec.ofNat 32 (i 0).val
  let c0_i32_180 : BitVec 32 := 0#32
  let v294 : BitVec 1 := Scalar.cmpi .eq arg0 c0_i32_180
  let v295 : BitVec 32 := Scalar.extui v294
  let c0_i32_181 : BitVec 32 := 0#32
  let v296 : BitVec 1 := Scalar.cmpi .ne v295 c0_i32_181
  v296

def k0_cond4 (i : grid0.Coords) : BitVec 1 :=
  let arg0 : BitVec 32 := BitVec.ofNat 32 (i 0).val
  let c0_i32_182 : BitVec 32 := 0#32
  let v297 : BitVec 1 := Scalar.cmpi .sgt arg0 c0_i32_182
  let v298 : BitVec 32 := Scalar.extui v297
  let c0_i32_183 : BitVec 32 := 0#32
  let v299 : BitVec 1 := Scalar.cmpi .ne v298 c0_i32_183
  v299

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference1Ideal.lean ====
abbrev S4096x1024 : Shape := ⟨2, ![4096, 1024]⟩
abbrev S4096x512 : Shape := ⟨2, ![4096, 512]⟩
abbrev S2x512 : Shape := ⟨2, ![2, 512]⟩
abbrev S2x1024 : Shape := ⟨2, ![2, 1024]⟩
abbrev S1024x1024 : Shape := ⟨2, ![1024, 1024]⟩
abbrev S1024x4096 : Shape := ⟨2, ![1024, 4096]⟩
abbrev S1x512 : Shape := ⟨2, ![1, 512]⟩
abbrev S512 : Shape := ⟨1, ![512]⟩
abbrev S8x512 : Shape := ⟨2, ![8, 512]⟩
abbrev S1x1024 : Shape := ⟨2, ![1, 1024]⟩
abbrev S1024 : Shape := ⟨1, ![1024]⟩
abbrev S8x1024 : Shape := ⟨2, ![8, 1024]⟩
abbrev S_ : Shape := ⟨0, ![]⟩
abbrev S4096x4096 : Shape := ⟨2, ![4096, 4096]⟩
abbrev S1x8x1x512 : Shape := ⟨4, ![1, 8, 1, 512]⟩
abbrev S512x8x1x512 : Shape := ⟨4, ![512, 8, 1, 512]⟩
abbrev S4096 : Shape := ⟨1, ![4096]⟩
abbrev S4096x1 : Shape := ⟨2, ![4096, 1]⟩
abbrev S1x8x1x1024 : Shape := ⟨4, ![1, 8, 1, 1024]⟩
abbrev S512x8x1x1024 : Shape := ⟨4, ![512, 8, 1, 1024]⟩
abbrev S4096x8x64 : Shape := ⟨3, ![4096, 8, 64]⟩
abbrev S4096x8 : Shape := ⟨2, ![4096, 8]⟩

abbrev nBuf : Space → Nat
  | .hbm => 142
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S2x512, .f32⟩
  | 4 => ⟨S2x1024, .f32⟩
  | 5 => ⟨S1024x1024, .f32⟩
  | 6 => ⟨S1024x4096, .f32⟩
  | 7 => ⟨S4096x1024, .f32⟩
  | 8 => ⟨S4096x1024, .f32⟩
  | 9 => ⟨S1x512, .f32⟩
  | 10 => ⟨S512, .f32⟩
  | 11 => ⟨S8x512, .f32⟩
  | 12 => ⟨S1x1024, .f32⟩
  | 13 => ⟨S1024, .f32⟩
  | 14 => ⟨S8x1024, .f32⟩
  | 15 => ⟨S_, .f32⟩
  | 16 => ⟨S4096x4096, .f32⟩
  | 17 => ⟨S1x8x1x512, .f32⟩
  | 18 => ⟨S512x8x1x512, .f32⟩
  | 19 => ⟨S4096x512, .f32⟩
  | 20 => ⟨S4096x512, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x512, .f32⟩
  | 36 => ⟨S4096x512, .f32⟩
  | 37 => ⟨S4096x512, .f32⟩
  | 38 => ⟨S4096x1024, .f32⟩
  | 39 => ⟨S4096x1024, .f32⟩
  | 40 => ⟨S4096x1024, .f32⟩
  | 41 => ⟨S1x8x1x1024, .f32⟩
  | 42 => ⟨S512x8x1x1024, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S4096x1024, .f32⟩
  | 62 => ⟨S4096x4096, .f32⟩
  | 63 => ⟨S4096x4096, .f32⟩
  | 64 => ⟨S_, .f32⟩
  | 65 => ⟨S4096x4096, .f32⟩
  | 66 => ⟨S4096x4096, .f32⟩
  | 67 => ⟨S_, .f32⟩
  | 68 => ⟨S4096x4096, .f32⟩
  | 69 => ⟨S4096x4096, .i1⟩
  | 70 => ⟨S_, .f32⟩
  | 71 => ⟨S4096x4096, .f32⟩
  | 72 => ⟨S4096x4096, .f32⟩
  | 73 => ⟨S_, .f32⟩
  | 74 => ⟨S4096x4096, .f32⟩
  | 75 => ⟨S4096x4096, .f32⟩
  | 76 => ⟨S4096x1024, .f32⟩
  | 77 => ⟨S4096x1024, .f32⟩
  | 78 => ⟨S4096x1024, .f32⟩
  | 79 => ⟨S4096x1024, .f32⟩
  | 80 => ⟨S4096x4096, .f32⟩
  | 81 => ⟨S4096x4096, .f32⟩
  | 82 => ⟨S_, .f32⟩
  | 83 => ⟨S4096x4096, .f32⟩
  | 84 => ⟨S4096x4096, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1024, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S512x8x1x1024, .f32⟩
  | 107 => ⟨S_, .f32⟩
  | 108 => ⟨S8x1024, .f32⟩
  | 109 => ⟨S4096x1024, .f32⟩
  | 110 => ⟨S4096x512, .f32⟩
  | 111 => ⟨S4096x512, .f32⟩
  | 112 => ⟨S4096x512, .f32⟩
  | 113 => ⟨S4096x512, .f32⟩
  | 114 => ⟨S4096x512, .f32⟩
  | 115 => ⟨S_, .f32⟩
  | 116 => ⟨S4096, .f32⟩
  | 117 => ⟨S4096x1, .f32⟩
  | 118 => ⟨S4096x512, .f32⟩
  | 119 => ⟨S4096x512, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x512, .f32⟩
  | 127 => ⟨S4096x512, .f32⟩
  | _ => ⟨S4096x1024, .f32⟩

abbrev hbmTy0_1 (i : Nat) : BufTy := match i % 128 with
  | 0 => ⟨S4096x512, .f32⟩
  | 1 => ⟨S4096x512, .f32⟩
  | 2 => ⟨S4096x512, .f32⟩
  | 3 => ⟨S512x8x1x512, .f32⟩
  | 4 => ⟨S_, .f32⟩
  | 5 => ⟨S8x512, .f32⟩
  | 6 => ⟨S4096x512, .f32⟩
  | 7 => ⟨S4096x8x64, .f32⟩
  | 8 => ⟨S_, .f32⟩
  | 9 => ⟨S4096x8, .f32⟩
  | 10 => ⟨S4096x8x64, .f32⟩
  | 11 => ⟨S4096x512, .f32⟩
  | 12 => ⟨S4096x1024, .bf16⟩
  | 13 => ⟨S4096x4096, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_17 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_19 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]
-- ==== Kernel12.lean ====
abbrev S4096x1024 : Shape := ⟨2, ![4096, 1024]⟩
abbrev S4096x512 : Shape := ⟨2, ![4096, 512]⟩
abbrev S2x512 : Shape := ⟨2, ![2, 512]⟩
abbrev S2x1024 : Shape := ⟨2, ![2, 1024]⟩
abbrev S1024x1024 : Shape := ⟨2, ![1024, 1024]⟩
abbrev S1024x4096 : Shape := ⟨2, ![1024, 4096]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024 : Shape := ⟨1, ![1024]⟩
abbrev S4096x4096 : Shape := ⟨2, ![4096, 4096]⟩
abbrev S1024x8x512 : Shape := ⟨3, ![1024, 8, 512]⟩
abbrev S8x1024x512 : Shape := ⟨3, ![8, 1024, 512]⟩
abbrev S2x1x1024 : Shape := ⟨3, ![2, 1, 1024]⟩
abbrev S2x1x512 : Shape := ⟨3, ![2, 1, 512]⟩
abbrev S1x1024x1024 : Shape := ⟨3, ![1, 1024, 1024]⟩
abbrev S1x8x1024x512 : Shape := ⟨4, ![1, 8, 1024, 512]⟩
abbrev S1x4096x1024 : Shape := ⟨3, ![1, 4096, 1024]⟩
abbrev S8x1024 : Shape := ⟨2, ![8, 1024]⟩
abbrev S8x512 : Shape := ⟨2, ![8, 512]⟩
abbrev S256x1024 : Shape := ⟨2, ![256, 1024]⟩
abbrev S1x1x1024 : Shape := ⟨3, ![1, 1, 1024]⟩
abbrev S256x4096 : Shape := ⟨2, ![256, 4096]⟩
abbrev S256x512 : Shape := ⟨2, ![256, 512]⟩
abbrev S1x1x512 : Shape := ⟨3, ![1, 1, 512]⟩
abbrev S1x512x1024 : Shape := ⟨3, ![1, 512, 1024]⟩
abbrev S512x1024 : Shape := ⟨2, ![512, 1024]⟩
abbrev S1x1x1024x512 : Shape := ⟨4, ![1, 1, 1024, 512]⟩
abbrev S1024x512 : Shape := ⟨2, ![1024, 512]⟩
abbrev S256 : Shape := ⟨1, ![256]⟩
abbrev S256x1 : Shape := ⟨2, ![256, 1]⟩
abbrev S512x512 : Shape := ⟨2, ![512, 512]⟩
abbrev S32x8x1024 : Shape := ⟨3, ![32, 8, 1024]⟩
abbrev S32x8x512 : Shape := ⟨3, ![32, 8, 512]⟩

abbrev nBuf : Space → Nat
  | .hbm => 69
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S2x512, .f32⟩
  | .hbm, ⟨4, _⟩ => ⟨S2x1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S1x512, .f32⟩
  | .hbm, ⟨10, _⟩ => ⟨S512, .f32⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x4096, .f32⟩
  | .hbm, ⟨49, _⟩ => ⟨S1024x4096, .bf16⟩
  | .hbm, ⟨50, _⟩ => ⟨S1024x8x512, .bf16⟩
  | .hbm, ⟨51, _⟩ => ⟨S8x1024x512, .bf16⟩
  | .hbm, ⟨52, _⟩ => ⟨S4096x1024, .bf16⟩
  | .hbm, ⟨53, _⟩ => ⟨S2x1x1024, .f32⟩
  | .hbm, ⟨54, _⟩ => ⟨S4096x4096, .bf16⟩
  | .hbm, ⟨55, _⟩ => ⟨S2x1x512, .f32⟩
  | .hbm, ⟨56, _⟩ => ⟨S1024x1024, .bf16⟩
  | .hbm, ⟨57, _⟩ => ⟨S1x1024x1024, .bf16⟩
  | .hbm, ⟨58, _⟩ => ⟨S1x8x1024x512, .bf16⟩
  | .hbm, ⟨59, _⟩ => ⟨S4096x1024, .bf16⟩
  | .hbm, ⟨60, _⟩ => ⟨S1x4096x1024, .bf16⟩
  | .hbm, ⟨61, _⟩ => ⟨S4096x1024, .f32⟩
  | .hbm, ⟨62, _⟩ => ⟨S4096x1024, .bf16⟩
  | .hbm, ⟨63, _⟩ => ⟨S4096x4096, .bf16⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S8x1024, .f32⟩
  | .hbm, ⟨68, _⟩ => ⟨S8x512, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S256x4096, .bf16⟩
  | .local _ .vmem, ⟨8, _⟩ => ⟨S256x4096, .bf16⟩
  | .local _ .vmem, ⟨9, _⟩ => ⟨S256x512, .f32⟩
  | .local _ .vmem, ⟨10, _⟩ => ⟨S256x512, .f32⟩
  | .local _ .vmem, ⟨11, _⟩ => ⟨S1x1x512, .f32⟩
  | .local _ .vmem, ⟨12, _⟩ => ⟨S1x1024x1024, .bf16⟩
  | .local _ .vmem, ⟨13, _⟩ => ⟨S1x8x1024x512, .bf16⟩
  | .local _ .vmem, ⟨14, _⟩ => ⟨S1x4096x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S8x1024, .f32⟩
  | .local _ .vmem, ⟨28, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v46_2 : Ref sig .tc := ⟨.hbm, 63, rfl⟩
abbrev main_v46_3 : Ref sig .tc := ⟨.hbm, 64, rfl⟩
abbrev main_v46_4 : Ref sig .tc := ⟨.hbm, 65, rfl⟩
abbrev main_v46_5 : Ref sig .tc := ⟨.hbm, 66, rfl⟩
abbrev main_v46_6 : Ref sig .tc := ⟨.hbm, 67, rfl⟩
abbrev main_v46_7 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_175 : BitVec 32 := 0#32
  let v286 : BitVec 1 := Scalar.cmpi .eq arg0 c0_i32_175
  let v287 : BitVec 32 := Scalar.extui v286
  let c0_i32_176 : BitVec 32 := 0#32
  let v288 : BitVec 1 := Scalar.cmpi .ne v287 c0_i32_176
  v288

def k0_cond2 (i : grid0.Coords) : BitVec 1 :=
  let arg0 : BitVec 32 := BitVec.ofNat 32 (i 0).val
  let c0_i32_177 : BitVec 32 := 0#32
  let v289 : BitVec 1 := Scalar.cmpi .sgt arg0 c0_i32_177
  let v290 : BitVec 32 := Scalar.extui v289
  let c0_i32_178 : BitVec 32 := 0#32
  let v291 : BitVec 1 := Scalar.cmpi .ne v290 c0_i32_178
  v291

def k0_cond3 (i : grid0.Coords) : BitVec 1 :=
  let arg0 : BitVec 32 := BitVec.ofNat 32 (i 0).val
  let c0_i32_180 : BitVec 32 := 0#32
  let v294 : BitVec 1 := Scalar.cmpi .eq arg0 c0_i32_180
  let v295 : BitVec 32 := Scalar.extui v294
  let c0_i32_181 : BitVec 32 := 0#32
  let v296 : BitVec 1 := Scalar.cmpi .ne v295 c0_i32_181
  v296

def k0_cond4 (i : grid0.Coords) : BitVec 1 :=
  let arg0 : BitVec 32 := BitVec.ofNat 32 (i 0).val
  let c0_i32_182 : BitVec 32 := 0#32
  let v297 : BitVec 1 := Scalar.cmpi .sgt arg0 c0_i32_182
  let v298 : BitVec 32 := Scalar.extui v297
  let c0_i32_183 : BitVec 32 := 0#32
  let v299 : BitVec 1 := Scalar.cmpi .ne v298 c0_i32_183
  v299

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel12Ideal.lean ====
abbrev S4096x1024 : Shape := ⟨2, ![4096, 1024]⟩
abbrev S4096x512 : Shape := ⟨2, ![4096, 512]⟩
abbrev S2x512 : Shape := ⟨2, ![2, 512]⟩
abbrev S2x1024 : Shape := ⟨2, ![2, 1024]⟩
abbrev S1024x1024 : Shape := ⟨2, ![1024, 1024]⟩
abbrev S1024x4096 : Shape := ⟨2, ![1024, 4096]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024 : Shape := ⟨1, ![1024]⟩
abbrev S4096x4096 : Shape := ⟨2, ![4096, 4096]⟩
abbrev S1024x8x512 : Shape := ⟨3, ![1024, 8, 512]⟩
abbrev S8x1024x512 : Shape := ⟨3, ![8, 1024, 512]⟩
abbrev S2x1x1024 : Shape := ⟨3, ![2, 1, 1024]⟩
abbrev S2x1x512 : Shape := ⟨3, ![2, 1, 512]⟩
abbrev S1x1024x1024 : Shape := ⟨3, ![1, 1024, 1024]⟩
abbrev S1x8x1024x512 : Shape := ⟨4, ![1, 8, 1024, 512]⟩
abbrev S1x4096x1024 : Shape := ⟨3, ![1, 4096, 1024]⟩
abbrev S8x1024 : Shape := ⟨2, ![8, 1024]⟩
abbrev S8x512 : Shape := ⟨2, ![8, 512]⟩
abbrev S256x1024 : Shape := ⟨2, ![256, 1024]⟩
abbrev S1x1x1024 : Shape := ⟨3, ![1, 1, 1024]⟩
abbrev S256x4096 : Shape := ⟨2, ![256, 4096]⟩
abbrev S256x512 : Shape := ⟨2, ![256, 512]⟩
abbrev S1x1x512 : Shape := ⟨3, ![1, 1, 512]⟩
abbrev S1x512x1024 : Shape := ⟨3, ![1, 512, 1024]⟩
abbrev S512x1024 : Shape := ⟨2, ![512, 1024]⟩
abbrev S1x1x1024x512 : Shape := ⟨4, ![1, 1, 1024, 512]⟩
abbrev S1024x512 : Shape := ⟨2, ![1024, 512]⟩
abbrev S256 : Shape := ⟨1, ![256]⟩
abbrev S256x1 : Shape := ⟨2, ![256, 1]⟩
abbrev S512x512 : Shape := ⟨2, ![512, 512]⟩
abbrev S32x8x1024 : Shape := ⟨3, ![32, 8, 1024]⟩
abbrev S32x8x512 : Shape := ⟨3, ![32, 8, 512]⟩

abbrev nBuf : Space → Nat
  | .hbm => 69
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S2x512, .f32⟩
  | .hbm, ⟨4, _⟩ => ⟨S2x1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S1x512, .f32⟩
  | .hbm, ⟨10, _⟩ => ⟨S512, .f32⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x4096, .f32⟩
  | .hbm, ⟨49, _⟩ => ⟨S1024x4096, .bf16⟩
  | .hbm, ⟨50, _⟩ => ⟨S1024x8x512, .bf16⟩
  | .hbm, ⟨51, _⟩ => ⟨S8x1024x512, .bf16⟩
  | .hbm, ⟨52, _⟩ => ⟨S4096x1024, .bf16⟩
  | .hbm, ⟨53, _⟩ => ⟨S2x1x1024, .f32⟩
  | .hbm, ⟨54, _⟩ => ⟨S4096x4096, .bf16⟩
  | .hbm, ⟨55, _⟩ => ⟨S2x1x512, .f32⟩
  | .hbm, ⟨56, _⟩ => ⟨S1024x1024, .bf16⟩
  | .hbm, ⟨57, _⟩ => ⟨S1x1024x1024, .bf16⟩
  | .hbm, ⟨58, _⟩ => ⟨S1x8x1024x512, .bf16⟩
  | .hbm, ⟨59, _⟩ => ⟨S4096x1024, .bf16⟩
  | .hbm, ⟨60, _⟩ => ⟨S1x4096x1024, .bf16⟩
  | .hbm, ⟨61, _⟩ => ⟨S4096x1024, .f32⟩
  | .hbm, ⟨62, _⟩ => ⟨S4096x1024, .bf16⟩
  | .hbm, ⟨63, _⟩ => ⟨S4096x4096, .bf16⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S8x1024, .f32⟩
  | .hbm, ⟨68, _⟩ => ⟨S8x512, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S256x4096, .bf16⟩
  | .local _ .vmem, ⟨8, _⟩ => ⟨S256x4096, .bf16⟩
  | .local _ .vmem, ⟨9, _⟩ => ⟨S256x512, .f32⟩
  | .local _ .vmem, ⟨10, _⟩ => ⟨S256x512, .f32⟩
  | .local _ .vmem, ⟨11, _⟩ => ⟨S1x1x512, .f32⟩
  | .local _ .vmem, ⟨12, _⟩ => ⟨S1x1024x1024, .bf16⟩
  | .local _ .vmem, ⟨13, _⟩ => ⟨S1x8x1024x512, .bf16⟩
  | .local _ .vmem, ⟨14, _⟩ => ⟨S1x4096x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S8x1024, .f32⟩
  | .local _ .vmem, ⟨28, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v46_2 : Ref sig .tc := ⟨.hbm, 63, rfl⟩
abbrev main_v46_3 : Ref sig .tc := ⟨.hbm, 64, rfl⟩
abbrev main_v46_4 : Ref sig .tc := ⟨.hbm, 65, rfl⟩
abbrev main_v46_5 : Ref sig .tc := ⟨.hbm, 66, rfl⟩
abbrev main_v46_6 : Ref sig .tc := ⟨.hbm, 67, rfl⟩
abbrev main_v46_7 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_175 : BitVec 32 := 0#32
  let v286 : BitVec 1 := Scalar.cmpi .eq arg0 c0_i32_175
  let v287 : BitVec 32 := Scalar.extui v286
  let c0_i32_176 : BitVec 32 := 0#32
  let v288 : BitVec 1 := Scalar.cmpi .ne v287 c0_i32_176
  v288

def k0_cond2 (i : grid0.Coords) : BitVec 1 :=
  let arg0 : BitVec 32 := BitVec.ofNat 32 (i 0).val
  let c0_i32_177 : BitVec 32 := 0#32
  let v289 : BitVec 1 := Scalar.cmpi .sgt arg0 c0_i32_177
  let v290 : BitVec 32 := Scalar.extui v289
  let c0_i32_178 : BitVec 32 := 0#32
  let v291 : BitVec 1 := Scalar.cmpi .ne v290 c0_i32_178
  v291

def k0_cond3 (i : grid0.Coords) : BitVec 1 :=
  let arg0 : BitVec 32 := BitVec.ofNat 32 (i 0).val
  let c0_i32_180 : BitVec 32 := 0#32
  let v294 : BitVec 1 := Scalar.cmpi .eq arg0 c0_i32_180
  let v295 : BitVec 32 := Scalar.extui v294
  let c0_i32_181 : BitVec 32 := 0#32
  let v296 : BitVec 1 := Scalar.cmpi .ne v295 c0_i32_181
  v296

def k0_cond4 (i : grid0.Coords) : BitVec 1 :=
  let arg0 : BitVec 32 := BitVec.ofNat 32 (i 0).val
  let c0_i32_182 : BitVec 32 := 0#32
  let v297 : BitVec 1 := Scalar.cmpi .sgt arg0 c0_i32_182
  let v298 : BitVec 32 := Scalar.extui v297
  let c0_i32_183 : BitVec 32 := 0#32
  let v299 : BitVec 1 := Scalar.cmpi .ne v298 c0_i32_183
  v299

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference12Ideal.lean ====
abbrev S4096x1024 : Shape := ⟨2, ![4096, 1024]⟩
abbrev S4096x512 : Shape := ⟨2, ![4096, 512]⟩
abbrev S2x512 : Shape := ⟨2, ![2, 512]⟩
abbrev S2x1024 : Shape := ⟨2, ![2, 1024]⟩
abbrev S1024x1024 : Shape := ⟨2, ![1024, 1024]⟩
abbrev S1024x4096 : Shape := ⟨2, ![1024, 4096]⟩
abbrev S1x512 : Shape := ⟨2, ![1, 512]⟩
abbrev S512 : Shape := ⟨1, ![512]⟩
abbrev S8x512 : Shape := ⟨2, ![8, 512]⟩
abbrev S1x1024 : Shape := ⟨2, ![1, 1024]⟩
abbrev S1024 : Shape := ⟨1, ![1024]⟩
abbrev S8x1024 : Shape := ⟨2, ![8, 1024]⟩
abbrev S_ : Shape := ⟨0, ![]⟩
abbrev S4096x4096 : Shape := ⟨2, ![4096, 4096]⟩
abbrev S1x8x1x512 : Shape := ⟨4, ![1, 8, 1, 512]⟩
abbrev S512x8x1x512 : Shape := ⟨4, ![512, 8, 1, 512]⟩
abbrev S4096 : Shape := ⟨1, ![4096]⟩
abbrev S4096x1 : Shape := ⟨2, ![4096, 1]⟩
abbrev S1x8x1x1024 : Shape := ⟨4, ![1, 8, 1, 1024]⟩
abbrev S512x8x1x1024 : Shape := ⟨4, ![512, 8, 1, 1024]⟩
abbrev S4096x8x64 : Shape := ⟨3, ![4096, 8, 64]⟩
abbrev S4096x8 : Shape := ⟨2, ![4096, 8]⟩

abbrev nBuf : Space → Nat
  | .hbm => 142
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S2x512, .f32⟩
  | 4 => ⟨S2x1024, .f32⟩
  | 5 => ⟨S1024x1024, .f32⟩
  | 6 => ⟨S1024x4096, .f32⟩
  | 7 => ⟨S4096x1024, .f32⟩
  | 8 => ⟨S4096x1024, .f32⟩
  | 9 => ⟨S1x512, .f32⟩
  | 10 => ⟨S512, .f32⟩
  | 11 => ⟨S8x512, .f32⟩
  | 12 => ⟨S1x1024, .f32⟩
  | 13 => ⟨S1024, .f32⟩
  | 14 => ⟨S8x1024, .f32⟩
  | 15 => ⟨S_, .f32⟩
  | 16 => ⟨S4096x4096, .f32⟩
  | 17 => ⟨S1x8x1x512, .f32⟩
  | 18 => ⟨S512x8x1x512, .f32⟩
  | 19 => ⟨S4096x512, .f32⟩
  | 20 => ⟨S4096x512, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x512, .f32⟩
  | 36 => ⟨S4096x512, .f32⟩
  | 37 => ⟨S4096x512, .f32⟩
  | 38 => ⟨S4096x1024, .f32⟩
  | 39 => ⟨S4096x1024, .f32⟩
  | 40 => ⟨S4096x1024, .f32⟩
  | 41 => ⟨S1x8x1x1024, .f32⟩
  | 42 => ⟨S512x8x1x1024, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S4096x1024, .f32⟩
  | 62 => ⟨S4096x4096, .f32⟩
  | 63 => ⟨S4096x4096, .f32⟩
  | 64 => ⟨S_, .f32⟩
  | 65 => ⟨S4096x4096, .f32⟩
  | 66 => ⟨S4096x4096, .f32⟩
  | 67 => ⟨S_, .f32⟩
  | 68 => ⟨S4096x4096, .f32⟩
  | 69 => ⟨S4096x4096, .i1⟩
  | 70 => ⟨S_, .f32⟩
  | 71 => ⟨S4096x4096, .f32⟩
  | 72 => ⟨S4096x4096, .f32⟩
  | 73 => ⟨S_, .f32⟩
  | 74 => ⟨S4096x4096, .f32⟩
  | 75 => ⟨S4096x4096, .f32⟩
  | 76 => ⟨S4096x1024, .f32⟩
  | 77 => ⟨S4096x1024, .f32⟩
  | 78 => ⟨S4096x1024, .f32⟩
  | 79 => ⟨S4096x1024, .f32⟩
  | 80 => ⟨S4096x4096, .f32⟩
  | 81 => ⟨S4096x4096, .f32⟩
  | 82 => ⟨S_, .f32⟩
  | 83 => ⟨S4096x4096, .f32⟩
  | 84 => ⟨S4096x4096, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1024, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S512x8x1x1024, .f32⟩
  | 107 => ⟨S_, .f32⟩
  | 108 => ⟨S8x1024, .f32⟩
  | 109 => ⟨S4096x1024, .f32⟩
  | 110 => ⟨S4096x512, .f32⟩
  | 111 => ⟨S4096x512, .f32⟩
  | 112 => ⟨S4096x512, .f32⟩
  | 113 => ⟨S4096x512, .f32⟩
  | 114 => ⟨S4096x512, .f32⟩
  | 115 => ⟨S_, .f32⟩
  | 116 => ⟨S4096, .f32⟩
  | 117 => ⟨S4096x1, .f32⟩
  | 118 => ⟨S4096x512, .f32⟩
  | 119 => ⟨S4096x512, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x512, .f32⟩
  | 127 => ⟨S4096x512, .f32⟩
  | _ => ⟨S4096x1024, .f32⟩

abbrev hbmTy0_1 (i : Nat) : BufTy := match i % 128 with
  | 0 => ⟨S4096x512, .f32⟩
  | 1 => ⟨S4096x512, .f32⟩
  | 2 => ⟨S4096x512, .f32⟩
  | 3 => ⟨S512x8x1x512, .f32⟩
  | 4 => ⟨S_, .f32⟩
  | 5 => ⟨S8x512, .f32⟩
  | 6 => ⟨S4096x512, .f32⟩
  | 7 => ⟨S4096x8x64, .f32⟩
  | 8 => ⟨S_, .f32⟩
  | 9 => ⟨S4096x8, .f32⟩
  | 10 => ⟨S4096x8x64, .f32⟩
  | 11 => ⟨S4096x512, .f32⟩
  | 12 => ⟨S4096x1024, .bf16⟩
  | 13 => ⟨S4096x4096, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_17 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_19 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]
-- ==== Kernel6.lean ====
abbrev S4096x1024 : Shape := ⟨2, ![4096, 1024]⟩
abbrev S2x1024 : Shape := ⟨2, ![2, 1024]⟩
abbrev S1024x3584 : Shape := ⟨2, ![1024, 3584]⟩
abbrev S4096x3584 : Shape := ⟨2, ![4096, 3584]⟩
abbrev S4096x7x512 : Shape := ⟨3, ![4096, 7, 512]⟩
abbrev S7x4096x512 : Shape := ⟨3, ![7, 4096, 512]⟩
abbrev S3x4096x512 : Shape := ⟨3, ![3, 4096, 512]⟩
abbrev S4x4096x512 : Shape := ⟨3, ![4, 4096, 512]⟩
abbrev S3584x1024 : Shape := ⟨2, ![3584, 1024]⟩
abbrev S1x3584x1024 : Shape := ⟨3, ![1, 3584, 1024]⟩
abbrev S2x1x1024 : Shape := ⟨3, ![2, 1, 1024]⟩
abbrev S8x1024 : Shape := ⟨2, ![8, 1024]⟩
abbrev S3x512x512 : Shape := ⟨3, ![3, 512, 512]⟩
abbrev S4x512x512 : Shape := ⟨3, ![4, 512, 512]⟩
abbrev S512x1024 : Shape := ⟨2, ![512, 1024]⟩
abbrev S1x1x1024 : Shape := ⟨3, ![1, 1, 1024]⟩
abbrev S1x512x512 : Shape := ⟨3, ![1, 512, 512]⟩
abbrev S512x512 : Shape := ⟨2, ![512, 512]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 17
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S4096x3584, .f32⟩
  | .hbm, ⟨4, _⟩ => ⟨S4096x1024, .f32⟩
  | .hbm, ⟨5, _⟩ => ⟨S4096x3584, .bf16⟩
  | .hbm, ⟨6, _⟩ => ⟨S4096x7x512, .bf16⟩
  | .hbm, ⟨7, _⟩ => ⟨S7x4096x512, .bf16⟩
  | .hbm, ⟨8, _⟩ => ⟨S3x4096x512, .bf16⟩
  | .hbm, ⟨9, _⟩ => ⟨S4x4096x512, .bf16⟩
  | .hbm, ⟨10, _⟩ => ⟨S1024x3584, .bf16⟩
  | .hbm, ⟨11, _⟩ => ⟨S3584x1024, .bf16⟩
  | .hbm, ⟨12, _⟩ => ⟨S1x3584x1024, .bf16⟩
  | .hbm, ⟨13, _⟩ => ⟨S2x1x1024, .f32⟩
  | .hbm, ⟨14, _⟩ => ⟨S4096x1024, .f32⟩
  | .hbm, ⟨15, _⟩ => ⟨S4096x1024, .bf16⟩
  | .hbm, ⟨16, _⟩ => ⟨S8x1024, .f32⟩
  | .local _ .vmem, ⟨0, _⟩ => ⟨S3x512x512, .bf16⟩
  | .local _ .vmem, ⟨1, _⟩ => ⟨S3x512x512, .bf16⟩
  | .local _ .vmem, ⟨2, _⟩ => ⟨S4x512x512, .bf16⟩
  | .local _ .vmem, ⟨3, _⟩ => ⟨S4x512x512, .bf16⟩
  | .local _ .vmem, ⟨4, _⟩ => ⟨S1x3584x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v76 : BitVec 1 := Scalar.cmpi .eq arg0 c0_i32
  let v77 : BitVec 32 := Scalar.extui v76
  let c0_i32_56 : BitVec 32 := 0#32
  let v78 : BitVec 1 := Scalar.cmpi .ne v77 c0_i32_56
  v78

def k0_cond2 (i : grid0.Coords) : BitVec 1 :=
  let arg0 : BitVec 32 := BitVec.ofNat 32 (i 0).val
  let c0_i32_57 : BitVec 32 := 0#32
  let v79 : BitVec 1 := Scalar.cmpi .sgt arg0 c0_i32_57
  let v80 : BitVec 32 := Scalar.extui v79
  let c0_i32_58 : BitVec 32 := 0#32
  let v81 : BitVec 1 := Scalar.cmpi .ne v80 c0_i32_58
  v81

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel6Ideal.lean ====
abbrev S4096x1024 : Shape := ⟨2, ![4096, 1024]⟩
abbrev S2x1024 : Shape := ⟨2, ![2, 1024]⟩
abbrev S1024x3584 : Shape := ⟨2, ![1024, 3584]⟩
abbrev S4096x3584 : Shape := ⟨2, ![4096, 3584]⟩
abbrev S4096x7x512 : Shape := ⟨3, ![4096, 7, 512]⟩
abbrev S7x4096x512 : Shape := ⟨3, ![7, 4096, 512]⟩
abbrev S3x4096x512 : Shape := ⟨3, ![3, 4096, 512]⟩
abbrev S4x4096x512 : Shape := ⟨3, ![4, 4096, 512]⟩
abbrev S3584x1024 : Shape := ⟨2, ![3584, 1024]⟩
abbrev S1x3584x1024 : Shape := ⟨3, ![1, 3584, 1024]⟩
abbrev S2x1x1024 : Shape := ⟨3, ![2, 1, 1024]⟩
abbrev S8x1024 : Shape := ⟨2, ![8, 1024]⟩
abbrev S3x512x512 : Shape := ⟨3, ![3, 512, 512]⟩
abbrev S4x512x512 : Shape := ⟨3, ![4, 512, 512]⟩
abbrev S512x1024 : Shape := ⟨2, ![512, 1024]⟩
abbrev S1x1x1024 : Shape := ⟨3, ![1, 1, 1024]⟩
abbrev S1x512x512 : Shape := ⟨3, ![1, 512, 512]⟩
abbrev S512x512 : Shape := ⟨2, ![512, 512]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 17
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S4096x3584, .f32⟩
  | .hbm, ⟨4, _⟩ => ⟨S4096x1024, .f32⟩
  | .hbm, ⟨5, _⟩ => ⟨S4096x3584, .bf16⟩
  | .hbm, ⟨6, _⟩ => ⟨S4096x7x512, .bf16⟩
  | .hbm, ⟨7, _⟩ => ⟨S7x4096x512, .bf16⟩
  | .hbm, ⟨8, _⟩ => ⟨S3x4096x512, .bf16⟩
  | .hbm, ⟨9, _⟩ => ⟨S4x4096x512, .bf16⟩
  | .hbm, ⟨10, _⟩ => ⟨S1024x3584, .bf16⟩
  | .hbm, ⟨11, _⟩ => ⟨S3584x1024, .bf16⟩
  | .hbm, ⟨12, _⟩ => ⟨S1x3584x1024, .bf16⟩
  | .hbm, ⟨13, _⟩ => ⟨S2x1x1024, .f32⟩
  | .hbm, ⟨14, _⟩ => ⟨S4096x1024, .f32⟩
  | .hbm, ⟨15, _⟩ => ⟨S4096x1024, .bf16⟩
  | .hbm, ⟨16, _⟩ => ⟨S8x1024, .f32⟩
  | .local _ .vmem, ⟨0, _⟩ => ⟨S3x512x512, .bf16⟩
  | .local _ .vmem, ⟨1, _⟩ => ⟨S3x512x512, .bf16⟩
  | .local _ .vmem, ⟨2, _⟩ => ⟨S4x512x512, .bf16⟩
  | .local _ .vmem, ⟨3, _⟩ => ⟨S4x512x512, .bf16⟩
  | .local _ .vmem, ⟨4, _⟩ => ⟨S1x3584x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v76 : BitVec 1 := Scalar.cmpi .eq arg0 c0_i32
  let v77 : BitVec 32 := Scalar.extui v76
  let c0_i32_56 : BitVec 32 := 0#32
  let v78 : BitVec 1 := Scalar.cmpi .ne v77 c0_i32_56
  v78

def k0_cond2 (i : grid0.Coords) : BitVec 1 :=
  let arg0 : BitVec 32 := BitVec.ofNat 32 (i 0).val
  let c0_i32_57 : BitVec 32 := 0#32
  let v79 : BitVec 1 := Scalar.cmpi .sgt arg0 c0_i32_57
  let v80 : BitVec 32 := Scalar.extui v79
  let c0_i32_58 : BitVec 32 := 0#32
  let v81 : BitVec 1 := Scalar.cmpi .ne v80 c0_i32_58
  v81

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x1024 : Shape := ⟨2, ![4096, 1024]⟩
abbrev S2x1024 : Shape := ⟨2, ![2, 1024]⟩
abbrev S1024x3584 : Shape := ⟨2, ![1024, 3584]⟩
abbrev S4096x3584 : Shape := ⟨2, ![4096, 3584]⟩
abbrev S1x1024 : Shape := ⟨2, ![1, 1024]⟩
abbrev S1024 : Shape := ⟨1, ![1024]⟩
abbrev S8x1024 : Shape := ⟨2, ![8, 1024]⟩
abbrev S1x8x1x1024 : Shape := ⟨4, ![1, 8, 1, 1024]⟩
abbrev S512x8x1x1024 : Shape := ⟨4, ![512, 8, 1, 1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S4096x3584, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S8x1024, .f32⟩
  | .hbm, ⟨8, _⟩ => ⟨S1x8x1x1024, .f32⟩
  | .hbm, ⟨9, _⟩ => ⟨S512x8x1x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x3584, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S512x8x1x1024, .f32⟩
  | .hbm, ⟨51, _⟩ => ⟨S_, .f32⟩
  | .hbm, ⟨52, _⟩ => ⟨S8x1024, .f32⟩
  | .hbm, ⟨53, _⟩ => ⟨S4096x1024, .f32⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel7.lean ====
abbrev S4096x1024 : Shape := ⟨2, ![4096, 1024]⟩
abbrev S2x1024 : Shape := ⟨2, ![2, 1024]⟩
abbrev S1024x3584 : Shape := ⟨2, ![1024, 3584]⟩
abbrev S4096x3584 : Shape := ⟨2, ![4096, 3584]⟩
abbrev S4096x7x512 : Shape := ⟨3, ![4096, 7, 512]⟩
abbrev S7x4096x512 : Shape := ⟨3, ![7, 4096, 512]⟩
abbrev S3x4096x512 : Shape := ⟨3, ![3, 4096, 512]⟩
abbrev S4x4096x512 : Shape := ⟨3, ![4, 4096, 512]⟩
abbrev S3584x1024 : Shape := ⟨2, ![3584, 1024]⟩
abbrev S1x3584x1024 : Shape := ⟨3, ![1, 3584, 1024]⟩
abbrev S2x1x1024 : Shape := ⟨3, ![2, 1, 1024]⟩
abbrev S8x1024 : Shape := ⟨2, ![8, 1024]⟩
abbrev S3x512x512 : Shape := ⟨3, ![3, 512, 512]⟩
abbrev S4x512x512 : Shape := ⟨3, ![4, 512, 512]⟩
abbrev S512x1024 : Shape := ⟨2, ![512, 1024]⟩
abbrev S1x1x1024 : Shape := ⟨3, ![1, 1, 1024]⟩
abbrev S1x512x512 : Shape := ⟨3, ![1, 512, 512]⟩
abbrev S512x512 : Shape := ⟨2, ![512, 512]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 17
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S4096x3584, .f32⟩
  | .hbm, ⟨4, _⟩ => ⟨S4096x1024, .f32⟩
  | .hbm, ⟨5, _⟩ => ⟨S4096x3584, .bf16⟩
  | .hbm, ⟨6, _⟩ => ⟨S4096x7x512, .bf16⟩
  | .hbm, ⟨7, _⟩ => ⟨S7x4096x512, .bf16⟩
  | .hbm, ⟨8, _⟩ => ⟨S3x4096x512, .bf16⟩
  | .hbm, ⟨9, _⟩ => ⟨S4x4096x512, .bf16⟩
  | .hbm, ⟨10, _⟩ => ⟨S1024x3584, .bf16⟩
  | .hbm, ⟨11, _⟩ => ⟨S3584x1024, .bf16⟩
  | .hbm, ⟨12, _⟩ => ⟨S1x3584x1024, .bf16⟩
  | .hbm, ⟨13, _⟩ => ⟨S2x1x1024, .f32⟩
  | .hbm, ⟨14, _⟩ => ⟨S4096x1024, .f32⟩
  | .hbm, ⟨15, _⟩ => ⟨S4096x1024, .bf16⟩
  | .hbm, ⟨16, _⟩ => ⟨S8x1024, .f32⟩
  | .local _ .vmem, ⟨0, _⟩ => ⟨S3x512x512, .bf16⟩
  | .local _ .vmem, ⟨1, _⟩ => ⟨S3x512x512, .bf16⟩
  | .local _ .vmem, ⟨2, _⟩ => ⟨S4x512x512, .bf16⟩
  | .local _ .vmem, ⟨3, _⟩ => ⟨S4x512x512, .bf16⟩
  | .local _ .vmem, ⟨4, _⟩ => ⟨S1x3584x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v76 : BitVec 1 := Scalar.cmpi .eq arg0 c0_i32
  let v77 : BitVec 32 := Scalar.extui v76
  let c0_i32_56 : BitVec 32 := 0#32
  let v78 : BitVec 1 := Scalar.cmpi .ne v77 c0_i32_56
  v78

def k0_cond2 (i : grid0.Coords) : BitVec 1 :=
  let arg0 : BitVec 32 := BitVec.ofNat 32 (i 0).val
  let c0_i32_57 : BitVec 32 := 0#32
  let v79 : BitVec 1 := Scalar.cmpi .sgt arg0 c0_i32_57
  let v80 : BitVec 32 := Scalar.extui v79
  let c0_i32_58 : BitVec 32 := 0#32
  let v81 : BitVec 1 := Scalar.cmpi .ne v80 c0_i32_58
  v81

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel7Ideal.lean ====
abbrev S4096x1024 : Shape := ⟨2, ![4096, 1024]⟩
abbrev S2x1024 : Shape := ⟨2, ![2, 1024]⟩
abbrev S1024x3584 : Shape := ⟨2, ![1024, 3584]⟩
abbrev S4096x3584 : Shape := ⟨2, ![4096, 3584]⟩
abbrev S4096x7x512 : Shape := ⟨3, ![4096, 7, 512]⟩
abbrev S7x4096x512 : Shape := ⟨3, ![7, 4096, 512]⟩
abbrev S3x4096x512 : Shape := ⟨3, ![3, 4096, 512]⟩
abbrev S4x4096x512 : Shape := ⟨3, ![4, 4096, 512]⟩
abbrev S3584x1024 : Shape := ⟨2, ![3584, 1024]⟩
abbrev S1x3584x1024 : Shape := ⟨3, ![1, 3584, 1024]⟩
abbrev S2x1x1024 : Shape := ⟨3, ![2, 1, 1024]⟩
abbrev S8x1024 : Shape := ⟨2, ![8, 1024]⟩
abbrev S3x512x512 : Shape := ⟨3, ![3, 512, 512]⟩
abbrev S4x512x512 : Shape := ⟨3, ![4, 512, 512]⟩
abbrev S512x1024 : Shape := ⟨2, ![512, 1024]⟩
abbrev S1x1x1024 : Shape := ⟨3, ![1, 1, 1024]⟩
abbrev S1x512x512 : Shape := ⟨3, ![1, 512, 512]⟩
abbrev S512x512 : Shape := ⟨2, ![512, 512]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 17
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S4096x3584, .f32⟩
  | .hbm, ⟨4, _⟩ => ⟨S4096x1024, .f32⟩
  | .hbm, ⟨5, _⟩ => ⟨S4096x3584, .bf16⟩
  | .hbm, ⟨6, _⟩ => ⟨S4096x7x512, .bf16⟩
  | .hbm, ⟨7, _⟩ => ⟨S7x4096x512, .bf16⟩
  | .hbm, ⟨8, _⟩ => ⟨S3x4096x512, .bf16⟩
  | .hbm, ⟨9, _⟩ => ⟨S4x4096x512, .bf16⟩
  | .hbm, ⟨10, _⟩ => ⟨S1024x3584, .bf16⟩
  | .hbm, ⟨11, _⟩ => ⟨S3584x1024, .bf16⟩
  | .hbm, ⟨12, _⟩ => ⟨S1x3584x1024, .bf16⟩
  | .hbm, ⟨13, _⟩ => ⟨S2x1x1024, .f32⟩
  | .hbm, ⟨14, _⟩ => ⟨S4096x1024, .f32⟩
  | .hbm, ⟨15, _⟩ => ⟨S4096x1024, .bf16⟩
  | .hbm, ⟨16, _⟩ => ⟨S8x1024, .f32⟩
  | .local _ .vmem, ⟨0, _⟩ => ⟨S3x512x512, .bf16⟩
  | .local _ .vmem, ⟨1, _⟩ => ⟨S3x512x512, .bf16⟩
  | .local _ .vmem, ⟨2, _⟩ => ⟨S4x512x512, .bf16⟩
  | .local _ .vmem, ⟨3, _⟩ => ⟨S4x512x512, .bf16⟩
  | .local _ .vmem, ⟨4, _⟩ => ⟨S1x3584x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v76 : BitVec 1 := Scalar.cmpi .eq arg0 c0_i32
  let v77 : BitVec 32 := Scalar.extui v76
  let c0_i32_56 : BitVec 32 := 0#32
  let v78 : BitVec 1 := Scalar.cmpi .ne v77 c0_i32_56
  v78

def k0_cond2 (i : grid0.Coords) : BitVec 1 :=
  let arg0 : BitVec 32 := BitVec.ofNat 32 (i 0).val
  let c0_i32_57 : BitVec 32 := 0#32
  let v79 : BitVec 1 := Scalar.cmpi .sgt arg0 c0_i32_57
  let v80 : BitVec 32 := Scalar.extui v79
  let c0_i32_58 : BitVec 32 := 0#32
  let v81 : BitVec 1 := Scalar.cmpi .ne v80 c0_i32_58
  v81

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4096x1024 : Shape := ⟨2, ![4096, 1024]⟩
abbrev S2x1024 : Shape := ⟨2, ![2, 1024]⟩
abbrev S1024x3584 : Shape := ⟨2, ![1024, 3584]⟩
abbrev S4096x3584 : Shape := ⟨2, ![4096, 3584]⟩
abbrev S1x1024 : Shape := ⟨2, ![1, 1024]⟩
abbrev S1024 : Shape := ⟨1, ![1024]⟩
abbrev S8x1024 : Shape := ⟨2, ![8, 1024]⟩
abbrev S1x8x1x1024 : Shape := ⟨4, ![1, 8, 1, 1024]⟩
abbrev S512x8x1x1024 : Shape := ⟨4, ![512, 8, 1, 1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S4096x3584, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S8x1024, .f32⟩
  | .hbm, ⟨8, _⟩ => ⟨S1x8x1x1024, .f32⟩
  | .hbm, ⟨9, _⟩ => ⟨S512x8x1x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x3584, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S512x8x1x1024, .f32⟩
  | .hbm, ⟨51, _⟩ => ⟨S_, .f32⟩
  | .hbm, ⟨52, _⟩ => ⟨S8x1024, .f32⟩
  | .hbm, ⟨53, _⟩ => ⟨S4096x1024, .f32⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel8.lean ====
abbrev S4096x1024 : Shape := ⟨2, ![4096, 1024]⟩
abbrev S2x1024 : Shape := ⟨2, ![2, 1024]⟩
abbrev S1024x1024 : Shape := ⟨2, ![1024, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S2x1x1024 : Shape := ⟨3, ![2, 1, 1024]⟩
abbrev S1x1024x1024 : Shape := ⟨3, ![1, 1024, 1024]⟩
abbrev S1x8x1024x512 : Shape := ⟨4, ![1, 8, 1024, 512]⟩
abbrev S1x4096x1024 : Shape := ⟨3, ![1, 4096, 1024]⟩
abbrev S4096x4096 : Shape := ⟨2, ![4096, 4096]⟩
abbrev S512x1024 : Shape := ⟨2, ![512, 1024]⟩
abbrev S1x1x1024 : Shape := ⟨3, ![1, 1, 1024]⟩
abbrev S512x4096 : Shape := ⟨2, ![512, 4096]⟩
abbrev S1x1024 : Shape := ⟨2, ![1, 1024]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 20
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S4096x1024, .bf16⟩
  | .hbm, ⟨10, _⟩ => ⟨S2x1x1024, .f32⟩
  | .hbm, ⟨11, _⟩ => ⟨S1024x1024, .bf16⟩
  | .hbm, ⟨12, _⟩ => ⟨S1x1024x1024, .bf16⟩
  | .hbm, ⟨13, _⟩ => ⟨S1x8x1024x512, .bf16⟩
  | .hbm, ⟨14, _⟩ => ⟨S4096x1024, .bf16⟩
  | .hbm, ⟨15, _⟩ => ⟨S1x4096x1024, .bf16⟩
  | .hbm, ⟨16, _⟩ => ⟨S4096x1024, .f32⟩
  | .hbm, ⟨17, _⟩ => ⟨S4096x1024, .f32⟩
  | .hbm, ⟨18, _⟩ => ⟨S4096x4096, .bf16⟩
  | .hbm, ⟨19, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1024x1024, .bf16⟩
  | .local _ .vmem, ⟨6, _⟩ => ⟨S1x8x1024x512, .bf16⟩
  | .local _ .vmem, ⟨7, _⟩ => ⟨S1x4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | .local _ .vmem, ⟨13, _⟩ => ⟨S512x4096, .bf16⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S4096x1024 : Shape := ⟨2, ![4096, 1024]⟩
abbrev S2x1024 : Shape := ⟨2, ![2, 1024]⟩
abbrev S1024x1024 : Shape := ⟨2, ![1024, 1024]⟩
abbrev S1024x4096 : Shape := ⟨2, ![1024, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S4096x4096, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel9.lean ====
abbrev S4096x1024 : Shape := ⟨2, ![4096, 1024]⟩
abbrev S2x1024 : Shape := ⟨2, ![2, 1024]⟩
abbrev S1024x1024 : Shape := ⟨2, ![1024, 1024]⟩
abbrev S1024x4096 : Shape := ⟨2, ![1024, 4096]⟩
abbrev S1024 : Shape := ⟨1, ![1024]⟩
abbrev S1024x8x512 : Shape := ⟨3, ![1024, 8, 512]⟩
abbrev S8x1024x512 : Shape := ⟨3, ![8, 1024, 512]⟩
abbrev S2x1x1024 : Shape := ⟨3, ![2, 1, 1024]⟩
abbrev S1x1024x1024 : Shape := ⟨3, ![1, 1024, 1024]⟩
abbrev S1x8x1024x512 : Shape := ⟨4, ![1, 8, 1024, 512]⟩
abbrev S1x4096x1024 : Shape := ⟨3, ![1, 4096, 1024]⟩
abbrev S1x1024 : Shape := ⟨2, ![1, 1024]⟩
abbrev S4096x4096 : Shape := ⟨2, ![4096, 4096]⟩
abbrev S8x1024 : Shape := ⟨2, ![8, 1024]⟩
abbrev S8x128 : Shape := ⟨2, ![8, 128]⟩
abbrev S512x1024 : Shape := ⟨2, ![512, 1024]⟩
abbrev S1x1x1024 : Shape := ⟨3, ![1, 1, 1024]⟩
abbrev S512x4096 : Shape := ⟨2, ![512, 4096]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x512x1024 : Shape := ⟨3, ![1, 512, 1024]⟩
abbrev S64x8x1024 : Shape := ⟨3, ![64, 8, 1024]⟩
abbrev S1x128 : Shape := ⟨2, ![1, 128]⟩
abbrev S512x128 : Shape := ⟨2, ![512, 128]⟩
abbrev S64x8x128 : Shape := ⟨3, ![64, 8, 128]⟩

abbrev nBuf : Space → Nat
  | .hbm => 26
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S1024x4096, .bf16⟩
  | .hbm, ⟨9, _⟩ => ⟨S1024x8x512, .bf16⟩
  | .hbm, ⟨10, _⟩ => ⟨S8x1024x512, .bf16⟩
  | .hbm, ⟨11, _⟩ => ⟨S4096x1024, .bf16⟩
  | .hbm, ⟨12, _⟩ => ⟨S2x1x1024, .f32⟩
  | .hbm, ⟨13, _⟩ => ⟨S1024x1024, .bf16⟩
  | .hbm, ⟨14, _⟩ => ⟨S1x1024x1024, .bf16⟩
  | .hbm, ⟨15, _⟩ => ⟨S1x8x1024x512, .bf16⟩
  | .hbm, ⟨16, _⟩ => ⟨S4096x1024, .bf16⟩
  | .hbm, ⟨17, _⟩ => ⟨S1x4096x1024, .bf16⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .bf16⟩
  | .hbm, ⟨22, _⟩ => ⟨S4096x1024, .bf16⟩
  | .hbm, ⟨23, _⟩ => ⟨S4096x1024, .bf16⟩
  | .hbm, ⟨24, _⟩ => ⟨S8x1024, .f32⟩
  | .hbm, ⟨25, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1024x1024, .bf16⟩
  | .local _ .vmem, ⟨6, _⟩ => ⟨S1x8x1024x512, .bf16⟩
  | .local _ .vmem, ⟨7, _⟩ => ⟨S1x4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x4096, .bf16⟩
  | .local _ .vmem, ⟨16, _⟩ => ⟨S512x4096, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | .local _ .vmem, ⟨22, _⟩ => ⟨S8x128, .f32⟩
  | .local _ .vmem, ⟨23, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v206 : BitVec 1 := Scalar.cmpi .eq arg0 c0_i32
  let v207 : BitVec 32 := Scalar.extui v206
  let c0_i32_148 : BitVec 32 := 0#32
  let v208 : BitVec 1 := Scalar.cmpi .ne v207 c0_i32_148
  v208

def k0_cond2 (i : grid0.Coords) : BitVec 1 :=
  let arg0 : BitVec 32 := BitVec.ofNat 32 (i 0).val
  let c0_i32_149 : BitVec 32 := 0#32
  let v209 : BitVec 1 := Scalar.cmpi .sgt arg0 c0_i32_149
  let v210 : BitVec 32 := Scalar.extui v209
  let c0_i32_150 : BitVec 32 := 0#32
  let v211 : BitVec 1 := Scalar.cmpi .ne v210 c0_i32_150
  v211

def k0_cond3 (i : grid0.Coords) : BitVec 1 :=
  let arg0 : BitVec 32 := BitVec.ofNat 32 (i 0).val
  let c0_i32_156 : BitVec 32 := 0#32
  let v225 : BitVec 1 := Scalar.cmpi .eq arg0 c0_i32_156
  let v226 : BitVec 32 := Scalar.extui v225
  let c0_i32_157 : BitVec 32 := 0#32
  let v227 : BitVec 1 := Scalar.cmpi .ne v226 c0_i32_157
  v227

def k0_cond4 (i : grid0.Coords) : BitVec 1 :=
  let arg0 : BitVec 32 := BitVec.ofNat 32 (i 0).val
  let c0_i32_158 : BitVec 32 := 0#32
  let v228 : BitVec 1 := Scalar.cmpi .sgt arg0 c0_i32_158
  let v229 : BitVec 32 := Scalar.extui v228
  let c0_i32_159 : BitVec 32 := 0#32
  let v230 : BitVec 1 := Scalar.cmpi .ne v229 c0_i32_159
  v230

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference9Ideal.lean ====
abbrev S4096x1024 : Shape := ⟨2, ![4096, 1024]⟩
abbrev S2x1024 : Shape := ⟨2, ![2, 1024]⟩
abbrev S1024x1024 : Shape := ⟨2, ![1024, 1024]⟩
abbrev S1024x4096 : Shape := ⟨2, ![1024, 4096]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S8x1024 : Shape := ⟨2, ![8, 1024]⟩
abbrev S1x8x1x1024 : Shape := ⟨4, ![1, 8, 1, 1024]⟩
abbrev S512x8x1x1024 : Shape := ⟨4, ![512, 8, 1, 1024]⟩
abbrev S512x8 : Shape := ⟨2, ![512, 8]⟩
abbrev S8 : Shape := ⟨1, ![8]⟩
abbrev S8x1 : Shape := ⟨2, ![8, 1]⟩
abbrev S8x128 : Shape := ⟨2, ![8, 128]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x1024, .f32⟩
  | .hbm, ⟨34, _⟩ => ⟨S4096x1024, .f32⟩
  | .hbm, ⟨35, _⟩ => ⟨S8x1024, .f32⟩
  | .hbm, ⟨36, _⟩ => ⟨S1x8x1x1024, .f32⟩
  | .hbm, ⟨37, _⟩ => ⟨S512x8x1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S512x8x1x1024, .f32⟩
  | .hbm, ⟨101, _⟩ => ⟨S_, .f32⟩
  | .hbm, ⟨102, _⟩ => ⟨S8x1024, .f32⟩
  | .hbm, ⟨103, _⟩ => ⟨S512x8, .f32⟩
  | .hbm, ⟨104, _⟩ => ⟨S_, .f32⟩
  | .hbm, ⟨105, _⟩ => ⟨S8, .f32⟩
  | .hbm, ⟨106, _⟩ => ⟨S8x1, .f32⟩
  | .hbm, ⟨107, _⟩ => ⟨S8x128, .f32⟩
  | .hbm, ⟨108, _⟩ => ⟨S4096x4096, .bf16⟩
  | .hbm, ⟨109, _⟩ => ⟨S4096x1024, .bf16⟩
  | .hbm, ⟨110, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_17 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]
-- ==== Kernel10.lean ====
abbrev S4096x1024 : Shape := ⟨2, ![4096, 1024]⟩
abbrev S2x1024 : Shape := ⟨2, ![2, 1024]⟩
abbrev S1024x3584 : Shape := ⟨2, ![1024, 3584]⟩
abbrev S_ : Shape := ⟨0, ![]⟩
abbrev S1x1 : Shape := ⟨2, ![1, 1]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S2x1x1024 : Shape := ⟨3, ![2, 1, 1024]⟩
abbrev S3584x1024 : Shape := ⟨2, ![3584, 1024]⟩
abbrev S1x3584x1024 : Shape := ⟨3, ![1, 3584, 1024]⟩
abbrev S4096x3584 : Shape := ⟨2, ![4096, 3584]⟩
abbrev S512x1024 : Shape := ⟨2, ![512, 1024]⟩
abbrev S1x1x1024 : Shape := ⟨3, ![1, 1, 1024]⟩
abbrev S512x128 : Shape := ⟨2, ![512, 128]⟩
abbrev S512x3584 : Shape := ⟨2, ![512, 3584]⟩
abbrev S1x1024 : Shape := ⟨2, ![1, 1024]⟩
abbrev S512 : Shape := ⟨1, ![512]⟩
abbrev S512x1 : Shape := ⟨2, ![512, 1]⟩
abbrev S512x512 : Shape := ⟨2, ![512, 512]⟩
abbrev S1x512x1024 : Shape := ⟨3, ![1, 512, 1024]⟩

abbrev nBuf : Space → Nat
  | .hbm => 35
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S_, .f32⟩
  | .hbm, ⟨4, _⟩ => ⟨S1x1, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .i32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x128, .f32⟩
  | .hbm, ⟨26, _⟩ => ⟨S4096x32, .f32⟩
  | .hbm, ⟨27, _⟩ => ⟨S4096x32, .f32⟩
  | .hbm, ⟨28, _⟩ => ⟨S4096x128, .f32⟩
  | .hbm, ⟨29, _⟩ => ⟨S2x1x1024, .f32⟩
  | .hbm, ⟨30, _⟩ => ⟨S1024x3584, .bf16⟩
  | .hbm, ⟨31, _⟩ => ⟨S3584x1024, .bf16⟩
  | .hbm, ⟨32, _⟩ => ⟨S1x3584x1024, .bf16⟩
  | .hbm, ⟨33, _⟩ => ⟨S4096x3584, .f32⟩
  | .hbm, ⟨34, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x3584x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x3584, .f32⟩
  | .local _ .vmem, ⟨9, _⟩ => ⟨S512x3584, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel10Ideal.lean ====
abbrev S4096x1024 : Shape := ⟨2, ![4096, 1024]⟩
abbrev S2x1024 : Shape := ⟨2, ![2, 1024]⟩
abbrev S1024x3584 : Shape := ⟨2, ![1024, 3584]⟩
abbrev S_ : Shape := ⟨0, ![]⟩
abbrev S1x1 : Shape := ⟨2, ![1, 1]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S2x1x1024 : Shape := ⟨3, ![2, 1, 1024]⟩
abbrev S3584x1024 : Shape := ⟨2, ![3584, 1024]⟩
abbrev S1x3584x1024 : Shape := ⟨3, ![1, 3584, 1024]⟩
abbrev S4096x3584 : Shape := ⟨2, ![4096, 3584]⟩
abbrev S512x1024 : Shape := ⟨2, ![512, 1024]⟩
abbrev S1x1x1024 : Shape := ⟨3, ![1, 1, 1024]⟩
abbrev S512x128 : Shape := ⟨2, ![512, 128]⟩
abbrev S512x3584 : Shape := ⟨2, ![512, 3584]⟩
abbrev S1x1024 : Shape := ⟨2, ![1, 1024]⟩
abbrev S512 : Shape := ⟨1, ![512]⟩
abbrev S512x1 : Shape := ⟨2, ![512, 1]⟩
abbrev S512x512 : Shape := ⟨2, ![512, 512]⟩
abbrev S1x512x1024 : Shape := ⟨3, ![1, 512, 1024]⟩

abbrev nBuf : Space → Nat
  | .hbm => 35
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S_, .f32⟩
  | .hbm, ⟨4, _⟩ => ⟨S1x1, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .i32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x128, .f32⟩
  | .hbm, ⟨26, _⟩ => ⟨S4096x32, .f32⟩
  | .hbm, ⟨27, _⟩ => ⟨S4096x32, .f32⟩
  | .hbm, ⟨28, _⟩ => ⟨S4096x128, .f32⟩
  | .hbm, ⟨29, _⟩ => ⟨S2x1x1024, .f32⟩
  | .hbm, ⟨30, _⟩ => ⟨S1024x3584, .bf16⟩
  | .hbm, ⟨31, _⟩ => ⟨S3584x1024, .bf16⟩
  | .hbm, ⟨32, _⟩ => ⟨S1x3584x1024, .bf16⟩
  | .hbm, ⟨33, _⟩ => ⟨S4096x3584, .f32⟩
  | .hbm, ⟨34, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x3584x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x3584, .f32⟩
  | .local _ .vmem, ⟨9, _⟩ => ⟨S512x3584, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4096x1024 : Shape := ⟨2, ![4096, 1024]⟩
abbrev S2x1024 : Shape := ⟨2, ![2, 1024]⟩
abbrev S1024x3584 : Shape := ⟨2, ![1024, 3584]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩
abbrev S4096x512 : Shape := ⟨2, ![4096, 512]⟩
abbrev S4096x8x64 : Shape := ⟨3, ![4096, 8, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x2560 : Shape := ⟨2, ![4096, 2560]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x3584, .f32⟩
  | .hbm, ⟨22, _⟩ => ⟨S4096x512, .f32⟩
  | .hbm, ⟨23, _⟩ => ⟨S4096x8x64, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S4096, .i32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x1x32, .f32⟩
  | .hbm, ⟨41, _⟩ => ⟨S4096x32, .f32⟩
  | .hbm, ⟨42, _⟩ => ⟨S4096x1x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x32, .f32⟩
  | .hbm, ⟨47, _⟩ => ⟨S4096x8x32, .f32⟩
  | .hbm, ⟨48, _⟩ => ⟨S4096x8x32, .f32⟩
  | .hbm, ⟨49, _⟩ => ⟨S4096x8x32, .f32⟩
  | .hbm, ⟨50, _⟩ => ⟨S4096x8x32, .f32⟩
  | .hbm, ⟨51, _⟩ => ⟨S4096x8x32, .f32⟩
  | .hbm, ⟨52, _⟩ => ⟨S4096x8x32, .f32⟩
  | .hbm, ⟨53, _⟩ => ⟨S4096x8x32, .f32⟩
  | .hbm, ⟨54, _⟩ => ⟨S4096x8x32, .f32⟩
  | .hbm, ⟨55, _⟩ => ⟨S4096x8x64, .f32⟩
  | .hbm, ⟨56, _⟩ => ⟨S_, .f32⟩
  | .hbm, ⟨57, _⟩ => ⟨S4096x8x64, .f32⟩
  | .hbm, ⟨58, _⟩ => ⟨S4096x8x64, .f32⟩
  | .hbm, ⟨59, _⟩ => ⟨S4096x512, .f32⟩
  | .hbm, ⟨60, _⟩ => ⟨S4096x8x64, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S4096, .i32⟩
  | .hbm, ⟨70, _⟩ => ⟨S4096, .f32⟩
  | .hbm, ⟨71, _⟩ => ⟨S4096x1, .f32⟩
  | .hbm, ⟨72, _⟩ => ⟨S1x32, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x1x32, .f32⟩
  | .hbm, ⟨78, _⟩ => ⟨S4096x32, .f32⟩
  | .hbm, ⟨79, _⟩ => ⟨S4096x1x32, .f32⟩
  | .hbm, ⟨80, _⟩ => ⟨S4096x8x32, .f32⟩
  | .hbm, ⟨81, _⟩ => ⟨S4096x8x32, .f32⟩
  | .hbm, ⟨82, _⟩ => ⟨S4096x8x32, .f32⟩
  | .hbm, ⟨83, _⟩ => ⟨S4096x8x32, .f32⟩
  | .hbm, ⟨84, _⟩ => ⟨S4096x8x32, .f32⟩
  | .hbm, ⟨85, _⟩ => ⟨S4096x8x32, .f32⟩
  | .hbm, ⟨86, _⟩ => ⟨S4096x8x32, .f32⟩
  | .hbm, ⟨87, _⟩ => ⟨S4096x8x32, .f32⟩
  | .hbm, ⟨88, _⟩ => ⟨S4096x8x32, .f32⟩
  | .hbm, ⟨89, _⟩ => ⟨S4096x8x32, .f32⟩
  | .hbm, ⟨90, _⟩ => ⟨S4096x8x32, .f32⟩
  | .hbm, ⟨91, _⟩ => ⟨S4096x8x32, .f32⟩
  | .hbm, ⟨92, _⟩ => ⟨S4096x8x64, .f32⟩
  | .hbm, ⟨93, _⟩ => ⟨S4096x512, .f32⟩
  | .hbm, ⟨94, _⟩ => ⟨S4096x512, .f32⟩
  | .hbm, ⟨95, _⟩ => ⟨S4096x2560, .f32⟩
  | .hbm, ⟨96, _⟩ => ⟨S4096x3584, .f32⟩
  | .hbm, ⟨97, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩

abbrev nD : Nat := 1
abbrev τ : Topo := Topo.v7x

variable {F : FTy → Type} [FloatOps F]
-- ==== Kernel11.lean ====
abbrev S4096x1024 : Shape := ⟨2, ![4096, 1024]⟩
abbrev S2x1024 : Shape := ⟨2, ![2, 1024]⟩
abbrev S1024x3584 : Shape := ⟨2, ![1024, 3584]⟩
abbrev S_ : Shape := ⟨0, ![]⟩
abbrev S1x1 : Shape := ⟨2, ![1, 1]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S2x1x1024 : Shape := ⟨3, ![2, 1, 1024]⟩
abbrev S3584x1024 : Shape := ⟨2, ![3584, 1024]⟩
abbrev S1x3584x1024 : Shape := ⟨3, ![1, 3584, 1024]⟩
abbrev S4096x3584 : Shape := ⟨2, ![4096, 3584]⟩
abbrev S512x1024 : Shape := ⟨2, ![512, 1024]⟩
abbrev S1x1x1024 : Shape := ⟨3, ![1, 1, 1024]⟩
abbrev S512x128 : Shape := ⟨2, ![512, 128]⟩
abbrev S512x3584 : Shape := ⟨2, ![512, 3584]⟩
abbrev S1x1024 : Shape := ⟨2, ![1, 1024]⟩
abbrev S512 : Shape := ⟨1, ![512]⟩
abbrev S512x1 : Shape := ⟨2, ![512, 1]⟩
abbrev S512x512 : Shape := ⟨2, ![512, 512]⟩
abbrev S1x512x1024 : Shape := ⟨3, ![1, 512, 1024]⟩

abbrev nBuf : Space → Nat
  | .hbm => 35
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S_, .f32⟩
  | .hbm, ⟨4, _⟩ => ⟨S1x1, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .i32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x128, .f32⟩
  | .hbm, ⟨26, _⟩ => ⟨S4096x32, .f32⟩
  | .hbm, ⟨27, _⟩ => ⟨S4096x32, .f32⟩
  | .hbm, ⟨28, _⟩ => ⟨S4096x128, .f32⟩
  | .hbm, ⟨29, _⟩ => ⟨S2x1x1024, .f32⟩
  | .hbm, ⟨30, _⟩ => ⟨S1024x3584, .bf16⟩
  | .hbm, ⟨31, _⟩ => ⟨S3584x1024, .bf16⟩
  | .hbm, ⟨32, _⟩ => ⟨S1x3584x1024, .bf16⟩
  | .hbm, ⟨33, _⟩ => ⟨S4096x3584, .f32⟩
  | .hbm, ⟨34, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x3584x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x3584, .f32⟩
  | .local _ .vmem, ⟨9, _⟩ => ⟨S512x3584, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel11Ideal.lean ====
abbrev S4096x1024 : Shape := ⟨2, ![4096, 1024]⟩
abbrev S2x1024 : Shape := ⟨2, ![2, 1024]⟩
abbrev S1024x3584 : Shape := ⟨2, ![1024, 3584]⟩
abbrev S_ : Shape := ⟨0, ![]⟩
abbrev S1x1 : Shape := ⟨2, ![1, 1]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S2x1x1024 : Shape := ⟨3, ![2, 1, 1024]⟩
abbrev S3584x1024 : Shape := ⟨2, ![3584, 1024]⟩
abbrev S1x3584x1024 : Shape := ⟨3, ![1, 3584, 1024]⟩
abbrev S4096x3584 : Shape := ⟨2, ![4096, 3584]⟩
abbrev S512x1024 : Shape := ⟨2, ![512, 1024]⟩
abbrev S1x1x1024 : Shape := ⟨3, ![1, 1, 1024]⟩
abbrev S512x128 : Shape := ⟨2, ![512, 128]⟩
abbrev S512x3584 : Shape := ⟨2, ![512, 3584]⟩
abbrev S1x1024 : Shape := ⟨2, ![1, 1024]⟩
abbrev S512 : Shape := ⟨1, ![512]⟩
abbrev S512x1 : Shape := ⟨2, ![512, 1]⟩
abbrev S512x512 : Shape := ⟨2, ![512, 512]⟩
abbrev S1x512x1024 : Shape := ⟨3, ![1, 512, 1024]⟩

abbrev nBuf : Space → Nat
  | .hbm => 35
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S_, .f32⟩
  | .hbm, ⟨4, _⟩ => ⟨S1x1, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .i32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x128, .f32⟩
  | .hbm, ⟨26, _⟩ => ⟨S4096x32, .f32⟩
  | .hbm, ⟨27, _⟩ => ⟨S4096x32, .f32⟩
  | .hbm, ⟨28, _⟩ => ⟨S4096x128, .f32⟩
  | .hbm, ⟨29, _⟩ => ⟨S2x1x1024, .f32⟩
  | .hbm, ⟨30, _⟩ => ⟨S1024x3584, .bf16⟩
  | .hbm, ⟨31, _⟩ => ⟨S3584x1024, .bf16⟩
  | .hbm, ⟨32, _⟩ => ⟨S1x3584x1024, .bf16⟩
  | .hbm, ⟨33, _⟩ => ⟨S4096x3584, .f32⟩
  | .hbm, ⟨34, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x3584x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x3584, .f32⟩
  | .local _ .vmem, ⟨9, _⟩ => ⟨S512x3584, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4096x1024 : Shape := ⟨2, ![4096, 1024]⟩
abbrev S2x1024 : Shape := ⟨2, ![2, 1024]⟩
abbrev S1024x3584 : Shape := ⟨2, ![1024, 3584]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩
abbrev S4096x512 : Shape := ⟨2, ![4096, 512]⟩
abbrev S4096x8x64 : Shape := ⟨3, ![4096, 8, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x2560 : Shape := ⟨2, ![4096, 2560]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1024x3584, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x3584, .f32⟩
  | .hbm, ⟨22, _⟩ => ⟨S4096x512, .f32⟩
  | .hbm, ⟨23, _⟩ => ⟨S4096x8x64, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S4096, .i32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x1x32, .f32⟩
  | .hbm, ⟨41, _⟩ => ⟨S4096x32, .f32⟩
  | .hbm, ⟨42, _⟩ => ⟨S4096x1x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x32, .f32⟩
  | .hbm, ⟨47, _⟩ => ⟨S4096x8x32, .f32⟩
  | .hbm, ⟨48, _⟩ => ⟨S4096x8x32, .f32⟩
  | .hbm, ⟨49, _⟩ => ⟨S4096x8x32, .f32⟩
  | .hbm, ⟨50, _⟩ => ⟨S4096x8x32, .f32⟩
  | .hbm, ⟨51, _⟩ => ⟨S4096x8x32, .f32⟩
  | .hbm, ⟨52, _⟩ => ⟨S4096x8x32, .f32⟩
  | .hbm, ⟨53, _⟩ => ⟨S4096x8x32, .f32⟩
  | .hbm, ⟨54, _⟩ => ⟨S4096x8x32, .f32⟩
  | .hbm, ⟨55, _⟩ => ⟨S4096x8x64, .f32⟩
  | .hbm, ⟨56, _⟩ => ⟨S_, .f32⟩
  | .hbm, ⟨57, _⟩ => ⟨S4096x8x64, .f32⟩
  | .hbm, ⟨58, _⟩ => ⟨S4096x8x64, .f32⟩
  | .hbm, ⟨59, _⟩ => ⟨S4096x512, .f32⟩
  | .hbm, ⟨60, _⟩ => ⟨S4096x8x64, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S4096, .i32⟩
  | .hbm, ⟨70, _⟩ => ⟨S4096, .f32⟩
  | .hbm, ⟨71, _⟩ => ⟨S4096x1, .f32⟩
  | .hbm, ⟨72, _⟩ => ⟨S1x32, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x1x32, .f32⟩
  | .hbm, ⟨78, _⟩ => ⟨S4096x32, .f32⟩
  | .hbm, ⟨79, _⟩ => ⟨S4096x1x32, .f32⟩
  | .hbm, ⟨80, _⟩ => ⟨S4096x8x32, .f32⟩
  | .hbm, ⟨81, _⟩ => ⟨S4096x8x32, .f32⟩
  | .hbm, ⟨82, _⟩ => ⟨S4096x8x32, .f32⟩
  | .hbm, ⟨83, _⟩ => ⟨S4096x8x32, .f32⟩
  | .hbm, ⟨84, _⟩ => ⟨S4096x8x32, .f32⟩
  | .hbm, ⟨85, _⟩ => ⟨S4096x8x32, .f32⟩
  | .hbm, ⟨86, _⟩ => ⟨S4096x8x32, .f32⟩
  | .hbm, ⟨87, _⟩ => ⟨S4096x8x32, .f32⟩
  | .hbm, ⟨88, _⟩ => ⟨S4096x8x32, .f32⟩
  | .hbm, ⟨89, _⟩ => ⟨S4096x8x32, .f32⟩
  | .hbm, ⟨90, _⟩ => ⟨S4096x8x32, .f32⟩
  | .hbm, ⟨91, _⟩ => ⟨S4096x8x32, .f32⟩
  | .hbm, ⟨92, _⟩ => ⟨S4096x8x64, .f32⟩
  | .hbm, ⟨93, _⟩ => ⟨S4096x512, .f32⟩
  | .hbm, ⟨94, _⟩ => ⟨S4096x512, .f32⟩
  | .hbm, ⟨95, _⟩ => ⟨S4096x2560, .f32⟩
  | .hbm, ⟨96, _⟩ => ⟨S4096x3584, .f32⟩
  | .hbm, ⟨97, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩

abbrev nD : Nat := 1
abbrev τ : Topo := Topo.v7x

variable {F : FTy → Type} [FloatOps F]
-- ==== Kernel13.lean ====
abbrev S8x512x1024 : Shape := ⟨3, ![8, 512, 1024]⟩
abbrev S2x512x1024 : Shape := ⟨3, ![2, 512, 1024]⟩
abbrev S8x128 : Shape := ⟨2, ![8, 128]⟩
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S8x128, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S2x128x1024, .f32⟩
  | .local _ .vmem, ⟨11, _⟩ => ⟨S2x128x1024, .f32⟩
  | .local _ .vmem, ⟨12, _⟩ => ⟨S2x128x1024, .f32⟩
  | .local _ .vmem, ⟨13, _⟩ => ⟨S2x128x1024, .f32⟩
  | .local _ .vmem, ⟨14, _⟩ => ⟨S2x128x1024, .f32⟩
  | .local _ .vmem, ⟨15, _⟩ => ⟨S2x128x1024, .f32⟩
  | .local _ .vmem, ⟨16, _⟩ => ⟨S2x128x1024, .f32⟩
  | .local _ .vmem, ⟨17, _⟩ => ⟨S2x128x1024, .f32⟩
  | .local _ .vmem, ⟨18, _⟩ => ⟨S8x128, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel13Ideal.lean ====
abbrev S8x512x1024 : Shape := ⟨3, ![8, 512, 1024]⟩
abbrev S2x512x1024 : Shape := ⟨3, ![2, 512, 1024]⟩
abbrev S8x128 : Shape := ⟨2, ![8, 128]⟩
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S8x128, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S2x128x1024, .f32⟩
  | .local _ .vmem, ⟨11, _⟩ => ⟨S2x128x1024, .f32⟩
  | .local _ .vmem, ⟨12, _⟩ => ⟨S2x128x1024, .f32⟩
  | .local _ .vmem, ⟨13, _⟩ => ⟨S2x128x1024, .f32⟩
  | .local _ .vmem, ⟨14, _⟩ => ⟨S2x128x1024, .f32⟩
  | .local _ .vmem, ⟨15, _⟩ => ⟨S2x128x1024, .f32⟩
  | .local _ .vmem, ⟨16, _⟩ => ⟨S2x128x1024, .f32⟩
  | .local _ .vmem, ⟨17, _⟩ => ⟨S2x128x1024, .f32⟩
  | .local _ .vmem, ⟨18, _⟩ => ⟨S8x128, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference13Ideal.lean ====
abbrev S8x512x1024 : Shape := ⟨3, ![8, 512, 1024]⟩
abbrev S2x512x1024 : Shape := ⟨3, ![2, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S8x512x1024, .f32⟩
  | .hbm, ⟨6, _⟩ => ⟨S_, .f32⟩
  | .hbm, ⟨7, _⟩ => ⟨S512x1024, .f32⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S1x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel14.lean ====
abbrev S8x1024x512 : Shape := ⟨3, ![8, 1024, 512]⟩
abbrev S2x1024x512 : Shape := ⟨3, ![2, 1024, 512]⟩
abbrev S8x128 : Shape := ⟨2, ![8, 128]⟩
abbrev S8x512x512 : Shape := ⟨3, ![8, 512, 512]⟩
abbrev S2x512x512 : Shape := ⟨3, ![2, 512, 512]⟩
abbrev S1x512x512 : Shape := ⟨3, ![1, 512, 512]⟩
abbrev S512x512 : Shape := ⟨2, ![512, 512]⟩

abbrev nBuf : Space → Nat
  | .hbm => 10
  | .vmem => 19
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S8x128, .f32⟩
  | .local _ .vmem, ⟨0, _⟩ => ⟨S8x512x512, .bf16⟩
  | .local _ .vmem, ⟨1, _⟩ => ⟨S8x512x512, .bf16⟩
  | .local _ .vmem, ⟨2, _⟩ => ⟨S8x512x512, .bf16⟩
  | .local _ .vmem, ⟨3, _⟩ => ⟨S8x512x512, .bf16⟩
  | .local _ .vmem, ⟨4, _⟩ => ⟨S2x512x512, .f32⟩
  | .local _ .vmem, ⟨5, _⟩ => ⟨S2x512x512, .f32⟩
  | .local _ .vmem, ⟨6, _⟩ => ⟨S2x512x512, .f32⟩
  | .local _ .vmem, ⟨7, _⟩ => ⟨S2x512x512, .f32⟩
  | .local _ .vmem, ⟨8, _⟩ => ⟨S2x512x512, .f32⟩
  | .local _ .vmem, ⟨9, _⟩ => ⟨S2x512x512, .f32⟩
  | .local _ .vmem, ⟨10, _⟩ => ⟨S2x512x512, .f32⟩
  | .local _ .vmem, ⟨11, _⟩ => ⟨S2x512x512, .f32⟩
  | .local _ .vmem, ⟨12, _⟩ => ⟨S2x512x512, .f32⟩
  | .local _ .vmem, ⟨13, _⟩ => ⟨S2x512x512, .f32⟩
  | .local _ .vmem, ⟨14, _⟩ => ⟨S2x512x512, .f32⟩
  | .local _ .vmem, ⟨15, _⟩ => ⟨S2x512x512, .f32⟩
  | .local _ .vmem, ⟨16, _⟩ => ⟨S2x512x512, .f32⟩
  | .local _ .vmem, ⟨17, _⟩ => ⟨S2x512x512, .f32⟩
  | .local _ .vmem, ⟨18, _⟩ => ⟨S8x128, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel14Ideal.lean ====
abbrev S8x1024x512 : Shape := ⟨3, ![8, 1024, 512]⟩
abbrev S2x1024x512 : Shape := ⟨3, ![2, 1024, 512]⟩
abbrev S8x128 : Shape := ⟨2, ![8, 128]⟩
abbrev S8x512x512 : Shape := ⟨3, ![8, 512, 512]⟩
abbrev S2x512x512 : Shape := ⟨3, ![2, 512, 512]⟩
abbrev S1x512x512 : Shape := ⟨3, ![1, 512, 512]⟩
abbrev S512x512 : Shape := ⟨2, ![512, 512]⟩

abbrev nBuf : Space → Nat
  | .hbm => 10
  | .vmem => 19
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S8x128, .f32⟩
  | .local _ .vmem, ⟨0, _⟩ => ⟨S8x512x512, .bf16⟩
  | .local _ .vmem, ⟨1, _⟩ => ⟨S8x512x512, .bf16⟩
  | .local _ .vmem, ⟨2, _⟩ => ⟨S8x512x512, .bf16⟩
  | .local _ .vmem, ⟨3, _⟩ => ⟨S8x512x512, .bf16⟩
  | .local _ .vmem, ⟨4, _⟩ => ⟨S2x512x512, .f32⟩
  | .local _ .vmem, ⟨5, _⟩ => ⟨S2x512x512, .f32⟩
  | .local _ .vmem, ⟨6, _⟩ => ⟨S2x512x512, .f32⟩
  | .local _ .vmem, ⟨7, _⟩ => ⟨S2x512x512, .f32⟩
  | .local _ .vmem, ⟨8, _⟩ => ⟨S2x512x512, .f32⟩
  | .local _ .vmem, ⟨9, _⟩ => ⟨S2x512x512, .f32⟩
  | .local _ .vmem, ⟨10, _⟩ => ⟨S2x512x512, .f32⟩
  | .local _ .vmem, ⟨11, _⟩ => ⟨S2x512x512, .f32⟩
  | .local _ .vmem, ⟨12, _⟩ => ⟨S2x512x512, .f32⟩
  | .local _ .vmem, ⟨13, _⟩ => ⟨S2x512x512, .f32⟩
  | .local _ .vmem, ⟨14, _⟩ => ⟨S2x512x512, .f32⟩
  | .local _ .vmem, ⟨15, _⟩ => ⟨S2x512x512, .f32⟩
  | .local _ .vmem, ⟨16, _⟩ => ⟨S2x512x512, .f32⟩
  | .local _ .vmem, ⟨17, _⟩ => ⟨S2x512x512, .f32⟩
  | .local _ .vmem, ⟨18, _⟩ => ⟨S8x128, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference14Ideal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel15.lean ====
abbrev S8x128x1024 : Shape := ⟨3, ![8, 128, 1024]⟩
abbrev S2x128x1024 : Shape := ⟨3, ![2, 128, 1024]⟩
abbrev S8x128 : Shape := ⟨2, ![8, 128]⟩
abbrev S1x128x1024 : Shape := ⟨3, ![1, 128, 1024]⟩
abbrev S128x1024 : Shape := ⟨2, ![128, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S8x128, .f32⟩
  | .local _ .vmem, ⟨0, _⟩ => ⟨S8x128x1024, .bf16⟩
  | .local _ .vmem, ⟨1, _⟩ => ⟨S8x128x1024, .bf16⟩
  | .local _ .vmem, ⟨2, _⟩ => ⟨S2x128x1024, .f32⟩
  | .local _ .vmem, ⟨3, _⟩ => ⟨S2x128x1024, .f32⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S8x128, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel15Ideal.lean ====
abbrev S8x128x1024 : Shape := ⟨3, ![8, 128, 1024]⟩
abbrev S2x128x1024 : Shape := ⟨3, ![2, 128, 1024]⟩
abbrev S8x128 : Shape := ⟨2, ![8, 128]⟩
abbrev S1x128x1024 : Shape := ⟨3, ![1, 128, 1024]⟩
abbrev S128x1024 : Shape := ⟨2, ![128, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S8x128, .f32⟩
  | .local _ .vmem, ⟨0, _⟩ => ⟨S8x128x1024, .bf16⟩
  | .local _ .vmem, ⟨1, _⟩ => ⟨S8x128x1024, .bf16⟩
  | .local _ .vmem, ⟨2, _⟩ => ⟨S2x128x1024, .f32⟩
  | .local _ .vmem, ⟨3, _⟩ => ⟨S2x128x1024, .f32⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S8x128, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference15Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel16.lean ====
abbrev S8x448x1024 : Shape := ⟨3, ![8, 448, 1024]⟩
abbrev S2x448x1024 : Shape := ⟨3, ![2, 448, 1024]⟩
abbrev S8x128 : Shape := ⟨2, ![8, 128]⟩
abbrev S8x224x1024 : Shape := ⟨3, ![8, 224, 1024]⟩
abbrev S2x224x1024 : Shape := ⟨3, ![2, 224, 1024]⟩
abbrev S1x224x1024 : Shape := ⟨3, ![1, 224, 1024]⟩
abbrev S224x1024 : Shape := ⟨2, ![224, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8x448x1024, .bf16⟩
  | .hbm, ⟨1, _⟩ => ⟨S8x448x1024, .bf16⟩
  | .hbm, ⟨2, _⟩ => ⟨S2x448x1024, .f32⟩
  | .hbm, ⟨3, _⟩ => ⟨S2x448x1024, .f32⟩
  | .hbm, ⟨4, _⟩ => ⟨S2x448x1024, .f32⟩
  | .hbm, ⟨5, _⟩ => ⟨S2x448x1024, .f32⟩
  | .hbm, ⟨6, _⟩ => ⟨S2x448x1024, .f32⟩
  | .hbm, ⟨7, _⟩ => ⟨S2x448x1024, .f32⟩
  | .hbm, ⟨8, _⟩ => ⟨S2x448x1024, .f32⟩
  | .hbm, ⟨9, _⟩ => ⟨S8x128, .f32⟩
  | .local _ .vmem, ⟨0, _⟩ => ⟨S8x224x1024, .bf16⟩
  | .local _ .vmem, ⟨1, _⟩ => ⟨S8x224x1024, .bf16⟩
  | .local _ .vmem, ⟨2, _⟩ => ⟨S8x224x1024, .bf16⟩
  | .local _ .vmem, ⟨3, _⟩ => ⟨S8x224x1024, .bf16⟩
  | .local _ .vmem, ⟨4, _⟩ => ⟨S2x224x1024, .f32⟩
  | .local _ .vmem, ⟨5, _⟩ => ⟨S2x224x1024, .f32⟩
  | .local _ .vmem, ⟨6, _⟩ => ⟨S2x224x1024, .f32⟩
  | .local _ .vmem, ⟨7, _⟩ => ⟨S2x224x1024, .f32⟩
  | .local _ .vmem, ⟨8, _⟩ => ⟨S2x224x1024, .f32⟩
  | .local _ .vmem, ⟨9, _⟩ => ⟨S2x224x1024, .f32⟩
  | .local _ .vmem, ⟨10, _⟩ => ⟨S2x224x1024, .f32⟩
  | .local _ .vmem, ⟨11, _⟩ => ⟨S2x224x1024, .f32⟩
  | .local _ .vmem, ⟨12, _⟩ => ⟨S2x224x1024, .f32⟩
  | .local _ .vmem, ⟨13, _⟩ => ⟨S2x224x1024, .f32⟩
  | .local _ .vmem, ⟨14, _⟩ => ⟨S2x224x1024, .f32⟩
  | .local _ .vmem, ⟨15, _⟩ => ⟨S2x224x1024, .f32⟩
  | .local _ .vmem, ⟨16, _⟩ => ⟨S2x224x1024, .f32⟩
  | .local _ .vmem, ⟨17, _⟩ => ⟨S2x224x1024, .f32⟩
  | .local _ .vmem, ⟨18, _⟩ => ⟨S8x128, .f32⟩
  | _, _ => ⟨S8x448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x224x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference16Ideal.lean ====
abbrev S8x448x1024 : Shape := ⟨3, ![8, 448, 1024]⟩
abbrev S2x448x1024 : Shape := ⟨3, ![2, 448, 1024]⟩
abbrev S_ : Shape := ⟨0, ![]⟩
abbrev S448x1024 : Shape := ⟨2, ![448, 1024]⟩
abbrev S1x448x1024 : Shape := ⟨3, ![1, 448, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x448x1024, .bf16⟩
  | .hbm, ⟨1, _⟩ => ⟨S8x448x1024, .bf16⟩
  | .hbm, ⟨2, _⟩ => ⟨S2x448x1024, .f32⟩
  | .hbm, ⟨3, _⟩ => ⟨S2x448x1024, .f32⟩
  | .hbm, ⟨4, _⟩ => ⟨S2x448x1024, .f32⟩
  | .hbm, ⟨5, _⟩ => ⟨S8x448x1024, .f32⟩
  | .hbm, ⟨6, _⟩ => ⟨S_, .f32⟩
  | .hbm, ⟨7, _⟩ => ⟨S448x1024, .f32⟩
  | .hbm, ⟨8, _⟩ => ⟨S8x448x1024, .f32⟩
  | .hbm, ⟨9, _⟩ => ⟨S_, .f32⟩
  | .hbm, ⟨10, _⟩ => ⟨S448x1024, .f32⟩
  | .hbm, ⟨11, _⟩ => ⟨S1x448x1024, .f32⟩
  | .hbm, ⟨12, _⟩ => ⟨S1x448x1024, .f32⟩
  | .hbm, ⟨13, _⟩ => ⟨S2x448x1024, .f32⟩
  | .hbm, ⟨14, _⟩ => ⟨S_, .f32⟩
  | .hbm, ⟨15, _⟩ => ⟨S2x448x1024, .f32⟩
  | .hbm, ⟨16, _⟩ => ⟨S2x448x1024, .f32⟩
  | .hbm, ⟨17, _⟩ => ⟨S_, .f32⟩
  | .hbm, ⟨18, _⟩ => ⟨S2x448x1024, .f32⟩
  | .hbm, ⟨19, _⟩ => ⟨S2x448x1024, .f32⟩
  | .hbm, ⟨20, _⟩ => ⟨S2x448x1024, .f32⟩
  | .hbm, ⟨21, _⟩ => ⟨S_, .f32⟩
  | .hbm, ⟨22, _⟩ => ⟨S2x448x1024, .f32⟩
  | .hbm, ⟨23, _⟩ => ⟨S2x448x1024, .f32⟩
  | .hbm, ⟨24, _⟩ => ⟨S2x448x1024, .f32⟩
  | .hbm, ⟨25, _⟩ => ⟨S_, .f32⟩
  | .hbm, ⟨26, _⟩ => ⟨S2x448x1024, .f32⟩
  | .hbm, ⟨27, _⟩ => ⟨S2x448x1024, .f32⟩
  | .hbm, ⟨28, _⟩ => ⟨S2x448x1024, .f32⟩
  | .hbm, ⟨29, _⟩ => ⟨S_, .f32⟩
  | .hbm, ⟨30, _⟩ => ⟨S2x448x1024, .f32⟩
  | .hbm, ⟨31, _⟩ => ⟨S2x448x1024, .f32⟩
  | .hbm, ⟨32, _⟩ => ⟨S_, .f32⟩
  | .hbm, ⟨33, _⟩ => ⟨S2x448x1024, .f32⟩
  | .hbm, ⟨34, _⟩ => ⟨S2x448x1024, .f32⟩
  | .hbm, ⟨35, _⟩ => ⟨S2x448x1024, .f32⟩
  | .hbm, ⟨36, _⟩ => ⟨S_, .f32⟩
  | .hbm, ⟨37, _⟩ => ⟨S2x448x1024, .f32⟩
  | .hbm, ⟨38, _⟩ => ⟨S2x448x1024, .f32⟩
  | .hbm, ⟨39, _⟩ => ⟨S2x448x1024, .f32⟩
  | .hbm, ⟨40, _⟩ => ⟨S_, .f32⟩
  | .hbm, ⟨41, _⟩ => ⟨S2x448x1024, .f32⟩
  | .hbm, ⟨42, _⟩ => ⟨S2x448x1024, .f32⟩
  | .hbm, ⟨43, _⟩ => ⟨S2x448x1024, .f32⟩
  | .hbm, ⟨44, _⟩ => ⟨S_, .f32⟩
  | .hbm, ⟨45, _⟩ => ⟨S2x448x1024, .f32⟩
  | .hbm, ⟨46, _⟩ => ⟨S2x448x1024, .f32⟩
  | _, _ => ⟨S8x448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel17.lean ====
abbrev S8x1024 : Shape := ⟨2, ![8, 1024]⟩
abbrev S2x1024 : Shape := ⟨2, ![2, 1024]⟩
abbrev S2x512 : Shape := ⟨2, ![2, 512]⟩
abbrev S2x128 : Shape := ⟨2, ![2, 128]⟩
abbrev S1x1024 : Shape := ⟨2, ![1, 1024]⟩
abbrev S1x512 : Shape := ⟨2, ![1, 512]⟩
abbrev S1x128 : Shape := ⟨2, ![1, 128]⟩

abbrev nBuf : Space → Nat
  | .hbm => 43
  | .vmem => 43
  | .smem => 0
  | _ => 0

abbrev bufTy : (tb : Table) → Fin (tcTables nBuf tb) → BufTy
  | .hbm, ⟨0, _⟩ => ⟨S8x1024, .f32⟩
  | .hbm, ⟨1, _⟩ => ⟨S2x1024, .f32⟩
  | .hbm, ⟨2, _⟩ => ⟨S2x512, .f32⟩
  | .hbm, ⟨3, _⟩ => ⟨S2x512, .f32⟩
  | .hbm, ⟨4, _⟩ => ⟨S2x128, .f32⟩
  | .hbm, ⟨5, _⟩ => ⟨S2x1024, .f32⟩
  | .hbm, ⟨6, _⟩ => ⟨S1x1024, .f32⟩
  | .hbm, ⟨7, _⟩ => ⟨S2x1024, .f32⟩
  | .hbm, ⟨8, _⟩ => ⟨S2x512, .f32⟩
  | .hbm, ⟨9, _⟩ => ⟨S2x512, .f32⟩
  | .hbm, ⟨10, _⟩ => ⟨S2x128, .f32⟩
  | .hbm, ⟨11, _⟩ => ⟨S2x1024, .f32⟩
  | .hbm, ⟨12, _⟩ => ⟨S1x1024, .f32⟩
  | .hbm, ⟨13, _⟩ => ⟨S2x1024, .f32⟩
  | .hbm, ⟨14, _⟩ => ⟨S2x512, .f32⟩
  | .hbm, ⟨15, _⟩ => ⟨S2x512, .f32⟩
  | .hbm, ⟨16, _⟩ => ⟨S2x128, .f32⟩
  | .hbm, ⟨17, _⟩ => ⟨S2x1024, .f32⟩
  | .hbm, ⟨18, _⟩ => ⟨S1x1024, .f32⟩
  | .hbm, ⟨19, _⟩ => ⟨S2x1024, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S2x512, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S2x512, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S2x128, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S2x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .local _ .vmem, ⟨0, _⟩ => ⟨S8x1024, .f32⟩
  | .local _ .vmem, ⟨1, _⟩ => ⟨S2x1024, .f32⟩
  | .local _ .vmem, ⟨2, _⟩ => ⟨S2x512, .f32⟩
  | .local _ .vmem, ⟨3, _⟩ => ⟨S2x512, .f32⟩
  | .local _ .vmem, ⟨4, _⟩ => ⟨S2x128, .f32⟩
  | .local _ .vmem, ⟨5, _⟩ => ⟨S2x1024, .f32⟩
  | .local _ .vmem, ⟨6, _⟩ => ⟨S1x1024, .f32⟩
  | .local _ .vmem, ⟨7, _⟩ => ⟨S2x1024, .f32⟩
  | .local _ .vmem, ⟨8, _⟩ => ⟨S2x512, .f32⟩
  | .local _ .vmem, ⟨9, _⟩ => ⟨S2x512, .f32⟩
  | .local _ .vmem, ⟨10, _⟩ => ⟨S2x128, .f32⟩
  | .local _ .vmem, ⟨11, _⟩ => ⟨S2x1024, .f32⟩
  | .local _ .vmem, ⟨12, _⟩ => ⟨S1x1024, .f32⟩
  | .local _ .vmem, ⟨13, _⟩ => ⟨S2x1024, .f32⟩
  | .local _ .vmem, ⟨14, _⟩ => ⟨S2x512, .f32⟩
  | .local _ .vmem, ⟨15, _⟩ => ⟨S2x512, .f32⟩
  | .local _ .vmem, ⟨16, _⟩ => ⟨S2x128, .f32⟩
  | .local _ .vmem, ⟨17, _⟩ => ⟨S2x1024, .f32⟩
  | .local _ .vmem, ⟨18, _⟩ => ⟨S1x1024, .f32⟩
  | .local _ .vmem, ⟨19, _⟩ => ⟨S2x1024, .f32⟩
  | .local _ .vmem, ⟨20, _⟩ => ⟨S2x1024, .f32⟩
  | .local _ .vmem, ⟨21, _⟩ => ⟨S2x1024, .f32⟩
  | .local _ .vmem, ⟨22, _⟩ => ⟨S2x1024, .f32⟩
  | .local _ .vmem, ⟨23, _⟩ => ⟨S2x512, .f32⟩
  | .local _ .vmem, ⟨24, _⟩ => ⟨S2x512, .f32⟩
  | .local _ .vmem, ⟨25, _⟩ => ⟨S2x512, .f32⟩
  | .local _ .vmem, ⟨26, _⟩ => ⟨S2x512, .f32⟩
  | .local _ .vmem, ⟨27, _⟩ => ⟨S2x512, .f32⟩
  | .local _ .vmem, ⟨28, _⟩ => ⟨S2x512, .f32⟩
  | .local _ .vmem, ⟨29, _⟩ => ⟨S2x512, .f32⟩
  | .local _ .vmem, ⟨30, _⟩ => ⟨S2x512, .f32⟩
  | .local _ .vmem, ⟨31, _⟩ => ⟨S2x128, .f32⟩
  | .local _ .vmem, ⟨32, _⟩ => ⟨S2x128, .f32⟩
  | .local _ .vmem, ⟨33, _⟩ => ⟨S2x128, .f32⟩
  | .local _ .vmem, ⟨34, _⟩ => ⟨S2x128, .f32⟩
  | .local _ .vmem, ⟨35, _⟩ => ⟨S2x1024, .f32⟩
  | .local _ .vmem, ⟨36, _⟩ => ⟨S2x1024, .f32⟩
  | .local _ .vmem, ⟨37, _⟩ => ⟨S2x1024, .f32⟩
  | .local _ .vmem, ⟨38, _⟩ => ⟨S2x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev main_v0_5 : Ref sig .tc := ⟨.hbm, 24, rfl⟩
abbrev main_v0_6 : Ref sig .tc := ⟨.hbm, 25, rfl⟩
abbrev main_v0_7 : Ref sig .tc := ⟨.hbm, 26, rfl⟩
abbrev main_v0_8 : Ref sig .tc := ⟨.hbm, 27, rfl⟩
abbrev main_v0_9 : Ref sig .tc := ⟨.hbm, 28, rfl⟩
abbrev main_v0_10 : Ref sig .tc := ⟨.hbm, 29, rfl⟩
abbrev main_v0_11 : Ref sig .tc := ⟨.hbm, 30, rfl⟩
abbrev main_v0_12 : Ref sig .tc := ⟨.hbm, 31, rfl⟩
abbrev main_v0_13 : Ref sig .tc := ⟨.hbm, 32, rfl⟩
abbrev main_v0_14 : Ref sig .tc := ⟨.hbm, 33, rfl⟩
abbrev main_v0_15 : Ref sig .tc := ⟨.hbm, 34, rfl⟩
abbrev main_v0_16 : Ref sig .tc := ⟨.hbm, 35, rfl⟩
abbrev main_v0_17 : Ref sig .tc := ⟨.hbm, 36, rfl⟩
abbrev main_v0_18 : Ref sig .tc := ⟨.hbm, 37, rfl⟩
abbrev main_v0_19 : Ref sig .tc := ⟨.hbm, 38, rfl⟩
abbrev main_v0_20 : Ref sig .tc := ⟨.hbm, 39, rfl⟩
abbrev main_v0_21 : Ref sig .tc := ⟨.hbm, 40, rfl⟩
abbrev main_v0_22 : Ref sig .tc := ⟨.hbm, 41, rfl⟩
abbrev main_v0_23 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S2x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S2x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
-- ==== Reference17Ideal.lean ====
abbrev S8x1024 : Shape := ⟨2, ![8, 1024]⟩
abbrev S2x1024 : Shape := ⟨2, ![2, 1024]⟩
abbrev S2x512 : Shape := ⟨2, ![2, 512]⟩
abbrev S2x128 : Shape := ⟨2, ![2, 128]⟩
abbrev S1x1024 : Shape := ⟨2, ![1, 1024]⟩
abbrev S1024 : Shape := ⟨1, ![1024]⟩
abbrev S256 : Shape := ⟨1, ![256]⟩
abbrev S_ : Shape := ⟨0, ![]⟩

abbrev nBuf : Space → Nat
  | .hbm => 230
  | .vmem => 0
  | .smem => 0
  | _ => 0

abbrev hbmTy0_0 (i : Nat) : BufTy := match i % 128 with
  | 0 => ⟨S8x1024, .f32⟩
  | 1 => ⟨S2x1024, .f32⟩
  | 2 => ⟨S2x512, .f32⟩
  | 3 => ⟨S2x512, .f32⟩
  | 4 => ⟨S2x128, .f32⟩
  | 5 => ⟨S2x1024, .f32⟩
  | 6 => ⟨S1x1024, .f32⟩
  | 7 => ⟨S2x1024, .f32⟩
  | 8 => ⟨S2x512, .f32⟩
  | 9 => ⟨S2x512, .f32⟩
  | 10 => ⟨S2x128, .f32⟩
  | 11 => ⟨S2x1024, .f32⟩
  | 12 => ⟨S1x1024, .f32⟩
  | 13 => ⟨S2x1024, .f32⟩
  | 14 => ⟨S2x512, .f32⟩
  | 15 => ⟨S2x512, .f32⟩
  | 16 => ⟨S2x128, .f32⟩
  | 17 => ⟨S2x1024, .f32⟩
  | 18 => ⟨S1x1024, .f32⟩
  | 19 => ⟨S2x1024, .f32⟩
  | 20 => ⟨S1x1024, .f32⟩
  | 21 => ⟨S1024, .f32⟩
  | 22 => ⟨S2x512, .f32⟩
  | 23 => ⟨S1x1024, .f32⟩
  | 24 => ⟨S1024, .f32⟩
  | 25 => ⟨S2x512, .f32⟩
  | 26 => ⟨S1x1024, .f32⟩
  | 27 => ⟨S1024, .f32⟩
  | 28 => ⟨S256, .f32⟩
  | 29 => ⟨S2x128, .f32⟩
  | 30 => ⟨S2x1024, .f32⟩
  | 31 => ⟨S1x1024, .f32⟩
  | 32 => ⟨S_, .f32⟩
  | 33 => ⟨S2x1024, .f32⟩
  | 34 => ⟨S2x1024, .f32⟩
  | 35 => ⟨S_, .f32⟩
  | 36 => ⟨S2x1024, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S_, .f32⟩
  | 66 => ⟨S2x512, .f32⟩
  | 67 => ⟨S2x512, .f32⟩
  | 68 => ⟨S_, .f32⟩
  | 69 => ⟨S2x512, .f32⟩
  | 70 => ⟨S2x512, .f32⟩
  | 71 => ⟨S2x512, .f32⟩
  | 72 => ⟨S_, .f32⟩
  | 73 => ⟨S2x512, .f32⟩
  | 74 => ⟨S2x512, .f32⟩
  | 75 => ⟨S2x512, .f32⟩
  | 76 => ⟨S_, .f32⟩
  | 77 => ⟨S2x512, .f32⟩
  | 78 => ⟨S2x512, .f32⟩
  | 79 => ⟨S2x512, .f32⟩
  | 80 => ⟨S_, .f32⟩
  | 81 => ⟨S2x512, .f32⟩
  | 82 => ⟨S2x512, .f32⟩
  | 83 => ⟨S_, .f32⟩
  | 84 => ⟨S2x512, .f32⟩
  | 85 => ⟨S2x512, .f32⟩
  | 86 => ⟨S2x512, .f32⟩
  | 87 => ⟨S_, .f32⟩
  | 88 => ⟨S2x512, .f32⟩
  | 89 => ⟨S2x512, .f32⟩
  | 90 => ⟨S2x512, .f32⟩
  | 91 => ⟨S_, .f32⟩
  | 92 => ⟨S2x512, .f32⟩
  | 93 => ⟨S2x512, .f32⟩
  | 94 => ⟨S2x512, .f32⟩
  | 95 => ⟨S_, .f32⟩
  | 96 => ⟨S2x512, .f32⟩
  | 97 => ⟨S2x512, .f32⟩
  | 98 => ⟨S_, .f32⟩
  | 99 => ⟨S2x512, .f32⟩
  | 100 => ⟨S2x512, .f32⟩
  | 101 => ⟨S_, .f32⟩
  | 102 => ⟨S2x512, .f32⟩
  | 103 => ⟨S2x512, .f32⟩
  | 104 => ⟨S2x512, .f32⟩
  | 105 => ⟨S_, .f32⟩
  | 106 => ⟨S2x512, .f32⟩
  | 107 => ⟨S2x512, .f32⟩
  | 108 => ⟨S2x512, .f32⟩
  | 109 => ⟨S_, .f32⟩
  | 110 => ⟨S2x512, .f32⟩
  | 111 => ⟨S2x512, .f32⟩
  | 112 => ⟨S2x512, .f32⟩
  | 113 => ⟨S_, .f32⟩
  | 114 => ⟨S2x512, .f32⟩
  | 115 => ⟨S2x512, .f32⟩
  | 116 => ⟨S_, .f32⟩
  | 117 => ⟨S2x512, .f32⟩
  | 118 => ⟨S2x512, .f32⟩
  | 119 => ⟨S2x512, .f32⟩
  | 120 => ⟨S_, .f32⟩
  | 121 => ⟨S2x512, .f32⟩
  | 122 => ⟨S2x512, .f32⟩
  | 123 => ⟨S2x512, .f32⟩
  | 124 => ⟨S_, .f32⟩
  | 125 => ⟨S2x512, .f32⟩
  | 126 => ⟨S2x512, .f32⟩
  | 127 => ⟨S2x512, .f32⟩
  | _ => ⟨S8x1024, .f32⟩

abbrev hbmTy0_1 (i : Nat) : BufTy := match i % 128 with
  | 0 => ⟨S_, .f32⟩
  | 1 => ⟨S2x512, .f32⟩
  | 2 => ⟨S2x512, .f32⟩
  | 3 => ⟨S_, .f32⟩
  | 4 => ⟨S2x128, .f32⟩
  | 5 => ⟨S2x128, .f32⟩
  | 6 => ⟨S_, .f32⟩
  | 7 => ⟨S2x128, .f32⟩
  | 8 => ⟨S2x128, .f32⟩
  | 9 => ⟨S2x128, .f32⟩
  | 10 => ⟨S_, .f32⟩
  | 11 => ⟨S2x128, .f32⟩
  | 12 => ⟨S2x128, .f32⟩
  | 13 => ⟨S2x128, .f32⟩
  | 14 => ⟨S_, .f32⟩
  | 15 => ⟨S2x128, .f32⟩
  | 16 => ⟨S2x128, .f32⟩
  | 17 => ⟨S2x128, .f32⟩
  | 18 => ⟨S_, .f32⟩
  | 19 => ⟨S2x128, .f32⟩
  | 20 => ⟨S2x128, .f32⟩
  | 21 => ⟨S_, .f32⟩
  | 22 => ⟨S2x128, .f32⟩
  | 23 => ⟨S2x128, .f32⟩
  | 24 => ⟨S2x128, .f32⟩
  | 25 => ⟨S_, .f32⟩
  | 26 => ⟨S2x128, .f32⟩
  | 27 => ⟨S2x128, .f32⟩
  | 28 => ⟨S2x128, .f32⟩
  | 29 => ⟨S_, .f32⟩
  | 30 => ⟨S2x128, .f32⟩
  | 31 => ⟨S2x128, .f32⟩
  | 32 => ⟨S2x128, .f32⟩
  | 33 => ⟨S_, .f32⟩
  | 34 => ⟨S2x128, .f32⟩
  | 35 => ⟨S2x128, .f32⟩
  | 36 => ⟨S_, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | _ => ⟨S8x1024, .f32⟩

abbrev hbmTy (i : Nat) : BufTy := match i / 128 with
  | 0 => hbmTy0_0 i
  | 1 => hbmTy0_1 i
  | _ => ⟨S8x1024, .f32⟩

abbrev bufTy : (tb : Table) → Fin (tcTables nBuf tb) → BufTy
  | .hbm, ⟨i, _⟩ => hbmTy i
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_12 : Ref sig .tc := ⟨.hbm, 80, rfl⟩
abbrev main_v48 : Ref sig .tc := ⟨.hbm, 81, rfl⟩
abbrev main_v49 : Ref sig .tc := ⟨.hbm, 82, rfl⟩
abbrev main_cst_13 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_15 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_16 : Ref sig .tc := ⟨.hbm, 95, rfl⟩
abbrev main_v59 : Ref sig .tc := ⟨.hbm, 96, rfl⟩
abbrev main_v60 : Ref sig .tc := ⟨.hbm, 97, rfl⟩
abbrev main_cst_17 : Ref sig .tc := ⟨.hbm, 98, rfl⟩
abbrev main_v61 : Ref sig .tc := ⟨.hbm, 99, rfl⟩
abbrev main_v62 : Ref sig .tc := ⟨.hbm, 100, rfl⟩
abbrev main_cst_18 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_19 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_20 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_21 : Ref sig .tc := ⟨.hbm, 113, rfl⟩
abbrev main_v72 : Ref sig .tc := ⟨.hbm, 114, rfl⟩
abbrev main_v73 : Ref sig .tc := ⟨.hbm, 115, rfl⟩
abbrev main_cst_22 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_23 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_24 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_25 : Ref sig .tc := ⟨.hbm, 128, rfl⟩
abbrev main_v83 : Ref sig .tc := ⟨.hbm, 129, rfl⟩
abbrev main_v84 : Ref sig .tc := ⟨.hbm, 130, rfl⟩
abbrev main_cst_26 : Ref sig .tc := ⟨.hbm, 131, rfl⟩
abbrev main_v85 : Ref sig .tc := ⟨.hbm, 132, rfl⟩
abbrev main_v86 : Ref sig .tc := ⟨.hbm, 133, rfl⟩
abbrev main_cst_27 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_28 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_29 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_30 : Ref sig .tc := ⟨.hbm, 146, rfl⟩
abbrev main_v96 : Ref sig .tc := ⟨.hbm, 147, rfl⟩
abbrev main_v97 : Ref sig .tc := ⟨.hbm, 148, rfl⟩
abbrev main_cst_31 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_32 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_33 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_34 : Ref sig .tc := ⟨.hbm, 161, rfl⟩
abbrev main_v107 : Ref sig .tc := ⟨.hbm, 162, rfl⟩
abbrev main_v108 : Ref sig .tc := ⟨.hbm, 163, rfl⟩
abbrev main_cst_35 : Ref sig .tc := ⟨.hbm, 164, rfl⟩
abbrev main_v109 : Ref sig .tc := ⟨.hbm, 165, rfl⟩
abbrev main_v110 : Ref sig .tc := ⟨.hbm, 166, rfl⟩
abbrev main_cst_36 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_37 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_38 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_39 : Ref sig .tc := ⟨.hbm, 179, rfl⟩
abbrev main_v120 : Ref sig .tc := ⟨.hbm, 180, rfl⟩
abbrev main_v121 : Ref sig .tc := ⟨.hbm, 181, rfl⟩
abbrev main_cst_40 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_41 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_42 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_43 : Ref sig .tc := ⟨.hbm, 194, rfl⟩
abbrev main_v131 : Ref sig .tc := ⟨.hbm, 195, rfl⟩
abbrev main_v132 : Ref sig .tc := ⟨.hbm, 196, rfl⟩
abbrev main_cst_44 : Ref sig .tc := ⟨.hbm, 197, rfl⟩
abbrev main_v133 : Ref sig .tc := ⟨.hbm, 198, rfl⟩
abbrev main_v134 : Ref sig .tc := ⟨.hbm, 199, rfl⟩
abbrev main_cst_45 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_cst_46 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_cst_47 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_cst_48 : Ref sig .tc := ⟨.hbm, 212, rfl⟩
abbrev main_v144 : Ref sig .tc := ⟨.hbm, 213, rfl⟩
abbrev main_v145 : Ref sig .tc := ⟨.hbm, 214, rfl⟩
abbrev main_cst_49 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_cst_50 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_cst_51 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_cst_52 : Ref sig .tc := ⟨.hbm, 227, rfl⟩
abbrev main_v155 : Ref sig .tc := ⟨.hbm, 228, rfl⟩
abbrev main_v156 : Ref sig .tc := ⟨.hbm, 229, rfl⟩

abbrev nD : Nat := 1
abbrev τ : Topo := Topo.v7x

variable {F : FTy → Type} [FloatOps F]
-- ==== Proof.Blocks.lean ====
/-  Sums over 4096 or 3584 indices taken as blocks of 512. -/
module

public import Idealize.ShloMosaic.Lib.Pipeline.ValueKit

@[expose] public noncomputable section

open scoped BigOperators

namespace Cert.Blocks

/-- A sum over 4096 indices is the sum of its eight blocks of 512, added from the left. -/
theorem sum_eight (f : Fin 4096 → EReal) :
    (((((((∑ k : Fin 512, f ⟨k.val, by omega⟩) + ∑ k : Fin 512, f ⟨512 + k.val, by omega⟩)
      + ∑ k : Fin 512, f ⟨1024 + k.val, by omega⟩) + ∑ k : Fin 512, f ⟨1536 + k.val, by omega⟩)
      + ∑ k : Fin 512, f ⟨2048 + k.val, by omega⟩) + ∑ k : Fin 512, f ⟨2560 + k.val, by omega⟩)
      + ∑ k : Fin 512, f ⟨3072 + k.val, by omega⟩) + ∑ k : Fin 512, f ⟨3584 + k.val, by omega⟩
      = ∑ l : Fin 4096, f l := by
  rw [← Fin.sum_mul_add_fin 8 512 f, Fin.sum_univ_eight]
  simp

/-- The same, added onto a first term. -/
theorem add_sum_eight (x : EReal) (f : Fin 4096 → EReal) :
    (((((((x + ∑ k : Fin 512, f ⟨k.val, by omega⟩) + ∑ k : Fin 512, f ⟨512 + k.val, by omega⟩)
      + ∑ k : Fin 512, f ⟨1024 + k.val, by omega⟩) + ∑ k : Fin 512, f ⟨1536 + k.val, by omega⟩)
      + ∑ k : Fin 512, f ⟨2048 + k.val, by omega⟩) + ∑ k : Fin 512, f ⟨2560 + k.val, by omega⟩)
      + ∑ k : Fin 512, f ⟨3072 + k.val, by omega⟩) + ∑ k : Fin 512, f ⟨3584 + k.val, by omega⟩
      = x + ∑ l : Fin 4096, f l := by
  rw [← sum_eight f]
  simp only [add_assoc]

/-- A sum over 3584 indices is the sum of its seven blocks of 512, added from the left. -/
theorem sum_seven (f : Fin 3584 → EReal) :
    ((((((∑ k : Fin 512, f ⟨k.val, by omega⟩) + ∑ k : Fin 512, f ⟨512 + k.val, by omega⟩)
      + ∑ k : Fin 512, f ⟨1024 + k.val, by omega⟩) + ∑ k : Fin 512, f ⟨1536 + k.val, by omega⟩)
      + ∑ k : Fin 512, f ⟨2048 + k.val, by omega⟩) + ∑ k : Fin 512, f ⟨2560 + k.val, by omega⟩)
      + ∑ k : Fin 512, f ⟨3072 + k.val, by omega⟩
      = ∑ l : Fin 3584, f l := by
  rw [← Fin.sum_mul_add_fin 7 512 f, Fin.sum_univ_seven]
  simp

end Cert.Blocks

end
-- ==== Proof.RmsBackward.lean ====
/-
  Extended reals that are real numbers, and the derivative of a root-mean-square norm: the form in which the kernels
  write it, and the form in which differentiating the norm step by step leaves it, are one value when the inputs are
  real numbers.
-/
module

public import Idealize.ShloMosaic.Lib.Pipeline.ValueKit

@[expose] public noncomputable section

open Idealize.ShloMosaic
open scoped BigOperators

namespace Cert.RmsBackward

/-- The extended real is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ j, IsReal (f j)) : IsReal (∑ j ∈ s, f j) := by
  choose g hg using h
  exact ⟨∑ j ∈ s, g j, by rw [coe_sum]; exact Finset.sum_congr rfl fun j _ => hg j⟩

/-- The difference of a real number and itself. -/
theorem IsReal.sub_self {x : EReal} (hx : IsReal x) : x - x = 0 := by
  obtain ⟨a, rfl⟩ := hx
  rw [← EReal.coe_sub, _root_.sub_self, EReal.coe_zero]

theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

theorem rsqrt_coe {a : ℝ} (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr ha.le), if_neg ha.ne']

theorem eps_val : ∃ e : ℝ, 0 < e ∧ Ideal.ofBits .f32 0x358637BD#32 = (e : EReal) := by
  refine ⟨8796093 * (2 : ℝ) ^ (-43 : Int), by positivity, ?_⟩
  simp [Ideal.ofBits, Ideal.ieee, -EReal.coe_mul]

theorem n1024_val : Ideal.ofBits .f32 0x44800000#32 = ((1024 : ℝ) : EReal) := by
  simp [Ideal.ofBits, Ideal.ieee, -EReal.coe_mul]; norm_num

theorem n512_val : Ideal.ofBits .f32 0x44000000#32 = ((512 : ℝ) : EReal) := by
  simp [Ideal.ofBits, Ideal.ieee, -EReal.coe_mul]; norm_num

/-- The larger of a real number and zero. -/
theorem real_max {x : EReal} (h : IsReal x) : IsReal (max x 0) := by
  rcases le_total x 0 with hx | hx
  · rw [max_eq_right hx]; exact isReal_zero
  · rw [max_eq_left hx]; exact h

/-- A sum over a positive constant. -/
theorem real_div {x : EReal} (h : IsReal x) {N : ℝ} (hN : 0 < N) : IsReal (Ideal.div x (N : EReal)) := by
  obtain ⟨a, rfl⟩ := h
  exact ⟨_, div_coe a hN.ne'⟩

theorem two_val : Ideal.ofBits .f32 0x40000000#32 = ((2 : ℝ) : EReal) := by
  simp [Ideal.ofBits, Ideal.ieee, -EReal.coe_mul]; norm_num

theorem neg_half_val : Ideal.ofBits .f32 0xBF000000#32 = ((-(1 / 2) : ℝ) : EReal) := by
  simp [Ideal.ofBits, Ideal.ieee, -EReal.coe_mul, -EReal.coe_neg]; norm_num

/-- One over the root of the mean square of real numbers, with a positive number added to the mean. -/
theorem mean_square {n : ℕ} (x : Fin n → ℝ) {N e : ℝ} (hN : 0 < N) (he : 0 < e) :
    ∃ q : ℝ, 0 < q ∧ Ideal.div (∑ j, (x j : EReal) * (x j : EReal)) (N : EReal) + (e : EReal) = (q : EReal) := by
  refine ⟨(∑ j, x j * x j) / N + e, ?_, ?_⟩
  · have h : 0 ≤ (∑ j, x j * x j) / N := div_nonneg (Finset.sum_nonneg fun j _ => mul_self_nonneg (x j)) hN.le
    linarith
  · rw [EReal.coe_add, ← div_coe _ hN.ne', coe_sum]
    simp only [EReal.coe_mul]

/-- The reciprocal root of a mean square is a real number. -/
theorem isReal_rsqrt {n : ℕ} {x : Fin n → EReal} (hx : ∀ j, IsReal (x j)) {N e : ℝ} (hN : 0 < N) (he : 0 < e) :
    IsReal (Ideal.rsqrt (Ideal.div (∑ j, x j * x j) (N : EReal) + (e : EReal))) := by
  choose X hX using hx
  obtain rfl : x = fun j => (X j : EReal) := funext hX
  obtain ⟨q, hq, h⟩ := mean_square X hN he
  exact ⟨_, by rw [h, rsqrt_coe hq]⟩

/-- The derivative of the norm at one lane, for real inputs `x` and gradient `g`: the gradient less the share of it
    that changes the norm, against the sum of three products that the chain rule leaves. -/
theorem rms_backward {n : ℕ} {x g : Fin n → EReal} (hx : ∀ j, IsReal (x j)) (hg : ∀ j, IsReal (g j)) {N e : ℝ}
    (hN : 0 < N) (he : 0 < e) (k : Fin n) {q : EReal} (hq : q = Ideal.div (∑ j, x j * x j) (N : EReal) + (e : EReal)) :
    Ideal.rsqrt q * (g k - (x k * Ideal.rsqrt q) * Ideal.div (∑ j, g j * (x j * Ideal.rsqrt q)) (N : EReal))
      = (g k * Ideal.rsqrt q
          + x k * Ideal.div ((∑ j, x j * g j) * (((-(1 / 2) : ℝ) : EReal) * Ideal.div (Ideal.rsqrt q) q)) (N : EReal))
        + Ideal.div ((∑ j, x j * g j) * (((-(1 / 2) : ℝ) : EReal) * Ideal.div (Ideal.rsqrt q) q)) (N : EReal) * x k := by
  choose X hX using hx
  obtain rfl : x = fun j => (X j : EReal) := funext hX
  choose G hG using hg
  obtain rfl : g = fun j => (G j : EReal) := funext hG
  obtain ⟨p, hp, h⟩ := mean_square X hN he
  obtain rfl : q = (p : EReal) := hq.trans h
  have hs : Real.sqrt p * Real.sqrt p = p := Real.mul_self_sqrt hp.le
  have hs0 : Real.sqrt p ≠ 0 := (Real.sqrt_pos.mpr hp).ne'
  rw [rsqrt_coe hp]
  simp only [← EReal.coe_mul, ← coe_sum, div_coe _ hp.ne', div_coe _ hN.ne', ← EReal.coe_sub, ← EReal.coe_add]
  congr 1
  have e1 : (∑ j, G j * (X j * (Real.sqrt p)⁻¹)) = (∑ j, X j * G j) * (Real.sqrt p)⁻¹ := by
    rw [Finset.sum_mul]
    exact Finset.sum_congr rfl fun j _ => by ring
  rw [e1]
  generalize (∑ j, X j * G j) = A
  generalize Real.sqrt p = s at hs hs0
  subst hs
  field_simp
  ring

/-- The same with the two equal terms of the mean square's derivative written as one. -/
theorem rms_backward_twice {n : ℕ} {x g : Fin n → EReal} (hx : ∀ j, IsReal (x j)) (hg : ∀ j, IsReal (g j)) {N e : ℝ}
    (hN : 0 < N) (he : 0 < e) (k : Fin n) {q : EReal} (hq : q = Ideal.div (∑ j, x j * x j) (N : EReal) + (e : EReal)) :
    Ideal.rsqrt q * (g k - (x k * Ideal.rsqrt q) * Ideal.div (∑ j, g j * (x j * Ideal.rsqrt q)) (N : EReal))
      = g k * Ideal.rsqrt q
        + Ideal.div ((∑ j, x j * g j) * (((-(1 / 2) : ℝ) : EReal) * Ideal.div (Ideal.rsqrt q) q)) (N : EReal) * (((2 : ℝ) : EReal) * x k) := by
  refine (rms_backward hx hg hN he k hq).trans ?_
  have hs : IsReal (Ideal.rsqrt q) := hq ▸ isReal_rsqrt hx hN he
  have hq' : IsReal (Ideal.div (Ideal.rsqrt q) q) := by
    choose X hX using hx
    obtain rfl : x = fun j => (X j : EReal) := funext hX
    obtain ⟨p, hp, h⟩ := mean_square X hN he
    obtain ⟨s, hs⟩ := hs
    rw [hs, hq.trans h, div_coe _ hp.ne']
    exact isReal_coe _
  obtain ⟨d, hd⟩ : IsReal (Ideal.div ((∑ j, x j * g j) * (((-(1 / 2) : ℝ) : EReal) * Ideal.div (Ideal.rsqrt q) q)) (N : EReal)) :=
    real_div ((IsReal.sum _ _ fun j => (hx j).mul (hg j)).mul ((isReal_coe _).mul hq')) hN
  obtain ⟨y, hy⟩ := hx k
  obtain ⟨w, hw⟩ := (hg k).mul hs
  rw [hd, hw, hy]
  simp only [← EReal.coe_mul, ← EReal.coe_add]
  congr 1
  ring

/-- A comparison that says every element's size is below infinity says that every element is a real number. -/
theorem isReal_of_finite {s : Shape} {x : FVec Ideal s .f32} {h : (⟨0, ![]⟩ : Shape).BroadcastsInDim s ![]}
    (e : cmpf .olt (Host.absf x) (broadcastInDim s ![] h (constant (F := Ideal) ⟨0, ![]⟩ .f32 0x7F800000#32)) = fun _ => 1#1)
    (i : s.Idx) : IsReal (x i) := by
  have htop : Ideal.ofBits .f32 0x7F800000#32 = ⊤ := by simp [Ideal.ofBits, Ideal.ieee]
  have h1 : Ideal.cmp .olt (max (x i : EReal) (-(x i : EReal))) (Ideal.ofBits .f32 0x7F800000#32) = 1#1 := congrFun e i
  rw [htop] at h1
  have h2 : max (x i : EReal) (-(x i : EReal)) < ⊤ := by
    by_contra hn
    simp [Ideal.cmp, hn] at h1
  have h3 := max_lt_iff.mp h2
  refine ⟨(x i : EReal).toReal, (EReal.coe_toReal h3.1.ne ?_).symm⟩
  intro hb
  have := h3.2
  rw [hb] at this
  simp at this

/-- A host sum over the rows of a table that is stacked in `a` copies. -/
theorem reduce_copies {a b n : ℕ} (h : (⟨4, ![a, b, 1, n]⟩ : Shape).ReducesTo [0, 2] ⟨2, ![b, n]⟩)
    (v : (⟨4, ![a, b, 1, n]⟩ : Shape).Idx → EReal) (init : EReal) (p : Fin b) (k : Fin n) :
    Ideal.hostReduceAdd h v init (ix2 p k) = init + ∑ x : Fin a, v (ix4 x p (0 : Fin 1) k) := by
  unfold Ideal.hostReduceAdd
  refine congrArg (init + ·) (Finset.sum_filter_eq_sum_of_fiber _ (fun x : Fin a => ix4 x p (0 : Fin 1) k)
    (fun _ _ e => congrFun e 0) (fun i => ⟨fun e => ⟨i 0, ?_⟩, ?_⟩) v)
  · funext d
    apply Fin.ext
    match d with
    | ⟨0, _⟩ => rfl
    | ⟨1, _⟩ => exact (congrArg Fin.val (congrFun e 0)).symm
    | ⟨2, _⟩ => exact (Nat.lt_one_iff.mp (i 2).isLt).symm
    | ⟨3, _⟩ => exact (congrArg Fin.val (congrFun e 1)).symm
  · rintro ⟨x, rfl⟩
    funext d
    apply Fin.ext
    match d with
    | ⟨0, _⟩ => rfl
    | ⟨1, _⟩ => rfl

end Cert.RmsBackward

end
-- ==== Proof.LossBackward.lean ====
/-
  The reference of the last layer's second half with the loss, row by row: the norms' mean squares, which values are real
  numbers when the inputs are, the derivative of the last norm in the form in which the kernel writes it, and the sums over
  the copies of the gain.
-/
module

public import proofs.«01_k».proof.Proof.Gen.Reference9Ideal.Read
public import proofs.«01_k».proof.Proof.RmsBackward
public import Idealize.ShloMosaic.Lib.Pipeline.ValueKit

set_option maxRecDepth 16384

@[expose] public noncomputable section

open Idealize.ShloMosaic
open scoped BigOperators

namespace Cert.LossBackward

open Cert.RmsBackward Cert.Reference9Ideal

variable (x0 x1 : FVec Ideal S4096x1024 .f32) (x2 : FVec Ideal S2x1024 .f32) (x3 : FVec Ideal S1024x1024 .f32) (x4 : FVec Ideal S1024x4096 .f32)
  (x5 : FVec Ideal S4096x1024 .f32) (x6 : FVec Ideal S1024 .f32) (x7 : FVec Ideal S4096x1024 .f32)

/-- The middle stream's mean square, as a sum over its row. -/
theorem mid_square {e : ℝ} (hev : Ideal.ofBits .f32 0x358637BD#32 = (e : EReal)) (r : Fin 4096) :
    Cert.Reference9Ideal.Read.val_main_v10 (F := Ideal) x0 x1 x3 (ix2 r (0 : Fin 1)) = Ideal.div (∑ j : Fin 1024, Cert.Reference9Ideal.Read.val_main_v1 (F := Ideal) x0 x1 x3 (ix2 r j) * Cert.Reference9Ideal.Read.val_main_v1 (F := Ideal) x0 x1 x3 (ix2 r j)) ((1024 : ℝ) : EReal) + (e : EReal) := by
  rw [← hev, ← n1024_val]
  pointwise [Cert.Reference9Ideal.Read.val_main_v4, Cert.Reference9Ideal.Read.val_main_v5, Cert.Reference9Ideal.Read.val_main_v6, Cert.Reference9Ideal.Read.val_main_v7, Cert.Reference9Ideal.Read.val_main_v8, Cert.Reference9Ideal.Read.val_main_v9, Cert.Reference9Ideal.Read.val_main_v10, Cert.Reference9Ideal.Read.val_main_cst, Cert.Reference9Ideal.Read.val_main_cst_0, Cert.Reference9Ideal.Read.val_main_cst_1]

/-- The output's mean square, as a sum over its row. -/
theorem out_square {e : ℝ} (hev : Ideal.ofBits .f32 0x358637BD#32 = (e : EReal)) (r : Fin 4096) :
    Cert.Reference9Ideal.Read.val_main_v34 (F := Ideal) x0 x1 x2 x3 x4 x5 (ix2 r (0 : Fin 1)) = Ideal.div (∑ j : Fin 1024, Cert.Reference9Ideal.Read.val_main_v21 (F := Ideal) x0 x1 x2 x3 x4 x5 (ix2 r j) * Cert.Reference9Ideal.Read.val_main_v21 (F := Ideal) x0 x1 x2 x3 x4 x5 (ix2 r j)) ((1024 : ℝ) : EReal) + (e : EReal) := by
  rw [← hev, ← n1024_val]
  pointwise [Cert.Reference9Ideal.Read.val_main_v26, Cert.Reference9Ideal.Read.val_main_v29, Cert.Reference9Ideal.Read.val_main_v30, Cert.Reference9Ideal.Read.val_main_v31, Cert.Reference9Ideal.Read.val_main_v32, Cert.Reference9Ideal.Read.val_main_v33, Cert.Reference9Ideal.Read.val_main_v34, Cert.Reference9Ideal.Read.val_main_cst_2, Cert.Reference9Ideal.Read.val_main_cst_3, Cert.Reference9Ideal.Read.val_main_cst_4, Cert.Reference9Ideal.Read.val_main_cst_5]

theorem real_mid (h0 : ∀ i, IsReal (x0 i)) (h1 : ∀ i, IsReal (x1 i)) (h3 : ∀ i, IsReal (x3 i)) (r : Fin 4096) (k : Fin 1024) : IsReal (Cert.Reference9Ideal.Read.val_main_v1 (F := Ideal) x0 x1 x3 (ix2 r k)) := by
  pointwise [Cert.Reference9Ideal.Read.val_main_v0, Cert.Reference9Ideal.Read.val_main_v1]
  exact (h0 _).add (IsReal.sum _ _ fun l => (h1 _).mul (h3 _))

theorem real_gained (h0 : ∀ i, IsReal (x0 i)) (h1 : ∀ i, IsReal (x1 i)) (h2 : ∀ i, IsReal (x2 i)) (h3 : ∀ i, IsReal (x3 i)) (r : Fin 4096) (k : Fin 1024) :
    IsReal (Cert.Reference9Ideal.Read.val_main_v16 (F := Ideal) x0 x1 x2 x3 (ix2 r k)) := by
  obtain ⟨e, he, hev⟩ := eps_val
  have h : IsReal (Cert.Reference9Ideal.Read.val_main_v11 (F := Ideal) x0 x1 x3 (ix2 r (0 : Fin 1))) := by
    pointwise [Cert.Reference9Ideal.Read.val_main_v11]
    rw [mid_square x0 x1 x3 hev]
    exact isReal_rsqrt (fun j => real_mid x0 x1 x3 h0 h1 h3 r j) (by norm_num) he
  have hm := real_mid x0 x1 x3 h0 h1 h3 r k
  pointwise [Cert.Reference9Ideal.Read.val_main_v2, Cert.Reference9Ideal.Read.val_main_v3, Cert.Reference9Ideal.Read.val_main_v12, Cert.Reference9Ideal.Read.val_main_v13, Cert.Reference9Ideal.Read.val_main_v14, Cert.Reference9Ideal.Read.val_main_v15, Cert.Reference9Ideal.Read.val_main_v16]
  exact (hm.mul h).mul (h2 _)

theorem real_act (h0 : ∀ i, IsReal (x0 i)) (h1 : ∀ i, IsReal (x1 i)) (h2 : ∀ i, IsReal (x2 i)) (h3 : ∀ i, IsReal (x3 i)) (h4 : ∀ i, IsReal (x4 i))
    (r l : Fin 4096) : IsReal (Cert.Reference9Ideal.Read.val_main_v19 (F := Ideal) x0 x1 x2 x3 x4 (ix2 r l)) := by
  have h : IsReal (Cert.Reference9Ideal.Read.val_main_v17 (F := Ideal) x0 x1 x2 x3 x4 (ix2 r l)) := by
    pointwise [Cert.Reference9Ideal.Read.val_main_v17]
    exact IsReal.sum _ _ fun j => (real_gained x0 x1 x2 x3 h0 h1 h2 h3 _ _).mul (h4 _)
  pointwise [Cert.Reference9Ideal.Read.val_main_v18, Cert.Reference9Ideal.Read.val_main_v19, Cert.Reference9Ideal.Read.val_main_call0_v0, Cert.Reference9Ideal.Read.val_main_call0_cst]
  exact (real_max h).mul (real_max h)

theorem real_out (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (r : Fin 4096) (k : Fin 1024) : IsReal (Cert.Reference9Ideal.Read.val_main_v21 (F := Ideal) x0 x1 x2 x3 x4 x5 (ix2 r k)) := by
  have hm := real_mid x0 x1 x3 h0 h1 h3 r k
  pointwise [Cert.Reference9Ideal.Read.val_main_v20, Cert.Reference9Ideal.Read.val_main_v21]
  exact hm.add (IsReal.sum _ _ fun l => (real_act x0 x1 x2 x3 x4 h0 h1 h2 h3 h4 _ _).mul (h5 _))

/-- The gradient past the last gain, from the error: the constants of the mean and of the square together. -/
theorem error_share (r : Fin 4096) (k : Fin 1024) : Cert.Reference9Ideal.Read.val_main_v42 (F := Ideal) x0 x1 x2 x3 x4 x5 x6 x7 (ix2 r k) * Ideal.ofBits .f32 0x3A800000#32 = Cert.Reference9Ideal.Read.val_main_v57 (F := Ideal) x0 x1 x2 x3 x4 x5 x6 x7 (ix2 r k) := by
  have h1 : Ideal.ofBits .f32 0x3A800000#32 = ((1 / 1024 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  have h3 : Ideal.ofBits .f32 0x3F800000#32 = ((1 : ℝ) : EReal) := by
    simp [Ideal.ofBits, Ideal.ieee, -EReal.coe_mul]; norm_num
  have h4 : Ideal.div (((1 / 2 : ℝ) : EReal) * ((1 : ℝ) : EReal)) ((1024 : ℝ) : EReal) * ((2 : ℝ) : EReal) = ((1 / 1024 : ℝ) : EReal) := by
    rw [← EReal.coe_mul, div_coe _ (by norm_num), ← EReal.coe_mul]; norm_num
  rw [h1, ← h4, ← h2, ← h3, ← n1024_val, ← two_val]
  pointwise [Cert.Reference9Ideal.Read.val_main_v44, Cert.Reference9Ideal.Read.val_main_v45, Cert.Reference9Ideal.Read.val_main_v51, Cert.Reference9Ideal.Read.val_main_v52, Cert.Reference9Ideal.Read.val_main_v53, Cert.Reference9Ideal.Read.val_main_v54, Cert.Reference9Ideal.Read.val_main_v55, Cert.Reference9Ideal.Read.val_main_v56, Cert.Reference9Ideal.Read.val_main_v57, Cert.Reference9Ideal.Read.val_main_cst_7, Cert.Reference9Ideal.Read.val_main_cst_11, Cert.Reference9Ideal.Read.val_main_cst_12, Cert.Reference9Ideal.Read.val_main_cst_13]
  exact (mul_comm _ _).trans (mul_assoc _ _ _)

theorem real_grad (h6 : ∀ i, IsReal (x6 i)) (h7 : ∀ i, IsReal (x7 i)) (ho : ∀ r k, IsReal (Cert.Reference9Ideal.Read.val_main_v21 (F := Ideal) x0 x1 x2 x3 x4 x5 (ix2 r k))) (r : Fin 4096) (k : Fin 1024) : IsReal (Cert.Reference9Ideal.Read.val_main_v59 (F := Ideal) x0 x1 x2 x3 x4 x5 x6 x7 (ix2 r k)) := by
  obtain ⟨e, he, hev⟩ := eps_val
  have h : IsReal (Cert.Reference9Ideal.Read.val_main_v35 (F := Ideal) x0 x1 x2 x3 x4 x5 (ix2 r (0 : Fin 1))) := by
    pointwise [Cert.Reference9Ideal.Read.val_main_v35]
    rw [out_square x0 x1 x2 x3 x4 x5 hev]
    exact isReal_rsqrt (fun j => ho r j) (by norm_num) he
  have hs : IsReal (Ideal.ofBits .f32 0x3A800000#32) := ⟨1 / 1024, by simp [Ideal.ofBits, Ideal.ieee, -EReal.coe_mul]; norm_num⟩
  have hk := ho r k
  have he' : IsReal (Cert.Reference9Ideal.Read.val_main_v42 (F := Ideal) x0 x1 x2 x3 x4 x5 x6 x7 (ix2 r k)) := by
    pointwise [Cert.Reference9Ideal.Read.val_main_v22, Cert.Reference9Ideal.Read.val_main_v23, Cert.Reference9Ideal.Read.val_main_v24, Cert.Reference9Ideal.Read.val_main_v25, Cert.Reference9Ideal.Read.val_main_v39, Cert.Reference9Ideal.Read.val_main_v40, Cert.Reference9Ideal.Read.val_main_v41, Cert.Reference9Ideal.Read.val_main_v42]
    exact ((hk.mul h).mul (h6 _)).sub (h7 _)
  have hg : IsReal (Cert.Reference9Ideal.Read.val_main_v57 (F := Ideal) x0 x1 x2 x3 x4 x5 x6 x7 (ix2 r k)) := by
    rw [← error_share]
    exact he'.mul hs
  pointwise [Cert.Reference9Ideal.Read.val_main_v22, Cert.Reference9Ideal.Read.val_main_v23, Cert.Reference9Ideal.Read.val_main_v24, Cert.Reference9Ideal.Read.val_main_v25, Cert.Reference9Ideal.Read.val_main_v59]
  exact hg.mul (h6 _)

/-- The gradient of the output at one place: the last norm's derivative as the kernel writes it. -/
theorem dy_eq (ho : ∀ r k, IsReal (Cert.Reference9Ideal.Read.val_main_v21 (F := Ideal) x0 x1 x2 x3 x4 x5 (ix2 r k))) (hg : ∀ r k, IsReal (Cert.Reference9Ideal.Read.val_main_v59 (F := Ideal) x0 x1 x2 x3 x4 x5 x6 x7 (ix2 r k))) (r : Fin 4096) (k : Fin 1024) :
    Cert.Reference9Ideal.Read.val_main_v71 (F := Ideal) x0 x1 x2 x3 x4 x5 x6 x7 (ix2 r k) = Cert.Reference9Ideal.Read.val_main_v35 (F := Ideal) x0 x1 x2 x3 x4 x5 (ix2 r (0 : Fin 1)) * (Cert.Reference9Ideal.Read.val_main_v59 (F := Ideal) x0 x1 x2 x3 x4 x5 x6 x7 (ix2 r k) - Cert.Reference9Ideal.Read.val_main_v40 (F := Ideal) x0 x1 x2 x3 x4 x5 (ix2 r k) * Ideal.div (∑ j : Fin 1024, Cert.Reference9Ideal.Read.val_main_v59 (F := Ideal) x0 x1 x2 x3 x4 x5 x6 x7 (ix2 r j) * Cert.Reference9Ideal.Read.val_main_v40 (F := Ideal) x0 x1 x2 x3 x4 x5 (ix2 r j)) ((1024 : ℝ) : EReal)) := by
  obtain ⟨e, he, hev⟩ := eps_val
  have hd := rms_backward_twice (x := fun j : Fin 1024 => Cert.Reference9Ideal.Read.val_main_v21 (F := Ideal) x0 x1 x2 x3 x4 x5 (ix2 r j)) (g := fun j : Fin 1024 => Cert.Reference9Ideal.Read.val_main_v59 (F := Ideal) x0 x1 x2 x3 x4 x5 x6 x7 (ix2 r j)) (fun j => ho r j) (fun j => hg r j)
    (by norm_num : (0 : ℝ) < 1024) he k (q := Cert.Reference9Ideal.Read.val_main_v34 (F := Ideal) x0 x1 x2 x3 x4 x5 (ix2 r (0 : Fin 1))) (out_square x0 x1 x2 x3 x4 x5 hev r)
  pointwise [Cert.Reference9Ideal.Read.val_main_v27, Cert.Reference9Ideal.Read.val_main_v28, Cert.Reference9Ideal.Read.val_main_v35, Cert.Reference9Ideal.Read.val_main_v36, Cert.Reference9Ideal.Read.val_main_v37, Cert.Reference9Ideal.Read.val_main_v38, Cert.Reference9Ideal.Read.val_main_v39, Cert.Reference9Ideal.Read.val_main_v40, Cert.Reference9Ideal.Read.val_main_v60, Cert.Reference9Ideal.Read.val_main_v61, Cert.Reference9Ideal.Read.val_main_v62, Cert.Reference9Ideal.Read.val_main_v63, Cert.Reference9Ideal.Read.val_main_v64, Cert.Reference9Ideal.Read.val_main_v65, Cert.Reference9Ideal.Read.val_main_v66, Cert.Reference9Ideal.Read.val_main_v67, Cert.Reference9Ideal.Read.val_main_v68, Cert.Reference9Ideal.Read.val_main_v69, Cert.Reference9Ideal.Read.val_main_v70, Cert.Reference9Ideal.Read.val_main_v71, Cert.Reference9Ideal.Read.val_main_cst_2, Cert.Reference9Ideal.Read.val_main_cst_3, Cert.Reference9Ideal.Read.val_main_cst_6, Cert.Reference9Ideal.Read.val_main_cst_14, Cert.Reference9Ideal.Read.val_main_cst_15, Cert.Reference9Ideal.Read.val_main_cst_16]
  simp only [Fin.sum_univ_one, n1024_val, neg_half_val, two_val]
  exact hd.symm

/-- The gain's gradient: the sum over the rows of a copy, 8 blocks of 64 rows each. -/
theorem dgain_eq (p : Fin 8) (k : Fin 1024) :
    (∑ t : Fin 8, ∑ x : Fin 64, Cert.Reference9Ideal.Read.val_main_v58 (F := Ideal) x0 x1 x2 x3 x4 x5 x6 x7 (ix2 ⟨(t.val * 64 + x.val) * 8 + p.val, by omega⟩ k)) = Cert.Reference9Ideal.Read.val_main_v73 (F := Ideal) x0 x1 x2 x3 x4 x5 x6 x7 (ix2 p k) := by
  pointwise [Cert.Reference9Ideal.Read.val_main_v72, Cert.Reference9Ideal.Read.val_main_v73, Cert.Reference9Ideal.Read.val_main_cst_17]
  refine Eq.trans ?_ ((reduce_copies _ _ _ p k).trans (zero_add _)).symm
  pointwise [Cert.Reference9Ideal.Read.val_main_v58]
  refine Eq.trans (Fin.sum_mul_add_fin 8 64 fun l : Fin 512 => Cert.Reference9Ideal.Read.val_main_v40 (F := Ideal) x0 x1 x2 x3 x4 x5 (ix2 ⟨l.val * 8 + p.val, by omega⟩ k) * Cert.Reference9Ideal.Read.val_main_v57 (F := Ideal) x0 x1 x2 x3 x4 x5 x6 x7 (ix2 ⟨l.val * 8 + p.val, by omega⟩ k)) ?_
  blk_point []

/-- The loss: the sum over the rows of a residue, 8 blocks of 64 rows each. -/
theorem loss_eq (p : Fin 8) (k : Fin 128) :
    (∑ t : Fin 8, ∑ x : Fin 64, Cert.Reference9Ideal.Read.val_main_v50 (F := Ideal) x0 x1 x2 x3 x4 x5 x6 x7 (ix1 ⟨(t.val * 64 + x.val) * 8 + p.val, by omega⟩)) = Cert.Reference9Ideal.Read.val_main_v77 (F := Ideal) x0 x1 x2 x3 x4 x5 x6 x7 (ix2 p k) := by
  pointwise [Cert.Reference9Ideal.Read.val_main_v74, Cert.Reference9Ideal.Read.val_main_v75, Cert.Reference9Ideal.Read.val_main_v76, Cert.Reference9Ideal.Read.val_main_v77, Cert.Reference9Ideal.Read.val_main_cst_18]
  refine Eq.trans (Fin.sum_mul_add_fin 8 64 fun l : Fin 512 => Cert.Reference9Ideal.Read.val_main_v50 (F := Ideal) x0 x1 x2 x3 x4 x5 x6 x7 (ix1 ⟨l.val * 8 + p.val, by omega⟩)) ?_
  blk_point []

end Cert.LossBackward
end
-- ==== Proof.MlpBackward0.lean ====
/-
  The reference of one layer's backward call through the feed-forward part and the output projection, row by row: the
  derivative of a norm in the form in which the kernel writes it, which values are real numbers when the inputs are, and
  the sums over the copies of a gain and over the channels of a head.
-/
module

public import proofs.«01_k».proof.Proof.Gen.Reference12Ideal.Read
public import proofs.«01_k».proof.Proof.RmsBackward
public import Idealize.ShloMosaic.Lib.Pipeline.ValueKit

set_option maxRecDepth 16384

@[expose] public noncomputable section

open Idealize.ShloMosaic
open scoped BigOperators

namespace Cert.MlpBackward0

open Cert.RmsBackward Cert.Reference12Ideal

variable (x0 : FVec Ideal S4096x1024 .f32) (x1 x2 : FVec Ideal S4096x512 .f32) (x3 : FVec Ideal S2x512 .f32) (x4 : FVec Ideal S2x1024 .f32)
  (x5 : FVec Ideal S1024x1024 .f32) (x6 : FVec Ideal S1024x4096 .f32) (x7 x8 : FVec Ideal S4096x1024 .f32)

/-- The attention's mean square, as a sum over its row. -/
theorem attn_square {e : ℝ} (hev : Ideal.ofBits .f32 0x358637BD#32 = (e : EReal)) (r : Fin 4096) :
    Cert.Reference12Ideal.Read.val_main_v16 (F := Ideal) x1 (ix2 r (0 : Fin 1)) = Ideal.div (∑ j : Fin 512, x1 (ix2 r j) * x1 (ix2 r j)) ((512 : ℝ) : EReal) + (e : EReal) := by
  rw [← hev, ← n512_val]
  pointwise [Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]

/-- The middle stream's mean square, as a sum over its row. -/
theorem mid_square {e : ℝ} (hev : Ideal.ofBits .f32 0x358637BD#32 = (e : EReal)) (r : Fin 4096) :
    Cert.Reference12Ideal.Read.val_main_v36 (F := Ideal) x0 x1 x2 x3 x5 (ix2 r (0 : Fin 1)) = Ideal.div (∑ j : Fin 1024, Cert.Reference12Ideal.Read.val_main_v26 (F := Ideal) x0 x1 x2 x3 x5 (ix2 r j) * Cert.Reference12Ideal.Read.val_main_v26 (F := Ideal) x0 x1 x2 x3 x5 (ix2 r j)) ((1024 : ℝ) : EReal) + (e : EReal) := by
  rw [← hev, ← n1024_val]
  pointwise [Cert.Reference12Ideal.Read.val_main_v30, Cert.Reference12Ideal.Read.val_main_v31, Cert.Reference12Ideal.Read.val_main_v32, Cert.Reference12Ideal.Read.val_main_v33, Cert.Reference12Ideal.Read.val_main_v34, Cert.Reference12Ideal.Read.val_main_v35, Cert.Reference12Ideal.Read.val_main_v36, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]

theorem real_attn_root (h1 : ∀ i, IsReal (x1 i)) (r : Fin 4096) : IsReal (Cert.Reference12Ideal.Read.val_main_v17 (F := Ideal) x1 (ix2 r (0 : Fin 1))) := by
  obtain ⟨e, he, hev⟩ := eps_val
  pointwise [Cert.Reference12Ideal.Read.val_main_v17]
  rw [attn_square x1 hev]
  exact isReal_rsqrt (fun j => h1 _) (by norm_num) he

theorem real_attn_gained (h1 : ∀ i, IsReal (x1 i)) (h3 : ∀ i, IsReal (x3 i)) (r : Fin 4096) (k : Fin 512) : IsReal (Cert.Reference12Ideal.Read.val_main_v23 (F := Ideal) x1 x3 (ix2 r k)) := by
  have h := real_attn_root x1 h1 r
  pointwise [Cert.Reference12Ideal.Read.val_main_v0, Cert.Reference12Ideal.Read.val_main_v1, Cert.Reference12Ideal.Read.val_main_v2, Cert.Reference12Ideal.Read.val_main_v7, Cert.Reference12Ideal.Read.val_main_v8, Cert.Reference12Ideal.Read.val_main_v9, Cert.Reference12Ideal.Read.val_main_v21, Cert.Reference12Ideal.Read.val_main_v22, Cert.Reference12Ideal.Read.val_main_v23]
  exact ((h1 _).mul h).mul (h3 _)

theorem real_mid (h0 : ∀ i, IsReal (x0 i)) (h1 : ∀ i, IsReal (x1 i)) (h2 : ∀ i, IsReal (x2 i)) (h3 : ∀ i, IsReal (x3 i)) (h5 : ∀ i, IsReal (x5 i))
    (r : Fin 4096) (k : Fin 1024) : IsReal (Cert.Reference12Ideal.Read.val_main_v26 (F := Ideal) x0 x1 x2 x3 x5 (ix2 r k)) := by
  pointwise [Cert.Reference12Ideal.Read.val_main_v24, Cert.Reference12Ideal.Read.val_main_v25, Cert.Reference12Ideal.Read.val_main_v26]
  exact (h0 _).add ((IsReal.sum _ _ fun l => (real_attn_gained x1 x3 h1 h3 _ _).mul (h5 _)).add (IsReal.sum _ _ fun l => (h2 _).mul (h5 _)))

theorem real_root (hm : ∀ r k, IsReal (Cert.Reference12Ideal.Read.val_main_v26 (F := Ideal) x0 x1 x2 x3 x5 (ix2 r k))) (r : Fin 4096) : IsReal (Cert.Reference12Ideal.Read.val_main_v37 (F := Ideal) x0 x1 x2 x3 x5 (ix2 r (0 : Fin 1))) := by
  obtain ⟨e, he, hev⟩ := eps_val
  pointwise [Cert.Reference12Ideal.Read.val_main_v37]
  rw [mid_square x0 x1 x2 x3 x5 hev]
  exact isReal_rsqrt (fun j => hm r j) (by norm_num) he

theorem real_normed (hm : ∀ r k, IsReal (Cert.Reference12Ideal.Read.val_main_v26 (F := Ideal) x0 x1 x2 x3 x5 (ix2 r k))) (r : Fin 4096) (k : Fin 1024) : IsReal (Cert.Reference12Ideal.Read.val_main_v42 (F := Ideal) x0 x1 x2 x3 x5 (ix2 r k)) := by
  have h := real_root x0 x1 x2 x3 x5 hm r
  pointwise [Cert.Reference12Ideal.Read.val_main_v41, Cert.Reference12Ideal.Read.val_main_v42]
  exact (hm _ _).mul h

theorem real_gain (h4 : ∀ i, IsReal (x4 i)) (r : Fin 4096) (k : Fin 1024) : IsReal (Cert.Reference12Ideal.Read.val_main_v29 (F := Ideal) x4 (ix2 r k)) := by
  pointwise [Cert.Reference12Ideal.Read.val_main_v3, Cert.Reference12Ideal.Read.val_main_v4, Cert.Reference12Ideal.Read.val_main_v5, Cert.Reference12Ideal.Read.val_main_v27, Cert.Reference12Ideal.Read.val_main_v28, Cert.Reference12Ideal.Read.val_main_v29]
  exact h4 _

theorem real_inner (hm : ∀ r k, IsReal (Cert.Reference12Ideal.Read.val_main_v26 (F := Ideal) x0 x1 x2 x3 x5 (ix2 r k))) (h4 : ∀ i, IsReal (x4 i)) (h6 : ∀ i, IsReal (x6 i)) (r : Fin 4096) (k : Fin 4096) : IsReal (Cert.Reference12Ideal.Read.val_main_v44 (F := Ideal) x0 x1 x2 x3 x4 x5 x6 (ix2 r k)) := by
  pointwise [Cert.Reference12Ideal.Read.val_main_v43, Cert.Reference12Ideal.Read.val_main_v44]
  exact IsReal.sum _ _ fun l => ((real_normed x0 x1 x2 x3 x5 hm _ _).mul (real_gain x4 h4 _ _)).mul (h6 _)

/-- The gradient at the inner activations: where the activation is not positive both factors' product is zero. -/
theorem du_eq (r : Fin 4096) (l : Fin 4096) :
    Cert.Reference12Ideal.Read.val_main_v60 (F := Ideal) x0 x1 x2 x3 x4 x5 x6 x7 x8 (ix2 r l) = (∑ k : Fin 1024, x8 (ix2 r k) * x7 (ix2 l k)) * (((2 : ℝ) : EReal) * max (Cert.Reference12Ideal.Read.val_main_v44 (F := Ideal) x0 x1 x2 x3 x4 x5 x6 (ix2 r l)) 0) := by
  rw [← two_val]
  pointwise [Cert.Reference12Ideal.Read.val_main_v6, Cert.Reference12Ideal.Read.val_main_v45, Cert.Reference12Ideal.Read.val_main_v46, Cert.Reference12Ideal.Read.val_main_v47, Cert.Reference12Ideal.Read.val_main_v48, Cert.Reference12Ideal.Read.val_main_v51, Cert.Reference12Ideal.Read.val_main_v52, Cert.Reference12Ideal.Read.val_main_v56, Cert.Reference12Ideal.Read.val_main_v57, Cert.Reference12Ideal.Read.val_main_v58, Cert.Reference12Ideal.Read.val_main_v59, Cert.Reference12Ideal.Read.val_main_v60, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8, Cert.Reference12Ideal.Read.val_main_cst_9, Cert.Reference12Ideal.Read.val_main_cst_10, Cert.Reference12Ideal.Read.val_main_cst_11, Cert.Reference12Ideal.Read.val_main_cst_12, Cert.Reference12Ideal.Read.val_main_cst_13, Cert.Reference12Ideal.Read.val_main_cst_14, Cert.Reference12Ideal.Read.val_main_cst_15, Cert.Reference12Ideal.Read.val_main_cst_16, Cert.Reference12Ideal.Read.val_main_cst_17, Cert.Reference12Ideal.Read.val_main_cst_18, Cert.Reference12Ideal.Read.val_main_cst_19, Cert.Reference12Ideal.Read.val_main_cst_20, Cert.Reference12Ideal.Read.val_main_call0_cst, Cert.Reference12Ideal.Read.val_main_call0_v0]
  split_ifs with h
  · rfl
  · rw [max_eq_right (not_lt.mp h), mul_zero, mul_zero]

theorem real_du (hu : ∀ r l, IsReal (Cert.Reference12Ideal.Read.val_main_v44 (F := Ideal) x0 x1 x2 x3 x4 x5 x6 (ix2 r l))) (h7 : ∀ i, IsReal (x7 i)) (h8 : ∀ i, IsReal (x8 i)) (r : Fin 4096) (l : Fin 4096) : IsReal (Cert.Reference12Ideal.Read.val_main_v60 (F := Ideal) x0 x1 x2 x3 x4 x5 x6 x7 x8 (ix2 r l)) := by
  rw [du_eq]
  exact (IsReal.sum _ _ fun k => (h8 _).mul (h7 _)).mul ((isReal_coe 2).mul (real_max (hu _ _)))

/-- The gradient past the gain of the feed-forward part's norm. -/
theorem real_gained (hd : ∀ r l, IsReal (Cert.Reference12Ideal.Read.val_main_v60 (F := Ideal) x0 x1 x2 x3 x4 x5 x6 x7 x8 (ix2 r l))) (h4 : ∀ i, IsReal (x4 i)) (h6 : ∀ i, IsReal (x6 i)) (r : Fin 4096) (k : Fin 1024) : IsReal (Cert.Reference12Ideal.Read.val_main_v63 (F := Ideal) x0 x1 x2 x3 x4 x5 x6 x7 x8 (ix2 r k)) := by
  pointwise [Cert.Reference12Ideal.Read.val_main_v61, Cert.Reference12Ideal.Read.val_main_v63]
  exact (IsReal.sum _ _ fun l => (hd _ _).mul (h6 _)).mul (real_gain x4 h4 _ _)

/-- The gradient of the middle stream, with the norm's derivative as the kernel writes it. -/
theorem dx_eq (hm : ∀ r k, IsReal (Cert.Reference12Ideal.Read.val_main_v26 (F := Ideal) x0 x1 x2 x3 x5 (ix2 r k))) (hg : ∀ r k, IsReal (Cert.Reference12Ideal.Read.val_main_v63 (F := Ideal) x0 x1 x2 x3 x4 x5 x6 x7 x8 (ix2 r k))) (r : Fin 4096) (k : Fin 1024) :
    Cert.Reference12Ideal.Read.val_main_v78 (F := Ideal) x0 x1 x2 x3 x4 x5 x6 x7 x8 (ix2 r k) = x8 (ix2 r k) + Cert.Reference12Ideal.Read.val_main_v37 (F := Ideal) x0 x1 x2 x3 x5 (ix2 r (0 : Fin 1)) * (Cert.Reference12Ideal.Read.val_main_v63 (F := Ideal) x0 x1 x2 x3 x4 x5 x6 x7 x8 (ix2 r k)
      - Cert.Reference12Ideal.Read.val_main_v42 (F := Ideal) x0 x1 x2 x3 x5 (ix2 r k) * Ideal.div (∑ j : Fin 1024, Cert.Reference12Ideal.Read.val_main_v63 (F := Ideal) x0 x1 x2 x3 x4 x5 x6 x7 x8 (ix2 r j) * Cert.Reference12Ideal.Read.val_main_v42 (F := Ideal) x0 x1 x2 x3 x5 (ix2 r j)) ((1024 : ℝ) : EReal)) := by
  obtain ⟨e, he, hev⟩ := eps_val
  have h := rms_backward (fun j : Fin 1024 => hm r j) (fun j : Fin 1024 => hg r j) (by norm_num : (0 : ℝ) < 1024) he k (mid_square x0 x1 x2 x3 x5 hev r)
  pointwise [Cert.Reference12Ideal.Read.val_main_v37, Cert.Reference12Ideal.Read.val_main_v41, Cert.Reference12Ideal.Read.val_main_v42]
  rw [h]
  pointwise [Cert.Reference12Ideal.Read.val_main_v37, Cert.Reference12Ideal.Read.val_main_v38, Cert.Reference12Ideal.Read.val_main_v39, Cert.Reference12Ideal.Read.val_main_v40, Cert.Reference12Ideal.Read.val_main_v55, Cert.Reference12Ideal.Read.val_main_v64, Cert.Reference12Ideal.Read.val_main_v65, Cert.Reference12Ideal.Read.val_main_v66, Cert.Reference12Ideal.Read.val_main_v67, Cert.Reference12Ideal.Read.val_main_v68, Cert.Reference12Ideal.Read.val_main_v69, Cert.Reference12Ideal.Read.val_main_v70, Cert.Reference12Ideal.Read.val_main_v71, Cert.Reference12Ideal.Read.val_main_v72, Cert.Reference12Ideal.Read.val_main_v73, Cert.Reference12Ideal.Read.val_main_v74, Cert.Reference12Ideal.Read.val_main_v75, Cert.Reference12Ideal.Read.val_main_v76, Cert.Reference12Ideal.Read.val_main_v77, Cert.Reference12Ideal.Read.val_main_v78, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8, Cert.Reference12Ideal.Read.val_main_cst_9, Cert.Reference12Ideal.Read.val_main_cst_10, Cert.Reference12Ideal.Read.val_main_cst_11, Cert.Reference12Ideal.Read.val_main_cst_12, Cert.Reference12Ideal.Read.val_main_cst_13, Cert.Reference12Ideal.Read.val_main_cst_14, Cert.Reference12Ideal.Read.val_main_cst_15, Cert.Reference12Ideal.Read.val_main_cst_16, Cert.Reference12Ideal.Read.val_main_cst_17, Cert.Reference12Ideal.Read.val_main_cst_18, Cert.Reference12Ideal.Read.val_main_cst_19, Cert.Reference12Ideal.Read.val_main_cst_20]
  simp only [n1024_val, neg_half_val, Fin.sum_univ_one, zero_add, add_assoc]

theorem real_dx (hm : ∀ r k, IsReal (Cert.Reference12Ideal.Read.val_main_v26 (F := Ideal) x0 x1 x2 x3 x5 (ix2 r k))) (hg : ∀ r k, IsReal (Cert.Reference12Ideal.Read.val_main_v63 (F := Ideal) x0 x1 x2 x3 x4 x5 x6 x7 x8 (ix2 r k))) (h8 : ∀ i, IsReal (x8 i)) (r : Fin 4096) (k : Fin 1024) : IsReal (Cert.Reference12Ideal.Read.val_main_v78 (F := Ideal) x0 x1 x2 x3 x4 x5 x6 x7 x8 (ix2 r k)) := by
  rw [dx_eq x0 x1 x2 x3 x4 x5 x6 x7 x8 hm hg]
  exact (h8 _).add ((real_root x0 x1 x2 x3 x5 hm _).mul ((hg _ _).sub ((real_normed x0 x1 x2 x3 x5 hm _ _).mul
    (real_div (IsReal.sum _ _ fun j => (hg _ _).mul (real_normed x0 x1 x2 x3 x5 hm _ _)) (by norm_num)))))

/-- The gradient past the gain of the attention's norm. -/
theorem real_attn_grad (hx : ∀ r k, IsReal (Cert.Reference12Ideal.Read.val_main_v78 (F := Ideal) x0 x1 x2 x3 x4 x5 x6 x7 x8 (ix2 r k))) (h3 : ∀ i, IsReal (x3 i)) (h5 : ∀ i, IsReal (x5 i)) (r : Fin 4096) (k : Fin 512) : IsReal (Cert.Reference12Ideal.Read.val_main_v85 (F := Ideal) x0 x1 x2 x3 x4 x5 x6 x7 x8 (ix2 r k)) := by
  pointwise [Cert.Reference12Ideal.Read.val_main_v0, Cert.Reference12Ideal.Read.val_main_v1, Cert.Reference12Ideal.Read.val_main_v2, Cert.Reference12Ideal.Read.val_main_v7, Cert.Reference12Ideal.Read.val_main_v8, Cert.Reference12Ideal.Read.val_main_v9, Cert.Reference12Ideal.Read.val_main_v81, Cert.Reference12Ideal.Read.val_main_v82, Cert.Reference12Ideal.Read.val_main_v85]
  exact (IsReal.sum _ _ fun l => (hx _ _).mul (h5 _)).mul (h3 _)

/-- The gradient of the attention's output, with the norm's derivative as the kernel writes it. -/
theorem dattn_eq (h1 : ∀ i, IsReal (x1 i)) (hg : ∀ r k, IsReal (Cert.Reference12Ideal.Read.val_main_v85 (F := Ideal) x0 x1 x2 x3 x4 x5 x6 x7 x8 (ix2 r k))) (r : Fin 4096) (k : Fin 512) :
    Cert.Reference12Ideal.Read.val_main_v99 (F := Ideal) x0 x1 x2 x3 x4 x5 x6 x7 x8 (ix2 r k) = Cert.Reference12Ideal.Read.val_main_v17 (F := Ideal) x1 (ix2 r (0 : Fin 1)) * (Cert.Reference12Ideal.Read.val_main_v85 (F := Ideal) x0 x1 x2 x3 x4 x5 x6 x7 x8 (ix2 r k)
      - Cert.Reference12Ideal.Read.val_main_v22 (F := Ideal) x1 (ix2 r k) * Ideal.div (∑ j : Fin 512, Cert.Reference12Ideal.Read.val_main_v85 (F := Ideal) x0 x1 x2 x3 x4 x5 x6 x7 x8 (ix2 r j) * Cert.Reference12Ideal.Read.val_main_v22 (F := Ideal) x1 (ix2 r j)) ((512 : ℝ) : EReal)) := by
  obtain ⟨e, he, hev⟩ := eps_val
  have h := rms_backward (fun j : Fin 512 => h1 (ix2 r j)) (fun j : Fin 512 => hg r j) (by norm_num : (0 : ℝ) < 512) he k (attn_square x1 hev r)
  pointwise [Cert.Reference12Ideal.Read.val_main_v17, Cert.Reference12Ideal.Read.val_main_v21, Cert.Reference12Ideal.Read.val_main_v22]
  rw [h]
  pointwise [Cert.Reference12Ideal.Read.val_main_v17, Cert.Reference12Ideal.Read.val_main_v18, Cert.Reference12Ideal.Read.val_main_v19, Cert.Reference12Ideal.Read.val_main_v20, Cert.Reference12Ideal.Read.val_main_v86, Cert.Reference12Ideal.Read.val_main_v87, Cert.Reference12Ideal.Read.val_main_v88, Cert.Reference12Ideal.Read.val_main_v89, Cert.Reference12Ideal.Read.val_main_v90, Cert.Reference12Ideal.Read.val_main_v91, Cert.Reference12Ideal.Read.val_main_v92, Cert.Reference12Ideal.Read.val_main_v93, Cert.Reference12Ideal.Read.val_main_v94, Cert.Reference12Ideal.Read.val_main_v95, Cert.Reference12Ideal.Read.val_main_v96, Cert.Reference12Ideal.Read.val_main_v97, Cert.Reference12Ideal.Read.val_main_v98, Cert.Reference12Ideal.Read.val_main_v99, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8, Cert.Reference12Ideal.Read.val_main_cst_9, Cert.Reference12Ideal.Read.val_main_cst_10, Cert.Reference12Ideal.Read.val_main_cst_11, Cert.Reference12Ideal.Read.val_main_cst_12, Cert.Reference12Ideal.Read.val_main_cst_13, Cert.Reference12Ideal.Read.val_main_cst_14, Cert.Reference12Ideal.Read.val_main_cst_15, Cert.Reference12Ideal.Read.val_main_cst_16, Cert.Reference12Ideal.Read.val_main_cst_17, Cert.Reference12Ideal.Read.val_main_cst_18, Cert.Reference12Ideal.Read.val_main_cst_19, Cert.Reference12Ideal.Read.val_main_cst_20]
  simp only [n512_val, neg_half_val, Fin.sum_univ_one, zero_add]

theorem real_dattn (h1 : ∀ i, IsReal (x1 i)) (hg : ∀ r k, IsReal (Cert.Reference12Ideal.Read.val_main_v85 (F := Ideal) x0 x1 x2 x3 x4 x5 x6 x7 x8 (ix2 r k))) (r : Fin 4096) (k : Fin 512) : IsReal (Cert.Reference12Ideal.Read.val_main_v99 (F := Ideal) x0 x1 x2 x3 x4 x5 x6 x7 x8 (ix2 r k)) := by
  have hn : ∀ r k, IsReal (Cert.Reference12Ideal.Read.val_main_v22 (F := Ideal) x1 (ix2 r k)) := fun r k => by
    have h := real_attn_root x1 h1 r
    pointwise [Cert.Reference12Ideal.Read.val_main_v21, Cert.Reference12Ideal.Read.val_main_v22]
    exact (h1 _).mul h
  rw [dattn_eq x0 x1 x2 x3 x4 x5 x6 x7 x8 h1 hg]
  exact (real_attn_root x1 h1 _).mul ((hg _ _).sub ((hn _ _).mul (real_div (IsReal.sum _ _ fun j => (hg _ _).mul (hn _ _)) (by norm_num))))

/-- The products of a row's gradient and attention output are real numbers. -/
theorem real_products (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (h8 : ∀ i, IsReal (x8 i)) :
    (∀ r k, IsReal (Cert.Reference12Ideal.Read.val_main_v26 (F := Ideal) x0 x1 x2 x3 x5 (ix2 r k))) ∧ (∀ r k, IsReal (Cert.Reference12Ideal.Read.val_main_v63 (F := Ideal) x0 x1 x2 x3 x4 x5 x6 x7 x8 (ix2 r k))) ∧ (∀ r k, IsReal (Cert.Reference12Ideal.Read.val_main_v85 (F := Ideal) x0 x1 x2 x3 x4 x5 x6 x7 x8 (ix2 r k))) ∧ ∀ r k, IsReal (Cert.Reference12Ideal.Read.val_main_v102 (F := Ideal) x0 x1 x2 x3 x4 x5 x6 x7 x8 (ix2 r k)) := by
  have hm := real_mid x0 x1 x2 x3 x5 h0 h1 h2 h3 h5
  have hg := real_gained x0 x1 x2 x3 x4 x5 x6 x7 x8 (real_du x0 x1 x2 x3 x4 x5 x6 x7 x8 (real_inner x0 x1 x2 x3 x4 x5 x6 hm h4 h6) h7 h8) h4 h6
  have ha := real_attn_grad x0 x1 x2 x3 x4 x5 x6 x7 x8 (real_dx x0 x1 x2 x3 x4 x5 x6 x7 x8 hm hg h8) h3 h5
  refine ⟨hm, hg, ha, fun r k => ?_⟩
  have h := real_dattn x0 x1 x2 x3 x4 x5 x6 x7 x8 h1 ha r k
  pointwise [Cert.Reference12Ideal.Read.val_main_v102]
  exact h.mul (h1 _)

/-- The gain's gradient: the sum over the rows of a copy, 16 blocks of 32 rows each. -/
theorem dgain_eq (p : Fin 8) (k : Fin 1024) :
    (∑ t : Fin 16, ∑ x : Fin 32, Cert.Reference12Ideal.Read.val_main_v62 (F := Ideal) x0 x1 x2 x3 x4 x5 x6 x7 x8 (ix2 ⟨(t.val * 32 + x.val) * 8 + p.val, by omega⟩ k)) = Cert.Reference12Ideal.Read.val_main_v80 (F := Ideal) x0 x1 x2 x3 x4 x5 x6 x7 x8 (ix2 p k) := by
  pointwise [Cert.Reference12Ideal.Read.val_main_v79, Cert.Reference12Ideal.Read.val_main_v80, Cert.Reference12Ideal.Read.val_main_cst_15]
  refine Eq.trans ?_ ((reduce_copies _ _ _ p k).trans (zero_add _)).symm
  pointwise [Cert.Reference12Ideal.Read.val_main_v62]
  refine Eq.trans (Fin.sum_mul_add_fin 16 32 fun l : Fin 512 => Cert.Reference12Ideal.Read.val_main_v42 (F := Ideal) x0 x1 x2 x3 x5 (ix2 ⟨l.val * 8 + p.val, by omega⟩ k) * Cert.Reference12Ideal.Read.val_main_v61 (F := Ideal) x0 x1 x2 x3 x4 x5 x6 x7 x8 (ix2 ⟨l.val * 8 + p.val, by omega⟩ k)) ?_
  blk_point []

/-- The same for the attention's gain. -/
theorem dattn_gain_eq (p : Fin 8) (k : Fin 512) :
    (∑ t : Fin 16, ∑ x : Fin 32, Cert.Reference12Ideal.Read.val_main_v84 (F := Ideal) x0 x1 x2 x3 x4 x5 x6 x7 x8 (ix2 ⟨(t.val * 32 + x.val) * 8 + p.val, by omega⟩ k)) = Cert.Reference12Ideal.Read.val_main_v101 (F := Ideal) x0 x1 x2 x3 x4 x5 x6 x7 x8 (ix2 p k) := by
  pointwise [Cert.Reference12Ideal.Read.val_main_v100, Cert.Reference12Ideal.Read.val_main_v101, Cert.Reference12Ideal.Read.val_main_cst_19]
  refine Eq.trans ?_ ((reduce_copies _ _ _ p k).trans (zero_add _)).symm
  pointwise [Cert.Reference12Ideal.Read.val_main_v84]
  refine Eq.trans (Fin.sum_mul_add_fin 16 32 fun l : Fin 512 => Cert.Reference12Ideal.Read.val_main_v22 (F := Ideal) x1 (ix2 ⟨l.val * 8 + p.val, by omega⟩ k) * Cert.Reference12Ideal.Read.val_main_v82 (F := Ideal) x0 x1 x2 x3 x4 x5 x6 x7 x8 (ix2 ⟨l.val * 8 + p.val, by omega⟩ k)) ?_
  blk_point []

/-- A head's sum, at each of the head's channels. -/
theorem delta_eq (r : Fin 4096) (y : Fin 512) :
    Cert.Reference12Ideal.Read.val_main_v106 (F := Ideal) x0 x1 x2 x3 x4 x5 x6 x7 x8 (ix2 r y) = ∑ x : Fin 64, Cert.Reference12Ideal.Read.val_main_v102 (F := Ideal) x0 x1 x2 x3 x4 x5 x6 x7 x8 (ix2 r ⟨y.val / 64 * 64 + x.val, by omega⟩) := by
  pointwise [Cert.Reference12Ideal.Read.val_main_v103, Cert.Reference12Ideal.Read.val_main_v104, Cert.Reference12Ideal.Read.val_main_v105, Cert.Reference12Ideal.Read.val_main_v106, Cert.Reference12Ideal.Read.val_main_cst_20]

end Cert.MlpBackward0
end
-- ==== Proof.MlpBackward1.lean ====
/-
  The reference of one layer's backward call through the feed-forward part and the output projection, row by row: the
  derivative of a norm in the form in which the kernel writes it, which values are real numbers when the inputs are, and
  the sums over the copies of a gain and over the channels of a head.
-/
module

public import proofs.«01_k».proof.Proof.Gen.Reference1Ideal.Read
public import proofs.«01_k».proof.Proof.RmsBackward
public import Idealize.ShloMosaic.Lib.Pipeline.ValueKit

set_option maxRecDepth 16384

@[expose] public noncomputable section

open Idealize.ShloMosaic
open scoped BigOperators

namespace Cert.MlpBackward1

open Cert.RmsBackward Cert.Reference1Ideal

variable (x0 : FVec Ideal S4096x1024 .f32) (x1 x2 : FVec Ideal S4096x512 .f32) (x3 : FVec Ideal S2x512 .f32) (x4 : FVec Ideal S2x1024 .f32)
  (x5 : FVec Ideal S1024x1024 .f32) (x6 : FVec Ideal S1024x4096 .f32) (x7 x8 : FVec Ideal S4096x1024 .f32)

/-- The attention's mean square, as a sum over its row. -/
theorem attn_square {e : ℝ} (hev : Ideal.ofBits .f32 0x358637BD#32 = (e : EReal)) (r : Fin 4096) :
    Cert.Reference1Ideal.Read.val_main_v16 (F := Ideal) x1 (ix2 r (0 : Fin 1)) = Ideal.div (∑ j : Fin 512, x1 (ix2 r j) * x1 (ix2 r j)) ((512 : ℝ) : EReal) + (e : EReal) := by
  rw [← hev, ← n512_val]
  pointwise [Cert.Reference1Ideal.Read.val_main_v10, Cert.Reference1Ideal.Read.val_main_v11, Cert.Reference1Ideal.Read.val_main_v12, Cert.Reference1Ideal.Read.val_main_v13, Cert.Reference1Ideal.Read.val_main_v14, Cert.Reference1Ideal.Read.val_main_v15, Cert.Reference1Ideal.Read.val_main_v16, Cert.Reference1Ideal.Read.val_main_cst, Cert.Reference1Ideal.Read.val_main_cst_0, Cert.Reference1Ideal.Read.val_main_cst_1, Cert.Reference1Ideal.Read.val_main_cst_2, Cert.Reference1Ideal.Read.val_main_cst_3, Cert.Reference1Ideal.Read.val_main_cst_4, Cert.Reference1Ideal.Read.val_main_cst_5, Cert.Reference1Ideal.Read.val_main_cst_6, Cert.Reference1Ideal.Read.val_main_cst_7, Cert.Reference1Ideal.Read.val_main_cst_8]

/-- The middle stream's mean square, as a sum over its row. -/
theorem mid_square {e : ℝ} (hev : Ideal.ofBits .f32 0x358637BD#32 = (e : EReal)) (r : Fin 4096) :
    Cert.Reference1Ideal.Read.val_main_v36 (F := Ideal) x0 x1 x2 x3 x5 (ix2 r (0 : Fin 1)) = Ideal.div (∑ j : Fin 1024, Cert.Reference1Ideal.Read.val_main_v26 (F := Ideal) x0 x1 x2 x3 x5 (ix2 r j) * Cert.Reference1Ideal.Read.val_main_v26 (F := Ideal) x0 x1 x2 x3 x5 (ix2 r j)) ((1024 : ℝ) : EReal) + (e : EReal) := by
  rw [← hev, ← n1024_val]
  pointwise [Cert.Reference1Ideal.Read.val_main_v30, Cert.Reference1Ideal.Read.val_main_v31, Cert.Reference1Ideal.Read.val_main_v32, Cert.Reference1Ideal.Read.val_main_v33, Cert.Reference1Ideal.Read.val_main_v34, Cert.Reference1Ideal.Read.val_main_v35, Cert.Reference1Ideal.Read.val_main_v36, Cert.Reference1Ideal.Read.val_main_cst, Cert.Reference1Ideal.Read.val_main_cst_0, Cert.Reference1Ideal.Read.val_main_cst_1, Cert.Reference1Ideal.Read.val_main_cst_2, Cert.Reference1Ideal.Read.val_main_cst_3, Cert.Reference1Ideal.Read.val_main_cst_4, Cert.Reference1Ideal.Read.val_main_cst_5, Cert.Reference1Ideal.Read.val_main_cst_6, Cert.Reference1Ideal.Read.val_main_cst_7, Cert.Reference1Ideal.Read.val_main_cst_8]

theorem real_attn_root (h1 : ∀ i, IsReal (x1 i)) (r : Fin 4096) : IsReal (Cert.Reference1Ideal.Read.val_main_v17 (F := Ideal) x1 (ix2 r (0 : Fin 1))) := by
  obtain ⟨e, he, hev⟩ := eps_val
  pointwise [Cert.Reference1Ideal.Read.val_main_v17]
  rw [attn_square x1 hev]
  exact isReal_rsqrt (fun j => h1 _) (by norm_num) he

theorem real_attn_gained (h1 : ∀ i, IsReal (x1 i)) (h3 : ∀ i, IsReal (x3 i)) (r : Fin 4096) (k : Fin 512) : IsReal (Cert.Reference1Ideal.Read.val_main_v23 (F := Ideal) x1 x3 (ix2 r k)) := by
  have h := real_attn_root x1 h1 r
  pointwise [Cert.Reference1Ideal.Read.val_main_v0, Cert.Reference1Ideal.Read.val_main_v1, Cert.Reference1Ideal.Read.val_main_v2, Cert.Reference1Ideal.Read.val_main_v7, Cert.Reference1Ideal.Read.val_main_v8, Cert.Reference1Ideal.Read.val_main_v9, Cert.Reference1Ideal.Read.val_main_v21, Cert.Reference1Ideal.Read.val_main_v22, Cert.Reference1Ideal.Read.val_main_v23]
  exact ((h1 _).mul h).mul (h3 _)

theorem real_mid (h0 : ∀ i, IsReal (x0 i)) (h1 : ∀ i, IsReal (x1 i)) (h2 : ∀ i, IsReal (x2 i)) (h3 : ∀ i, IsReal (x3 i)) (h5 : ∀ i, IsReal (x5 i))
    (r : Fin 4096) (k : Fin 1024) : IsReal (Cert.Reference1Ideal.Read.val_main_v26 (F := Ideal) x0 x1 x2 x3 x5 (ix2 r k)) := by
  pointwise [Cert.Reference1Ideal.Read.val_main_v24, Cert.Reference1Ideal.Read.val_main_v25, Cert.Reference1Ideal.Read.val_main_v26]
  exact (h0 _).add ((IsReal.sum _ _ fun l => (real_attn_gained x1 x3 h1 h3 _ _).mul (h5 _)).add (IsReal.sum _ _ fun l => (h2 _).mul (h5 _)))

theorem real_root (hm : ∀ r k, IsReal (Cert.Reference1Ideal.Read.val_main_v26 (F := Ideal) x0 x1 x2 x3 x5 (ix2 r k))) (r : Fin 4096) : IsReal (Cert.Reference1Ideal.Read.val_main_v37 (F := Ideal) x0 x1 x2 x3 x5 (ix2 r (0 : Fin 1))) := by
  obtain ⟨e, he, hev⟩ := eps_val
  pointwise [Cert.Reference1Ideal.Read.val_main_v37]
  rw [mid_square x0 x1 x2 x3 x5 hev]
  exact isReal_rsqrt (fun j => hm r j) (by norm_num) he

theorem real_normed (hm : ∀ r k, IsReal (Cert.Reference1Ideal.Read.val_main_v26 (F := Ideal) x0 x1 x2 x3 x5 (ix2 r k))) (r : Fin 4096) (k : Fin 1024) : IsReal (Cert.Reference1Ideal.Read.val_main_v42 (F := Ideal) x0 x1 x2 x3 x5 (ix2 r k)) := by
  have h := real_root x0 x1 x2 x3 x5 hm r
  pointwise [Cert.Reference1Ideal.Read.val_main_v41, Cert.Reference1Ideal.Read.val_main_v42]
  exact (hm _ _).mul h

theorem real_gain (h4 : ∀ i, IsReal (x4 i)) (r : Fin 4096) (k : Fin 1024) : IsReal (Cert.Reference1Ideal.Read.val_main_v29 (F := Ideal) x4 (ix2 r k)) := by
  pointwise [Cert.Reference1Ideal.Read.val_main_v3, Cert.Reference1Ideal.Read.val_main_v4, Cert.Reference1Ideal.Read.val_main_v5, Cert.Reference1Ideal.Read.val_main_v27, Cert.Reference1Ideal.Read.val_main_v28, Cert.Reference1Ideal.Read.val_main_v29]
  exact h4 _

theorem real_inner (hm : ∀ r k, IsReal (Cert.Reference1Ideal.Read.val_main_v26 (F := Ideal) x0 x1 x2 x3 x5 (ix2 r k))) (h4 : ∀ i, IsReal (x4 i)) (h6 : ∀ i, IsReal (x6 i)) (r : Fin 4096) (k : Fin 4096) : IsReal (Cert.Reference1Ideal.Read.val_main_v44 (F := Ideal) x0 x1 x2 x3 x4 x5 x6 (ix2 r k)) := by
  pointwise [Cert.Reference1Ideal.Read.val_main_v43, Cert.Reference1Ideal.Read.val_main_v44]
  exact IsReal.sum _ _ fun l => ((real_normed x0 x1 x2 x3 x5 hm _ _).mul (real_gain x4 h4 _ _)).mul (h6 _)

/-- The gradient at the inner activations: where the activation is not positive both factors' product is zero. -/
theorem du_eq (r : Fin 4096) (l : Fin 4096) :
    Cert.Reference1Ideal.Read.val_main_v60 (F := Ideal) x0 x1 x2 x3 x4 x5 x6 x7 x8 (ix2 r l) = (∑ k : Fin 1024, x8 (ix2 r k) * x7 (ix2 l k)) * (((2 : ℝ) : EReal) * max (Cert.Reference1Ideal.Read.val_main_v44 (F := Ideal) x0 x1 x2 x3 x4 x5 x6 (ix2 r l)) 0) := by
  rw [← two_val]
  pointwise [Cert.Reference1Ideal.Read.val_main_v6, Cert.Reference1Ideal.Read.val_main_v45, Cert.Reference1Ideal.Read.val_main_v46, Cert.Reference1Ideal.Read.val_main_v47, Cert.Reference1Ideal.Read.val_main_v48, Cert.Reference1Ideal.Read.val_main_v51, Cert.Reference1Ideal.Read.val_main_v52, Cert.Reference1Ideal.Read.val_main_v56, Cert.Reference1Ideal.Read.val_main_v57, Cert.Reference1Ideal.Read.val_main_v58, Cert.Reference1Ideal.Read.val_main_v59, Cert.Reference1Ideal.Read.val_main_v60, Cert.Reference1Ideal.Read.val_main_cst, Cert.Reference1Ideal.Read.val_main_cst_0, Cert.Reference1Ideal.Read.val_main_cst_1, Cert.Reference1Ideal.Read.val_main_cst_2, Cert.Reference1Ideal.Read.val_main_cst_3, Cert.Reference1Ideal.Read.val_main_cst_4, Cert.Reference1Ideal.Read.val_main_cst_5, Cert.Reference1Ideal.Read.val_main_cst_6, Cert.Reference1Ideal.Read.val_main_cst_7, Cert.Reference1Ideal.Read.val_main_cst_8, Cert.Reference1Ideal.Read.val_main_cst_9, Cert.Reference1Ideal.Read.val_main_cst_10, Cert.Reference1Ideal.Read.val_main_cst_11, Cert.Reference1Ideal.Read.val_main_cst_12, Cert.Reference1Ideal.Read.val_main_cst_13, Cert.Reference1Ideal.Read.val_main_cst_14, Cert.Reference1Ideal.Read.val_main_cst_15, Cert.Reference1Ideal.Read.val_main_cst_16, Cert.Reference1Ideal.Read.val_main_cst_17, Cert.Reference1Ideal.Read.val_main_cst_18, Cert.Reference1Ideal.Read.val_main_cst_19, Cert.Reference1Ideal.Read.val_main_cst_20, Cert.Reference1Ideal.Read.val_main_call0_cst, Cert.Reference1Ideal.Read.val_main_call0_v0]
  split_ifs with h
  · rfl
  · rw [max_eq_right (not_lt.mp h), mul_zero, mul_zero]

theorem real_du (hu : ∀ r l, IsReal (Cert.Reference1Ideal.Read.val_main_v44 (F := Ideal) x0 x1 x2 x3 x4 x5 x6 (ix2 r l))) (h7 : ∀ i, IsReal (x7 i)) (h8 : ∀ i, IsReal (x8 i)) (r : Fin 4096) (l : Fin 4096) : IsReal (Cert.Reference1Ideal.Read.val_main_v60 (F := Ideal) x0 x1 x2 x3 x4 x5 x6 x7 x8 (ix2 r l)) := by
  rw [du_eq]
  exact (IsReal.sum _ _ fun k => (h8 _).mul (h7 _)).mul ((isReal_coe 2).mul (real_max (hu _ _)))

/-- The gradient past the gain of the feed-forward part's norm. -/
theorem real_gained (hd : ∀ r l, IsReal (Cert.Reference1Ideal.Read.val_main_v60 (F := Ideal) x0 x1 x2 x3 x4 x5 x6 x7 x8 (ix2 r l))) (h4 : ∀ i, IsReal (x4 i)) (h6 : ∀ i, IsReal (x6 i)) (r : Fin 4096) (k : Fin 1024) : IsReal (Cert.Reference1Ideal.Read.val_main_v63 (F := Ideal) x0 x1 x2 x3 x4 x5 x6 x7 x8 (ix2 r k)) := by
  pointwise [Cert.Reference1Ideal.Read.val_main_v61, Cert.Reference1Ideal.Read.val_main_v63]
  exact (IsReal.sum _ _ fun l => (hd _ _).mul (h6 _)).mul (real_gain x4 h4 _ _)

/-- The gradient of the middle stream, with the norm's derivative as the kernel writes it. -/
theorem dx_eq (hm : ∀ r k, IsReal (Cert.Reference1Ideal.Read.val_main_v26 (F := Ideal) x0 x1 x2 x3 x5 (ix2 r k))) (hg : ∀ r k, IsReal (Cert.Reference1Ideal.Read.val_main_v63 (F := Ideal) x0 x1 x2 x3 x4 x5 x6 x7 x8 (ix2 r k))) (r : Fin 4096) (k : Fin 1024) :
    Cert.Reference1Ideal.Read.val_main_v78 (F := Ideal) x0 x1 x2 x3 x4 x5 x6 x7 x8 (ix2 r k) = x8 (ix2 r k) + Cert.Reference1Ideal.Read.val_main_v37 (F := Ideal) x0 x1 x2 x3 x5 (ix2 r (0 : Fin 1)) * (Cert.Reference1Ideal.Read.val_main_v63 (F := Ideal) x0 x1 x2 x3 x4 x5 x6 x7 x8 (ix2 r k)
      - Cert.Reference1Ideal.Read.val_main_v42 (F := Ideal) x0 x1 x2 x3 x5 (ix2 r k) * Ideal.div (∑ j : Fin 1024, Cert.Reference1Ideal.Read.val_main_v63 (F := Ideal) x0 x1 x2 x3 x4 x5 x6 x7 x8 (ix2 r j) * Cert.Reference1Ideal.Read.val_main_v42 (F := Ideal) x0 x1 x2 x3 x5 (ix2 r j)) ((1024 : ℝ) : EReal)) := by
  obtain ⟨e, he, hev⟩ := eps_val
  have h := rms_backward (fun j : Fin 1024 => hm r j) (fun j : Fin 1024 => hg r j) (by norm_num : (0 : ℝ) < 1024) he k (mid_square x0 x1 x2 x3 x5 hev r)
  pointwise [Cert.Reference1Ideal.Read.val_main_v37, Cert.Reference1Ideal.Read.val_main_v41, Cert.Reference1Ideal.Read.val_main_v42]
  rw [h]
  pointwise [Cert.Reference1Ideal.Read.val_main_v37, Cert.Reference1Ideal.Read.val_main_v38, Cert.Reference1Ideal.Read.val_main_v39, Cert.Reference1Ideal.Read.val_main_v40, Cert.Reference1Ideal.Read.val_main_v55, Cert.Reference1Ideal.Read.val_main_v64, Cert.Reference1Ideal.Read.val_main_v65, Cert.Reference1Ideal.Read.val_main_v66, Cert.Reference1Ideal.Read.val_main_v67, Cert.Reference1Ideal.Read.val_main_v68, Cert.Reference1Ideal.Read.val_main_v69, Cert.Reference1Ideal.Read.val_main_v70, Cert.Reference1Ideal.Read.val_main_v71, Cert.Reference1Ideal.Read.val_main_v72, Cert.Reference1Ideal.Read.val_main_v73, Cert.Reference1Ideal.Read.val_main_v74, Cert.Reference1Ideal.Read.val_main_v75, Cert.Reference1Ideal.Read.val_main_v76, Cert.Reference1Ideal.Read.val_main_v77, Cert.Reference1Ideal.Read.val_main_v78, Cert.Reference1Ideal.Read.val_main_cst, Cert.Reference1Ideal.Read.val_main_cst_0, Cert.Reference1Ideal.Read.val_main_cst_1, Cert.Reference1Ideal.Read.val_main_cst_2, Cert.Reference1Ideal.Read.val_main_cst_3, Cert.Reference1Ideal.Read.val_main_cst_4, Cert.Reference1Ideal.Read.val_main_cst_5, Cert.Reference1Ideal.Read.val_main_cst_6, Cert.Reference1Ideal.Read.val_main_cst_7, Cert.Reference1Ideal.Read.val_main_cst_8, Cert.Reference1Ideal.Read.val_main_cst_9, Cert.Reference1Ideal.Read.val_main_cst_10, Cert.Reference1Ideal.Read.val_main_cst_11, Cert.Reference1Ideal.Read.val_main_cst_12, Cert.Reference1Ideal.Read.val_main_cst_13, Cert.Reference1Ideal.Read.val_main_cst_14, Cert.Reference1Ideal.Read.val_main_cst_15, Cert.Reference1Ideal.Read.val_main_cst_16, Cert.Reference1Ideal.Read.val_main_cst_17, Cert.Reference1Ideal.Read.val_main_cst_18, Cert.Reference1Ideal.Read.val_main_cst_19, Cert.Reference1Ideal.Read.val_main_cst_20]
  simp only [n1024_val, neg_half_val, Fin.sum_univ_one, zero_add, add_assoc]

theorem real_dx (hm : ∀ r k, IsReal (Cert.Reference1Ideal.Read.val_main_v26 (F := Ideal) x0 x1 x2 x3 x5 (ix2 r k))) (hg : ∀ r k, IsReal (Cert.Reference1Ideal.Read.val_main_v63 (F := Ideal) x0 x1 x2 x3 x4 x5 x6 x7 x8 (ix2 r k))) (h8 : ∀ i, IsReal (x8 i)) (r : Fin 4096) (k : Fin 1024) : IsReal (Cert.Reference1Ideal.Read.val_main_v78 (F := Ideal) x0 x1 x2 x3 x4 x5 x6 x7 x8 (ix2 r k)) := by
  rw [dx_eq x0 x1 x2 x3 x4 x5 x6 x7 x8 hm hg]
  exact (h8 _).add ((real_root x0 x1 x2 x3 x5 hm _).mul ((hg _ _).sub ((real_normed x0 x1 x2 x3 x5 hm _ _).mul
    (real_div (IsReal.sum _ _ fun j => (hg _ _).mul (real_normed x0 x1 x2 x3 x5 hm _ _)) (by norm_num)))))

/-- The gradient past the gain of the attention's norm. -/
theorem real_attn_grad (hx : ∀ r k, IsReal (Cert.Reference1Ideal.Read.val_main_v78 (F := Ideal) x0 x1 x2 x3 x4 x5 x6 x7 x8 (ix2 r k))) (h3 : ∀ i, IsReal (x3 i)) (h5 : ∀ i, IsReal (x5 i)) (r : Fin 4096) (k : Fin 512) : IsReal (Cert.Reference1Ideal.Read.val_main_v85 (F := Ideal) x0 x1 x2 x3 x4 x5 x6 x7 x8 (ix2 r k)) := by
  pointwise [Cert.Reference1Ideal.Read.val_main_v0, Cert.Reference1Ideal.Read.val_main_v1, Cert.Reference1Ideal.Read.val_main_v2, Cert.Reference1Ideal.Read.val_main_v7, Cert.Reference1Ideal.Read.val_main_v8, Cert.Reference1Ideal.Read.val_main_v9, Cert.Reference1Ideal.Read.val_main_v81, Cert.Reference1Ideal.Read.val_main_v82, Cert.Reference1Ideal.Read.val_main_v85]
  exact (IsReal.sum _ _ fun l => (hx _ _).mul (h5 _)).mul (h3 _)

/-- The gradient of the attention's output, with the norm's derivative as the kernel writes it. -/
theorem dattn_eq (h1 : ∀ i, IsReal (x1 i)) (hg : ∀ r k, IsReal (Cert.Reference1Ideal.Read.val_main_v85 (F := Ideal) x0 x1 x2 x3 x4 x5 x6 x7 x8 (ix2 r k))) (r : Fin 4096) (k : Fin 512) :
    Cert.Reference1Ideal.Read.val_main_v99 (F := Ideal) x0 x1 x2 x3 x4 x5 x6 x7 x8 (ix2 r k) = Cert.Reference1Ideal.Read.val_main_v17 (F := Ideal) x1 (ix2 r (0 : Fin 1)) * (Cert.Reference1Ideal.Read.val_main_v85 (F := Ideal) x0 x1 x2 x3 x4 x5 x6 x7 x8 (ix2 r k)
      - Cert.Reference1Ideal.Read.val_main_v22 (F := Ideal) x1 (ix2 r k) * Ideal.div (∑ j : Fin 512, Cert.Reference1Ideal.Read.val_main_v85 (F := Ideal) x0 x1 x2 x3 x4 x5 x6 x7 x8 (ix2 r j) * Cert.Reference1Ideal.Read.val_main_v22 (F := Ideal) x1 (ix2 r j)) ((512 : ℝ) : EReal)) := by
  obtain ⟨e, he, hev⟩ := eps_val
  have h := rms_backward (fun j : Fin 512 => h1 (ix2 r j)) (fun j : Fin 512 => hg r j) (by norm_num : (0 : ℝ) < 512) he k (attn_square x1 hev r)
  pointwise [Cert.Reference1Ideal.Read.val_main_v17, Cert.Reference1Ideal.Read.val_main_v21, Cert.Reference1Ideal.Read.val_main_v22]
  rw [h]
  pointwise [Cert.Reference1Ideal.Read.val_main_v17, Cert.Reference1Ideal.Read.val_main_v18, Cert.Reference1Ideal.Read.val_main_v19, Cert.Reference1Ideal.Read.val_main_v20, Cert.Reference1Ideal.Read.val_main_v86, Cert.Reference1Ideal.Read.val_main_v87, Cert.Reference1Ideal.Read.val_main_v88, Cert.Reference1Ideal.Read.val_main_v89, Cert.Reference1Ideal.Read.val_main_v90, Cert.Reference1Ideal.Read.val_main_v91, Cert.Reference1Ideal.Read.val_main_v92, Cert.Reference1Ideal.Read.val_main_v93, Cert.Reference1Ideal.Read.val_main_v94, Cert.Reference1Ideal.Read.val_main_v95, Cert.Reference1Ideal.Read.val_main_v96, Cert.Reference1Ideal.Read.val_main_v97, Cert.Reference1Ideal.Read.val_main_v98, Cert.Reference1Ideal.Read.val_main_v99, Cert.Reference1Ideal.Read.val_main_cst, Cert.Reference1Ideal.Read.val_main_cst_0, Cert.Reference1Ideal.Read.val_main_cst_1, Cert.Reference1Ideal.Read.val_main_cst_2, Cert.Reference1Ideal.Read.val_main_cst_3, Cert.Reference1Ideal.Read.val_main_cst_4, Cert.Reference1Ideal.Read.val_main_cst_5, Cert.Reference1Ideal.Read.val_main_cst_6, Cert.Reference1Ideal.Read.val_main_cst_7, Cert.Reference1Ideal.Read.val_main_cst_8, Cert.Reference1Ideal.Read.val_main_cst_9, Cert.Reference1Ideal.Read.val_main_cst_10, Cert.Reference1Ideal.Read.val_main_cst_11, Cert.Reference1Ideal.Read.val_main_cst_12, Cert.Reference1Ideal.Read.val_main_cst_13, Cert.Reference1Ideal.Read.val_main_cst_14, Cert.Reference1Ideal.Read.val_main_cst_15, Cert.Reference1Ideal.Read.val_main_cst_16, Cert.Reference1Ideal.Read.val_main_cst_17, Cert.Reference1Ideal.Read.val_main_cst_18, Cert.Reference1Ideal.Read.val_main_cst_19, Cert.Reference1Ideal.Read.val_main_cst_20]
  simp only [n512_val, neg_half_val, Fin.sum_univ_one, zero_add]

theorem real_dattn (h1 : ∀ i, IsReal (x1 i)) (hg : ∀ r k, IsReal (Cert.Reference1Ideal.Read.val_main_v85 (F := Ideal) x0 x1 x2 x3 x4 x5 x6 x7 x8 (ix2 r k))) (r : Fin 4096) (k : Fin 512) : IsReal (Cert.Reference1Ideal.Read.val_main_v99 (F := Ideal) x0 x1 x2 x3 x4 x5 x6 x7 x8 (ix2 r k)) := by
  have hn : ∀ r k, IsReal (Cert.Reference1Ideal.Read.val_main_v22 (F := Ideal) x1 (ix2 r k)) := fun r k => by
    have h := real_attn_root x1 h1 r
    pointwise [Cert.Reference1Ideal.Read.val_main_v21, Cert.Reference1Ideal.Read.val_main_v22]
    exact (h1 _).mul h
  rw [dattn_eq x0 x1 x2 x3 x4 x5 x6 x7 x8 h1 hg]
  exact (real_attn_root x1 h1 _).mul ((hg _ _).sub ((hn _ _).mul (real_div (IsReal.sum _ _ fun j => (hg _ _).mul (hn _ _)) (by norm_num))))

/-- The products of a row's gradient and attention output are real numbers. -/
theorem real_products (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (h8 : ∀ i, IsReal (x8 i)) :
    (∀ r k, IsReal (Cert.Reference1Ideal.Read.val_main_v26 (F := Ideal) x0 x1 x2 x3 x5 (ix2 r k))) ∧ (∀ r k, IsReal (Cert.Reference1Ideal.Read.val_main_v63 (F := Ideal) x0 x1 x2 x3 x4 x5 x6 x7 x8 (ix2 r k))) ∧ (∀ r k, IsReal (Cert.Reference1Ideal.Read.val_main_v85 (F := Ideal) x0 x1 x2 x3 x4 x5 x6 x7 x8 (ix2 r k))) ∧ ∀ r k, IsReal (Cert.Reference1Ideal.Read.val_main_v102 (F := Ideal) x0 x1 x2 x3 x4 x5 x6 x7 x8 (ix2 r k)) := by
  have hm := real_mid x0 x1 x2 x3 x5 h0 h1 h2 h3 h5
  have hg := real_gained x0 x1 x2 x3 x4 x5 x6 x7 x8 (real_du x0 x1 x2 x3 x4 x5 x6 x7 x8 (real_inner x0 x1 x2 x3 x4 x5 x6 hm h4 h6) h7 h8) h4 h6
  have ha := real_attn_grad x0 x1 x2 x3 x4 x5 x6 x7 x8 (real_dx x0 x1 x2 x3 x4 x5 x6 x7 x8 hm hg h8) h3 h5
  refine ⟨hm, hg, ha, fun r k => ?_⟩
  have h := real_dattn x0 x1 x2 x3 x4 x5 x6 x7 x8 h1 ha r k
  pointwise [Cert.Reference1Ideal.Read.val_main_v102]
  exact h.mul (h1 _)

/-- The gain's gradient: the sum over the rows of a copy, 16 blocks of 32 rows each. -/
theorem dgain_eq (p : Fin 8) (k : Fin 1024) :
    (∑ t : Fin 16, ∑ x : Fin 32, Cert.Reference1Ideal.Read.val_main_v62 (F := Ideal) x0 x1 x2 x3 x4 x5 x6 x7 x8 (ix2 ⟨(t.val * 32 + x.val) * 8 + p.val, by omega⟩ k)) = Cert.Reference1Ideal.Read.val_main_v80 (F := Ideal) x0 x1 x2 x3 x4 x5 x6 x7 x8 (ix2 p k) := by
  pointwise [Cert.Reference1Ideal.Read.val_main_v79, Cert.Reference1Ideal.Read.val_main_v80, Cert.Reference1Ideal.Read.val_main_cst_15]
  refine Eq.trans ?_ ((reduce_copies _ _ _ p k).trans (zero_add _)).symm
  pointwise [Cert.Reference1Ideal.Read.val_main_v62]
  refine Eq.trans (Fin.sum_mul_add_fin 16 32 fun l : Fin 512 => Cert.Reference1Ideal.Read.val_main_v42 (F := Ideal) x0 x1 x2 x3 x5 (ix2 ⟨l.val * 8 + p.val, by omega⟩ k) * Cert.Reference1Ideal.Read.val_main_v61 (F := Ideal) x0 x1 x2 x3 x4 x5 x6 x7 x8 (ix2 ⟨l.val * 8 + p.val, by omega⟩ k)) ?_
  blk_point []

/-- The same for the attention's gain. -/
theorem dattn_gain_eq (p : Fin 8) (k : Fin 512) :
    (∑ t : Fin 16, ∑ x : Fin 32, Cert.Reference1Ideal.Read.val_main_v84 (F := Ideal) x0 x1 x2 x3 x4 x5 x6 x7 x8 (ix2 ⟨(t.val * 32 + x.val) * 8 + p.val, by omega⟩ k)) = Cert.Reference1Ideal.Read.val_main_v101 (F := Ideal) x0 x1 x2 x3 x4 x5 x6 x7 x8 (ix2 p k) := by
  pointwise [Cert.Reference1Ideal.Read.val_main_v100, Cert.Reference1Ideal.Read.val_main_v101, Cert.Reference1Ideal.Read.val_main_cst_19]
  refine Eq.trans ?_ ((reduce_copies _ _ _ p k).trans (zero_add _)).symm
  pointwise [Cert.Reference1Ideal.Read.val_main_v84]
  refine Eq.trans (Fin.sum_mul_add_fin 16 32 fun l : Fin 512 => Cert.Reference1Ideal.Read.val_main_v22 (F := Ideal) x1 (ix2 ⟨l.val * 8 + p.val, by omega⟩ k) * Cert.Reference1Ideal.Read.val_main_v82 (F := Ideal) x0 x1 x2 x3 x4 x5 x6 x7 x8 (ix2 ⟨l.val * 8 + p.val, by omega⟩ k)) ?_
  blk_point []

/-- A head's sum, at each of the head's channels. -/
theorem delta_eq (r : Fin 4096) (y : Fin 512) :
    Cert.Reference1Ideal.Read.val_main_v106 (F := Ideal) x0 x1 x2 x3 x4 x5 x6 x7 x8 (ix2 r y) = ∑ x : Fin 64, Cert.Reference1Ideal.Read.val_main_v102 (F := Ideal) x0 x1 x2 x3 x4 x5 x6 x7 x8 (ix2 r ⟨y.val / 64 * 64 + x.val, by omega⟩) := by
  pointwise [Cert.Reference1Ideal.Read.val_main_v103, Cert.Reference1Ideal.Read.val_main_v104, Cert.Reference1Ideal.Read.val_main_v105, Cert.Reference1Ideal.Read.val_main_v106, Cert.Reference1Ideal.Read.val_main_cst_20]

end Cert.MlpBackward1
end
-- ==== Proof.SmallRun.lean ====
/-  The run of the small weights' update: every device's run ends, changes none of the arguments, and leaves in each result what the body writes there. -/
module

public import proofs.«01_k».proof.Proof.Gen.Kernel17Ideal.Launch
public import proofs.«01_k».proof.Proof.Gen.Kernel17Ideal.Skeleton
public import proofs.«01_k».proof.Proof.Gen.Kernel17Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel17Ideal.SmallRun

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Before the call -/

/-- The buffers of device `c` when the call starts: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl

/-! ## The windows' blocks -/

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of input window 0 holds its block at the point, for any proof data that leave the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of input window 1 holds its block at the point, for any proof data that leave the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of input window 2 holds its block at the point, for any proof data that leave the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer of input window 3 holds its block at the point, for any proof data that leave the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer of input window 4 holds its block at the point, for any proof data that leave the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The buffer of input window 5 holds its block at the point, for any proof data that leave the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The buffer of input window 6 holds its block at the point, for any proof data that leave the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The buffer of input window 7 holds its block at the point, for any proof data that leave the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- The buffer of input window 8 holds its block at the point, for any proof data that leave the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- The buffer of input window 9 holds its block at the point, for any proof data that leave the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- The buffer of input window 10 holds its block at the point, for any proof data that leave the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- The buffer of input window 11 holds its block at the point, for any proof data that leave the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- The buffer of input window 12 holds its block at the point, for any proof data that leave the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- The buffer of input window 13 holds its block at the point, for any proof data that leave the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- The buffer of input window 14 holds its block at the point, for any proof data that leave the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- The buffer of input window 15 holds its block at the point, for any proof data that leave the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- The buffer of input window 16 holds its block at the point, for any proof data that leave the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- The buffer of input window 17 holds its block at the point, for any proof data that leave the block in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- The buffer of input window 18 holds its block at the point, for any proof data that leave the block in place. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

set_option maxHeartbeats 2580000 in
/-- A run that leaves every window's array at what the proof data say leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c)))⟩) h

/-! ## The body's accesses -/

abbrev r0_0 : Rect S8x1024 := Rect.unit (s := S8x1024) ![0, 0] S2x1024.size inb_S8x1024_S2x1024_0_0
abbrev r0_1 : Rect S8x1024 := Rect.unit (s := S8x1024) ![5, 0] S1x1024.size inb_S8x1024_S1x1024_5_0
abbrev r0_2 : Rect S8x1024 := Rect.unit (s := S8x1024) ![6, 0] S1x1024.size inb_S8x1024_S1x1024_6_0
abbrev r0_3 : Rect S8x1024 := Rect.unit (s := S8x1024) ![7, 0] S1x1024.size inb_S8x1024_S1x1024_7_0
abbrev r0_4 : Rect S8x1024 := Rect.unit (s := S8x1024) ![2, 0] S2x1024.size inb_S8x1024_S2x1024_2_0
abbrev r0_5 : Rect S8x1024 := Rect.unit (s := S8x1024) ![4, 0] S1x1024.size inb_S8x1024_S1x1024_4_0
abbrev r0_6 : Rect S2x1024 := Rect.unit (s := S2x1024) ![0, 0] S2x1024.size inb_S2x1024_S2x1024_0_0
abbrev r0_7 : Rect S2x512 := Rect.unit (s := S2x512) ![0, 0] S2x512.size inb_S2x512_S2x512_0_0
abbrev r0_8 : Rect S2x128 := Rect.unit (s := S2x128) ![0, 0] S2x128.size inb_S2x128_S2x128_0_0
abbrev r0_9 : Rect S1x1024 := Rect.unit (s := S1x1024) ![0, 0] S1x1024.size inb_S1x1024_S1x1024_0_0

/-! ## What the body leaves in each output window's buffer -/

/-- What the body leaves in the buffer of window 19. -/
def out0_19 (x0 : Vec F S8x1024 .f32) : Vec F S2x1024 .f32 :=
  View.canon [⟨r0_6, View.ld x0 r0_0⟩]

/-- Its store covers the buffer. -/
theorem cover_S2x1024 (p0 : Vec F S2x1024 .f32) (y : S2x1024.Idx) :
    ∃ pc ∈ ([⟨r0_6, p0⟩] : List (View.Piece (Elt F) S2x1024 .f32)), y ∈ pc.1.set :=
  View.cover_of_tiled [⟨r0_6, p0⟩] S2x1024.size (by rfl) y

/-- What the body leaves in the buffer of window 20. -/
def out0_20 (x0 : Vec F S8x1024 .f32) (x1 : Vec F S2x1024 .f32) (x7 : Vec F S2x1024 .f32) (x13 : Vec F S2x1024 .f32) : Vec F S2x1024 .f32 :=
  View.canon [⟨r0_6, k0_pay9 (View.ld x1 r0_6) (k0_pay6 (View.ld x0 r0_0) (View.ld x7 r0_6)) (k0_pay7 (View.ld x0 r0_0) (View.ld x13 r0_6)) (k0_pay8 (F := F))⟩]

/-- What the body leaves in the buffer of window 21. -/
def out0_21 (x0 : Vec F S8x1024 .f32) (x7 : Vec F S2x1024 .f32) : Vec F S2x1024 .f32 :=
  View.canon [⟨r0_6, k0_pay4 (View.ld x0 r0_0) (View.ld x7 r0_6)⟩]

/-- What the body leaves in the buffer of window 22. -/
def out0_22 (x0 : Vec F S8x1024 .f32) (x13 : Vec F S2x1024 .f32) : Vec F S2x1024 .f32 :=
  View.canon [⟨r0_6, k0_pay5 (View.ld x0 r0_0) (View.ld x13 r0_6)⟩]

/-- What the body leaves in the buffer of window 23. -/
def out0_23 (x0 : Vec F S8x1024 .f32) : Vec F S2x512 .f32 :=
  View.canon [⟨r0_7, k0_pay1 (View.ld x0 r0_1)⟩]

/-- Its store covers the buffer. -/
theorem cover_S2x512 (p0 : Vec F S2x512 .f32) (y : S2x512.Idx) :
    ∃ pc ∈ ([⟨r0_7, p0⟩] : List (View.Piece (Elt F) S2x512 .f32)), y ∈ pc.1.set :=
  View.cover_of_tiled [⟨r0_7, p0⟩] S2x512.size (by rfl) y

/-- What the body leaves in the buffer of window 24. -/
def out0_24 (x0 : Vec F S8x1024 .f32) (x2 : Vec F S2x512 .f32) (x8 : Vec F S2x512 .f32) (x14 : Vec F S2x512 .f32) : Vec F S2x512 .f32 :=
  View.canon [⟨r0_7, k0_pay13 (View.ld x2 r0_7) (k0_pay12 (k0_pay1 (View.ld x0 r0_1)) (View.ld x8 r0_7) (View.ld x14 r0_7))⟩]

/-- What the body leaves in the buffer of window 25. -/
def out0_25 (x0 : Vec F S8x1024 .f32) (x8 : Vec F S2x512 .f32) : Vec F S2x512 .f32 :=
  View.canon [⟨r0_7, k0_pay10 (k0_pay1 (View.ld x0 r0_1)) (View.ld x8 r0_7)⟩]

/-- What the body leaves in the buffer of window 26. -/
def out0_26 (x0 : Vec F S8x1024 .f32) (x14 : Vec F S2x512 .f32) : Vec F S2x512 .f32 :=
  View.canon [⟨r0_7, k0_pay11 (k0_pay1 (View.ld x0 r0_1)) (View.ld x14 r0_7)⟩]

/-- What the body leaves in the buffer of window 27. -/
def out0_27 (x0 : Vec F S8x1024 .f32) : Vec F S2x512 .f32 :=
  View.canon [⟨r0_7, k0_pay2 (View.ld x0 r0_2)⟩]

/-- What the body leaves in the buffer of window 28. -/
def out0_28 (x0 : Vec F S8x1024 .f32) (x3 : Vec F S2x512 .f32) (x9 : Vec F S2x512 .f32) (x15 : Vec F S2x512 .f32) : Vec F S2x512 .f32 :=
  View.canon [⟨r0_7, k0_pay18 (View.ld x3 r0_7) (k0_pay16 (k0_pay2 (View.ld x0 r0_2)) (View.ld x9 r0_7) (View.ld x15 r0_7)) (k0_pay17 (F := F))⟩]

/-- What the body leaves in the buffer of window 29. -/
def out0_29 (x0 : Vec F S8x1024 .f32) (x9 : Vec F S2x512 .f32) : Vec F S2x512 .f32 :=
  View.canon [⟨r0_7, k0_pay14 (k0_pay2 (View.ld x0 r0_2)) (View.ld x9 r0_7)⟩]

/-- What the body leaves in the buffer of window 30. -/
def out0_30 (x0 : Vec F S8x1024 .f32) (x15 : Vec F S2x512 .f32) : Vec F S2x512 .f32 :=
  View.canon [⟨r0_7, k0_pay15 (k0_pay2 (View.ld x0 r0_2)) (View.ld x15 r0_7)⟩]

/-- What the body leaves in the buffer of window 31. -/
def out0_31 (x0 : Vec F S8x1024 .f32) : Vec F S2x128 .f32 :=
  View.canon [⟨r0_8, k0_pay3 (View.ld x0 r0_3)⟩]

/-- Its store covers the buffer. -/
theorem cover_S2x128 (p0 : Vec F S2x128 .f32) (y : S2x128.Idx) :
    ∃ pc ∈ ([⟨r0_8, p0⟩] : List (View.Piece (Elt F) S2x128 .f32)), y ∈ pc.1.set :=
  View.cover_of_tiled [⟨r0_8, p0⟩] S2x128.size (by rfl) y

/-- What the body leaves in the buffer of window 32. -/
def out0_32 (x0 : Vec F S8x1024 .f32) (x4 : Vec F S2x128 .f32) (x10 : Vec F S2x128 .f32) (x16 : Vec F S2x128 .f32) : Vec F S2x128 .f32 :=
  View.canon [⟨r0_8, k0_pay22 (k0_pay21 (k0_pay3 (View.ld x0 r0_3)) (View.ld x4 r0_8) (View.ld x10 r0_8) (View.ld x16 r0_8))⟩]

/-- What the body leaves in the buffer of window 33. -/
def out0_33 (x0 : Vec F S8x1024 .f32) (x10 : Vec F S2x128 .f32) : Vec F S2x128 .f32 :=
  View.canon [⟨r0_8, k0_pay19 (k0_pay3 (View.ld x0 r0_3)) (View.ld x10 r0_8)⟩]

/-- What the body leaves in the buffer of window 34. -/
def out0_34 (x0 : Vec F S8x1024 .f32) (x16 : Vec F S2x128 .f32) : Vec F S2x128 .f32 :=
  View.canon [⟨r0_8, k0_pay20 (k0_pay3 (View.ld x0 r0_3)) (View.ld x16 r0_8)⟩]

/-- What the body leaves in the buffer of window 35. -/
def out0_35 (x0 : Vec F S8x1024 .f32) : Vec F S2x1024 .f32 :=
  View.canon [⟨r0_6, View.ld x0 r0_4⟩]

/-- What the body leaves in the buffer of window 36. -/
def out0_36 (x0 : Vec F S8x1024 .f32) (x5 : Vec F S2x1024 .f32) (x11 : Vec F S2x1024 .f32) (x17 : Vec F S2x1024 .f32) : Vec F S2x1024 .f32 :=
  View.canon [⟨r0_6, k0_pay27 (k0_pay25 (View.ld x0 r0_4) (View.ld x5 r0_6) (View.ld x11 r0_6) (View.ld x17 r0_6)) (k0_pay26 (F := F))⟩]

/-- What the body leaves in the buffer of window 37. -/
def out0_37 (x0 : Vec F S8x1024 .f32) (x11 : Vec F S2x1024 .f32) : Vec F S2x1024 .f32 :=
  View.canon [⟨r0_6, k0_pay23 (View.ld x0 r0_4) (View.ld x11 r0_6)⟩]

/-- What the body leaves in the buffer of window 38. -/
def out0_38 (x0 : Vec F S8x1024 .f32) (x17 : Vec F S2x1024 .f32) : Vec F S2x1024 .f32 :=
  View.canon [⟨r0_6, k0_pay24 (View.ld x0 r0_4) (View.ld x17 r0_6)⟩]

/-- What the body leaves in the buffer of window 39. -/
def out0_39 (x0 : Vec F S8x1024 .f32) : Vec F S1x1024 .f32 :=
  View.canon [⟨r0_9, View.ld x0 r0_5⟩]

/-- Its store covers the buffer. -/
theorem cover_S1x1024 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What the body leaves in the buffer of window 40. -/
def out0_40 (x0 : Vec F S8x1024 .f32) (x6 : Vec F S1x1024 .f32) (x12 : Vec F S1x1024 .f32) (x18 : Vec F S1x1024 .f32) : Vec F S1x1024 .f32 :=
  View.canon [⟨r0_9, k0_pay30 (View.ld x0 r0_5) (View.ld x6 r0_9) (View.ld x12 r0_9) (View.ld x18 r0_9)⟩]

/-- What the body leaves in the buffer of window 41. -/
def out0_41 (x0 : Vec F S8x1024 .f32) (x12 : Vec F S1x1024 .f32) : Vec F S1x1024 .f32 :=
  View.canon [⟨r0_9, k0_pay28 (View.ld x0 r0_5) (View.ld x12 r0_9)⟩]

/-- What the body leaves in the buffer of window 42. -/
def out0_42 (x0 : Vec F S8x1024 .f32) (x18 : Vec F S1x1024 .f32) : Vec F S1x1024 .f32 :=
  View.canon [⟨r0_9, k0_pay29 (View.ld x0 r0_5) (View.ld x18 r0_9)⟩]

/-! ## The body's triple -/

set_option maxHeartbeats 1000000 in
/-- The body, run on buffers that hold the blocks `xW`, leaves them and puts `out0_W` of them in the outputs' buffers. -/
theorem sound_kernel (c : Dev nD) (E : Set ℕ) (arg0 : Memref sig .tc .vmem S8x1024 .f32) (harg0 : arg0.IsWhole) (arg1 : Memref sig .tc .vmem S2x1024 .f32) (harg1 : arg1.IsWhole) (arg2 : Memref sig .tc .vmem S2x512 .f32) (harg2 : arg2.IsWhole) (arg3 : Memref sig .tc .vmem S2x512 .f32) (harg3 : arg3.IsWhole) (arg4 : Memref sig .tc .vmem S2x128 .f32) (harg4 : arg4.IsWhole) (arg5 : Memref sig .tc .vmem S2x1024 .f32) (harg5 : arg5.IsWhole) (arg6 : Memref sig .tc .vmem S1x1024 .f32) (harg6 : arg6.IsWhole) (arg7 : Memref sig .tc .vmem S2x1024 .f32) (harg7 : arg7.IsWhole) (arg8 : Memref sig .tc .vmem S2x512 .f32) (harg8 : arg8.IsWhole) (arg9 : Memref sig .tc .vmem S2x512 .f32) (harg9 : arg9.IsWhole) (arg10 : Memref sig .tc .vmem S2x128 .f32) (harg10 : arg10.IsWhole) (arg11 : Memref sig .tc .vmem S2x1024 .f32) (harg11 : arg11.IsWhole) (arg12 : Memref sig .tc .vmem S1x1024 .f32) (harg12 : arg12.IsWhole) (arg13 : Memref sig .tc .vmem S2x1024 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S2x128 .f32) (harg16 : arg16.IsWhole) (arg17 : Memref sig .tc .vmem S2x1024 .f32) (harg17 : arg17.IsWhole) (arg18 : Memref sig .tc .vmem S1x1024 .f32) (harg18 : arg18.IsWhole) (arg19 : Memref sig .tc .vmem S2x1024 .f32) (harg19 : arg19.IsWhole) (arg20 : Memref sig .tc .vmem S2x1024 .f32) (harg20 : arg20.IsWhole) (arg21 : Memref sig .tc .vmem S2x1024 .f32) (harg21 : arg21.IsWhole) (arg22 : Memref sig .tc .vmem S2x1024 .f32) (harg22 : arg22.IsWhole) (arg23 : Memref sig .tc .vmem S2x512 .f32) (harg23 : arg23.IsWhole) (arg24 : Memref sig .tc .vmem S2x512 .f32) (harg24 : arg24.IsWhole) (arg25 : Memref sig .tc .vmem S2x512 .f32) (harg25 : arg25.IsWhole) (arg26 : Memref sig .tc .vmem S2x512 .f32) (harg26 : arg26.IsWhole) (arg27 : Memref sig .tc .vmem S2x512 .f32) (harg27 : arg27.IsWhole) (arg28 : Memref sig .tc .vmem S2x512 .f32) (harg28 : arg28.IsWhole) (arg29 : Memref sig .tc .vmem S2x512 .f32) (harg29 : arg29.IsWhole) (arg30 : Memref sig .tc .vmem S2x512 .f32) (harg30 : arg30.IsWhole) (arg31 : Memref sig .tc .vmem S2x128 .f32) (harg31 : arg31.IsWhole) (arg32 : Memref sig .tc .vmem S2x128 .f32) (harg32 : arg32.IsWhole) (arg33 : Memref sig .tc .vmem S2x128 .f32) (harg33 : arg33.IsWhole) (arg34 : Memref sig .tc .vmem S2x128 .f32) (harg34 : arg34.IsWhole) (arg35 : Memref sig .tc .vmem S2x1024 .f32) (harg35 : arg35.IsWhole) (arg36 : Memref sig .tc .vmem S2x1024 .f32) (harg36 : arg36.IsWhole) (arg37 : Memref sig .tc .vmem S2x1024 .f32) (harg37 : arg37.IsWhole) (arg38 : Memref sig .tc .vmem S2x1024 .f32) (harg38 : arg38.IsWhole) (arg39 : Memref sig .tc .vmem S1x1024 .f32) (harg39 : arg39.IsWhole) (arg40 : Memref sig .tc .vmem S1x1024 .f32) (harg40 : arg40.IsWhole) (arg41 : Memref sig .tc .vmem S1x1024 .f32) (harg41 : arg41.IsWhole) (arg42 : Memref sig .tc .vmem S1x1024 .f32) (harg42 : arg42.IsWhole)
    (x0 : Vec F S8x1024 .f32) (x1 : Vec F S2x1024 .f32) (x2 : Vec F S2x512 .f32) (x3 : Vec F S2x512 .f32) (x4 : Vec F S2x128 .f32) (x5 : Vec F S2x1024 .f32) (x6 : Vec F S1x1024 .f32) (x7 : Vec F S2x1024 .f32) (x8 : Vec F S2x512 .f32) (x9 : Vec F S2x512 .f32) (x10 : Vec F S2x128 .f32) (x11 : Vec F S2x1024 .f32) (x12 : Vec F S1x1024 .f32) (x13 : Vec F S2x1024 .f32) (x14 : Vec F S2x512 .f32) (x15 : Vec F S2x512 .f32) (x16 : Vec F S2x128 .f32) (x17 : Vec F S2x1024 .f32) (x18 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (out0_19 x0) ∗ owns (c : Thread nD τ) arg20 fullShare (out0_20 x0 x1 x7 x13) ∗ owns (c : Thread nD τ) arg21 fullShare (out0_21 x0 x7) ∗ owns (c : Thread nD τ) arg22 fullShare (out0_22 x0 x13) ∗ owns (c : Thread nD τ) arg23 fullShare (out0_23 x0) ∗ owns (c : Thread nD τ) arg24 fullShare (out0_24 x0 x2 x8 x14) ∗ owns (c : Thread nD τ) arg25 fullShare (out0_25 x0 x8) ∗ owns (c : Thread nD τ) arg26 fullShare (out0_26 x0 x14) ∗ owns (c : Thread nD τ) arg27 fullShare (out0_27 x0) ∗ owns (c : Thread nD τ) arg28 fullShare (out0_28 x0 x3 x9 x15) ∗ owns (c : Thread nD τ) arg29 fullShare (out0_29 x0 x9) ∗ owns (c : Thread nD τ) arg30 fullShare (out0_30 x0 x15) ∗ owns (c : Thread nD τ) arg31 fullShare (out0_31 x0) ∗ owns (c : Thread nD τ) arg32 fullShare (out0_32 x0 x4 x10 x16) ∗ owns (c : Thread nD τ) arg33 fullShare (out0_33 x0 x10) ∗ owns (c : Thread nD τ) arg34 fullShare (out0_34 x0 x16) ∗ owns (c : Thread nD τ) arg35 fullShare (out0_35 x0) ∗ owns (c : Thread nD τ) arg36 fullShare (out0_36 x0 x5 x11 x17) ∗ owns (c : Thread nD τ) arg37 fullShare (out0_37 x0 x11) ∗ owns (c : Thread nD τ) arg38 fullShare (out0_38 x0 x17) ∗ owns (c : Thread nD τ) arg39 fullShare (out0_39 x0) ∗ owns (c : Thread nD τ) arg40 fullShare (out0_40 x0 x6 x12 x18) ∗ owns (c : Thread nD τ) arg41 fullShare (out0_41 x0 x12) ∗ owns (c : Thread nD τ) arg42 fullShare (out0_42 x0 x18)) -∗ K ⟨⟩))
      ⊢ wp frame (wpE (defs₀ (F := F)) Variants.none c none) E (cc0_adam_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  simp only [cc0_adam_small_eq_skeleton]; unfold cc0_adam_small_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    refine (View.read_writes_eq_canon _ _ _ (cover_S2x1024 _)).trans ?_
    rfl
  isplitl [H20]
  · iexists _; isplitr
    swap; · iexact H20
    ipureintro
    refine (View.read_writes_eq_canon _ _ _ (cover_S2x1024 _)).trans ?_
    rfl
  isplitl [H21]
  · iexists _; isplitr
    swap; · iexact H21
    ipureintro
    refine (View.read_writes_eq_canon _ _ _ (cover_S2x1024 _)).trans ?_
    rfl
  isplitl [H22]
  · iexists _; isplitr
    swap; · iexact H22
    ipureintro
    refine (View.read_writes_eq_canon _ _ _ (cover_S2x1024 _)).trans ?_
    rfl
  isplitl [H23]
  · iexists _; isplitr
    swap; · iexact H23
    ipureintro
    refine (View.read_writes_eq_canon _ _ _ (cover_S2x512 _)).trans ?_
    rfl
  isplitl [H24]
  · iexists _; isplitr
    swap; · iexact H24
    ipureintro
    refine (View.read_writes_eq_canon _ _ _ (cover_S2x512 _)).trans ?_
    rfl
  isplitl [H25]
  · iexists _; isplitr
    swap; · iexact H25
    ipureintro
    refine (View.read_writes_eq_canon _ _ _ (cover_S2x512 _)).trans ?_
    rfl
  isplitl [H26]
  · iexists _; isplitr
    swap; · iexact H26
    ipureintro
    refine (View.read_writes_eq_canon _ _ _ (cover_S2x512 _)).trans ?_
    rfl
  isplitl [H27]
  · iexists _; isplitr
    swap; · iexact H27
    ipureintro
    refine (View.read_writes_eq_canon _ _ _ (cover_S2x512 _)).trans ?_
    rfl
  isplitl [H28]
  · iexists _; isplitr
    swap; · iexact H28
    ipureintro
    refine (View.read_writes_eq_canon _ _ _ (cover_S2x512 _)).trans ?_
    rfl
  isplitl [H29]
  · iexists _; isplitr
    swap; · iexact H29
    ipureintro
    refine (View.read_writes_eq_canon _ _ _ (cover_S2x512 _)).trans ?_
    rfl
  isplitl [H30]
  · iexists _; isplitr
    swap; · iexact H30
    ipureintro
    refine (View.read_writes_eq_canon _ _ _ (cover_S2x512 _)).trans ?_
    rfl
  isplitl [H31]
  · iexists _; isplitr
    swap; · iexact H31
    ipureintro
    refine (View.read_writes_eq_canon _ _ _ (cover_S2x128 _)).trans ?_
    rfl
  isplitl [H32]
  · iexists _; isplitr
    swap; · iexact H32
    ipureintro
    refine (View.read_writes_eq_canon _ _ _ (cover_S2x128 _)).trans ?_
    rfl
  isplitl [H33]
  · iexists _; isplitr
    swap; · iexact H33
    ipureintro
    refine (View.read_writes_eq_canon _ _ _ (cover_S2x128 _)).trans ?_
    rfl
  isplitl [H34]
  · iexists _; isplitr
    swap; · iexact H34
    ipureintro
    refine (View.read_writes_eq_canon _ _ _ (cover_S2x128 _)).trans ?_
    rfl
  isplitl [H35]
  · iexists _; isplitr
    swap; · iexact H35
    ipureintro
    refine (View.read_writes_eq_canon _ _ _ (cover_S2x1024 _)).trans ?_
    rfl
  isplitl [H36]
  · iexists _; isplitr
    swap; · iexact H36
    ipureintro
    refine (View.read_writes_eq_canon _ _ _ (cover_S2x1024 _)).trans ?_
    rfl
  isplitl [H37]
  · iexists _; isplitr
    swap; · iexact H37
    ipureintro
    refine (View.read_writes_eq_canon _ _ _ (cover_S2x1024 _)).trans ?_
    rfl
  isplitl [H38]
  · iexists _; isplitr
    swap; · iexact H38
    ipureintro
    refine (View.read_writes_eq_canon _ _ _ (cover_S2x1024 _)).trans ?_
    rfl
  isplitl [H39]
  · iexists _; isplitr
    swap; · iexact H39
    ipureintro
    refine (View.read_writes_eq_canon _ _ _ (cover_S1x1024 _)).trans ?_
    rfl
  isplitl [H40]
  · iexists _; isplitr
    swap; · iexact H40
    ipureintro
    refine (View.read_writes_eq_canon _ _ _ (cover_S1x1024 _)).trans ?_
    rfl
  isplitl [H41]
  · iexists _; isplitr
    swap; · iexact H41
    ipureintro
    refine (View.read_writes_eq_canon _ _ _ (cover_S1x1024 _)).trans ?_
    rfl
  iexists _; isplitr
  swap; · iexact H42
  ipureintro
  refine (View.read_writes_eq_canon _ _ _ (cover_S1x1024 _)).trans ?_
  rfl

/-! ## The pipeline's proof data -/

/-- What holds around the body: the arrays as launched; after the body each input's buffer still holds its block and each output's what `out0_W` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => out0_19 (iblk m c 0 t)
    | ⟨20, _⟩ => out0_20 (iblk m c 0 t) (iblk m c 1 t) (iblk m c 7 t) (iblk m c 13 t)
    | ⟨21, _⟩ => out0_21 (iblk m c 0 t) (iblk m c 7 t)
    | ⟨22, _⟩ => out0_22 (iblk m c 0 t) (iblk m c 13 t)
    | ⟨23, _⟩ => out0_23 (iblk m c 0 t)
    | ⟨24, _⟩ => out0_24 (iblk m c 0 t) (iblk m c 2 t) (iblk m c 8 t) (iblk m c 14 t)
    | ⟨25, _⟩ => out0_25 (iblk m c 0 t) (iblk m c 8 t)
    | ⟨26, _⟩ => out0_26 (iblk m c 0 t) (iblk m c 14 t)
    | ⟨27, _⟩ => out0_27 (iblk m c 0 t)
    | ⟨28, _⟩ => out0_28 (iblk m c 0 t) (iblk m c 3 t) (iblk m c 9 t) (iblk m c 15 t)
    | ⟨29, _⟩ => out0_29 (iblk m c 0 t) (iblk m c 9 t)
    | ⟨30, _⟩ => out0_30 (iblk m c 0 t) (iblk m c 15 t)
    | ⟨31, _⟩ => out0_31 (iblk m c 0 t)
    | ⟨32, _⟩ => out0_32 (iblk m c 0 t) (iblk m c 4 t) (iblk m c 10 t) (iblk m c 16 t)
    | ⟨33, _⟩ => out0_33 (iblk m c 0 t) (iblk m c 10 t)
    | ⟨34, _⟩ => out0_34 (iblk m c 0 t) (iblk m c 16 t)
    | ⟨35, _⟩ => out0_35 (iblk m c 0 t)
    | ⟨36, _⟩ => out0_36 (iblk m c 0 t) (iblk m c 5 t) (iblk m c 11 t) (iblk m c 17 t)
    | ⟨37, _⟩ => out0_37 (iblk m c 0 t) (iblk m c 11 t)
    | ⟨38, _⟩ => out0_38 (iblk m c 0 t) (iblk m c 17 t)
    | ⟨39, _⟩ => out0_39 (iblk m c 0 t)
    | ⟨40, _⟩ => out0_40 (iblk m c 0 t) (iblk m c 6 t) (iblk m c 12 t) (iblk m c 18 t)
    | ⟨41, _⟩ => out0_41 (iblk m c 0 t) (iblk m c 12 t)
    | ⟨42, _⟩ => out0_42 (iblk m c 0 t) (iblk m c 18 t)
    | ⟨_ + 43, h⟩ => absurd h (Nat.not_lt.2 (Nat.le_add_left _ _))
  Φ _ := Pipeline.ΦA spec0 c
  q _ := fullShare
  owed _ := 0

/-- The arrays before the call. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = out0_19 (iblk m c 0 t) := by dsimp only [dats]
theorem after0_20 (c : Dev nD) (t : Fin cfg0.N) : (dats m 0 c).after 20 t = out0_20 (iblk m c 0 t) (iblk m c 1 t) (iblk m c 7 t) (iblk m c 13 t) := by dsimp only [dats]
theorem after0_21 (c : Dev nD) (t : Fin cfg0.N) : (dats m 0 c).after 21 t = out0_21 (iblk m c 0 t) (iblk m c 7 t) := by dsimp only [dats]
theorem after0_22 (c : Dev nD) (t : Fin cfg0.N) : (dats m 0 c).after 22 t = out0_22 (iblk m c 0 t) (iblk m c 13 t) := by dsimp only [dats]
theorem after0_23 (c : Dev nD) (t : Fin cfg0.N) : (dats m 0 c).after 23 t = out0_23 (iblk m c 0 t) := by dsimp only [dats]
theorem after0_24 (c : Dev nD) (t : Fin cfg0.N) : (dats m 0 c).after 24 t = out0_24 (iblk m c 0 t) (iblk m c 2 t) (iblk m c 8 t) (iblk m c 14 t) := by dsimp only [dats]
theorem after0_25 (c : Dev nD) (t : Fin cfg0.N) : (dats m 0 c).after 25 t = out0_25 (iblk m c 0 t) (iblk m c 8 t) := by dsimp only [dats]
theorem after0_26 (c : Dev nD) (t : Fin cfg0.N) : (dats m 0 c).after 26 t = out0_26 (iblk m c 0 t) (iblk m c 14 t) := by dsimp only [dats]
theorem after0_27 (c : Dev nD) (t : Fin cfg0.N) : (dats m 0 c).after 27 t = out0_27 (iblk m c 0 t) := by dsimp only [dats]
theorem after0_28 (c : Dev nD) (t : Fin cfg0.N) : (dats m 0 c).after 28 t = out0_28 (iblk m c 0 t) (iblk m c 3 t) (iblk m c 9 t) (iblk m c 15 t) := by dsimp only [dats]
theorem after0_29 (c : Dev nD) (t : Fin cfg0.N) : (dats m 0 c).after 29 t = out0_29 (iblk m c 0 t) (iblk m c 9 t) := by dsimp only [dats]
theorem after0_30 (c : Dev nD) (t : Fin cfg0.N) : (dats m 0 c).after 30 t = out0_30 (iblk m c 0 t) (iblk m c 15 t) := by dsimp only [dats]
theorem after0_31 (c : Dev nD) (t : Fin cfg0.N) : (dats m 0 c).after 31 t = out0_31 (iblk m c 0 t) := by dsimp only [dats]
theorem after0_32 (c : Dev nD) (t : Fin cfg0.N) : (dats m 0 c).after 32 t = out0_32 (iblk m c 0 t) (iblk m c 4 t) (iblk m c 10 t) (iblk m c 16 t) := by dsimp only [dats]
theorem after0_33 (c : Dev nD) (t : Fin cfg0.N) : (dats m 0 c).after 33 t = out0_33 (iblk m c 0 t) (iblk m c 10 t) := by dsimp only [dats]
theorem after0_34 (c : Dev nD) (t : Fin cfg0.N) : (dats m 0 c).after 34 t = out0_34 (iblk m c 0 t) (iblk m c 16 t) := by dsimp only [dats]
theorem after0_35 (c : Dev nD) (t : Fin cfg0.N) : (dats m 0 c).after 35 t = out0_35 (iblk m c 0 t) := by dsimp only [dats]
theorem after0_36 (c : Dev nD) (t : Fin cfg0.N) : (dats m 0 c).after 36 t = out0_36 (iblk m c 0 t) (iblk m c 5 t) (iblk m c 11 t) (iblk m c 17 t) := by dsimp only [dats]
theorem after0_37 (c : Dev nD) (t : Fin cfg0.N) : (dats m 0 c).after 37 t = out0_37 (iblk m c 0 t) (iblk m c 11 t) := by dsimp only [dats]
theorem after0_38 (c : Dev nD) (t : Fin cfg0.N) : (dats m 0 c).after 38 t = out0_38 (iblk m c 0 t) (iblk m c 17 t) := by dsimp only [dats]
theorem after0_39 (c : Dev nD) (t : Fin cfg0.N) : (dats m 0 c).after 39 t = out0_39 (iblk m c 0 t) := by dsimp only [dats]
theorem after0_40 (c : Dev nD) (t : Fin cfg0.N) : (dats m 0 c).after 40 t = out0_40 (iblk m c 0 t) (iblk m c 6 t) (iblk m c 12 t) (iblk m c 18 t) := by dsimp only [dats]
theorem after0_41 (c : Dev nD) (t : Fin cfg0.N) : (dats m 0 c).after 41 t = out0_41 (iblk m c 0 t) (iblk m c 12 t) := by dsimp only [dats]
theorem after0_42 (c : Dev nD) (t : Fin cfg0.N) : (dats m 0 c).after 42 t = out0_42 (iblk m c 0 t) (iblk m c 18 t) := by dsimp only [dats]

/-- Each input's buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t))

set_option maxHeartbeats 4000000 in
/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  iexact H42

/-- The body as it is called at the point. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- What the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run leaves every window's array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- Every run ends with the arguments unchanged and every counter at zero, over any values `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Kernel17Ideal.SmallRun

end
-- ==== Proof.SmallFrames.lean ====
/-  The bit-exact program of the small weights' update is, definition by definition, the idealized one: the one run of `SmallRun` serves both. -/
module

public import proofs.«01_k».proof.Defs
public import proofs.«01_k».proof.Proof.SmallRun
public import proofs.«01_k».proof.Proof.Gen.Kernel17

set_option maxRecDepth 16384

@[expose] public noncomputable section

namespace Cert.Kernel17.SmallFrames

open Idealize.ShloMosaic Idealize.SL.Sem

variable [Cert.Kernel17.Facts] [Cert.Kernel17Ideal.Facts]

set_option maxHeartbeats 1000000 in
/-- The two body tables are the same at every point of the grid. -/
theorem bodies : Cert.Kernel17.defs₀ (F := Bits) = Cert.Kernel17Ideal.defs₀ (F := Bits) := by
  refine congrArg Defs.onTc (funext fun l => funext fun a => ?_)
  match l, a with
  | 0, (t, s) => rfl

set_option maxHeartbeats 4000000 in
/-- So the two programs' tables are the same. -/
theorem tables : Cert.Kernel17.defs (F := Bits) = Cert.Kernel17Ideal.defs (F := Bits) :=
  congrArg (Idealize.ShloMosaic.Pipeline.defs Cert.Kernel17Ideal.pcfgs) bodies

end Cert.Kernel17.SmallFrames

namespace Cert.Kernel17.SmallFrames

open Idealize.ShloMosaic Idealize.SL.Sem Cert.Kernel17.Gen Cert.Kernel17Ideal.Gen

set_option maxHeartbeats 4000000 in
/-- Every run of the bit-exact program ends with its arguments unchanged and every counter at zero. -/
theorem frame : Cert.quiescent_Kernel17 := fun m ρ _ => by
  rw [tables]
  exact Cert.Kernel17Ideal.SmallRun.frame (F := Bits) m ρ

end Cert.Kernel17.SmallFrames
-- ==== Proof.SmallResults.lean ====
/-  What the run of the small weights' update leaves in each result and in each argument. -/
module

public import proofs.«01_k».proof.Proof.SmallRun

@[expose] public section

set_option maxRecDepth 16384

noncomputable section

namespace Cert.Kernel17Ideal.SmallRun

open Cert.Kernel17Ideal Cert.Kernel17Ideal.Gen
open Idealize.ShloMosaic Idealize.ShloMosaic.TcCoe Idealize.SL.Sem

variable {F : FTy → Type} [FloatOps F]
variable (m : (ℓ : Loc nD τ sig) → Buf (Elt F) ℓ) (ρ : Dev nD → PrngReg)

set_option maxHeartbeats 4000000 in
/-- The run with each result named by the window that writes it, and the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 19 cfg0.N
      ∧ r.2.mem ((c : Thread nD τ).loc main_v0_1) = (dats m 0 c).arrAt 20 cfg0.N
      ∧ r.2.mem ((c : Thread nD τ).loc main_v0_2) = (dats m 0 c).arrAt 21 cfg0.N
      ∧ r.2.mem ((c : Thread nD τ).loc main_v0_3) = (dats m 0 c).arrAt 22 cfg0.N
      ∧ r.2.mem ((c : Thread nD τ).loc main_v0_4) = (dats m 0 c).arrAt 23 cfg0.N
      ∧ r.2.mem ((c : Thread nD τ).loc main_v0_5) = (dats m 0 c).arrAt 24 cfg0.N
      ∧ r.2.mem ((c : Thread nD τ).loc main_v0_6) = (dats m 0 c).arrAt 25 cfg0.N
      ∧ r.2.mem ((c : Thread nD τ).loc main_v0_7) = (dats m 0 c).arrAt 26 cfg0.N
      ∧ r.2.mem ((c : Thread nD τ).loc main_v0_8) = (dats m 0 c).arrAt 27 cfg0.N
      ∧ r.2.mem ((c : Thread nD τ).loc main_v0_9) = (dats m 0 c).arrAt 28 cfg0.N
      ∧ r.2.mem ((c : Thread nD τ).loc main_v0_10) = (dats m 0 c).arrAt 29 cfg0.N
      ∧ r.2.mem ((c : Thread nD τ).loc main_v0_11) = (dats m 0 c).arrAt 30 cfg0.N
      ∧ r.2.mem ((c : Thread nD τ).loc main_v0_12) = (dats m 0 c).arrAt 31 cfg0.N
      ∧ r.2.mem ((c : Thread nD τ).loc main_v0_13) = (dats m 0 c).arrAt 32 cfg0.N
      ∧ r.2.mem ((c : Thread nD τ).loc main_v0_14) = (dats m 0 c).arrAt 33 cfg0.N
      ∧ r.2.mem ((c : Thread nD τ).loc main_v0_15) = (dats m 0 c).arrAt 34 cfg0.N
      ∧ r.2.mem ((c : Thread nD τ).loc main_v0_16) = (dats m 0 c).arrAt 35 cfg0.N
      ∧ r.2.mem ((c : Thread nD τ).loc main_v0_17) = (dats m 0 c).arrAt 36 cfg0.N
      ∧ r.2.mem ((c : Thread nD τ).loc main_v0_18) = (dats m 0 c).arrAt 37 cfg0.N
      ∧ r.2.mem ((c : Thread nD τ).loc main_v0_19) = (dats m 0 c).arrAt 38 cfg0.N
      ∧ r.2.mem ((c : Thread nD τ).loc main_v0_20) = (dats m 0 c).arrAt 39 cfg0.N
      ∧ r.2.mem ((c : Thread nD τ).loc main_v0_21) = (dats m 0 c).arrAt 40 cfg0.N
      ∧ r.2.mem ((c : Thread nD τ).loc main_v0_22) = (dats m 0 c).arrAt 41 cfg0.N
      ∧ r.2.mem ((c : Thread nD τ).loc main_v0_23) = (dats m 0 c).arrAt 42 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  θ_run_mono (θ_run_and (run_main m ρ) (unchanged m ρ)) fun r h c =>
    ⟨(h.1 c).1 19, (h.1 c).1 20, (h.1 c).1 21, (h.1 c).1 22, (h.1 c).1 23, (h.1 c).1 24, (h.1 c).1 25, (h.1 c).1 26, (h.1 c).1 27, (h.1 c).1 28, (h.1 c).1 29, (h.1 c).1 30, (h.1 c).1 31, (h.1 c).1 32, (h.1 c).1 33, (h.1 c).1 34, (h.1 c).1 35, (h.1 c).1 36, (h.1 c).1 37, (h.1 c).1 38, (h.1 c).1 39, (h.1 c).1 40, (h.1 c).1 41, (h.1 c).1 42, h.2 c⟩

end Cert.Kernel17Ideal.SmallRun
end
-- ==== Proof.Value1.lean ====
module

public import proofs.«01_k».proof.Proof.Gen.Kernel1Ideal.Value
public import proofs.«01_k».proof.Proof.Gen.Reference1Ideal.Read
public import proofs.«01_k».proof.Proof.Blocks
public import proofs.«01_k».proof.Proof.MlpBackward1
public import Idealize.ShloMosaic.Lib.Pipeline.ValueKit
public import Idealize.ShloMosaic.Lib.Pipeline.ReadBack
public import Idealize.ShloMosaic.Lib.StableHlo.ReadAt

set_option maxRecDepth 16384

@[expose] public noncomputable section

open Idealize.ShloMosaic Idealize.ShloMosaic.TcCoe Idealize.SL.Sem
open Idealize.ShloMosaic.Pipeline (Dat)
open scoped BigOperators

namespace Cert.Kernel1Ideal.Value

open Cert.RmsBackward Cert.MlpBackward1 Cert.Kernel1Ideal Cert.Kernel1Ideal.Gen

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![1, 0, 0]
    ∧ win0_4.index t = ![t.val, 0]
    ∧ win0_5.index t = ![t.val, 0]
    ∧ win0_6.index t = ![1, 0, 0]
    ∧ win0_7.index t = ![0, 0, 0]
    ∧ win0_8.index t = ![0, 0, 0, 0]
    ∧ win0_9.index t = ![0, 0, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![0, 0]
    ∧ win0_17.index t = ![0, 0] :=
  (by decide +kernel : ∀ t : Fin grid0.N, _)

/-- Rows of a grid point lie in the array. -/
theorem row_lt (t : Fin cfg0.N) (r : Fin 256) : 256 * t.val + r.val < 4096 := by
  have := lt_of_lt_of_eq t.isLt (show cfg0.N = 16 from N_0)
  omega

/-- Rows of one copy of a gain. -/
theorem copy_lt (t : Fin cfg0.N) (x : Fin 32) (p : Fin 8) : (t.val * 32 + x.val) * 8 + p.val < 4096 := by
  have := lt_of_lt_of_eq t.isLt (show cfg0.N = 16 from N_0)
  omega

/-- The attention's gain on the kernel's side and the reference's copies of it. -/
theorem host_attn (c : Dev nD) (i : Fin 4096) (k : Fin 512) :
    (V m c main_v14 : FVec Ideal S4096x512 .f32) (ix2 i k) = Cert.Reference1Ideal.Read.val_main_v23 (F := Ideal) (m ((c : Thread nD τ).loc main_arg1)) (m ((c : Thread nD τ).loc main_arg3)) (ix2 i k) := by
  pointwise [Cert.Reference1Ideal.Read.val_main_v0, Cert.Reference1Ideal.Read.val_main_v1, Cert.Reference1Ideal.Read.val_main_v2, Cert.Reference1Ideal.Read.val_main_v7, Cert.Reference1Ideal.Read.val_main_v8, Cert.Reference1Ideal.Read.val_main_v9, Cert.Reference1Ideal.Read.val_main_v10, Cert.Reference1Ideal.Read.val_main_v11, Cert.Reference1Ideal.Read.val_main_v12, Cert.Reference1Ideal.Read.val_main_v13, Cert.Reference1Ideal.Read.val_main_v14, Cert.Reference1Ideal.Read.val_main_v15, Cert.Reference1Ideal.Read.val_main_v16, Cert.Reference1Ideal.Read.val_main_v17, Cert.Reference1Ideal.Read.val_main_v21, Cert.Reference1Ideal.Read.val_main_v22, Cert.Reference1Ideal.Read.val_main_v23, Cert.Reference1Ideal.Read.val_main_cst, Cert.Reference1Ideal.Read.val_main_cst_0, Cert.Reference1Ideal.Read.val_main_cst_1, Cert.Reference1Ideal.Read.val_main_cst_2, Cert.Reference1Ideal.Read.val_main_cst_3, Cert.Reference1Ideal.Read.val_main_cst_4, Cert.Reference1Ideal.Read.val_main_cst_5, Cert.Reference1Ideal.Read.val_main_cst_6, Cert.Reference1Ideal.Read.val_main_cst_7, Cert.Reference1Ideal.Read.val_main_cst_8, Cert.Reference1Ideal.Read.val_main_cst_9, Cert.Reference1Ideal.Read.val_main_cst_10, Cert.Reference1Ideal.Read.val_main_cst_11, Cert.Reference1Ideal.Read.val_main_cst_12, Cert.Reference1Ideal.Read.val_main_cst_13, Cert.Reference1Ideal.Read.val_main_cst_14, Cert.Reference1Ideal.Read.val_main_cst_15, Cert.Reference1Ideal.Read.val_main_cst_16, Cert.Reference1Ideal.Read.val_main_cst_17, Cert.Reference1Ideal.Read.val_main_cst_18, Cert.Reference1Ideal.Read.val_main_cst_19, Cert.Reference1Ideal.Read.val_main_cst_20]
  simp only [V]
  after_reads_at

/-- The middle stream on the kernel's side. -/
theorem host_mid (c : Dev nD) (i : Fin 4096) (k : Fin 1024) :
    (V m c main_v17 : FVec Ideal S4096x1024 .f32) (ix2 i k) = Cert.Reference1Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 i k) := by
  pointwise [Cert.Reference1Ideal.Read.val_main_v0, Cert.Reference1Ideal.Read.val_main_v1, Cert.Reference1Ideal.Read.val_main_v2, Cert.Reference1Ideal.Read.val_main_v7, Cert.Reference1Ideal.Read.val_main_v8, Cert.Reference1Ideal.Read.val_main_v9, Cert.Reference1Ideal.Read.val_main_v10, Cert.Reference1Ideal.Read.val_main_v11, Cert.Reference1Ideal.Read.val_main_v12, Cert.Reference1Ideal.Read.val_main_v13, Cert.Reference1Ideal.Read.val_main_v14, Cert.Reference1Ideal.Read.val_main_v15, Cert.Reference1Ideal.Read.val_main_v16, Cert.Reference1Ideal.Read.val_main_v17, Cert.Reference1Ideal.Read.val_main_v21, Cert.Reference1Ideal.Read.val_main_v22, Cert.Reference1Ideal.Read.val_main_v23, Cert.Reference1Ideal.Read.val_main_v24, Cert.Reference1Ideal.Read.val_main_v25, Cert.Reference1Ideal.Read.val_main_v26, Cert.Reference1Ideal.Read.val_main_cst, Cert.Reference1Ideal.Read.val_main_cst_0, Cert.Reference1Ideal.Read.val_main_cst_1, Cert.Reference1Ideal.Read.val_main_cst_2, Cert.Reference1Ideal.Read.val_main_cst_3, Cert.Reference1Ideal.Read.val_main_cst_4, Cert.Reference1Ideal.Read.val_main_cst_5, Cert.Reference1Ideal.Read.val_main_cst_6, Cert.Reference1Ideal.Read.val_main_cst_7, Cert.Reference1Ideal.Read.val_main_cst_8, Cert.Reference1Ideal.Read.val_main_cst_9, Cert.Reference1Ideal.Read.val_main_cst_10, Cert.Reference1Ideal.Read.val_main_cst_11, Cert.Reference1Ideal.Read.val_main_cst_12, Cert.Reference1Ideal.Read.val_main_cst_13, Cert.Reference1Ideal.Read.val_main_cst_14, Cert.Reference1Ideal.Read.val_main_cst_15, Cert.Reference1Ideal.Read.val_main_cst_16, Cert.Reference1Ideal.Read.val_main_cst_17, Cert.Reference1Ideal.Read.val_main_cst_18, Cert.Reference1Ideal.Read.val_main_cst_19, Cert.Reference1Ideal.Read.val_main_cst_20]
  simp only [V]
  after_reads_at
  pointwise []
  after_reads_at

/-- The inner activations on the kernel's side. -/
theorem host_inner (c : Dev nD) (i : Fin 4096) (l : Fin 4096) :
    (V m c main_v39 : FVec Ideal S4096x4096 .bf16) (ix2 i l) = Cert.Reference1Ideal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i l) := by
  pointwise [Cert.Reference1Ideal.Read.val_main_v0, Cert.Reference1Ideal.Read.val_main_v1, Cert.Reference1Ideal.Read.val_main_v2, Cert.Reference1Ideal.Read.val_main_v3, Cert.Reference1Ideal.Read.val_main_v4, Cert.Reference1Ideal.Read.val_main_v5, Cert.Reference1Ideal.Read.val_main_v7, Cert.Reference1Ideal.Read.val_main_v8, Cert.Reference1Ideal.Read.val_main_v9, Cert.Reference1Ideal.Read.val_main_v10, Cert.Reference1Ideal.Read.val_main_v11, Cert.Reference1Ideal.Read.val_main_v12, Cert.Reference1Ideal.Read.val_main_v13, Cert.Reference1Ideal.Read.val_main_v14, Cert.Reference1Ideal.Read.val_main_v15, Cert.Reference1Ideal.Read.val_main_v16, Cert.Reference1Ideal.Read.val_main_v17, Cert.Reference1Ideal.Read.val_main_v21, Cert.Reference1Ideal.Read.val_main_v22, Cert.Reference1Ideal.Read.val_main_v23, Cert.Reference1Ideal.Read.val_main_v24, Cert.Reference1Ideal.Read.val_main_v25, Cert.Reference1Ideal.Read.val_main_v26, Cert.Reference1Ideal.Read.val_main_v27, Cert.Reference1Ideal.Read.val_main_v28, Cert.Reference1Ideal.Read.val_main_v29, Cert.Reference1Ideal.Read.val_main_v30, Cert.Reference1Ideal.Read.val_main_v31, Cert.Reference1Ideal.Read.val_main_v32, Cert.Reference1Ideal.Read.val_main_v33, Cert.Reference1Ideal.Read.val_main_v34, Cert.Reference1Ideal.Read.val_main_v35, Cert.Reference1Ideal.Read.val_main_v36, Cert.Reference1Ideal.Read.val_main_v37, Cert.Reference1Ideal.Read.val_main_v41, Cert.Reference1Ideal.Read.val_main_v42, Cert.Reference1Ideal.Read.val_main_v43, Cert.Reference1Ideal.Read.val_main_v44, Cert.Reference1Ideal.Read.val_main_cst, Cert.Reference1Ideal.Read.val_main_cst_0, Cert.Reference1Ideal.Read.val_main_cst_1, Cert.Reference1Ideal.Read.val_main_cst_2, Cert.Reference1Ideal.Read.val_main_cst_3, Cert.Reference1Ideal.Read.val_main_cst_4, Cert.Reference1Ideal.Read.val_main_cst_5, Cert.Reference1Ideal.Read.val_main_cst_6, Cert.Reference1Ideal.Read.val_main_cst_7, Cert.Reference1Ideal.Read.val_main_cst_8, Cert.Reference1Ideal.Read.val_main_cst_9, Cert.Reference1Ideal.Read.val_main_cst_10, Cert.Reference1Ideal.Read.val_main_cst_11, Cert.Reference1Ideal.Read.val_main_cst_12, Cert.Reference1Ideal.Read.val_main_cst_13, Cert.Reference1Ideal.Read.val_main_cst_14, Cert.Reference1Ideal.Read.val_main_cst_15, Cert.Reference1Ideal.Read.val_main_cst_16, Cert.Reference1Ideal.Read.val_main_cst_17, Cert.Reference1Ideal.Read.val_main_cst_18, Cert.Reference1Ideal.Read.val_main_cst_19, Cert.Reference1Ideal.Read.val_main_cst_20]
  simp only [V]
  after_reads_at
  pointwise []
  after_reads_at

/-- The middle stream's block. -/
theorem mid (c : Dev nD) (t : Fin cfg0.N) (r : Fin 256) (k : Fin 1024) :
    iblk m c 2 t (ix2 r k) = Cert.Reference1Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 ⟨256 * t.val + r.val, row_lt t r⟩ k) := by
  rw [← host_mid]
  blk_point [iblk, idx_val t]

/-- The inner activations' block. -/
theorem inner (c : Dev nD) (t : Fin cfg0.N) (r : Fin 256) (l : Fin 4096) :
    iblk m c 4 t (ix2 r l) = Cert.Reference1Ideal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨256 * t.val + r.val, row_lt t r⟩ l) := by
  rw [← host_inner]
  blk_point [iblk, idx_val t]

/-- The incoming gradient's block. -/
theorem incoming (c : Dev nD) (t : Fin cfg0.N) (r : Fin 256) (k : Fin 1024) :
    iblk m c 1 t (ix2 r k) = (m ((c : Thread nD τ).loc main_arg8)) (ix2 ⟨256 * t.val + r.val, row_lt t r⟩ k) := by
  blk_point [iblk, V, idx_val t]

/-- The down projection and the up projection, staged whole. -/
theorem down (c : Dev nD) (t : Fin cfg0.N) (l : Fin 4096) (k : Fin 1024) :
    iblk m c 9 t (ix3 (0 : Fin 1) l k) = (m ((c : Thread nD τ).loc main_arg7)) (ix2 l k) := by
  blk_point [iblk, V, idx_val t]

/-- The up projection's weights by row and column. -/
def weight (c : Dev nD) (k : Fin 1024) (l : Fin 4096) : EReal := (m ((c : Thread nD τ).loc main_arg6)) (ix2 k l)

theorem host_up (c : Dev nD) (j : Fin 8) (k : Fin 1024) (x : Fin 512) :
    (V m c main_v43 : FVec Ideal S1x8x1024x512 .bf16) (ix4 (0 : Fin 1) j k x) = weight m c k ⟨512 * j.val + x.val, by omega⟩ := by
  unfold weight
  simp only [V]
  after_reads_at
  exact congrArg (fun l => (m ((c : Thread nD τ).loc main_arg6)) (ix2 k l)) (Fin.ext (by show j.val * 512 + x.val = 512 * j.val + x.val; omega))

theorem up (c : Dev nD) (t : Fin cfg0.N) (j : Fin 8) (k : Fin 1024) (x : Fin 512) :
    iblk m c 8 t (ix4 (0 : Fin 1) j k x) = weight m c k ⟨512 * j.val + x.val, by omega⟩ := by
  rw [← host_up]
  blk_point [iblk, idx_val t]

/-- The gradient at one block of columns of the inner activations. -/
theorem tile (c : Dev nD) (t : Fin cfg0.N) (o : ℕ) (ho : o ≤ 3584)
    (inb9 : ∀ a, ![0, o, 0] a + ![1, 512, 1024] a ≤ S1x4096x1024.size a) (inb4 : ∀ a, ![0, o] a + ![256, 512] a ≤ S256x4096.size a) (r : Fin 256) (x : Fin 512) :
    k0_pay15 (k0_pay6 (iblk m c 1 t)) (View.ld (iblk m c 9 t) (Rect.unit ![0, o, 0] ![1, 512, 1024] inb9)) (View.ld (iblk m c 4 t) (Rect.unit ![0, o] ![256, 512] inb4)) (ix2 r x)
      = Cert.Reference1Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ ⟨o + x.val, by omega⟩) := by
  rw [du_eq, ← two_val]
  pointwise [k0_pay15, k0_pay6]
  exact congrArg₂ (· * ·) (Finset.sum_congr rfl fun k _ => congrArg₂ (· * ·) (incoming m c t r k) (down m c t _ k))
    (congrArg (fun z : EReal => Ideal.ofBits .f32 0x40000000#32 * max z 0) (inner m c t r _))

/-- One over the root of a row's mean square. -/
theorem root (c : Dev nD) (t : Fin cfg0.N) (r : Fin 256) :
    k0_pay24 (iblk m c 2 t) (ix2 r (0 : Fin 1)) = Cert.Reference1Ideal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 ⟨256 * t.val + r.val, row_lt t r⟩ (0 : Fin 1)) := by
  pointwise [k0_pay24, k0_pay23, Cert.Reference1Ideal.Read.val_main_v30, Cert.Reference1Ideal.Read.val_main_v31, Cert.Reference1Ideal.Read.val_main_v32, Cert.Reference1Ideal.Read.val_main_v33, Cert.Reference1Ideal.Read.val_main_v34, Cert.Reference1Ideal.Read.val_main_v35, Cert.Reference1Ideal.Read.val_main_v36, Cert.Reference1Ideal.Read.val_main_v37, Cert.Reference1Ideal.Read.val_main_cst, Cert.Reference1Ideal.Read.val_main_cst_0, Cert.Reference1Ideal.Read.val_main_cst_1, Cert.Reference1Ideal.Read.val_main_cst_2, Cert.Reference1Ideal.Read.val_main_cst_3, Cert.Reference1Ideal.Read.val_main_cst_4, Cert.Reference1Ideal.Read.val_main_cst_5, Cert.Reference1Ideal.Read.val_main_cst_6, Cert.Reference1Ideal.Read.val_main_cst_7, Cert.Reference1Ideal.Read.val_main_cst_8]
  simp only [mid]

/-- A row of the middle stream over its norm. -/
theorem normed (c : Dev nD) (t : Fin cfg0.N) (r : Fin 256) (k : Fin 1024) :
    k0_pay25 (iblk m c 2 t) (ix2 r k) = Cert.Reference1Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 ⟨256 * t.val + r.val, row_lt t r⟩ k) := by
  pointwise [k0_pay25, k0_pay23, Cert.Reference1Ideal.Read.val_main_v41, Cert.Reference1Ideal.Read.val_main_v42]
  simp only [root, mid]

/-- One over the root of an attention row's mean square. -/
theorem attn_root (c : Dev nD) (t : Fin cfg0.N) (r : Fin 256) :
    k0_pay32 (iblk m c 5 t) (ix2 r (0 : Fin 1)) = Cert.Reference1Ideal.Read.val_main_v17 (F := Ideal) (m ((c : Thread nD τ).loc main_arg1)) (ix2 ⟨256 * t.val + r.val, row_lt t r⟩ (0 : Fin 1)) := by
  pointwise [k0_pay32, Cert.Reference1Ideal.Read.val_main_v10, Cert.Reference1Ideal.Read.val_main_v11, Cert.Reference1Ideal.Read.val_main_v12, Cert.Reference1Ideal.Read.val_main_v13, Cert.Reference1Ideal.Read.val_main_v14, Cert.Reference1Ideal.Read.val_main_v15, Cert.Reference1Ideal.Read.val_main_v16, Cert.Reference1Ideal.Read.val_main_v17, Cert.Reference1Ideal.Read.val_main_cst, Cert.Reference1Ideal.Read.val_main_cst_0, Cert.Reference1Ideal.Read.val_main_cst_1, Cert.Reference1Ideal.Read.val_main_cst_2, Cert.Reference1Ideal.Read.val_main_cst_3, Cert.Reference1Ideal.Read.val_main_cst_4, Cert.Reference1Ideal.Read.val_main_cst_5, Cert.Reference1Ideal.Read.val_main_cst_6, Cert.Reference1Ideal.Read.val_main_cst_7, Cert.Reference1Ideal.Read.val_main_cst_8]
  blk_point [iblk, V, idx_val t]

/-- A row of the attention's output over its norm. -/
theorem attn_normed (c : Dev nD) (t : Fin cfg0.N) (r : Fin 256) (k : Fin 512) :
    k0_pay33 (iblk m c 5 t) (ix2 r k) = Cert.Reference1Ideal.Read.val_main_v22 (F := Ideal) (m ((c : Thread nD τ).loc main_arg1)) (ix2 ⟨256 * t.val + r.val, row_lt t r⟩ k) := by
  pointwise [k0_pay33, Cert.Reference1Ideal.Read.val_main_v21, Cert.Reference1Ideal.Read.val_main_v22]
  simp only [attn_root]
  blk_point [iblk, V, idx_val t]

/-- A row's part of the gradient at the normed stream: one block of the inner columns. -/
theorem point (c : Dev nD) (t : Fin cfg0.N) {a : FVec Ideal S256x1024 .f32} {d : FVec Ideal S256x512 .bf16} {w : FVec Ideal S1024x512 .bf16}
    (h : ∀ (r : Fin 256) (k : Fin 1024), k0_pay22 a d w (ix2 r k) = Cert.Reference1Ideal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k))
    (hm : ∀ r k, IsReal (Cert.Reference1Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 r k))) (hg : ∀ r k, IsReal (Cert.Reference1Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r k))) (r : Fin 256) (k : Fin 1024) :
    k0_pay27 a d w (iblk m c 2 t) (iblk m c 3 t) (iblk m c 0 t) (ix2 r k) = Cert.Reference1Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  have hk : ∀ k : Fin 1024, k0_pay22 a d w (ix2 r k) * iblk m c 3 t (ix3 (0 : Fin 1) (0 : Fin 1) k) = Cert.Reference1Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := fun k => by
    rw [h]
    pointwise [Cert.Reference1Ideal.Read.val_main_v3, Cert.Reference1Ideal.Read.val_main_v4, Cert.Reference1Ideal.Read.val_main_v5, Cert.Reference1Ideal.Read.val_main_v27, Cert.Reference1Ideal.Read.val_main_v28, Cert.Reference1Ideal.Read.val_main_v29, Cert.Reference1Ideal.Read.val_main_v63]
    blk_point [iblk, V, idx_val t]
  rw [dx_eq _ _ _ _ _ _ _ _ _ hm hg, ← n1024_val]
  pointwise [k0_pay27]
  simp only [hk, root, normed]
  blk_point [iblk, V, idx_val t]

/-- The tiles of the inner activations' gradient, as the body names them. -/
theorem tile_0 (a : Vec Ideal S256x1024 .bf16) (w : Vec Ideal S1x512x1024 .bf16) (u : Vec Ideal S256x512 .bf16) : k0_pay7 a w u = k0_pay15 (k0_pay6 a) w u := rfl
theorem tile_1 (a : Vec Ideal S256x1024 .bf16) (w : Vec Ideal S1x512x1024 .bf16) (u : Vec Ideal S256x512 .bf16) : k0_pay8 a w u = k0_pay15 (k0_pay6 a) w u := rfl
theorem tile_2 (a : Vec Ideal S256x1024 .bf16) (w : Vec Ideal S1x512x1024 .bf16) (u : Vec Ideal S256x512 .bf16) : k0_pay10 (k0_pay9 a w) u = k0_pay15 (k0_pay6 a) w u := rfl
theorem tile_3 (a : Vec Ideal S256x1024 .bf16) (w : Vec Ideal S1x512x1024 .bf16) (u : Vec Ideal S256x512 .bf16) : k0_pay11 a w u = k0_pay15 a w u := rfl
theorem tile_4 (a : Vec Ideal S256x1024 .bf16) (w : Vec Ideal S1x512x1024 .bf16) (u : Vec Ideal S256x512 .bf16) : k0_pay13 (k0_pay12 a w u) = k0_pay15 a w u := rfl
theorem tile_5 (a : Vec Ideal S256x1024 .bf16) (w : Vec Ideal S1x512x1024 .bf16) (u : Vec Ideal S256x512 .bf16) : k0_pay14 a w u = k0_pay15 a w u := rfl
theorem tile_7 (a : Vec Ideal S256x1024 .bf16) (w : Vec Ideal S1x512x1024 .bf16) (u : Vec Ideal S256x512 .bf16) : k0_pay17 (k0_pay16 a w) u = k0_pay15 a w u := rfl

/-- The first seven tiles' products with the up projection, as the body adds them. -/
def seven (c : Dev nD) (t : Fin cfg0.N) : FVec Ideal S256x1024 .f32 :=
  k0_pay19 (k0_pay18 (k0_pay7 (iblk m c 1 t) (View.ld (iblk m c 9 t) (Rect.unit ![0, 0, 0] ![1, 512, 1024] inb_S1x4096x1024_S1x512x1024_0_0_0)) (View.ld (iblk m c 4 t) (Rect.unit ![0, 0] ![256, 512] inb_S256x4096_S256x512_0_0))) (View.ld (iblk m c 8 t) (Rect.unit ![0, 0, 0, 0] ![1, 1, 1024, 512] inb_S1x8x1024x512_S1x1x1024x512_0_0_0_0)) (k0_pay8 (iblk m c 1 t) (View.ld (iblk m c 9 t) (Rect.unit ![0, 512, 0] ![1, 512, 1024] inb_S1x4096x1024_S1x512x1024_0_512_0)) (View.ld (iblk m c 4 t) (Rect.unit ![0, 512] ![256, 512] inb_S256x4096_S256x512_0_512))) (View.ld (iblk m c 8 t) (Rect.unit ![0, 1, 0, 0] ![1, 1, 1024, 512] inb_S1x8x1024x512_S1x1x1024x512_0_1_0_0)) (k0_pay10 (k0_pay9 (iblk m c 1 t) (View.ld (iblk m c 9 t) (Rect.unit ![0, 1024, 0] ![1, 512, 1024] inb_S1x4096x1024_S1x512x1024_0_1024_0))) (View.ld (iblk m c 4 t) (Rect.unit ![0, 1024] ![256, 512] inb_S256x4096_S256x512_0_1024))) (View.ld (iblk m c 8 t) (Rect.unit ![0, 2, 0, 0] ![1, 1, 1024, 512] inb_S1x8x1024x512_S1x1x1024x512_0_2_0_0)))
    (k0_pay11 (k0_pay6 (iblk m c 1 t)) (View.ld (iblk m c 9 t) (Rect.unit ![0, 1536, 0] ![1, 512, 1024] inb_S1x4096x1024_S1x512x1024_0_1536_0)) (View.ld (iblk m c 4 t) (Rect.unit ![0, 1536] ![256, 512] inb_S256x4096_S256x512_0_1536))) (View.ld (iblk m c 8 t) (Rect.unit ![0, 3, 0, 0] ![1, 1, 1024, 512] inb_S1x8x1024x512_S1x1x1024x512_0_3_0_0)) (k0_pay13 (k0_pay12 (k0_pay6 (iblk m c 1 t)) (View.ld (iblk m c 9 t) (Rect.unit ![0, 2048, 0] ![1, 512, 1024] inb_S1x4096x1024_S1x512x1024_0_2048_0)) (View.ld (iblk m c 4 t) (Rect.unit ![0, 2048] ![256, 512] inb_S256x4096_S256x512_0_2048)))) (View.ld (iblk m c 8 t) (Rect.unit ![0, 4, 0, 0] ![1, 1, 1024, 512] inb_S1x8x1024x512_S1x1x1024x512_0_4_0_0)) (k0_pay14 (k0_pay6 (iblk m c 1 t)) (View.ld (iblk m c 9 t) (Rect.unit ![0, 2560, 0] ![1, 512, 1024] inb_S1x4096x1024_S1x512x1024_0_2560_0)) (View.ld (iblk m c 4 t) (Rect.unit ![0, 2560] ![256, 512] inb_S256x4096_S256x512_0_2560))) (View.ld (iblk m c 8 t) (Rect.unit ![0, 5, 0, 0] ![1, 1, 1024, 512] inb_S1x8x1024x512_S1x1x1024x512_0_5_0_0)) (k0_pay15 (k0_pay6 (iblk m c 1 t)) (View.ld (iblk m c 9 t) (Rect.unit ![0, 3072, 0] ![1, 512, 1024] inb_S1x4096x1024_S1x512x1024_0_3072_0)) (View.ld (iblk m c 4 t) (Rect.unit ![0, 3072] ![256, 512] inb_S256x4096_S256x512_0_3072))) (View.ld (iblk m c 8 t) (Rect.unit ![0, 6, 0, 0] ![1, 1, 1024, 512] inb_S1x8x1024x512_S1x1x1024x512_0_6_0_0))

/-- The last tile and its block of the up projection. -/
def last_tile (c : Dev nD) (t : Fin cfg0.N) : FVec Ideal S256x512 .bf16 := k0_pay20 (k0_pay17 (k0_pay16 (k0_pay6 (iblk m c 1 t)) (View.ld (iblk m c 9 t) (Rect.unit ![0, 3584, 0] ![1, 512, 1024] inb_S1x4096x1024_S1x512x1024_0_3584_0))) (View.ld (iblk m c 4 t) (Rect.unit ![0, 3584] ![256, 512] inb_S256x4096_S256x512_0_3584)))
def last_weights (c : Dev nD) (t : Fin cfg0.N) : FVec Ideal S1024x512 .bf16 := k0_pay21 (View.ld (iblk m c 8 t) (Rect.unit ![0, 7, 0, 0] ![1, 1, 1024, 512] inb_S1x8x1024x512_S1x1x1024x512_0_7_0_0))

/-- The gradient at the normed middle stream. -/
theorem grads (c : Dev nD) (t : Fin cfg0.N) (r : Fin 256) (k : Fin 1024) :
    k0_pay22 (seven m c t) (last_tile m c t) (last_weights m c t) (ix2 r k) = Cert.Reference1Ideal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  pointwise [seven, last_tile, last_weights, k0_pay18, k0_pay19, k0_pay20, k0_pay21, k0_pay22, Cert.Reference1Ideal.Read.val_main_v61]
  simp (disch := decide) only [tile_0, tile_1, tile_2, tile_3, tile_4, tile_5, tile_7, tile]
  simp only [up]
  refine Eq.trans ?_ (Blocks.sum_eight fun l : Fin 4096 => Cert.Reference1Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ l) * weight m c k l)
  iterate 7 refine congrArg₂ (· + ·) ?_ ?_
  · refine Finset.sum_congr rfl fun x _ => ?_
    simp only [Fin.val_zero, Nat.mul_zero, Nat.zero_add]
  all_goals exact Finset.sum_congr rfl fun x _ => congrArg₂ (· * ·) rfl (congrArg (weight m c k) (Fin.ext (by simp)))

/-- A row of the gradient through the output projection. -/
theorem projected (c : Dev nD) (t : Fin cfg0.N) {a : FVec Ideal S256x1024 .f32} {d : FVec Ideal S256x512 .bf16} {w : FVec Ideal S1024x512 .bf16}
    (h : ∀ (r : Fin 256) (k : Fin 1024), k0_pay27 a d w (iblk m c 2 t) (iblk m c 3 t) (iblk m c 0 t) (ix2 r k) = Cert.Reference1Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k)) (r : Fin 256) (k : Fin 1024) :
    k0_pay29 a d w (iblk m c 2 t) (iblk m c 3 t) (iblk m c 0 t) (iblk m c 7 t) (ix2 r k) = Cert.Reference1Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  pointwise [k0_pay29, k0_pay28, Cert.Reference1Ideal.Read.val_main_v81]
  simp only [h]
  blk_point [iblk, V, idx_val t]

/-- The recurrence's half of it. -/
theorem rec_half (c : Dev nD) (t : Fin cfg0.N) {b : FVec Ideal S256x1024 .f32} (h : ∀ (r : Fin 256) (k : Fin 1024), b (ix2 r k) = Cert.Reference1Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k)) (r : Fin 256) (k : Fin 512) :
    k0_pay30 b (ix2 r k) = Cert.Reference1Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  pointwise [k0_pay30, Cert.Reference1Ideal.Read.val_main_v83]
  exact h _ _

/-- The attention's half of it. -/
theorem attn_half (c : Dev nD) (t : Fin cfg0.N) {b : FVec Ideal S256x1024 .f32} (h : ∀ (r : Fin 256) (k : Fin 1024), b (ix2 r k) = Cert.Reference1Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k)) (r : Fin 256) (k : Fin 512) :
    k0_pay31 b (ix2 r k) = Cert.Reference1Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  pointwise [k0_pay31, Cert.Reference1Ideal.Read.val_main_v82]
  exact h _ _

/-- The gradient of the attention's output at one place. -/
theorem attn_point (c : Dev nD) (t : Fin cfg0.N) {b : FVec Ideal S256x1024 .f32} (h : ∀ (r : Fin 256) (k : Fin 1024), b (ix2 r k) = Cert.Reference1Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k))
    (h1 : ∀ i, IsReal ((m ((c : Thread nD τ).loc main_arg1)) i)) (hg : ∀ r k, IsReal (Cert.Reference1Ideal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r k))) (r : Fin 256) (k : Fin 512) :
    k0_pay34 b (iblk m c 5 t) (iblk m c 6 t) (ix2 r k) = Cert.Reference1Ideal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  have hk : ∀ k : Fin 512, k0_pay31 b (ix2 r k) * iblk m c 6 t (ix3 (0 : Fin 1) (0 : Fin 1) k) = Cert.Reference1Ideal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := fun k => by
    rw [attn_half m c t h]
    pointwise [Cert.Reference1Ideal.Read.val_main_v0, Cert.Reference1Ideal.Read.val_main_v1, Cert.Reference1Ideal.Read.val_main_v2, Cert.Reference1Ideal.Read.val_main_v7, Cert.Reference1Ideal.Read.val_main_v8, Cert.Reference1Ideal.Read.val_main_v9, Cert.Reference1Ideal.Read.val_main_v85]
    blk_point [iblk, V, idx_val t]
  rw [dattn_eq _ _ _ _ _ _ _ _ _ h1 hg, ← n512_val]
  pointwise [k0_pay34]
  simp only [hk, attn_root, attn_normed]

/-- The products of a row's gradient and attention output. -/
theorem product (c : Dev nD) (t : Fin cfg0.N) {b : FVec Ideal S256x1024 .f32} (h : ∀ (r : Fin 256) (k : Fin 512), k0_pay34 b (iblk m c 5 t) (iblk m c 6 t) (ix2 r k) = Cert.Reference1Ideal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k))
    (r : Fin 256) (k : Fin 512) : k0_pay36 b (iblk m c 5 t) (iblk m c 6 t) (ix2 r k) = Cert.Reference1Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  pointwise [k0_pay36, Cert.Reference1Ideal.Read.val_main_v102]
  rw [h]
  blk_point [iblk, V, idx_val t]

/-- One grid point's part of the gradient of the feed-forward norm's gain. -/
theorem part (c : Dev nD) (t : Fin cfg0.N) {a : FVec Ideal S256x1024 .f32} {d : FVec Ideal S256x512 .bf16} {w : FVec Ideal S1024x512 .bf16}
    (h : ∀ (r : Fin 256) (k : Fin 1024), k0_pay22 a d w (ix2 r k) = Cert.Reference1Ideal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k)) (p : Fin 8) (k : Fin 1024) :
    k0_pay2 (k0_pay26 a d w (iblk m c 2 t)) (ix2 p k) = ∑ x : Fin 32, Cert.Reference1Ideal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨(t.val * 32 + x.val) * 8 + p.val, copy_lt t x p⟩ k) := by
  pointwise [k0_pay2, k0_pay26, Cert.Reference1Ideal.Read.val_main_v62]
  simp only [h, normed]
  refine Finset.sum_congr rfl fun x _ => ?_
  rw [mul_comm]
  blk_point []

/-- One grid point's part of the gradient of the attention norm's gain. -/
theorem attn_part (c : Dev nD) (t : Fin cfg0.N) {b : FVec Ideal S256x1024 .f32} (h : ∀ (r : Fin 256) (k : Fin 1024), b (ix2 r k) = Cert.Reference1Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k)) (p : Fin 8) (k : Fin 512) :
    k0_pay4 (k0_pay35 b (iblk m c 5 t)) (ix2 p k) = ∑ x : Fin 32, Cert.Reference1Ideal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨(t.val * 32 + x.val) * 8 + p.val, copy_lt t x p⟩ k) := by
  pointwise [k0_pay4, k0_pay35, Cert.Reference1Ideal.Read.val_main_v84]
  simp only [attn_half m c t h, attn_normed]
  refine Finset.sum_congr rfl fun x _ => ?_
  rw [mul_comm]
  blk_point []

/-- A later point adds its part to what is there. -/
theorem carried (a : FVec Ideal S256x1024 .f32) (acc : FVec Ideal S8x1024 .f32) (j : S8x1024.Idx) : k0_pay3 a acc j = acc j + k0_pay2 a j := by
  obtain ⟨p, k, rfl⟩ : ∃ (p : Fin 8) (k : Fin 1024), j = ix2 p k := ⟨j 0, j 1, eq_ix2 j⟩
  pointwise [k0_pay3, k0_pay2]

theorem attn_carried (a : FVec Ideal S256x512 .f32) (acc : FVec Ideal S8x512 .f32) (j : S8x512.Idx) : k0_pay5 a acc j = acc j + k0_pay4 a j := by
  obtain ⟨p, k, rfl⟩ : ∃ (p : Fin 8) (k : Fin 512), j = ix2 p k := ⟨j 0, j 1, eq_ix2 j⟩
  pointwise [k0_pay5, k0_pay4]

/-- The head of a channel, as the body computes it from the channel's number. -/
theorem head_val : ∀ x : Fin 512,
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) = BitVec.ofNat 32 (x.val / 64) := by
  decide +kernel

theorem same_head : ∀ a b : Fin 8, IntOp.cmpi CmpIPredicate.eq (BitVec.ofNat 32 a.val) (BitVec.ofNat 32 b.val) = if a.val = b.val then 1#1 else 0#1 := by
  decide +kernel

/-- The mask of the pairs of channels that lie in one head. -/
theorem mask (x y : Fin 512) :
    (k0_pay40 (iota .tc S512x512 32 [0] iota_S512x512_d0_w32) (iota .tc S512x512 32 [1] iota_S512x512_d1_w32) 64#32 k0_pay37 k0_pay38 k0_pay39 : FVec Ideal S512x512 .bf16) (ix2 x y)
      = if x.val / 64 = y.val / 64 then 1 else 0 := by
  pointwise [k0_pay40, k0_pay37, k0_pay38, k0_pay39]
  simp only [head_val]
  rw [same_head ⟨x.val / 64, by omega⟩ ⟨y.val / 64, by omega⟩]
  by_cases h : x.val / 64 = y.val / 64 <;> simp [h, Scalar.select]

/-- A row times the mask is the sum over the head's channels. -/
theorem head_sum (P : Fin 512 → EReal) (y : Fin 512) :
    (∑ l : Fin 512, P l * (if l.val / 64 = y.val / 64 then 1 else 0)) = ∑ x : Fin 64, P ⟨y.val / 64 * 64 + x.val, by omega⟩ := by
  rw [← Fin.sum_mul_add_fin 8 64 fun l : Fin 512 => P l * (if l.val / 64 = y.val / 64 then 1 else 0)]
  refine (Finset.sum_eq_single (⟨y.val / 64, by omega⟩ : Fin 8) (fun a _ ha => Finset.sum_eq_zero fun x _ => ?_) (fun h => absurd (Finset.mem_univ _) h)).trans
    (Finset.sum_congr rfl fun x _ => ?_)
  · have : ¬ (a.val * 64 + x.val) / 64 = y.val / 64 := fun e => ha (Fin.ext (by show a.val = y.val / 64; omega))
    simp only [this, if_false, mul_zero]
  · have : (y.val / 64 * 64 + x.val) / 64 = y.val / 64 := by omega
    simp only [this, if_true, mul_one]

/-- The sums over a head of the gradient times the attention's output, at each of the head's channels. -/
theorem head_point (c : Dev nD) (t : Fin cfg0.N) {a : FVec Ideal S256x512 .f32} (h : ∀ (r : Fin 256) (k : Fin 512), a (ix2 r k) = Cert.Reference1Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k))
    (hr : ∀ (r : Fin 4096) (k : Fin 512), IsReal (Cert.Reference1Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r k))) (r : Fin 256) (y : Fin 512) :
    k0_pay1 a (k0_pay40 (iota .tc S512x512 32 [0] iota_S512x512_d0_w32) (iota .tc S512x512 32 [1] iota_S512x512_d1_w32) 64#32 k0_pay37 k0_pay38 k0_pay39)
      (k0_pay41 a) (k0_pay42 a) (ix2 r y) = Cert.Reference1Ideal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ y) := by
  rw [delta_eq]
  pointwise [k0_pay1, k0_pay41, k0_pay42]
  simp only [h, (hr _ _).sub_self, zero_mul, Finset.sum_const_zero, add_zero]
  exact (Finset.sum_congr rfl fun l _ => congrArg (Cert.Reference1Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ l) * ·) (mask l y)).trans (head_sum (fun l => Cert.Reference1Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ l)) y)

/-- The gradient through the output projection, as the body computes it. -/
def proj (c : Dev nD) (t : Fin cfg0.N) : FVec Ideal S256x1024 .f32 :=
  k0_pay29 (seven m c t) (last_tile m c t) (last_weights m c t) (iblk m c 2 t) (iblk m c 3 t) (iblk m c 0 t) (iblk m c 7 t)

/-- The products of the attention's gradient and output, as the body computes them. -/
def prods (c : Dev nD) (t : Fin cfg0.N) : FVec Ideal S256x512 .f32 := k0_pay36 (proj m c t) (iblk m c 5 t) (iblk m c 6 t)

/-! ## What a grid point leaves in each window -/

theorem left_10 (c : Dev nD) (t : Fin cfg0.N) : (outsAt0 m c t.val t.isLt).1 = k0_pay27 (seven m c t) (last_tile m c t) (last_weights m c t) (iblk m c 2 t) (iblk m c 3 t) (iblk m c 0 t) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

theorem left_11 (c : Dev nD) (t : Fin cfg0.N) : (outsAt0 m c t.val t.isLt).2.1 = k0_pay28 (seven m c t) (last_tile m c t) (last_weights m c t) (iblk m c 2 t) (iblk m c 3 t) (iblk m c 0 t) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

theorem left_13 (c : Dev nD) (t : Fin cfg0.N) : (outsAt0 m c t.val t.isLt).2.2.2.1 = k0_pay30 (proj m c t) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

theorem left_14 (c : Dev nD) (t : Fin cfg0.N) : (outsAt0 m c t.val t.isLt).2.2.2.2.1 = k0_pay34 (proj m c t) (iblk m c 5 t) (iblk m c 6 t) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

theorem left_15 (c : Dev nD) (t : Fin cfg0.N) : (outsAt0 m c t.val t.isLt).2.2.2.2.2.1 = k0_pay1 (prods m c t) (k0_pay40 (iota .tc S512x512 32 [0] iota_S512x512_d0_w32) (iota .tc S512x512 32 [1] iota_S512x512_d1_w32) 64#32 k0_pay37 k0_pay38 k0_pay39)
      (k0_pay41 (prods m c t)) (k0_pay42 (prods m c t)) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

/-- The eight tiles of the inner activations' gradient. -/
theorem left_12 (c : Dev nD) (t : Fin cfg0.N) (y : S256x4096.Idx) : (outsAt0 m c t.val t.isLt).2.2.1 y = Cert.Reference1Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + (y 0).val, row_lt t (y 0)⟩ (y 1)) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    frame_open
    frame_out
    simp (disch := decide) only [tile_0, tile_1, tile_2, tile_3, tile_4, tile_5, tile_7]
    canon_tiles x hx
    all_goals
      obtain ⟨r, k, rfl⟩ : ∃ (r : Fin 256) (k : Fin 512), x = ix2 r k := ⟨x 0, x 1, eq_ix2 x⟩
      simp only [ix2_0, ix2_1] at hx0 hx1
      refine (tile m c t _ (by decide) _ _ r k).trans ?_
      blk_point []

theorem narrow (a : FVec Ideal S256x1024 .f32) (d : FVec Ideal S256x512 .bf16) (w : FVec Ideal S1024x512 .bf16) (e : Vec Ideal S256x1024 .f32) (f : Vec Ideal S1x1x1024 .f32)
    (g : Vec Ideal S256x1024 .f32) (r : Fin 256) (k : Fin 1024) : k0_pay28 a d w e f g (ix2 r k) = k0_pay27 a d w e f g (ix2 r k) := by
  pointwise [k0_pay28]

/-! ## The arrays after the run -/

/-- The gradient of the stream at the middle of the layer. -/
theorem final10 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 10 (cfgs 0).N = Cert.Reference1Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_covers 10 _ (by decide +kernel) fun (t : Fin cfg0.N) hf y => ?_
  have hq := point m c t (grads m c t) hm hg (y 0) (y 1)
  blk_simp; rw [after0_10, left_10]
  refine (congrArg _ (eq_ix2 y)).trans ?_
  refine hq.trans ?_
  blk_point [idx_val t]

/-- The same in the narrow format. -/
theorem final11 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 11 (cfgs 0).N = Cert.Reference1Ideal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_covers 11 _ (by decide +kernel) fun (t : Fin cfg0.N) hf y => ?_
  have hq := point m c t (grads m c t) hm hg (y 0) (y 1)
  blk_simp; rw [after0_11, left_11]
  refine (congrArg _ (eq_ix2 y)).trans ?_
  refine (narrow _ _ _ _ _ _ _ _).trans (hq.trans ?_)
  pointwise [Cert.Reference1Ideal.Read.val_main_v107]
  blk_point [idx_val t]

/-- The gradient of the inner activations in the narrow format. -/
theorem final12 (c : Dev nD) : (dats m 0 c).arrAt 12 (cfgs 0).N = Cert.Reference1Ideal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun (t : Fin cfg0.N) hf y => ?_
  have hq := left_12 m c t y
  blk_simp; rw [after0_12, left_12]
  pointwise [Cert.Reference1Ideal.Read.val_main_v108]
  blk_point [idx_val t]

/-- The gradient of the recurrence's output. -/
theorem final13 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 13 (cfgs 0).N = Cert.Reference1Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_covers 13 _ (by decide +kernel) fun (t : Fin cfg0.N) hf y => ?_
  have hb : ∀ (r : Fin 256) (k : Fin 1024), proj m c t (ix2 r k) = Cert.Reference1Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := projected m c t (point m c t (grads m c t) hm hg)
  have hq := rec_half m c t hb (y 0) (y 1)
  blk_simp; rw [after0_13, left_13]
  refine (congrArg _ (eq_ix2 y)).trans ?_
  refine hq.trans ?_
  blk_point [idx_val t]

/-- The gradient of the attention's output. -/
theorem final14 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 14 (cfgs 0).N = Cert.Reference1Ideal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_covers 14 _ (by decide +kernel) fun (t : Fin cfg0.N) hf y => ?_
  have hb : ∀ (r : Fin 256) (k : Fin 1024), proj m c t (ix2 r k) = Cert.Reference1Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := projected m c t (point m c t (grads m c t) hm hg)
  have hq := attn_point m c t hb h1 ha (y 0) (y 1)
  blk_simp; rw [after0_14, left_14]
  refine (congrArg _ (eq_ix2 y)).trans ?_
  refine hq.trans ?_
  blk_point [idx_val t]

/-- The sums over a head of that gradient times the output. -/
theorem final15 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 15 (cfgs 0).N = Cert.Reference1Ideal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_covers 15 _ (by decide +kernel) fun (t : Fin cfg0.N) hf y => ?_
  have hb : ∀ (r : Fin 256) (k : Fin 1024), proj m c t (ix2 r k) = Cert.Reference1Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := projected m c t (point m c t (grads m c t) hm hg)
  have hq := head_point m c t (product m c t (attn_point m c t hb h1 ha)) hd (y 0) (y 1)
  blk_simp; rw [after0_15, left_15]
  refine (congrArg _ (eq_ix2 y)).trans ?_
  refine hq.trans ?_
  blk_point [idx_val t]

/-- The gradient of the eight copies of the feed-forward norm's gain. -/
theorem final16 (c : Dev nD) : (dats m 0 c).arrAt 16 (cfgs 0).N = Cert.Reference1Ideal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.2.1) 16 (fun _ => 0)
    (fun t j => k0_pay2 (k0_pay26 (seven m c t) (last_tile m c t) (last_weights m c t) (iblk m c 2 t)) j)
    (fun t h j => by
      have ht : t.val < 16 := lt_of_lt_of_eq t.isLt (show cfg0.N = 16 from N_0)
      rw [outsAt0_A m c t h (by omega) h (by omega)]
      frame_open
      simp (disch := decide) only [↓ View.readCov_skip, ↓ View.readCov_cons_toLoadRect, ↓ View.readCov_fill]
      frame_out
      exact (zero_add _).symm)
    (fun t h j => by
      have ht : t.val < 16 := lt_of_lt_of_eq t.isLt (show cfg0.N = 16 from N_0)
      rw [outsAt0_B m c t h (by omega) h (by omega)]
      frame_open
      simp (disch := decide) only [↓ View.readCov_skip, ↓ View.readCov_cons_toLoadRect, ↓ View.readCov_fill]
      frame_out
      exact carried _ _ j)
    (le_of_eq N_0) t0_15 rfl j, zero_add]
  obtain ⟨p, k, rfl⟩ : ∃ (p : Fin 8) (k : Fin 1024), j = ix2 p k := ⟨j 0, j 1, eq_ix2 j⟩
  exact (Finset.sum_congr rfl fun t _ => part m c t (grads m c t) p k).trans (dgain_eq _ _ _ _ _ _ _ _ _ p k)

/-- The gradient of the eight copies of the attention norm's gain. -/
theorem final17 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 17 (cfgs 0).N = Cert.Reference1Ideal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_after_last 17 t0_15 (by decide +kernel) _ fun j => ?_
  blk_simp
  rw [after0_17, Pipeline.eq_sum_fin_of_reset_step_apply_last (fun n h => (outsAt0 m c n h).2.2.2.2.2.2.2) 16 (fun _ => 0)
    (fun t j => k0_pay4 (k0_pay35 (proj m c t) (iblk m c 5 t)) j)
    (fun t h j => by
      have ht : t.val < 16 := lt_of_lt_of_eq t.isLt (show cfg0.N = 16 from N_0)
      rw [outsAt0_A m c t h (by omega) h (by omega)]
      frame_open
      simp (disch := decide) only [↓ View.readCov_skip, ↓ View.readCov_cons_toLoadRect, ↓ View.readCov_fill]
      frame_out
      exact (zero_add _).symm)
    (fun t h j => by
      have ht : t.val < 16 := lt_of_lt_of_eq t.isLt (show cfg0.N = 16 from N_0)
      rw [outsAt0_B m c t h (by omega) h (by omega)]
      frame_open
      simp (disch := decide) only [↓ View.readCov_skip, ↓ View.readCov_cons_toLoadRect, ↓ View.readCov_fill]
      frame_out
      exact attn_carried _ _ j)
    (le_of_eq N_0) t0_15 rfl j, zero_add]
  obtain ⟨p, k, rfl⟩ : ∃ (p : Fin 8) (k : Fin 512), j = ix2 p k := ⟨j 0, j 1, eq_ix2 j⟩
  exact (Finset.sum_congr rfl fun t _ => attn_part m c t (projected m c t (point m c t (grads m c t) hm hg)) p k).trans (dattn_gain_eq _ _ _ _ _ _ _ _ _ p k)

end Cert.Kernel1Ideal.Value
end
-- ==== Proof.Value10.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack
public import Idealize.ShloMosaic.Lib.StableHlo.ReadAt

set_option maxRecDepth 16384

@[expose] public noncomputable section

open Idealize.ShloMosaic Idealize.ShloMosaic.TcCoe Idealize.SL.Sem
open Idealize.ShloMosaic.Pipeline (Dat)
open scoped BigOperators

namespace Cert.Kernel10Ideal.Value

open Cert.Kernel10Ideal Cert.Kernel10Ideal.Gen

variable (m : (ℓ : Loc nD τ sig) → Buf (Elt Ideal) ℓ)

/-- The block indices of the windows at every grid point. -/
theorem idx_val : ∀ t : Fin cfg0.N, win0_0.index t = ![t.val, 0]
    ∧ win0_1.index t = ![0, 0, 0]
    ∧ win0_2.index t = ![0, 0, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem row_lt (t : Fin cfg0.N) (r : Fin 512) : 512 * t.val + r.val < 4096 := by
  have h : t.val < 8 := lt_of_lt_of_eq t.isLt (show cfg0.N = 8 from N_0)
  omega

/-- A row of the normalised stream. -/
theorem normed (c : Dev nD) (t : Fin cfg0.N) (r : Fin 512) (k : Fin 1024) :
    k0_pay2 (iblk m c 0 t) (iblk m c 1 t) (ix2 r k)
      = Cert.Reference10Ideal.Read.val_main_v14 (F := Ideal) (m ((c : Thread nD τ).loc main_arg0)) (m ((c : Thread nD τ).loc main_arg1)) (ix2 ⟨512 * t.val + r.val, row_lt t r⟩ k) := by
  pointwise [k0_pay2, Cert.Reference10Ideal.Read.val_main_v0, Cert.Reference10Ideal.Read.val_main_v1, Cert.Reference10Ideal.Read.val_main_v2, Cert.Reference10Ideal.Read.val_main_v3, Cert.Reference10Ideal.Read.val_main_v4, Cert.Reference10Ideal.Read.val_main_v5, Cert.Reference10Ideal.Read.val_main_v6, Cert.Reference10Ideal.Read.val_main_v7, Cert.Reference10Ideal.Read.val_main_v8, Cert.Reference10Ideal.Read.val_main_v9, Cert.Reference10Ideal.Read.val_main_v10, Cert.Reference10Ideal.Read.val_main_v11, Cert.Reference10Ideal.Read.val_main_v12, Cert.Reference10Ideal.Read.val_main_v13, Cert.Reference10Ideal.Read.val_main_v14, Cert.Reference10Ideal.Read.val_main_cst, Cert.Reference10Ideal.Read.val_main_cst_0, Cert.Reference10Ideal.Read.val_main_cst_1]
  blk_point [iblk, V, idx_val t]

/-- The second array after the run is the normalised stream. -/
theorem final6 (c : Dev nD) : (dats m 0 c).arrAt 6 (cfgs 0).N = Cert.Reference10Ideal.Read.val_main_v86 (F := Ideal) (m ((c : Thread nD τ).loc main_arg0)) (m ((c : Thread nD τ).loc main_arg1)) := by
  refine (dats m 0 c).arrAt_eq_of_covers 6 _ (by decide +kernel) fun t hf y => ?_
  blk_simp; rw [after0_6]
  frame_out
  refine (congrArg _ (eq_ix2 y)).trans ((normed m c t (y 0) (y 1)).trans ?_)
  pointwise [Cert.Reference10Ideal.Read.val_main_v86]
  blk_point [iblk, V, idx_val t]

/-- One block of columns of the projection. -/
theorem proj (c : Dev nD) (t : Fin cfg0.N) (o : ℕ) (ho : o ≤ 3072)
    (inb : ∀ a, ![0, o, 0] a + ![1, 512, 1024] a ≤ S1x3584x1024.size a) (r x : Fin 512) :
    k0_pay11 (k0_pay2 (iblk m c 0 t) (iblk m c 1 t))
        (View.ld (iblk m c 2 t) (Rect.unit ![0, o, 0] ![1, 512, 1024] inb)) (ix2 r x)
      = Cert.Reference10Ideal.Read.val_main_v15 (F := Ideal) (m ((c : Thread nD τ).loc main_arg0)) (m ((c : Thread nD τ).loc main_arg1)) (m ((c : Thread nD τ).loc main_arg2)) (ix2 ⟨512 * t.val + r.val, row_lt t r⟩ ⟨o + x.val, by omega⟩) := by
  pointwise [k0_pay11, Cert.Reference10Ideal.Read.val_main_v15]
  simp only [normed]
  blk_point [iblk, V, idx_val t]

/-- Repeating four times along the lanes. -/
theorem repeated (X : Vec Ideal S512x128 .f32) (r x : Fin 512) :
    k0_pay3 X (ix2 r x) = X (ix2 r ⟨x.val % 128, by omega⟩) := by
  pointwise [k0_pay3]
  split_ifs <;> exact congrArg (fun z => X (ix2 r z)) (Fin.ext (by simp only; omega))

/-- The angles on the kernel's side, before they are turned into its tables. -/
theorem host_cos (c : Dev nD) :
    (V m c main_v17 : FVec Ideal S4096x32 .f32) = Cert.Reference10Ideal.Read.val_main_v31 (F := Ideal) := by
  funext i
  obtain ⟨r, y, rfl⟩ : ∃ (r : Fin 4096) (y : Fin 32), i = ix2 r y := ⟨i 0, i 1, eq_ix2 i⟩
  pointwise [Cert.Reference10Ideal.Read.val_main_v18, Cert.Reference10Ideal.Read.val_main_v19, Cert.Reference10Ideal.Read.val_main_v20, Cert.Reference10Ideal.Read.val_main_v21, Cert.Reference10Ideal.Read.val_main_v22, Cert.Reference10Ideal.Read.val_main_v23, Cert.Reference10Ideal.Read.val_main_v24, Cert.Reference10Ideal.Read.val_main_v25, Cert.Reference10Ideal.Read.val_main_v26, Cert.Reference10Ideal.Read.val_main_v27, Cert.Reference10Ideal.Read.val_main_v28, Cert.Reference10Ideal.Read.val_main_v29, Cert.Reference10Ideal.Read.val_main_v30, Cert.Reference10Ideal.Read.val_main_v31, Cert.Reference10Ideal.Read.val_main_cst_2, Cert.Reference10Ideal.Read.val_main_cst_3]
  simp only [V]
  after_reads_at

theorem host_sin (c : Dev nD) :
    (V m c main_v18 : FVec Ideal S4096x32 .f32) = Cert.Reference10Ideal.Read.val_main_v33 (F := Ideal) := by
  funext i
  obtain ⟨r, y, rfl⟩ : ∃ (r : Fin 4096) (y : Fin 32), i = ix2 r y := ⟨i 0, i 1, eq_ix2 i⟩
  pointwise [Cert.Reference10Ideal.Read.val_main_v18, Cert.Reference10Ideal.Read.val_main_v19, Cert.Reference10Ideal.Read.val_main_v20, Cert.Reference10Ideal.Read.val_main_v21, Cert.Reference10Ideal.Read.val_main_v22, Cert.Reference10Ideal.Read.val_main_v23, Cert.Reference10Ideal.Read.val_main_v24, Cert.Reference10Ideal.Read.val_main_v25, Cert.Reference10Ideal.Read.val_main_v26, Cert.Reference10Ideal.Read.val_main_v27, Cert.Reference10Ideal.Read.val_main_v28, Cert.Reference10Ideal.Read.val_main_v29, Cert.Reference10Ideal.Read.val_main_v30, Cert.Reference10Ideal.Read.val_main_v31, Cert.Reference10Ideal.Read.val_main_v32, Cert.Reference10Ideal.Read.val_main_v33, Cert.Reference10Ideal.Read.val_main_cst_2, Cert.Reference10Ideal.Read.val_main_cst_3]
  simp only [V]
  after_reads_at

/-- Two tables side by side, twice. -/
def pairs (X Y : FVec Ideal S4096x32 .f32) : FVec Ideal S4096x128 .f32 :=
  concatenate S4096x128 1 [⟨S4096x32, X⟩, ⟨S4096x32, Y⟩, ⟨S4096x32, X⟩, ⟨S4096x32, Y⟩] concatenates_S4096x32_S4096x32_S4096x32_S4096x32_S4096x128_d1

theorem pairs_apply (X Y : FVec Ideal S4096x32 .f32) (r : Fin 4096) (x : Fin 128) :
    pairs X Y (ix2 r x)
      = if x.val % 64 < 32 then X (ix2 r ⟨x.val % 32, by omega⟩) else Y (ix2 r ⟨x.val % 32, by omega⟩) := by
  pointwise [pairs]
  split_ifs
  all_goals first
    | (refine Eq.trans ?_ (if_pos (show x.val % 64 < 32 by omega)).symm; refine congrArg (fun z => X (ix2 r z)) (Fin.ext ?_); first | omega | (simp only; omega))
    | (refine Eq.trans ?_ (if_neg (show ¬ x.val % 64 < 32 by omega)).symm; refine congrArg (fun z => Y (ix2 r z)) (Fin.ext ?_); first | omega | (simp only; omega))

theorem cos_table (c : Dev nD) : V m c main_v19 = pairs (V m c main_v17) (V m c main_v17) := by
  unfold pairs
  rfl

theorem sin_table (c : Dev nD) : V m c main_v22 = pairs (Host.negf (V m c main_v18 : FVec Ideal S4096x32 .f32)) (V m c main_v18) := by
  unfold pairs
  rfl

theorem cos_pairs (c : Dev nD) : V m c main_v19 = pairs (Cert.Reference10Ideal.Read.val_main_v31 (F := Ideal) : FVec Ideal S4096x32 .f32) (Cert.Reference10Ideal.Read.val_main_v31 (F := Ideal) : FVec Ideal S4096x32 .f32) :=
  (cos_table m c).trans (congrArg (fun z => pairs z z) (host_cos m c))

theorem sin_pairs (c : Dev nD) : V m c main_v22 = pairs (Host.negf (Cert.Reference10Ideal.Read.val_main_v33 (F := Ideal) : FVec Ideal S4096x32 .f32)) (Cert.Reference10Ideal.Read.val_main_v33 (F := Ideal) : FVec Ideal S4096x32 .f32) :=
  (sin_table m c).trans (congrArg (fun z => pairs (Host.negf z) z) (host_sin m c))

/-- The kernel's table of cosines. -/
theorem cosines (c : Dev nD) (t : Fin cfg0.N) (r : Fin 512) (x : Fin 128) :
    iblk m c 3 t (ix2 r x) = Cert.Reference10Ideal.Read.val_main_v31 (F := Ideal) (ix2 ⟨512 * t.val + r.val, row_lt t r⟩ ⟨x.val % 32, by omega⟩) := by
  have h := pairs_apply (Cert.Reference10Ideal.Read.val_main_v31 (F := Ideal) : FVec Ideal S4096x32 .f32) (Cert.Reference10Ideal.Read.val_main_v31 (F := Ideal) : FVec Ideal S4096x32 .f32) ⟨512 * t.val + r.val, row_lt t r⟩ x
  rw [ite_self] at h
  rw [← h]
  simp only [iblk]
  rw [show V m c (Pipeline.arrRef spec0 3) = _ from cos_pairs m c]
  generalize pairs _ _ = X
  blk_ext [idx_val t]

/-- The kernel's table of sines, with the sign turned in the first half of each head. -/
theorem sines (c : Dev nD) (t : Fin cfg0.N) (r : Fin 512) (x : Fin 128) :
    iblk m c 4 t (ix2 r x) = if x.val % 64 < 32 then
        -Cert.Reference10Ideal.Read.val_main_v33 (F := Ideal) (ix2 ⟨512 * t.val + r.val, row_lt t r⟩ ⟨x.val % 32, by omega⟩)
      else Cert.Reference10Ideal.Read.val_main_v33 (F := Ideal) (ix2 ⟨512 * t.val + r.val, row_lt t r⟩ ⟨x.val % 32, by omega⟩) := by
  refine Eq.trans ?_ (pairs_apply (Host.negf (Cert.Reference10Ideal.Read.val_main_v33 (F := Ideal) : FVec Ideal S4096x32 .f32)) (Cert.Reference10Ideal.Read.val_main_v33 (F := Ideal) : FVec Ideal S4096x32 .f32) ⟨512 * t.val + r.val, row_lt t r⟩ x)
  simp only [iblk]
  rw [show V m c (Pipeline.arrRef spec0 4) = _ from sin_pairs m c]
  generalize pairs _ _ = X
  blk_ext [idx_val t]

/-- Whether a lane lies in the first half of its head. -/
theorem first_half : ∀ x : Fin 512, IntOp.cmpi CmpIPredicate.slt
              (Scalar.select
                (IntOp.andi
                  (IntOp.xori
                    (IntOp.cmpi CmpIPredicate.slt
                      (IntOp.remsi ArithUnit.vector (BitVec.ofNat 32 ↑x)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 ↑x)
                      (Scalar.select (Scalar.cmpi CmpIPredicate.eq 64#32 0#32) 1#32 64#32))
                    0#32))
                (IntOp.addi
                  (IntOp.remsi ArithUnit.vector (BitVec.ofNat 32 ↑x)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 ↑x)
                  (Scalar.select (Scalar.cmpi CmpIPredicate.eq 64#32 0#32) 1#32 64#32)))
              32#32 = if x.val % 64 < 32 then 1#1 else 0#1 := by
  decide +kernel

/-- One rotary pair: the kernel's turned-sign form against the two halves written out. -/
theorem turned (P : Fin 3584 → EReal) (C S : Fin 32 → EReal) (o : ℕ) (ho : o ≤ 3072) (x : Fin 512) :
    P ⟨o + x.val, by omega⟩ * C ⟨x.val % 128 % 32, by omega⟩
        + Scalar.select (if x.val % 64 < 32 then 1#1 else 0#1)
            (P ⟨o + (x.val + 512 - 480) % 512, by omega⟩) (P ⟨o + (x.val + 512 - 32) % 512, by omega⟩)
          * (if x.val % 128 % 64 < 32 then -S ⟨x.val % 128 % 32, by omega⟩ else S ⟨x.val % 128 % 32, by omega⟩)
      = if h : x.val % 64 < 32 then
          P ⟨o + x.val, by omega⟩ * C ⟨x.val % 64, h⟩ - P ⟨o + (x.val / 64 * 64 + (32 + x.val % 64)), by omega⟩ * S ⟨x.val % 64, h⟩
        else
          P ⟨o + (x.val / 64 * 64 + (x.val % 64 - 32)), by omega⟩ * S ⟨x.val % 64 - 32, by omega⟩
            + P ⟨o + (x.val / 64 * 64 + (32 + (x.val % 64 - 32))), by omega⟩ * C ⟨x.val % 64 - 32, by omega⟩ := by
  have e : x.val % 128 % 64 = x.val % 64 := by omega
  rw [e]
  by_cases h : x.val % 64 < 32
  · simp only [h, if_true, dif_pos]
    rw [sub_eq_add_neg, ← mul_neg]
    refine congrArg₂ _ (congrArg₂ _ rfl (congrArg C (Fin.ext (by simp only; omega)))) (congrArg₂ _ (congrArg P (Fin.ext ?_)) (congrArg (fun z => -S z) (Fin.ext (by simp only; omega))))
    simp only; omega
  · simp only [h, if_false, dif_neg, not_false_eq_true]
    rw [add_comm]
    refine congrArg₂ _ (congrArg₂ _ (congrArg P (Fin.ext ?_)) (congrArg S (Fin.ext (by simp only; omega)))) (congrArg₂ _ (congrArg P (Fin.ext ?_)) (congrArg C (Fin.ext (by simp only; omega))))
    · simp only; omega
    · simp only; omega

/-- The queries. -/
theorem queries (c : Dev nD) (t : Fin cfg0.N) (r x : Fin 512) :
    k0_pay10 (k0_pay4 (iblk m c 4 t)) (k0_pay5 (iblk m c 0 t) (iblk m c 1 t) (View.ld (iblk m c 2 t) r0_3)) (k0_pay6 (iblk m c 0 t) (iblk m c 1 t) (iblk m c 3 t) (View.ld (iblk m c 2 t) r0_3)) (Scalar.select (Scalar.cmpi .eq 64#32 0#32) 1#32 64#32) k0_pay7 k0_pay8 k0_pay9 (ix2 r x)
      = Cert.Reference10Ideal.Read.val_main_v49 (F := Ideal) (m ((c : Thread nD τ).loc main_arg0)) (m ((c : Thread nD τ).loc main_arg1)) (m ((c : Thread nD τ).loc main_arg2)) (ix3 ⟨512 * t.val + r.val, row_lt t r⟩ ⟨x.val / 64, by omega⟩ ⟨x.val % 64, by omega⟩) := by
  pointwise [k0_pay10, k0_pay6, k0_pay7, k0_pay8, k0_pay9, Cert.Reference10Ideal.Read.val_main_v16, Cert.Reference10Ideal.Read.val_main_v17, Cert.Reference10Ideal.Read.val_main_v34, Cert.Reference10Ideal.Read.val_main_v35, Cert.Reference10Ideal.Read.val_main_v36, Cert.Reference10Ideal.Read.val_main_v37, Cert.Reference10Ideal.Read.val_main_v38, Cert.Reference10Ideal.Read.val_main_v39, Cert.Reference10Ideal.Read.val_main_v40, Cert.Reference10Ideal.Read.val_main_v41, Cert.Reference10Ideal.Read.val_main_v42, Cert.Reference10Ideal.Read.val_main_v43, Cert.Reference10Ideal.Read.val_main_v44, Cert.Reference10Ideal.Read.val_main_v45, Cert.Reference10Ideal.Read.val_main_v46, Cert.Reference10Ideal.Read.val_main_v47, Cert.Reference10Ideal.Read.val_main_v48, Cert.Reference10Ideal.Read.val_main_v49, Cert.Reference10Ideal.Read.val_main_cst_4, Cert.Reference10Ideal.Read.val_main_v32]
  simp only [first_half]
  simp only [show k0_pay4 (F := Ideal) = k0_pay3 from rfl, show ∀ a b w, k0_pay5 (F := Ideal) a b w = k0_pay11 (k0_pay2 a b) w from fun _ _ _ => rfl,
    repeated, cosines, sines, r0_3]
  simp (disch := decide) only [proj]
  have h := turned (fun k => Cert.Reference10Ideal.Read.val_main_v15 (F := Ideal) (m ((c : Thread nD τ).loc main_arg0)) (m ((c : Thread nD τ).loc main_arg1)) (m ((c : Thread nD τ).loc main_arg2)) (ix2 ⟨512 * t.val + r.val, row_lt t r⟩ k))
    (fun k => (Cert.Reference10Ideal.Read.val_main_v31 (F := Ideal) : FVec Ideal S4096x32 .f32) (ix2 ⟨512 * t.val + r.val, row_lt t r⟩ k)) (fun k => (Cert.Reference10Ideal.Read.val_main_v33 (F := Ideal) : FVec Ideal S4096x32 .f32) (ix2 ⟨512 * t.val + r.val, row_lt t r⟩ k)) 0 (by decide) x
  simp only [Nat.zero_add] at h ⊢
  exact congrArg (· * _) h

/-- The keys. -/
theorem keys (c : Dev nD) (t : Fin cfg0.N) (r x : Fin 512) :
    k0_pay15 (k0_pay4 (iblk m c 4 t)) (k0_pay11 (k0_pay2 (iblk m c 0 t) (iblk m c 1 t)) (View.ld (iblk m c 2 t) r0_5)) (k0_pay12 (k0_pay2 (iblk m c 0 t) (iblk m c 1 t)) (k0_pay3 (iblk m c 3 t)) (View.ld (iblk m c 2 t) r0_5)) k0_pay13 k0_pay14 (ix2 r x)
      = Cert.Reference10Ideal.Read.val_main_v81 (F := Ideal) (m ((c : Thread nD τ).loc main_arg0)) (m ((c : Thread nD τ).loc main_arg1)) (m ((c : Thread nD τ).loc main_arg2)) (ix3 ⟨512 * t.val + r.val, row_lt t r⟩ ⟨x.val / 64, by omega⟩ ⟨x.val % 64, by omega⟩) := by
  pointwise [k0_pay15, k0_pay12, k0_pay13, k0_pay14, Cert.Reference10Ideal.Read.val_main_v50, Cert.Reference10Ideal.Read.val_main_v51, Cert.Reference10Ideal.Read.val_main_v66, Cert.Reference10Ideal.Read.val_main_v68, Cert.Reference10Ideal.Read.val_main_v69, Cert.Reference10Ideal.Read.val_main_v70, Cert.Reference10Ideal.Read.val_main_v71, Cert.Reference10Ideal.Read.val_main_v72, Cert.Reference10Ideal.Read.val_main_v73, Cert.Reference10Ideal.Read.val_main_v74, Cert.Reference10Ideal.Read.val_main_v75, Cert.Reference10Ideal.Read.val_main_v76, Cert.Reference10Ideal.Read.val_main_v77, Cert.Reference10Ideal.Read.val_main_v78, Cert.Reference10Ideal.Read.val_main_v79, Cert.Reference10Ideal.Read.val_main_v80, Cert.Reference10Ideal.Read.val_main_v81]
  simp only [first_half]
  simp only [show k0_pay4 (F := Ideal) = k0_pay3 from rfl, show Cert.Reference10Ideal.Read.val_main_v65 (F := Ideal) = Cert.Reference10Ideal.Read.val_main_v31 from rfl,
    show Cert.Reference10Ideal.Read.val_main_v67 (F := Ideal) = Cert.Reference10Ideal.Read.val_main_v33 from rfl, repeated, cosines, sines, r0_5]
  simp (disch := decide) only [proj]
  have h := turned (fun k => Cert.Reference10Ideal.Read.val_main_v15 (F := Ideal) (m ((c : Thread nD τ).loc main_arg0)) (m ((c : Thread nD τ).loc main_arg1)) (m ((c : Thread nD τ).loc main_arg2)) (ix2 ⟨512 * t.val + r.val, row_lt t r⟩ k))
    (fun k => (Cert.Reference10Ideal.Read.val_main_v31 (F := Ideal) : FVec Ideal S4096x32 .f32) (ix2 ⟨512 * t.val + r.val, row_lt t r⟩ k)) (fun k => (Cert.Reference10Ideal.Read.val_main_v33 (F := Ideal) : FVec Ideal S4096x32 .f32) (ix2 ⟨512 * t.val + r.val, row_lt t r⟩ k)) 512 (by decide) x
  exact h

/-- The columns of the result after the keys are the projection's own. -/
theorem others_out (c : Dev nD) (r : Fin 4096) (o : ℕ) (h : 1024 ≤ o) (h' : o ≤ 3072) (x : Fin 512) :
    Cert.Reference10Ideal.Read.val_main_v15 (F := Ideal) (m ((c : Thread nD τ).loc main_arg0)) (m ((c : Thread nD τ).loc main_arg1)) (m ((c : Thread nD τ).loc main_arg2)) (ix2 r ⟨o + x.val, by omega⟩) = Cert.Reference10Ideal.Read.val_main_v85 (F := Ideal) (m ((c : Thread nD τ).loc main_arg0)) (m ((c : Thread nD τ).loc main_arg1)) (m ((c : Thread nD τ).loc main_arg2)) (ix2 r ⟨o + x.val, by omega⟩) := by
  pointwise [Cert.Reference10Ideal.Read.val_main_v85, Cert.Reference10Ideal.Read.val_main_v84]
  rw [dif_neg (show ¬ o + x.val < 512 by omega), dif_neg (show ¬ o + x.val - 512 < 512 by omega)]
  refine congrArg (fun z => Cert.Reference10Ideal.Read.val_main_v15 (F := Ideal) (m ((c : Thread nD τ).loc main_arg0)) (m ((c : Thread nD τ).loc main_arg1)) (m ((c : Thread nD τ).loc main_arg2)) (ix2 r z)) (Fin.ext ?_)
  simp only; omega

theorem keys_out (c : Dev nD) (r : Fin 4096) (x : Fin 512) :
    Cert.Reference10Ideal.Read.val_main_v81 (F := Ideal) (m ((c : Thread nD τ).loc main_arg0)) (m ((c : Thread nD τ).loc main_arg1)) (m ((c : Thread nD τ).loc main_arg2)) (ix3 r ⟨x.val / 64, by omega⟩ ⟨x.val % 64, by omega⟩) = Cert.Reference10Ideal.Read.val_main_v85 (F := Ideal) (m ((c : Thread nD τ).loc main_arg0)) (m ((c : Thread nD τ).loc main_arg1)) (m ((c : Thread nD τ).loc main_arg2)) (ix2 r ⟨512 + x.val, by omega⟩) := by
  pointwise [Cert.Reference10Ideal.Read.val_main_v85, Cert.Reference10Ideal.Read.val_main_v83]

theorem queries_out (c : Dev nD) (r : Fin 4096) (x : Fin 512) :
    Cert.Reference10Ideal.Read.val_main_v49 (F := Ideal) (m ((c : Thread nD τ).loc main_arg0)) (m ((c : Thread nD τ).loc main_arg1)) (m ((c : Thread nD τ).loc main_arg2)) (ix3 r ⟨x.val / 64, by omega⟩ ⟨x.val % 64, by omega⟩) = Cert.Reference10Ideal.Read.val_main_v85 (F := Ideal) (m ((c : Thread nD τ).loc main_arg0)) (m ((c : Thread nD τ).loc main_arg1)) (m ((c : Thread nD τ).loc main_arg2)) (ix2 r ⟨x.val, by omega⟩) := by
  pointwise [Cert.Reference10Ideal.Read.val_main_v85, Cert.Reference10Ideal.Read.val_main_v82]

set_option maxHeartbeats 1600000 in
/-- The first array after the run: the turned queries, the turned keys and the other columns of the projection. -/
theorem final5 (c : Dev nD) : (dats m 0 c).arrAt 5 (cfgs 0).N = Cert.Reference10Ideal.Read.val_main_v85 (F := Ideal) (m ((c : Thread nD τ).loc main_arg0)) (m ((c : Thread nD τ).loc main_arg1)) (m ((c : Thread nD τ).loc main_arg2)) := by
  refine (dats m 0 c).arrAt_eq_of_covers 5 _ (by decide +kernel) fun (t : Fin cfg0.N) hf y => ?_
  blk_simp; rw [after0_5]
  unfold out0_5 k0_pay20 k0_pay21
  frame_out
  canon_tiles x h
  all_goals
    obtain ⟨r, k, rfl⟩ : ∃ (r k : Fin 512), x = ix2 r k := ⟨x 0, x 1, eq_ix2 x⟩
    simp only [ix2_0, ix2_1] at h0 h1
  iterate 5
    (simp only [show k0_pay1 (F := Ideal) = k0_pay11 from rfl, show k0_pay19 (F := Ideal) = k0_pay11 from rfl,
      show k0_pay18 (F := Ideal) = k0_pay11 from rfl, show k0_pay17 (F := Ideal) = k0_pay11 from rfl,
      show k0_pay16 (F := Ideal) = k0_pay11 from rfl, r0_15, r0_13, r0_11, r0_9, r0_7]
     simp (disch := decide) only [proj]
     rw [others_out m c _ _ (by decide) (by decide)]
     blk_point [idx_val t]
)
  · refine (keys m c t r k).trans ((keys_out m c _ k).trans ?_)
    blk_point [idx_val t]
  · refine (queries m c t r k).trans ((queries_out m c _ k).trans ?_)
    blk_point [idx_val t]

end Cert.Kernel10Ideal.Value
end
-- ==== Proof.Value11.lean ====
module

public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack
public import Idealize.ShloMosaic.Lib.StableHlo.ReadAt

set_option maxRecDepth 16384

@[expose] public noncomputable section

open Idealize.ShloMosaic Idealize.ShloMosaic.TcCoe Idealize.SL.Sem
open Idealize.ShloMosaic.Pipeline (Dat)
open scoped BigOperators

namespace Cert.Kernel11Ideal.Value

open Cert.Kernel11Ideal Cert.Kernel11Ideal.Gen

variable (m : (ℓ : Loc nD τ sig) → Buf (Elt Ideal) ℓ)

/-- The block indices of the windows at every grid point. -/
theorem idx_val : ∀ t : Fin cfg0.N, win0_0.index t = ![t.val, 0]
    ∧ win0_1.index t = ![1, 0, 0]
    ∧ win0_2.index t = ![0, 0, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem row_lt (t : Fin cfg0.N) (r : Fin 512) : 512 * t.val + r.val < 4096 := by
  have h : t.val < 8 := lt_of_lt_of_eq t.isLt (show cfg0.N = 8 from N_0)
  omega

/-- A row of the normalised stream. -/
theorem normed (c : Dev nD) (t : Fin cfg0.N) (r : Fin 512) (k : Fin 1024) :
    k0_pay2 (iblk m c 0 t) (iblk m c 1 t) (ix2 r k)
      = Cert.Reference11Ideal.Read.val_main_v14 (F := Ideal) (m ((c : Thread nD τ).loc main_arg0)) (m ((c : Thread nD τ).loc main_arg1)) (ix2 ⟨512 * t.val + r.val, row_lt t r⟩ k) := by
  pointwise [k0_pay2, Cert.Reference11Ideal.Read.val_main_v0, Cert.Reference11Ideal.Read.val_main_v1, Cert.Reference11Ideal.Read.val_main_v2, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9, Cert.Reference11Ideal.Read.val_main_v10, Cert.Reference11Ideal.Read.val_main_v11, Cert.Reference11Ideal.Read.val_main_v12, Cert.Reference11Ideal.Read.val_main_v13, Cert.Reference11Ideal.Read.val_main_v14, Cert.Reference11Ideal.Read.val_main_cst, Cert.Reference11Ideal.Read.val_main_cst_0, Cert.Reference11Ideal.Read.val_main_cst_1]
  blk_point [iblk, V, idx_val t]

/-- The second array after the run is the normalised stream. -/
theorem final6 (c : Dev nD) : (dats m 0 c).arrAt 6 (cfgs 0).N = Cert.Reference11Ideal.Read.val_main_v86 (F := Ideal) (m ((c : Thread nD τ).loc main_arg0)) (m ((c : Thread nD τ).loc main_arg1)) := by
  refine (dats m 0 c).arrAt_eq_of_covers 6 _ (by decide +kernel) fun t hf y => ?_
  blk_simp; rw [after0_6]
  frame_out
  refine (congrArg _ (eq_ix2 y)).trans ((normed m c t (y 0) (y 1)).trans ?_)
  pointwise [Cert.Reference11Ideal.Read.val_main_v86]
  blk_point [iblk, V, idx_val t]

/-- One block of columns of the projection. -/
theorem proj (c : Dev nD) (t : Fin cfg0.N) (o : ℕ) (ho : o ≤ 3072)
    (inb : ∀ a, ![0, o, 0] a + ![1, 512, 1024] a ≤ S1x3584x1024.size a) (r x : Fin 512) :
    k0_pay11 (k0_pay2 (iblk m c 0 t) (iblk m c 1 t))
        (View.ld (iblk m c 2 t) (Rect.unit ![0, o, 0] ![1, 512, 1024] inb)) (ix2 r x)
      = Cert.Reference11Ideal.Read.val_main_v15 (F := Ideal) (m ((c : Thread nD τ).loc main_arg0)) (m ((c : Thread nD τ).loc main_arg1)) (m ((c : Thread nD τ).loc main_arg2)) (ix2 ⟨512 * t.val + r.val, row_lt t r⟩ ⟨o + x.val, by omega⟩) := by
  pointwise [k0_pay11, Cert.Reference11Ideal.Read.val_main_v15]
  simp only [normed]
  blk_point [iblk, V, idx_val t]

/-- Repeating four times along the lanes. -/
theorem repeated (X : Vec Ideal S512x128 .f32) (r x : Fin 512) :
    k0_pay3 X (ix2 r x) = X (ix2 r ⟨x.val % 128, by omega⟩) := by
  pointwise [k0_pay3]
  split_ifs <;> exact congrArg (fun z => X (ix2 r z)) (Fin.ext (by simp only; omega))

/-- The angles on the kernel's side, before they are turned into its tables. -/
theorem host_cos (c : Dev nD) :
    (V m c main_v17 : FVec Ideal S4096x32 .f32) = Cert.Reference11Ideal.Read.val_main_v31 (F := Ideal) := by
  funext i
  obtain ⟨r, y, rfl⟩ : ∃ (r : Fin 4096) (y : Fin 32), i = ix2 r y := ⟨i 0, i 1, eq_ix2 i⟩
  pointwise [Cert.Reference11Ideal.Read.val_main_v18, Cert.Reference11Ideal.Read.val_main_v19, Cert.Reference11Ideal.Read.val_main_v20, Cert.Reference11Ideal.Read.val_main_v21, Cert.Reference11Ideal.Read.val_main_v22, Cert.Reference11Ideal.Read.val_main_v23, Cert.Reference11Ideal.Read.val_main_v24, Cert.Reference11Ideal.Read.val_main_v25, Cert.Reference11Ideal.Read.val_main_v26, Cert.Reference11Ideal.Read.val_main_v27, Cert.Reference11Ideal.Read.val_main_v28, Cert.Reference11Ideal.Read.val_main_v29, Cert.Reference11Ideal.Read.val_main_v30, Cert.Reference11Ideal.Read.val_main_v31, Cert.Reference11Ideal.Read.val_main_cst_2, Cert.Reference11Ideal.Read.val_main_cst_3]
  simp only [V]
  after_reads_at

theorem host_sin (c : Dev nD) :
    (V m c main_v18 : FVec Ideal S4096x32 .f32) = Cert.Reference11Ideal.Read.val_main_v33 (F := Ideal) := by
  funext i
  obtain ⟨r, y, rfl⟩ : ∃ (r : Fin 4096) (y : Fin 32), i = ix2 r y := ⟨i 0, i 1, eq_ix2 i⟩
  pointwise [Cert.Reference11Ideal.Read.val_main_v18, Cert.Reference11Ideal.Read.val_main_v19, Cert.Reference11Ideal.Read.val_main_v20, Cert.Reference11Ideal.Read.val_main_v21, Cert.Reference11Ideal.Read.val_main_v22, Cert.Reference11Ideal.Read.val_main_v23, Cert.Reference11Ideal.Read.val_main_v24, Cert.Reference11Ideal.Read.val_main_v25, Cert.Reference11Ideal.Read.val_main_v26, Cert.Reference11Ideal.Read.val_main_v27, Cert.Reference11Ideal.Read.val_main_v28, Cert.Reference11Ideal.Read.val_main_v29, Cert.Reference11Ideal.Read.val_main_v30, Cert.Reference11Ideal.Read.val_main_v31, Cert.Reference11Ideal.Read.val_main_v32, Cert.Reference11Ideal.Read.val_main_v33, Cert.Reference11Ideal.Read.val_main_cst_2, Cert.Reference11Ideal.Read.val_main_cst_3]
  simp only [V]
  after_reads_at

/-- Two tables side by side, twice. -/
def pairs (X Y : FVec Ideal S4096x32 .f32) : FVec Ideal S4096x128 .f32 :=
  concatenate S4096x128 1 [⟨S4096x32, X⟩, ⟨S4096x32, Y⟩, ⟨S4096x32, X⟩, ⟨S4096x32, Y⟩] concatenates_S4096x32_S4096x32_S4096x32_S4096x32_S4096x128_d1

theorem pairs_apply (X Y : FVec Ideal S4096x32 .f32) (r : Fin 4096) (x : Fin 128) :
    pairs X Y (ix2 r x)
      = if x.val % 64 < 32 then X (ix2 r ⟨x.val % 32, by omega⟩) else Y (ix2 r ⟨x.val % 32, by omega⟩) := by
  pointwise [pairs]
  split_ifs
  all_goals first
    | (refine Eq.trans ?_ (if_pos (show x.val % 64 < 32 by omega)).symm; refine congrArg (fun z => X (ix2 r z)) (Fin.ext ?_); first | omega | (simp only; omega))
    | (refine Eq.trans ?_ (if_neg (show ¬ x.val % 64 < 32 by omega)).symm; refine congrArg (fun z => Y (ix2 r z)) (Fin.ext ?_); first | omega | (simp only; omega))

theorem cos_table (c : Dev nD) : V m c main_v19 = pairs (V m c main_v17) (V m c main_v17) := by
  unfold pairs
  rfl

theorem sin_table (c : Dev nD) : V m c main_v22 = pairs (Host.negf (V m c main_v18 : FVec Ideal S4096x32 .f32)) (V m c main_v18) := by
  unfold pairs
  rfl

theorem cos_pairs (c : Dev nD) : V m c main_v19 = pairs (Cert.Reference11Ideal.Read.val_main_v31 (F := Ideal) : FVec Ideal S4096x32 .f32) (Cert.Reference11Ideal.Read.val_main_v31 (F := Ideal) : FVec Ideal S4096x32 .f32) :=
  (cos_table m c).trans (congrArg (fun z => pairs z z) (host_cos m c))

theorem sin_pairs (c : Dev nD) : V m c main_v22 = pairs (Host.negf (Cert.Reference11Ideal.Read.val_main_v33 (F := Ideal) : FVec Ideal S4096x32 .f32)) (Cert.Reference11Ideal.Read.val_main_v33 (F := Ideal) : FVec Ideal S4096x32 .f32) :=
  (sin_table m c).trans (congrArg (fun z => pairs (Host.negf z) z) (host_sin m c))

/-- The kernel's table of cosines. -/
theorem cosines (c : Dev nD) (t : Fin cfg0.N) (r : Fin 512) (x : Fin 128) :
    iblk m c 3 t (ix2 r x) = Cert.Reference11Ideal.Read.val_main_v31 (F := Ideal) (ix2 ⟨512 * t.val + r.val, row_lt t r⟩ ⟨x.val % 32, by omega⟩) := by
  have h := pairs_apply (Cert.Reference11Ideal.Read.val_main_v31 (F := Ideal) : FVec Ideal S4096x32 .f32) (Cert.Reference11Ideal.Read.val_main_v31 (F := Ideal) : FVec Ideal S4096x32 .f32) ⟨512 * t.val + r.val, row_lt t r⟩ x
  rw [ite_self] at h
  rw [← h]
  simp only [iblk]
  rw [show V m c (Pipeline.arrRef spec0 3) = _ from cos_pairs m c]
  generalize pairs _ _ = X
  blk_ext [idx_val t]

/-- The kernel's table of sines, with the sign turned in the first half of each head. -/
theorem sines (c : Dev nD) (t : Fin cfg0.N) (r : Fin 512) (x : Fin 128) :
    iblk m c 4 t (ix2 r x) = if x.val % 64 < 32 then
        -Cert.Reference11Ideal.Read.val_main_v33 (F := Ideal) (ix2 ⟨512 * t.val + r.val, row_lt t r⟩ ⟨x.val % 32, by omega⟩)
      else Cert.Reference11Ideal.Read.val_main_v33 (F := Ideal) (ix2 ⟨512 * t.val + r.val, row_lt t r⟩ ⟨x.val % 32, by omega⟩) := by
  refine Eq.trans ?_ (pairs_apply (Host.negf (Cert.Reference11Ideal.Read.val_main_v33 (F := Ideal) : FVec Ideal S4096x32 .f32)) (Cert.Reference11Ideal.Read.val_main_v33 (F := Ideal) : FVec Ideal S4096x32 .f32) ⟨512 * t.val + r.val, row_lt t r⟩ x)
  simp only [iblk]
  rw [show V m c (Pipeline.arrRef spec0 4) = _ from sin_pairs m c]
  generalize pairs _ _ = X
  blk_ext [idx_val t]

/-- Whether a lane lies in the first half of its head. -/
theorem first_half : ∀ x : Fin 512, IntOp.cmpi CmpIPredicate.slt
              (Scalar.select
                (IntOp.andi
                  (IntOp.xori
                    (IntOp.cmpi CmpIPredicate.slt
                      (IntOp.remsi ArithUnit.vector (BitVec.ofNat 32 ↑x)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 ↑x)
                      (Scalar.select (Scalar.cmpi CmpIPredicate.eq 64#32 0#32) 1#32 64#32))
                    0#32))
                (IntOp.addi
                  (IntOp.remsi ArithUnit.vector (BitVec.ofNat 32 ↑x)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 ↑x)
                  (Scalar.select (Scalar.cmpi CmpIPredicate.eq 64#32 0#32) 1#32 64#32)))
              32#32 = if x.val % 64 < 32 then 1#1 else 0#1 := by
  decide +kernel

/-- One rotary pair: the kernel's turned-sign form against the two halves written out. -/
theorem turned (P : Fin 3584 → EReal) (C S : Fin 32 → EReal) (o : ℕ) (ho : o ≤ 3072) (x : Fin 512) :
    P ⟨o + x.val, by omega⟩ * C ⟨x.val % 128 % 32, by omega⟩
        + Scalar.select (if x.val % 64 < 32 then 1#1 else 0#1)
            (P ⟨o + (x.val + 512 - 480) % 512, by omega⟩) (P ⟨o + (x.val + 512 - 32) % 512, by omega⟩)
          * (if x.val % 128 % 64 < 32 then -S ⟨x.val % 128 % 32, by omega⟩ else S ⟨x.val % 128 % 32, by omega⟩)
      = if h : x.val % 64 < 32 then
          P ⟨o + x.val, by omega⟩ * C ⟨x.val % 64, h⟩ - P ⟨o + (x.val / 64 * 64 + (32 + x.val % 64)), by omega⟩ * S ⟨x.val % 64, h⟩
        else
          P ⟨o + (x.val / 64 * 64 + (x.val % 64 - 32)), by omega⟩ * S ⟨x.val % 64 - 32, by omega⟩
            + P ⟨o + (x.val / 64 * 64 + (32 + (x.val % 64 - 32))), by omega⟩ * C ⟨x.val % 64 - 32, by omega⟩ := by
  have e : x.val % 128 % 64 = x.val % 64 := by omega
  rw [e]
  by_cases h : x.val % 64 < 32
  · simp only [h, if_true, dif_pos]
    rw [sub_eq_add_neg, ← mul_neg]
    refine congrArg₂ _ (congrArg₂ _ rfl (congrArg C (Fin.ext (by simp only; omega)))) (congrArg₂ _ (congrArg P (Fin.ext ?_)) (congrArg (fun z => -S z) (Fin.ext (by simp only; omega))))
    simp only; omega
  · simp only [h, if_false, dif_neg, not_false_eq_true]
    rw [add_comm]
    refine congrArg₂ _ (congrArg₂ _ (congrArg P (Fin.ext ?_)) (congrArg S (Fin.ext (by simp only; omega)))) (congrArg₂ _ (congrArg P (Fin.ext ?_)) (congrArg C (Fin.ext (by simp only; omega))))
    · simp only; omega
    · simp only; omega

/-- The queries. -/
theorem queries (c : Dev nD) (t : Fin cfg0.N) (r x : Fin 512) :
    k0_pay10 (k0_pay4 (iblk m c 4 t)) (k0_pay5 (iblk m c 0 t) (iblk m c 1 t) (View.ld (iblk m c 2 t) r0_3)) (k0_pay6 (iblk m c 0 t) (iblk m c 1 t) (iblk m c 3 t) (View.ld (iblk m c 2 t) r0_3)) (Scalar.select (Scalar.cmpi .eq 64#32 0#32) 1#32 64#32) k0_pay7 k0_pay8 k0_pay9 (ix2 r x)
      = Cert.Reference11Ideal.Read.val_main_v49 (F := Ideal) (m ((c : Thread nD τ).loc main_arg0)) (m ((c : Thread nD τ).loc main_arg1)) (m ((c : Thread nD τ).loc main_arg2)) (ix3 ⟨512 * t.val + r.val, row_lt t r⟩ ⟨x.val / 64, by omega⟩ ⟨x.val % 64, by omega⟩) := by
  pointwise [k0_pay10, k0_pay6, k0_pay7, k0_pay8, k0_pay9, Cert.Reference11Ideal.Read.val_main_v16, Cert.Reference11Ideal.Read.val_main_v17, Cert.Reference11Ideal.Read.val_main_v34, Cert.Reference11Ideal.Read.val_main_v35, Cert.Reference11Ideal.Read.val_main_v36, Cert.Reference11Ideal.Read.val_main_v37, Cert.Reference11Ideal.Read.val_main_v38, Cert.Reference11Ideal.Read.val_main_v39, Cert.Reference11Ideal.Read.val_main_v40, Cert.Reference11Ideal.Read.val_main_v41, Cert.Reference11Ideal.Read.val_main_v42, Cert.Reference11Ideal.Read.val_main_v43, Cert.Reference11Ideal.Read.val_main_v44, Cert.Reference11Ideal.Read.val_main_v45, Cert.Reference11Ideal.Read.val_main_v46, Cert.Reference11Ideal.Read.val_main_v47, Cert.Reference11Ideal.Read.val_main_v48, Cert.Reference11Ideal.Read.val_main_v49, Cert.Reference11Ideal.Read.val_main_cst_4, Cert.Reference11Ideal.Read.val_main_v32]
  simp only [first_half]
  simp only [show k0_pay4 (F := Ideal) = k0_pay3 from rfl, show ∀ a b w, k0_pay5 (F := Ideal) a b w = k0_pay11 (k0_pay2 a b) w from fun _ _ _ => rfl,
    repeated, cosines, sines, r0_3]
  simp (disch := decide) only [proj]
  have h := turned (fun k => Cert.Reference11Ideal.Read.val_main_v15 (F := Ideal) (m ((c : Thread nD τ).loc main_arg0)) (m ((c : Thread nD τ).loc main_arg1)) (m ((c : Thread nD τ).loc main_arg2)) (ix2 ⟨512 * t.val + r.val, row_lt t r⟩ k))
    (fun k => (Cert.Reference11Ideal.Read.val_main_v31 (F := Ideal) : FVec Ideal S4096x32 .f32) (ix2 ⟨512 * t.val + r.val, row_lt t r⟩ k)) (fun k => (Cert.Reference11Ideal.Read.val_main_v33 (F := Ideal) : FVec Ideal S4096x32 .f32) (ix2 ⟨512 * t.val + r.val, row_lt t r⟩ k)) 0 (by decide) x
  simp only [Nat.zero_add] at h ⊢
  exact congrArg (· * _) h

/-- The keys. -/
theorem keys (c : Dev nD) (t : Fin cfg0.N) (r x : Fin 512) :
    k0_pay15 (k0_pay4 (iblk m c 4 t)) (k0_pay11 (k0_pay2 (iblk m c 0 t) (iblk m c 1 t)) (View.ld (iblk m c 2 t) r0_5)) (k0_pay12 (k0_pay2 (iblk m c 0 t) (iblk m c 1 t)) (k0_pay3 (iblk m c 3 t)) (View.ld (iblk m c 2 t) r0_5)) k0_pay13 k0_pay14 (ix2 r x)
      = Cert.Reference11Ideal.Read.val_main_v81 (F := Ideal) (m ((c : Thread nD τ).loc main_arg0)) (m ((c : Thread nD τ).loc main_arg1)) (m ((c : Thread nD τ).loc main_arg2)) (ix3 ⟨512 * t.val + r.val, row_lt t r⟩ ⟨x.val / 64, by omega⟩ ⟨x.val % 64, by omega⟩) := by
  pointwise [k0_pay15, k0_pay12, k0_pay13, k0_pay14, Cert.Reference11Ideal.Read.val_main_v50, Cert.Reference11Ideal.Read.val_main_v51, Cert.Reference11Ideal.Read.val_main_v66, Cert.Reference11Ideal.Read.val_main_v68, Cert.Reference11Ideal.Read.val_main_v69, Cert.Reference11Ideal.Read.val_main_v70, Cert.Reference11Ideal.Read.val_main_v71, Cert.Reference11Ideal.Read.val_main_v72, Cert.Reference11Ideal.Read.val_main_v73, Cert.Reference11Ideal.Read.val_main_v74, Cert.Reference11Ideal.Read.val_main_v75, Cert.Reference11Ideal.Read.val_main_v76, Cert.Reference11Ideal.Read.val_main_v77, Cert.Reference11Ideal.Read.val_main_v78, Cert.Reference11Ideal.Read.val_main_v79, Cert.Reference11Ideal.Read.val_main_v80, Cert.Reference11Ideal.Read.val_main_v81]
  simp only [first_half]
  simp only [show k0_pay4 (F := Ideal) = k0_pay3 from rfl, show Cert.Reference11Ideal.Read.val_main_v65 (F := Ideal) = Cert.Reference11Ideal.Read.val_main_v31 from rfl,
    show Cert.Reference11Ideal.Read.val_main_v67 (F := Ideal) = Cert.Reference11Ideal.Read.val_main_v33 from rfl, repeated, cosines, sines, r0_5]
  simp (disch := decide) only [proj]
  have h := turned (fun k => Cert.Reference11Ideal.Read.val_main_v15 (F := Ideal) (m ((c : Thread nD τ).loc main_arg0)) (m ((c : Thread nD τ).loc main_arg1)) (m ((c : Thread nD τ).loc main_arg2)) (ix2 ⟨512 * t.val + r.val, row_lt t r⟩ k))
    (fun k => (Cert.Reference11Ideal.Read.val_main_v31 (F := Ideal) : FVec Ideal S4096x32 .f32) (ix2 ⟨512 * t.val + r.val, row_lt t r⟩ k)) (fun k => (Cert.Reference11Ideal.Read.val_main_v33 (F := Ideal) : FVec Ideal S4096x32 .f32) (ix2 ⟨512 * t.val + r.val, row_lt t r⟩ k)) 512 (by decide) x
  exact h

/-- The columns of the result after the keys are the projection's own. -/
theorem others_out (c : Dev nD) (r : Fin 4096) (o : ℕ) (h : 1024 ≤ o) (h' : o ≤ 3072) (x : Fin 512) :
    Cert.Reference11Ideal.Read.val_main_v15 (F := Ideal) (m ((c : Thread nD τ).loc main_arg0)) (m ((c : Thread nD τ).loc main_arg1)) (m ((c : Thread nD τ).loc main_arg2)) (ix2 r ⟨o + x.val, by omega⟩) = Cert.Reference11Ideal.Read.val_main_v85 (F := Ideal) (m ((c : Thread nD τ).loc main_arg0)) (m ((c : Thread nD τ).loc main_arg1)) (m ((c : Thread nD τ).loc main_arg2)) (ix2 r ⟨o + x.val, by omega⟩) := by
  pointwise [Cert.Reference11Ideal.Read.val_main_v85, Cert.Reference11Ideal.Read.val_main_v84]
  rw [dif_neg (show ¬ o + x.val < 512 by omega), dif_neg (show ¬ o + x.val - 512 < 512 by omega)]
  refine congrArg (fun z => Cert.Reference11Ideal.Read.val_main_v15 (F := Ideal) (m ((c : Thread nD τ).loc main_arg0)) (m ((c : Thread nD τ).loc main_arg1)) (m ((c : Thread nD τ).loc main_arg2)) (ix2 r z)) (Fin.ext ?_)
  simp only; omega

theorem keys_out (c : Dev nD) (r : Fin 4096) (x : Fin 512) :
    Cert.Reference11Ideal.Read.val_main_v81 (F := Ideal) (m ((c : Thread nD τ).loc main_arg0)) (m ((c : Thread nD τ).loc main_arg1)) (m ((c : Thread nD τ).loc main_arg2)) (ix3 r ⟨x.val / 64, by omega⟩ ⟨x.val % 64, by omega⟩) = Cert.Reference11Ideal.Read.val_main_v85 (F := Ideal) (m ((c : Thread nD τ).loc main_arg0)) (m ((c : Thread nD τ).loc main_arg1)) (m ((c : Thread nD τ).loc main_arg2)) (ix2 r ⟨512 + x.val, by omega⟩) := by
  pointwise [Cert.Reference11Ideal.Read.val_main_v85, Cert.Reference11Ideal.Read.val_main_v83]

theorem queries_out (c : Dev nD) (r : Fin 4096) (x : Fin 512) :
    Cert.Reference11Ideal.Read.val_main_v49 (F := Ideal) (m ((c : Thread nD τ).loc main_arg0)) (m ((c : Thread nD τ).loc main_arg1)) (m ((c : Thread nD τ).loc main_arg2)) (ix3 r ⟨x.val / 64, by omega⟩ ⟨x.val % 64, by omega⟩) = Cert.Reference11Ideal.Read.val_main_v85 (F := Ideal) (m ((c : Thread nD τ).loc main_arg0)) (m ((c : Thread nD τ).loc main_arg1)) (m ((c : Thread nD τ).loc main_arg2)) (ix2 r ⟨x.val, by omega⟩) := by
  pointwise [Cert.Reference11Ideal.Read.val_main_v85, Cert.Reference11Ideal.Read.val_main_v82]

set_option maxHeartbeats 1600000 in
/-- The first array after the run: the turned queries, the turned keys and the other columns of the projection. -/
theorem final5 (c : Dev nD) : (dats m 0 c).arrAt 5 (cfgs 0).N = Cert.Reference11Ideal.Read.val_main_v85 (F := Ideal) (m ((c : Thread nD τ).loc main_arg0)) (m ((c : Thread nD τ).loc main_arg1)) (m ((c : Thread nD τ).loc main_arg2)) := by
  refine (dats m 0 c).arrAt_eq_of_covers 5 _ (by decide +kernel) fun (t : Fin cfg0.N) hf y => ?_
  blk_simp; rw [after0_5]
  unfold out0_5 k0_pay20 k0_pay21
  frame_out
  canon_tiles x h
  all_goals
    obtain ⟨r, k, rfl⟩ : ∃ (r k : Fin 512), x = ix2 r k := ⟨x 0, x 1, eq_ix2 x⟩
    simp only [ix2_0, ix2_1] at h0 h1
  iterate 5
    (simp only [show k0_pay1 (F := Ideal) = k0_pay11 from rfl, show k0_pay19 (F := Ideal) = k0_pay11 from rfl,
      show k0_pay18 (F := Ideal) = k0_pay11 from rfl, show k0_pay17 (F := Ideal) = k0_pay11 from rfl,
      show k0_pay16 (F := Ideal) = k0_pay11 from rfl, r0_15, r0_13, r0_11, r0_9, r0_7]
     simp (disch := decide) only [proj]
     rw [others_out m c _ _ (by decide) (by decide)]
     blk_point [idx_val t]
)
  · refine (keys m c t r k).trans ((keys_out m c _ k).trans ?_)
    blk_point [idx_val t]
  · refine (queries m c t r k).trans ((queries_out m c _ k).trans ?_)
    blk_point [idx_val t]

end Cert.Kernel11Ideal.Value
end
-- ==== Proof.Value12.lean ====
module

public import proofs.«01_k».proof.Proof.Gen.Kernel12Ideal.Value
public import proofs.«01_k».proof.Proof.Gen.Reference12Ideal.Read
public import proofs.«01_k».proof.Proof.Blocks
public import proofs.«01_k».proof.Proof.MlpBackward0
public import Idealize.ShloMosaic.Lib.Pipeline.ValueKit
public import Idealize.ShloMosaic.Lib.Pipeline.ReadBack
public import Idealize.ShloMosaic.Lib.StableHlo.ReadAt

set_option maxRecDepth 16384

@[expose] public noncomputable section

open Idealize.ShloMosaic Idealize.ShloMosaic.TcCoe Idealize.SL.Sem
open Idealize.ShloMosaic.Pipeline (Dat)
open scoped BigOperators

namespace Cert.Kernel12Ideal.Value

open Cert.RmsBackward Cert.MlpBackward0 Cert.Kernel12Ideal Cert.Kernel12Ideal.Gen

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![0, 0, 0]
    ∧ win0_4.index t = ![t.val, 0]
    ∧ win0_5.index t = ![t.val, 0]
    ∧ win0_6.index t = ![0, 0, 0]
    ∧ win0_7.index t = ![0, 0, 0]
    ∧ win0_8.index t = ![0, 0, 0, 0]
    ∧ win0_9.index t = ![0, 0, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![0, 0]
    ∧ win0_17.index t = ![0, 0] :=
  (by decide +kernel : ∀ t : Fin grid0.N, _)

/-- Rows of a grid point lie in the array. -/
theorem row_lt (t : Fin cfg0.N) (r : Fin 256) : 256 * t.val + r.val < 4096 := by
  have := lt_of_lt_of_eq t.isLt (show cfg0.N = 16 from N_0)
  omega

/-- Rows of one copy of a gain. -/
theorem copy_lt (t : Fin cfg0.N) (x : Fin 32) (p : Fin 8) : (t.val * 32 + x.val) * 8 + p.val < 4096 := by
  have := lt_of_lt_of_eq t.isLt (show cfg0.N = 16 from N_0)
  omega

/-- The attention's gain on the kernel's side and the reference's copies of it. -/
theorem host_attn (c : Dev nD) (i : Fin 4096) (k : Fin 512) :
    (V m c main_v14 : FVec Ideal S4096x512 .f32) (ix2 i k) = Cert.Reference12Ideal.Read.val_main_v23 (F := Ideal) (m ((c : Thread nD τ).loc main_arg1)) (m ((c : Thread nD τ).loc main_arg3)) (ix2 i k) := by
  pointwise [Cert.Reference12Ideal.Read.val_main_v0, Cert.Reference12Ideal.Read.val_main_v1, Cert.Reference12Ideal.Read.val_main_v2, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v17, Cert.Reference12Ideal.Read.val_main_v21, Cert.Reference12Ideal.Read.val_main_v22, Cert.Reference12Ideal.Read.val_main_v23, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8, Cert.Reference12Ideal.Read.val_main_cst_9, Cert.Reference12Ideal.Read.val_main_cst_10, Cert.Reference12Ideal.Read.val_main_cst_11, Cert.Reference12Ideal.Read.val_main_cst_12, Cert.Reference12Ideal.Read.val_main_cst_13, Cert.Reference12Ideal.Read.val_main_cst_14, Cert.Reference12Ideal.Read.val_main_cst_15, Cert.Reference12Ideal.Read.val_main_cst_16, Cert.Reference12Ideal.Read.val_main_cst_17, Cert.Reference12Ideal.Read.val_main_cst_18, Cert.Reference12Ideal.Read.val_main_cst_19, Cert.Reference12Ideal.Read.val_main_cst_20]
  simp only [V]
  after_reads_at

/-- The middle stream on the kernel's side. -/
theorem host_mid (c : Dev nD) (i : Fin 4096) (k : Fin 1024) :
    (V m c main_v17 : FVec Ideal S4096x1024 .f32) (ix2 i k) = Cert.Reference12Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 i k) := by
  pointwise [Cert.Reference12Ideal.Read.val_main_v0, Cert.Reference12Ideal.Read.val_main_v1, Cert.Reference12Ideal.Read.val_main_v2, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v17, Cert.Reference12Ideal.Read.val_main_v21, Cert.Reference12Ideal.Read.val_main_v22, Cert.Reference12Ideal.Read.val_main_v23, Cert.Reference12Ideal.Read.val_main_v24, Cert.Reference12Ideal.Read.val_main_v25, Cert.Reference12Ideal.Read.val_main_v26, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8, Cert.Reference12Ideal.Read.val_main_cst_9, Cert.Reference12Ideal.Read.val_main_cst_10, Cert.Reference12Ideal.Read.val_main_cst_11, Cert.Reference12Ideal.Read.val_main_cst_12, Cert.Reference12Ideal.Read.val_main_cst_13, Cert.Reference12Ideal.Read.val_main_cst_14, Cert.Reference12Ideal.Read.val_main_cst_15, Cert.Reference12Ideal.Read.val_main_cst_16, Cert.Reference12Ideal.Read.val_main_cst_17, Cert.Reference12Ideal.Read.val_main_cst_18, Cert.Reference12Ideal.Read.val_main_cst_19, Cert.Reference12Ideal.Read.val_main_cst_20]
  simp only [V]
  after_reads_at
  pointwise []
  after_reads_at

/-- The inner activations on the kernel's side. -/
theorem host_inner (c : Dev nD) (i : Fin 4096) (l : Fin 4096) :
    (V m c main_v39 : FVec Ideal S4096x4096 .bf16) (ix2 i l) = Cert.Reference12Ideal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i l) := by
  pointwise [Cert.Reference12Ideal.Read.val_main_v0, Cert.Reference12Ideal.Read.val_main_v1, Cert.Reference12Ideal.Read.val_main_v2, Cert.Reference12Ideal.Read.val_main_v3, Cert.Reference12Ideal.Read.val_main_v4, Cert.Reference12Ideal.Read.val_main_v5, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v17, Cert.Reference12Ideal.Read.val_main_v21, Cert.Reference12Ideal.Read.val_main_v22, Cert.Reference12Ideal.Read.val_main_v23, Cert.Reference12Ideal.Read.val_main_v24, Cert.Reference12Ideal.Read.val_main_v25, Cert.Reference12Ideal.Read.val_main_v26, Cert.Reference12Ideal.Read.val_main_v27, Cert.Reference12Ideal.Read.val_main_v28, Cert.Reference12Ideal.Read.val_main_v29, Cert.Reference12Ideal.Read.val_main_v30, Cert.Reference12Ideal.Read.val_main_v31, Cert.Reference12Ideal.Read.val_main_v32, Cert.Reference12Ideal.Read.val_main_v33, Cert.Reference12Ideal.Read.val_main_v34, Cert.Reference12Ideal.Read.val_main_v35, Cert.Reference12Ideal.Read.val_main_v36, Cert.Reference12Ideal.Read.val_main_v37, Cert.Reference12Ideal.Read.val_main_v41, Cert.Reference12Ideal.Read.val_main_v42, Cert.Reference12Ideal.Read.val_main_v43, Cert.Reference12Ideal.Read.val_main_v44, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8, Cert.Reference12Ideal.Read.val_main_cst_9, Cert.Reference12Ideal.Read.val_main_cst_10, Cert.Reference12Ideal.Read.val_main_cst_11, Cert.Reference12Ideal.Read.val_main_cst_12, Cert.Reference12Ideal.Read.val_main_cst_13, Cert.Reference12Ideal.Read.val_main_cst_14, Cert.Reference12Ideal.Read.val_main_cst_15, Cert.Reference12Ideal.Read.val_main_cst_16, Cert.Reference12Ideal.Read.val_main_cst_17, Cert.Reference12Ideal.Read.val_main_cst_18, Cert.Reference12Ideal.Read.val_main_cst_19, Cert.Reference12Ideal.Read.val_main_cst_20]
  simp only [V]
  after_reads_at
  pointwise []
  after_reads_at

/-- The middle stream's block. -/
theorem mid (c : Dev nD) (t : Fin cfg0.N) (r : Fin 256) (k : Fin 1024) :
    iblk m c 2 t (ix2 r k) = Cert.Reference12Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 ⟨256 * t.val + r.val, row_lt t r⟩ k) := by
  rw [← host_mid]
  blk_point [iblk, idx_val t]

/-- The inner activations' block. -/
theorem inner (c : Dev nD) (t : Fin cfg0.N) (r : Fin 256) (l : Fin 4096) :
    iblk m c 4 t (ix2 r l) = Cert.Reference12Ideal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨256 * t.val + r.val, row_lt t r⟩ l) := by
  rw [← host_inner]
  blk_point [iblk, idx_val t]

/-- The incoming gradient's block. -/
theorem incoming (c : Dev nD) (t : Fin cfg0.N) (r : Fin 256) (k : Fin 1024) :
    iblk m c 1 t (ix2 r k) = (m ((c : Thread nD τ).loc main_arg8)) (ix2 ⟨256 * t.val + r.val, row_lt t r⟩ k) := by
  blk_point [iblk, V, idx_val t]

/-- The down projection and the up projection, staged whole. -/
theorem down (c : Dev nD) (t : Fin cfg0.N) (l : Fin 4096) (k : Fin 1024) :
    iblk m c 9 t (ix3 (0 : Fin 1) l k) = (m ((c : Thread nD τ).loc main_arg7)) (ix2 l k) := by
  blk_point [iblk, V, idx_val t]

/-- The up projection's weights by row and column. -/
def weight (c : Dev nD) (k : Fin 1024) (l : Fin 4096) : EReal := (m ((c : Thread nD τ).loc main_arg6)) (ix2 k l)

theorem host_up (c : Dev nD) (j : Fin 8) (k : Fin 1024) (x : Fin 512) :
    (V m c main_v43 : FVec Ideal S1x8x1024x512 .bf16) (ix4 (0 : Fin 1) j k x) = weight m c k ⟨512 * j.val + x.val, by omega⟩ := by
  unfold weight
  simp only [V]
  after_reads_at
  exact congrArg (fun l => (m ((c : Thread nD τ).loc main_arg6)) (ix2 k l)) (Fin.ext (by show j.val * 512 + x.val = 512 * j.val + x.val; omega))

theorem up (c : Dev nD) (t : Fin cfg0.N) (j : Fin 8) (k : Fin 1024) (x : Fin 512) :
    iblk m c 8 t (ix4 (0 : Fin 1) j k x) = weight m c k ⟨512 * j.val + x.val, by omega⟩ := by
  rw [← host_up]
  blk_point [iblk, idx_val t]

/-- The gradient at one block of columns of the inner activations. -/
theorem tile (c : Dev nD) (t : Fin cfg0.N) (o : ℕ) (ho : o ≤ 3584)
    (inb9 : ∀ a, ![0, o, 0] a + ![1, 512, 1024] a ≤ S1x4096x1024.size a) (inb4 : ∀ a, ![0, o] a + ![256, 512] a ≤ S256x4096.size a) (r : Fin 256) (x : Fin 512) :
    k0_pay15 (k0_pay6 (iblk m c 1 t)) (View.ld (iblk m c 9 t) (Rect.unit ![0, o, 0] ![1, 512, 1024] inb9)) (View.ld (iblk m c 4 t) (Rect.unit ![0, o] ![256, 512] inb4)) (ix2 r x)
      = Cert.Reference12Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ ⟨o + x.val, by omega⟩) := by
  rw [du_eq, ← two_val]
  pointwise [k0_pay15, k0_pay6]
  exact congrArg₂ (· * ·) (Finset.sum_congr rfl fun k _ => congrArg₂ (· * ·) (incoming m c t r k) (down m c t _ k))
    (congrArg (fun z : EReal => Ideal.ofBits .f32 0x40000000#32 * max z 0) (inner m c t r _))

/-- One over the root of a row's mean square. -/
theorem root (c : Dev nD) (t : Fin cfg0.N) (r : Fin 256) :
    k0_pay24 (iblk m c 2 t) (ix2 r (0 : Fin 1)) = Cert.Reference12Ideal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 ⟨256 * t.val + r.val, row_lt t r⟩ (0 : Fin 1)) := by
  pointwise [k0_pay24, k0_pay23, Cert.Reference12Ideal.Read.val_main_v30, Cert.Reference12Ideal.Read.val_main_v31, Cert.Reference12Ideal.Read.val_main_v32, Cert.Reference12Ideal.Read.val_main_v33, Cert.Reference12Ideal.Read.val_main_v34, Cert.Reference12Ideal.Read.val_main_v35, Cert.Reference12Ideal.Read.val_main_v36, Cert.Reference12Ideal.Read.val_main_v37, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]
  simp only [mid]

/-- A row of the middle stream over its norm. -/
theorem normed (c : Dev nD) (t : Fin cfg0.N) (r : Fin 256) (k : Fin 1024) :
    k0_pay25 (iblk m c 2 t) (ix2 r k) = Cert.Reference12Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 ⟨256 * t.val + r.val, row_lt t r⟩ k) := by
  pointwise [k0_pay25, k0_pay23, Cert.Reference12Ideal.Read.val_main_v41, Cert.Reference12Ideal.Read.val_main_v42]
  simp only [root, mid]

/-- One over the root of an attention row's mean square. -/
theorem attn_root (c : Dev nD) (t : Fin cfg0.N) (r : Fin 256) :
    k0_pay32 (iblk m c 5 t) (ix2 r (0 : Fin 1)) = Cert.Reference12Ideal.Read.val_main_v17 (F := Ideal) (m ((c : Thread nD τ).loc main_arg1)) (ix2 ⟨256 * t.val + r.val, row_lt t r⟩ (0 : Fin 1)) := by
  pointwise [k0_pay32, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v17, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]
  blk_point [iblk, V, idx_val t]

/-- A row of the attention's output over its norm. -/
theorem attn_normed (c : Dev nD) (t : Fin cfg0.N) (r : Fin 256) (k : Fin 512) :
    k0_pay33 (iblk m c 5 t) (ix2 r k) = Cert.Reference12Ideal.Read.val_main_v22 (F := Ideal) (m ((c : Thread nD τ).loc main_arg1)) (ix2 ⟨256 * t.val + r.val, row_lt t r⟩ k) := by
  pointwise [k0_pay33, Cert.Reference12Ideal.Read.val_main_v21, Cert.Reference12Ideal.Read.val_main_v22]
  simp only [attn_root]
  blk_point [iblk, V, idx_val t]

/-- A row's part of the gradient at the normed stream: one block of the inner columns. -/
theorem point (c : Dev nD) (t : Fin cfg0.N) {a : FVec Ideal S256x1024 .f32} {d : FVec Ideal S256x512 .bf16} {w : FVec Ideal S1024x512 .bf16}
    (h : ∀ (r : Fin 256) (k : Fin 1024), k0_pay22 a d w (ix2 r k) = Cert.Reference12Ideal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k))
    (hm : ∀ r k, IsReal (Cert.Reference12Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 r k))) (hg : ∀ r k, IsReal (Cert.Reference12Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r k))) (r : Fin 256) (k : Fin 1024) :
    k0_pay27 a d w (iblk m c 2 t) (iblk m c 3 t) (iblk m c 0 t) (ix2 r k) = Cert.Reference12Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  have hk : ∀ k : Fin 1024, k0_pay22 a d w (ix2 r k) * iblk m c 3 t (ix3 (0 : Fin 1) (0 : Fin 1) k) = Cert.Reference12Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := fun k => by
    rw [h]
    pointwise [Cert.Reference12Ideal.Read.val_main_v3, Cert.Reference12Ideal.Read.val_main_v4, Cert.Reference12Ideal.Read.val_main_v5, Cert.Reference12Ideal.Read.val_main_v27, Cert.Reference12Ideal.Read.val_main_v28, Cert.Reference12Ideal.Read.val_main_v29, Cert.Reference12Ideal.Read.val_main_v63]
    blk_point [iblk, V, idx_val t]
  rw [dx_eq _ _ _ _ _ _ _ _ _ hm hg, ← n1024_val]
  pointwise [k0_pay27]
  simp only [hk, root, normed]
  blk_point [iblk, V, idx_val t]

/-- The tiles of the inner activations' gradient, as the body names them. -/
theorem tile_0 (a : Vec Ideal S256x1024 .bf16) (w : Vec Ideal S1x512x1024 .bf16) (u : Vec Ideal S256x512 .bf16) : k0_pay7 a w u = k0_pay15 (k0_pay6 a) w u := rfl
theorem tile_1 (a : Vec Ideal S256x1024 .bf16) (w : Vec Ideal S1x512x1024 .bf16) (u : Vec Ideal S256x512 .bf16) : k0_pay8 a w u = k0_pay15 (k0_pay6 a) w u := rfl
theorem tile_2 (a : Vec Ideal S256x1024 .bf16) (w : Vec Ideal S1x512x1024 .bf16) (u : Vec Ideal S256x512 .bf16) : k0_pay10 (k0_pay9 a w) u = k0_pay15 (k0_pay6 a) w u := rfl
theorem tile_3 (a : Vec Ideal S256x1024 .bf16) (w : Vec Ideal S1x512x1024 .bf16) (u : Vec Ideal S256x512 .bf16) : k0_pay11 a w u = k0_pay15 a w u := rfl
theorem tile_4 (a : Vec Ideal S256x1024 .bf16) (w : Vec Ideal S1x512x1024 .bf16) (u : Vec Ideal S256x512 .bf16) : k0_pay13 (k0_pay12 a w u) = k0_pay15 a w u := rfl
theorem tile_5 (a : Vec Ideal S256x1024 .bf16) (w : Vec Ideal S1x512x1024 .bf16) (u : Vec Ideal S256x512 .bf16) : k0_pay14 a w u = k0_pay15 a w u := rfl
theorem tile_7 (a : Vec Ideal S256x1024 .bf16) (w : Vec Ideal S1x512x1024 .bf16) (u : Vec Ideal S256x512 .bf16) : k0_pay17 (k0_pay16 a w) u = k0_pay15 a w u := rfl

/-- The first seven tiles' products with the up projection, as the body adds them. -/
def seven (c : Dev nD) (t : Fin cfg0.N) : FVec Ideal S256x1024 .f32 :=
  k0_pay19 (k0_pay18 (k0_pay7 (iblk m c 1 t) (View.ld (iblk m c 9 t) (Rect.unit ![0, 0, 0] ![1, 512, 1024] inb_S1x4096x1024_S1x512x1024_0_0_0)) (View.ld (iblk m c 4 t) (Rect.unit ![0, 0] ![256, 512] inb_S256x4096_S256x512_0_0))) (View.ld (iblk m c 8 t) (Rect.unit ![0, 0, 0, 0] ![1, 1, 1024, 512] inb_S1x8x1024x512_S1x1x1024x512_0_0_0_0)) (k0_pay8 (iblk m c 1 t) (View.ld (iblk m c 9 t) (Rect.unit ![0, 512, 0] ![1, 512, 1024] inb_S1x4096x1024_S1x512x1024_0_512_0)) (View.ld (iblk m c 4 t) (Rect.unit ![0, 512] ![256, 512] inb_S256x4096_S256x512_0_512))) (View.ld (iblk m c 8 t) (Rect.unit ![0, 1, 0, 0] ![1, 1, 1024, 512] inb_S1x8x1024x512_S1x1x1024x512_0_1_0_0)) (k0_pay10 (k0_pay9 (iblk m c 1 t) (View.ld (iblk m c 9 t) (Rect.unit ![0, 1024, 0] ![1, 512, 1024] inb_S1x4096x1024_S1x512x1024_0_1024_0))) (View.ld (iblk m c 4 t) (Rect.unit ![0, 1024] ![256, 512] inb_S256x4096_S256x512_0_1024))) (View.ld (iblk m c 8 t) (Rect.unit ![0, 2, 0, 0] ![1, 1, 1024, 512] inb_S1x8x1024x512_S1x1x1024x512_0_2_0_0)))
    (k0_pay11 (k0_pay6 (iblk m c 1 t)) (View.ld (iblk m c 9 t) (Rect.unit ![0, 1536, 0] ![1, 512, 1024] inb_S1x4096x1024_S1x512x1024_0_1536_0)) (View.ld (iblk m c 4 t) (Rect.unit ![0, 1536] ![256, 512] inb_S256x4096_S256x512_0_1536))) (View.ld (iblk m c 8 t) (Rect.unit ![0, 3, 0, 0] ![1, 1, 1024, 512] inb_S1x8x1024x512_S1x1x1024x512_0_3_0_0)) (k0_pay13 (k0_pay12 (k0_pay6 (iblk m c 1 t)) (View.ld (iblk m c 9 t) (Rect.unit ![0, 2048, 0] ![1, 512, 1024] inb_S1x4096x1024_S1x512x1024_0_2048_0)) (View.ld (iblk m c 4 t) (Rect.unit ![0, 2048] ![256, 512] inb_S256x4096_S256x512_0_2048)))) (View.ld (iblk m c 8 t) (Rect.unit ![0, 4, 0, 0] ![1, 1, 1024, 512] inb_S1x8x1024x512_S1x1x1024x512_0_4_0_0)) (k0_pay14 (k0_pay6 (iblk m c 1 t)) (View.ld (iblk m c 9 t) (Rect.unit ![0, 2560, 0] ![1, 512, 1024] inb_S1x4096x1024_S1x512x1024_0_2560_0)) (View.ld (iblk m c 4 t) (Rect.unit ![0, 2560] ![256, 512] inb_S256x4096_S256x512_0_2560))) (View.ld (iblk m c 8 t) (Rect.unit ![0, 5, 0, 0] ![1, 1, 1024, 512] inb_S1x8x1024x512_S1x1x1024x512_0_5_0_0)) (k0_pay15 (k0_pay6 (iblk m c 1 t)) (View.ld (iblk m c 9 t) (Rect.unit ![0, 3072, 0] ![1, 512, 1024] inb_S1x4096x1024_S1x512x1024_0_3072_0)) (View.ld (iblk m c 4 t) (Rect.unit ![0, 3072] ![256, 512] inb_S256x4096_S256x512_0_3072))) (View.ld (iblk m c 8 t) (Rect.unit ![0, 6, 0, 0] ![1, 1, 1024, 512] inb_S1x8x1024x512_S1x1x1024x512_0_6_0_0))

/-- The last tile and its block of the up projection. -/
def last_tile (c : Dev nD) (t : Fin cfg0.N) : FVec Ideal S256x512 .bf16 := k0_pay20 (k0_pay17 (k0_pay16 (k0_pay6 (iblk m c 1 t)) (View.ld (iblk m c 9 t) (Rect.unit ![0, 3584, 0] ![1, 512, 1024] inb_S1x4096x1024_S1x512x1024_0_3584_0))) (View.ld (iblk m c 4 t) (Rect.unit ![0, 3584] ![256, 512] inb_S256x4096_S256x512_0_3584)))
def last_weights (c : Dev nD) (t : Fin cfg0.N) : FVec Ideal S1024x512 .bf16 := k0_pay21 (View.ld (iblk m c 8 t) (Rect.unit ![0, 7, 0, 0] ![1, 1, 1024, 512] inb_S1x8x1024x512_S1x1x1024x512_0_7_0_0))

/-- The gradient at the normed middle stream. -/
theorem grads (c : Dev nD) (t : Fin cfg0.N) (r : Fin 256) (k : Fin 1024) :
    k0_pay22 (seven m c t) (last_tile m c t) (last_weights m c t) (ix2 r k) = Cert.Reference12Ideal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  pointwise [seven, last_tile, last_weights, k0_pay18, k0_pay19, k0_pay20, k0_pay21, k0_pay22, Cert.Reference12Ideal.Read.val_main_v61]
  simp (disch := decide) only [tile_0, tile_1, tile_2, tile_3, tile_4, tile_5, tile_7, tile]
  simp only [up]
  refine Eq.trans ?_ (Blocks.sum_eight fun l : Fin 4096 => Cert.Reference12Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ l) * weight m c k l)
  iterate 7 refine congrArg₂ (· + ·) ?_ ?_
  · refine Finset.sum_congr rfl fun x _ => ?_
    simp only [Fin.val_zero, Nat.mul_zero, Nat.zero_add]
  all_goals exact Finset.sum_congr rfl fun x _ => congrArg₂ (· * ·) rfl (congrArg (weight m c k) (Fin.ext (by simp)))

/-- A row of the gradient through the output projection. -/
theorem projected (c : Dev nD) (t : Fin cfg0.N) {a : FVec Ideal S256x1024 .f32} {d : FVec Ideal S256x512 .bf16} {w : FVec Ideal S1024x512 .bf16}
    (h : ∀ (r : Fin 256) (k : Fin 1024), k0_pay27 a d w (iblk m c 2 t) (iblk m c 3 t) (iblk m c 0 t) (ix2 r k) = Cert.Reference12Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k)) (r : Fin 256) (k : Fin 1024) :
    k0_pay29 a d w (iblk m c 2 t) (iblk m c 3 t) (iblk m c 0 t) (iblk m c 7 t) (ix2 r k) = Cert.Reference12Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  pointwise [k0_pay29, k0_pay28, Cert.Reference12Ideal.Read.val_main_v81]
  simp only [h]
  blk_point [iblk, V, idx_val t]

/-- The recurrence's half of it. -/
theorem rec_half (c : Dev nD) (t : Fin cfg0.N) {b : FVec Ideal S256x1024 .f32} (h : ∀ (r : Fin 256) (k : Fin 1024), b (ix2 r k) = Cert.Reference12Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k)) (r : Fin 256) (k : Fin 512) :
    k0_pay30 b (ix2 r k) = Cert.Reference12Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  pointwise [k0_pay30, Cert.Reference12Ideal.Read.val_main_v83]
  exact h _ _

/-- The attention's half of it. -/
theorem attn_half (c : Dev nD) (t : Fin cfg0.N) {b : FVec Ideal S256x1024 .f32} (h : ∀ (r : Fin 256) (k : Fin 1024), b (ix2 r k) = Cert.Reference12Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k)) (r : Fin 256) (k : Fin 512) :
    k0_pay31 b (ix2 r k) = Cert.Reference12Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  pointwise [k0_pay31, Cert.Reference12Ideal.Read.val_main_v82]
  exact h _ _

/-- The gradient of the attention's output at one place. -/
theorem attn_point (c : Dev nD) (t : Fin cfg0.N) {b : FVec Ideal S256x1024 .f32} (h : ∀ (r : Fin 256) (k : Fin 1024), b (ix2 r k) = Cert.Reference12Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k))
    (h1 : ∀ i, IsReal ((m ((c : Thread nD τ).loc main_arg1)) i)) (hg : ∀ r k, IsReal (Cert.Reference12Ideal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r k))) (r : Fin 256) (k : Fin 512) :
    k0_pay34 b (iblk m c 5 t) (iblk m c 6 t) (ix2 r k) = Cert.Reference12Ideal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  have hk : ∀ k : Fin 512, k0_pay31 b (ix2 r k) * iblk m c 6 t (ix3 (0 : Fin 1) (0 : Fin 1) k) = Cert.Reference12Ideal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := fun k => by
    rw [attn_half m c t h]
    pointwise [Cert.Reference12Ideal.Read.val_main_v0, Cert.Reference12Ideal.Read.val_main_v1, Cert.Reference12Ideal.Read.val_main_v2, Cert.Reference12Ideal.Read.val_main_v7, Cert.Reference12Ideal.Read.val_main_v8, Cert.Reference12Ideal.Read.val_main_v9, Cert.Reference12Ideal.Read.val_main_v85]
    blk_point [iblk, V, idx_val t]
  rw [dattn_eq _ _ _ _ _ _ _ _ _ h1 hg, ← n512_val]
  pointwise [k0_pay34]
  simp only [hk, attn_root, attn_normed]

/-- The products of a row's gradient and attention output. -/
theorem product (c : Dev nD) (t : Fin cfg0.N) {b : FVec Ideal S256x1024 .f32} (h : ∀ (r : Fin 256) (k : Fin 512), k0_pay34 b (iblk m c 5 t) (iblk m c 6 t) (ix2 r k) = Cert.Reference12Ideal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k))
    (r : Fin 256) (k : Fin 512) : k0_pay36 b (iblk m c 5 t) (iblk m c 6 t) (ix2 r k) = Cert.Reference12Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := by
  pointwise [k0_pay36, Cert.Reference12Ideal.Read.val_main_v102]
  rw [h]
  blk_point [iblk, V, idx_val t]

/-- One grid point's part of the gradient of the feed-forward norm's gain. -/
theorem part (c : Dev nD) (t : Fin cfg0.N) {a : FVec Ideal S256x1024 .f32} {d : FVec Ideal S256x512 .bf16} {w : FVec Ideal S1024x512 .bf16}
    (h : ∀ (r : Fin 256) (k : Fin 1024), k0_pay22 a d w (ix2 r k) = Cert.Reference12Ideal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k)) (p : Fin 8) (k : Fin 1024) :
    k0_pay2 (k0_pay26 a d w (iblk m c 2 t)) (ix2 p k) = ∑ x : Fin 32, Cert.Reference12Ideal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨(t.val * 32 + x.val) * 8 + p.val, copy_lt t x p⟩ k) := by
  pointwise [k0_pay2, k0_pay26, Cert.Reference12Ideal.Read.val_main_v62]
  simp only [h, normed]
  refine Finset.sum_congr rfl fun x _ => ?_
  rw [mul_comm]
  blk_point []

/-- One grid point's part of the gradient of the attention norm's gain. -/
theorem attn_part (c : Dev nD) (t : Fin cfg0.N) {b : FVec Ideal S256x1024 .f32} (h : ∀ (r : Fin 256) (k : Fin 1024), b (ix2 r k) = Cert.Reference12Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k)) (p : Fin 8) (k : Fin 512) :
    k0_pay4 (k0_pay35 b (iblk m c 5 t)) (ix2 p k) = ∑ x : Fin 32, Cert.Reference12Ideal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨(t.val * 32 + x.val) * 8 + p.val, copy_lt t x p⟩ k) := by
  pointwise [k0_pay4, k0_pay35, Cert.Reference12Ideal.Read.val_main_v84]
  simp only [attn_half m c t h, attn_normed]
  refine Finset.sum_congr rfl fun x _ => ?_
  rw [mul_comm]
  blk_point []

/-- A later point adds its part to what is there. -/
theorem carried (a : FVec Ideal S256x1024 .f32) (acc : FVec Ideal S8x1024 .f32) (j : S8x1024.Idx) : k0_pay3 a acc j = acc j + k0_pay2 a j := by
  obtain ⟨p, k, rfl⟩ : ∃ (p : Fin 8) (k : Fin 1024), j = ix2 p k := ⟨j 0, j 1, eq_ix2 j⟩
  pointwise [k0_pay3, k0_pay2]

theorem attn_carried (a : FVec Ideal S256x512 .f32) (acc : FVec Ideal S8x512 .f32) (j : S8x512.Idx) : k0_pay5 a acc j = acc j + k0_pay4 a j := by
  obtain ⟨p, k, rfl⟩ : ∃ (p : Fin 8) (k : Fin 512), j = ix2 p k := ⟨j 0, j 1, eq_ix2 j⟩
  pointwise [k0_pay5, k0_pay4]

/-- The head of a channel, as the body computes it from the channel's number. -/
theorem head_val : ∀ x : Fin 512,
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) = BitVec.ofNat 32 (x.val / 64) := by
  decide +kernel

theorem same_head : ∀ a b : Fin 8, IntOp.cmpi CmpIPredicate.eq (BitVec.ofNat 32 a.val) (BitVec.ofNat 32 b.val) = if a.val = b.val then 1#1 else 0#1 := by
  decide +kernel

/-- The mask of the pairs of channels that lie in one head. -/
theorem mask (x y : Fin 512) :
    (k0_pay40 (iota .tc S512x512 32 [0] iota_S512x512_d0_w32) (iota .tc S512x512 32 [1] iota_S512x512_d1_w32) 64#32 k0_pay37 k0_pay38 k0_pay39 : FVec Ideal S512x512 .bf16) (ix2 x y)
      = if x.val / 64 = y.val / 64 then 1 else 0 := by
  pointwise [k0_pay40, k0_pay37, k0_pay38, k0_pay39]
  simp only [head_val]
  rw [same_head ⟨x.val / 64, by omega⟩ ⟨y.val / 64, by omega⟩]
  by_cases h : x.val / 64 = y.val / 64 <;> simp [h, Scalar.select]

/-- A row times the mask is the sum over the head's channels. -/
theorem head_sum (P : Fin 512 → EReal) (y : Fin 512) :
    (∑ l : Fin 512, P l * (if l.val / 64 = y.val / 64 then 1 else 0)) = ∑ x : Fin 64, P ⟨y.val / 64 * 64 + x.val, by omega⟩ := by
  rw [← Fin.sum_mul_add_fin 8 64 fun l : Fin 512 => P l * (if l.val / 64 = y.val / 64 then 1 else 0)]
  refine (Finset.sum_eq_single (⟨y.val / 64, by omega⟩ : Fin 8) (fun a _ ha => Finset.sum_eq_zero fun x _ => ?_) (fun h => absurd (Finset.mem_univ _) h)).trans
    (Finset.sum_congr rfl fun x _ => ?_)
  · have : ¬ (a.val * 64 + x.val) / 64 = y.val / 64 := fun e => ha (Fin.ext (by show a.val = y.val / 64; omega))
    simp only [this, if_false, mul_zero]
  · have : (y.val / 64 * 64 + x.val) / 64 = y.val / 64 := by omega
    simp only [this, if_true, mul_one]

/-- The sums over a head of the gradient times the attention's output, at each of the head's channels. -/
theorem head_point (c : Dev nD) (t : Fin cfg0.N) {a : FVec Ideal S256x512 .f32} (h : ∀ (r : Fin 256) (k : Fin 512), a (ix2 r k) = Cert.Reference12Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k))
    (hr : ∀ (r : Fin 4096) (k : Fin 512), IsReal (Cert.Reference12Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r k))) (r : Fin 256) (y : Fin 512) :
    k0_pay1 a (k0_pay40 (iota .tc S512x512 32 [0] iota_S512x512_d0_w32) (iota .tc S512x512 32 [1] iota_S512x512_d1_w32) 64#32 k0_pay37 k0_pay38 k0_pay39)
      (k0_pay41 a) (k0_pay42 a) (ix2 r y) = Cert.Reference12Ideal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ y) := by
  rw [delta_eq]
  pointwise [k0_pay1, k0_pay41, k0_pay42]
  simp only [h, (hr _ _).sub_self, zero_mul, Finset.sum_const_zero, add_zero]
  exact (Finset.sum_congr rfl fun l _ => congrArg (Cert.Reference12Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ l) * ·) (mask l y)).trans (head_sum (fun l => Cert.Reference12Ideal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ l)) y)

/-- The gradient through the output projection, as the body computes it. -/
def proj (c : Dev nD) (t : Fin cfg0.N) : FVec Ideal S256x1024 .f32 :=
  k0_pay29 (seven m c t) (last_tile m c t) (last_weights m c t) (iblk m c 2 t) (iblk m c 3 t) (iblk m c 0 t) (iblk m c 7 t)

/-- The products of the attention's gradient and output, as the body computes them. -/
def prods (c : Dev nD) (t : Fin cfg0.N) : FVec Ideal S256x512 .f32 := k0_pay36 (proj m c t) (iblk m c 5 t) (iblk m c 6 t)

/-! ## What a grid point leaves in each window -/

theorem left_10 (c : Dev nD) (t : Fin cfg0.N) : (outsAt0 m c t.val t.isLt).1 = k0_pay27 (seven m c t) (last_tile m c t) (last_weights m c t) (iblk m c 2 t) (iblk m c 3 t) (iblk m c 0 t) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

theorem left_11 (c : Dev nD) (t : Fin cfg0.N) : (outsAt0 m c t.val t.isLt).2.1 = k0_pay28 (seven m c t) (last_tile m c t) (last_weights m c t) (iblk m c 2 t) (iblk m c 3 t) (iblk m c 0 t) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

theorem left_13 (c : Dev nD) (t : Fin cfg0.N) : (outsAt0 m c t.val t.isLt).2.2.2.1 = k0_pay30 (proj m c t) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

theorem left_14 (c : Dev nD) (t : Fin cfg0.N) : (outsAt0 m c t.val t.isLt).2.2.2.2.1 = k0_pay34 (proj m c t) (iblk m c 5 t) (iblk m c 6 t) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

theorem left_15 (c : Dev nD) (t : Fin cfg0.N) : (outsAt0 m c t.val t.isLt).2.2.2.2.2.1 = k0_pay1 (prods m c t) (k0_pay40 (iota .tc S512x512 32 [0] iota_S512x512_d0_w32) (iota .tc S512x512 32 [1] iota_S512x512_d1_w32) 64#32 k0_pay37 k0_pay38 k0_pay39)
      (k0_pay41 (prods m c t)) (k0_pay42 (prods m c t)) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

/-- The eight tiles of the inner activations' gradient. -/
theorem left_12 (c : Dev nD) (t : Fin cfg0.N) (y : S256x4096.Idx) : (outsAt0 m c t.val t.isLt).2.2.1 y = Cert.Reference12Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + (y 0).val, row_lt t (y 0)⟩ (y 1)) := by
  have ht : t.val < 16 := lt_of_lt_of_eq t.isLt (show cfg0.N = 16 from N_0)
  by_cases h : t.val % 16 = 0
  on_goal 1 => rw [outsAt0_A m c t h (by omega) h (by omega)]
  on_goal 2 => rw [outsAt0_B m c t h (by omega) h (by omega)]
  all_goals
    frame_open
    frame_out
    simp (disch := decide) only [tile_0, tile_1, tile_2, tile_3, tile_4, tile_5, tile_7]
    canon_tiles x hx
    all_goals
      obtain ⟨r, k, rfl⟩ : ∃ (r : Fin 256) (k : Fin 512), x = ix2 r k := ⟨x 0, x 1, eq_ix2 x⟩
      simp only [ix2_0, ix2_1] at hx0 hx1
      refine (tile m c t _ (by decide) _ _ r k).trans ?_
      blk_point []

theorem narrow (a : FVec Ideal S256x1024 .f32) (d : FVec Ideal S256x512 .bf16) (w : FVec Ideal S1024x512 .bf16) (e : Vec Ideal S256x1024 .f32) (f : Vec Ideal S1x1x1024 .f32)
    (g : Vec Ideal S256x1024 .f32) (r : Fin 256) (k : Fin 1024) : k0_pay28 a d w e f g (ix2 r k) = k0_pay27 a d w e f g (ix2 r k) := by
  pointwise [k0_pay28]

/-! ## The arrays after the run -/

/-- The gradient of the stream at the middle of the layer. -/
theorem final10 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 10 (cfgs 0).N = Cert.Reference12Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_covers 10 _ (by decide +kernel) fun (t : Fin cfg0.N) hf y => ?_
  have hq := point m c t (grads m c t) hm hg (y 0) (y 1)
  blk_simp; rw [after0_10, left_10]
  refine (congrArg _ (eq_ix2 y)).trans ?_
  refine hq.trans ?_
  blk_point [idx_val t]

/-- The same in the narrow format. -/
theorem final11 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 11 (cfgs 0).N = Cert.Reference12Ideal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_covers 11 _ (by decide +kernel) fun (t : Fin cfg0.N) hf y => ?_
  have hq := point m c t (grads m c t) hm hg (y 0) (y 1)
  blk_simp; rw [after0_11, left_11]
  refine (congrArg _ (eq_ix2 y)).trans ?_
  refine (narrow _ _ _ _ _ _ _ _).trans (hq.trans ?_)
  pointwise [Cert.Reference12Ideal.Read.val_main_v107]
  blk_point [idx_val t]

/-- The gradient of the inner activations in the narrow format. -/
theorem final12 (c : Dev nD) : (dats m 0 c).arrAt 12 (cfgs 0).N = Cert.Reference12Ideal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun (t : Fin cfg0.N) hf y => ?_
  have hq := left_12 m c t y
  blk_simp; rw [after0_12, left_12]
  pointwise [Cert.Reference12Ideal.Read.val_main_v108]
  blk_point [idx_val t]

/-- The gradient of the recurrence's output. -/
theorem final13 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 13 (cfgs 0).N = Cert.Reference12Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_covers 13 _ (by decide +kernel) fun (t : Fin cfg0.N) hf y => ?_
  have hb : ∀ (r : Fin 256) (k : Fin 1024), proj m c t (ix2 r k) = Cert.Reference12Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := projected m c t (point m c t (grads m c t) hm hg)
  have hq := rec_half m c t hb (y 0) (y 1)
  blk_simp; rw [after0_13, left_13]
  refine (congrArg _ (eq_ix2 y)).trans ?_
  refine hq.trans ?_
  blk_point [idx_val t]

/-- The gradient of the attention's output. -/
theorem final14 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 14 (cfgs 0).N = Cert.Reference12Ideal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_covers 14 _ (by decide +kernel) fun (t : Fin cfg0.N) hf y => ?_
  have hb : ∀ (r : Fin 256) (k : Fin 1024), proj m c t (ix2 r k) = Cert.Reference12Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := projected m c t (point m c t (grads m c t) hm hg)
  have hq := attn_point m c t hb h1 ha (y 0) (y 1)
  blk_simp; rw [after0_14, left_14]
  refine (congrArg _ (eq_ix2 y)).trans ?_
  refine hq.trans ?_
  blk_point [idx_val t]

/-- The sums over a head of that gradient times the output. -/
theorem final15 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 15 (cfgs 0).N = Cert.Reference12Ideal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_covers 15 _ (by decide +kernel) fun (t : Fin cfg0.N) hf y => ?_
  have hb : ∀ (r : Fin 256) (k : Fin 1024), proj m c t (ix2 r k) = Cert.Reference12Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨256 * t.val + r.val, row_lt t r⟩ k) := projected m c t (point m c t (grads m c t) hm hg)
  have hq := head_point m c t (product m c t (attn_point m c t hb h1 ha)) hd (y 0) (y 1)
  blk_simp; rw [after0_15, left_15]
  refine (congrArg _ (eq_ix2 y)).trans ?_
  refine hq.trans ?_
  blk_point [idx_val t]

/-- The gradient of the eight copies of the feed-forward norm's gain. -/
theorem final16 (c : Dev nD) : (dats m 0 c).arrAt 16 (cfgs 0).N = Cert.Reference12Ideal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.2.1) 16 (fun _ => 0)
    (fun t j => k0_pay2 (k0_pay26 (seven m c t) (last_tile m c t) (last_weights m c t) (iblk m c 2 t)) j)
    (fun t h j => by
      have ht : t.val < 16 := lt_of_lt_of_eq t.isLt (show cfg0.N = 16 from N_0)
      rw [outsAt0_A m c t h (by omega) h (by omega)]
      frame_open
      simp (disch := decide) only [↓ View.readCov_skip, ↓ View.readCov_cons_toLoadRect, ↓ View.readCov_fill]
      frame_out
      exact (zero_add _).symm)
    (fun t h j => by
      have ht : t.val < 16 := lt_of_lt_of_eq t.isLt (show cfg0.N = 16 from N_0)
      rw [outsAt0_B m c t h (by omega) h (by omega)]
      frame_open
      simp (disch := decide) only [↓ View.readCov_skip, ↓ View.readCov_cons_toLoadRect, ↓ View.readCov_fill]
      frame_out
      exact carried _ _ j)
    (le_of_eq N_0) t0_15 rfl j, zero_add]
  obtain ⟨p, k, rfl⟩ : ∃ (p : Fin 8) (k : Fin 1024), j = ix2 p k := ⟨j 0, j 1, eq_ix2 j⟩
  exact (Finset.sum_congr rfl fun t _ => part m c t (grads m c t) p k).trans (dgain_eq _ _ _ _ _ _ _ _ _ p k)

/-- The gradient of the eight copies of the attention norm's gain. -/
theorem final17 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)): (dats m 0 c).arrAt 17 (cfgs 0).N = Cert.Reference12Ideal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hm, hg, ha, hd⟩ := real_products _ _ _ _ _ _ _ _ _ h0 h1 h2 h3 h4 h5 h6 h7 h8
  refine (dats m 0 c).arrAt_eq_of_after_last 17 t0_15 (by decide +kernel) _ fun j => ?_
  blk_simp
  rw [after0_17, Pipeline.eq_sum_fin_of_reset_step_apply_last (fun n h => (outsAt0 m c n h).2.2.2.2.2.2.2) 16 (fun _ => 0)
    (fun t j => k0_pay4 (k0_pay35 (proj m c t) (iblk m c 5 t)) j)
    (fun t h j => by
      have ht : t.val < 16 := lt_of_lt_of_eq t.isLt (show cfg0.N = 16 from N_0)
      rw [outsAt0_A m c t h (by omega) h (by omega)]
      frame_open
      simp (disch := decide) only [↓ View.readCov_skip, ↓ View.readCov_cons_toLoadRect, ↓ View.readCov_fill]
      frame_out
      exact (zero_add _).symm)
    (fun t h j => by
      have ht : t.val < 16 := lt_of_lt_of_eq t.isLt (show cfg0.N = 16 from N_0)
      rw [outsAt0_B m c t h (by omega) h (by omega)]
      frame_open
      simp (disch := decide) only [↓ View.readCov_skip, ↓ View.readCov_cons_toLoadRect, ↓ View.readCov_fill]
      frame_out
      exact attn_carried _ _ j)
    (le_of_eq N_0) t0_15 rfl j, zero_add]
  obtain ⟨p, k, rfl⟩ : ∃ (p : Fin 8) (k : Fin 512), j = ix2 p k := ⟨j 0, j 1, eq_ix2 j⟩
  exact (Finset.sum_congr rfl fun t _ => attn_part m c t (projected m c t (point m c t (grads m c t) hm hg)) p k).trans (dattn_gain_eq _ _ _ _ _ _ _ _ _ p k)

end Cert.Kernel12Ideal.Value
end
-- ==== Proof.Value13.lean ====
module

public import proofs.«01_k».proof.Proof.Gen.Kernel13Ideal.Value
public import proofs.«01_k».proof.Proof.Gen.Reference13Ideal.Read
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.Kernel13Ideal.Value

open Cert.Kernel13Ideal Cert.Kernel13Ideal.Gen

variable (m : (ℓ : Loc nD τ sig) → Buf (Elt Ideal) ℓ)

/-- The block indices of the windows at every grid point. -/
theorem idx_val : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0] :=
  (by decide +kernel : ∀ t : Fin grid0.N, _)

theorem row_lt (t : Fin cfg0.N) (r : Fin 128) : 128 * t.val + r.val < 512 := by
  have h : t.val < 4 := lt_of_lt_of_eq t.isLt (show cfg0.N = 4 from N_0)
  omega

/-- The sum of the eight parts of layer 0 at one place. -/
theorem sum_0 (c : Dev nD) (t : Fin cfg0.N) (r : Fin 128) (k : Fin 1024) :
    k0_pay8 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (ix2 r k) = Cert.Reference13Ideal.Read.val_main_v6 (F := Ideal) (m ((c : Thread nD τ).loc main_arg0)) (m ((c : Thread nD τ).loc main_arg1)) (ix3 (0 : Fin 2) ⟨128 * t.val + r.val, row_lt t r⟩ k) := by
  pointwise [k0_pay8, k0_pay22, k0_pay23, k0_pay6, k0_pay7, Cert.Reference13Ideal.Read.val_main_v0, Cert.Reference13Ideal.Read.val_main_v1, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_cst, Cert.Reference13Ideal.Read.val_main_cst_0]
  simp only [Fin.sum_univ_eight]
  blk_point [iblk, V, idx_val t]

/-- The sum of the eight parts of layer 1 at one place. -/
theorem sum_1 (c : Dev nD) (t : Fin cfg0.N) (r : Fin 128) (k : Fin 1024) :
    k0_pay17 (k0_pay24 (iblk m c 0 t) (iblk m c 1 t) (iblk m c 2 t) (iblk m c 3 t) (iblk m c 4 t)) (View.ld (iblk m c 1 t) r0_7) (View.ld (iblk m c 1 t) r0_8) (ix2 r k) = Cert.Reference13Ideal.Read.val_main_v6 (F := Ideal) (m ((c : Thread nD τ).loc main_arg0)) (m ((c : Thread nD τ).loc main_arg1)) (ix3 (1 : Fin 2) ⟨128 * t.val + r.val, row_lt t r⟩ k) := by
  pointwise [k0_pay17, k0_pay24, k0_pay16, Cert.Reference13Ideal.Read.val_main_v0, Cert.Reference13Ideal.Read.val_main_v1, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_cst, Cert.Reference13Ideal.Read.val_main_cst_0]
  simp only [Fin.sum_univ_eight]
  blk_point [iblk, V, idx_val t]

/-- The first moment of layer 0 at one place. -/
theorem first_0 (c : Dev nD) (t : Fin cfg0.N) (r : Fin 128) (k : Fin 1024) :
    k0_pay9 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 3 t) r0_9) (ix2 r k) = Cert.Reference13Ideal.Read.val_main_v11 (F := Ideal) (m ((c : Thread nD τ).loc main_arg0)) (m ((c : Thread nD τ).loc main_arg1)) (m ((c : Thread nD τ).loc main_arg3)) (ix3 (0 : Fin 2) ⟨128 * t.val + r.val, row_lt t r⟩ k) := by
  pointwise [k0_pay9, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_cst_1, Cert.Reference13Ideal.Read.val_main_cst_2]
  simp only [sum_0]
  blk_point [iblk, V, idx_val t]

/-- The second moment of layer 0 at one place. -/
theorem second_0 (c : Dev nD) (t : Fin cfg0.N) (r : Fin 128) (k : Fin 1024) :
    k0_pay10 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 4 t) r0_9) (ix2 r k) = Cert.Reference13Ideal.Read.val_main_v17 (F := Ideal) (m ((c : Thread nD τ).loc main_arg0)) (m ((c : Thread nD τ).loc main_arg1)) (m ((c : Thread nD τ).loc main_arg4)) (ix3 (0 : Fin 2) ⟨128 * t.val + r.val, row_lt t r⟩ k) := by
  pointwise [k0_pay10, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_cst_3, Cert.Reference13Ideal.Read.val_main_cst_4]
  simp only [sum_0]
  blk_point [iblk, V, idx_val t]

/-- The step of layer 0 at one place. -/
theorem step_0 (c : Dev nD) (t : Fin cfg0.N) (r : Fin 128) (k : Fin 1024) :
    k0_pay11 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 2 t) r0_9) (View.ld (iblk m c 3 t) r0_9) (View.ld (iblk m c 4 t) r0_9) (ix2 r k) = Cert.Reference13Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (0 : Fin 2) ⟨128 * t.val + r.val, row_lt t r⟩ k) := by
  pointwise [k0_pay11, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_v24, Cert.Reference13Ideal.Read.val_main_v25, Cert.Reference13Ideal.Read.val_main_v26, Cert.Reference13Ideal.Read.val_main_v27, Cert.Reference13Ideal.Read.val_main_v28, Cert.Reference13Ideal.Read.val_main_v29, Cert.Reference13Ideal.Read.val_main_v30, Cert.Reference13Ideal.Read.val_main_cst_5, Cert.Reference13Ideal.Read.val_main_cst_6, Cert.Reference13Ideal.Read.val_main_cst_7, Cert.Reference13Ideal.Read.val_main_cst_8, Cert.Reference13Ideal.Read.val_main_cst_9]
  simp only [first_0, second_0]
  blk_point [iblk, V, idx_val t]

/-- The first moment of layer 1 at one place. -/
theorem first_1 (c : Dev nD) (t : Fin cfg0.N) (r : Fin 128) (k : Fin 1024) :
    k0_pay18 (k0_pay24 (iblk m c 0 t) (iblk m c 1 t) (iblk m c 2 t) (iblk m c 3 t) (iblk m c 4 t)) (View.ld (iblk m c 1 t) r0_7) (View.ld (iblk m c 1 t) r0_8) (View.ld (iblk m c 3 t) r0_10) (ix2 r k) = Cert.Reference13Ideal.Read.val_main_v11 (F := Ideal) (m ((c : Thread nD τ).loc main_arg0)) (m ((c : Thread nD τ).loc main_arg1)) (m ((c : Thread nD τ).loc main_arg3)) (ix3 (1 : Fin 2) ⟨128 * t.val + r.val, row_lt t r⟩ k) := by
  pointwise [k0_pay18, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_cst_1, Cert.Reference13Ideal.Read.val_main_cst_2]
  simp only [sum_1]
  blk_point [iblk, V, idx_val t]

/-- The second moment of layer 1 at one place. -/
theorem second_1 (c : Dev nD) (t : Fin cfg0.N) (r : Fin 128) (k : Fin 1024) :
    k0_pay19 (k0_pay24 (iblk m c 0 t) (iblk m c 1 t) (iblk m c 2 t) (iblk m c 3 t) (iblk m c 4 t)) (View.ld (iblk m c 1 t) r0_7) (View.ld (iblk m c 1 t) r0_8) (View.ld (iblk m c 4 t) r0_10) (ix2 r k) = Cert.Reference13Ideal.Read.val_main_v17 (F := Ideal) (m ((c : Thread nD τ).loc main_arg0)) (m ((c : Thread nD τ).loc main_arg1)) (m ((c : Thread nD τ).loc main_arg4)) (ix3 (1 : Fin 2) ⟨128 * t.val + r.val, row_lt t r⟩ k) := by
  pointwise [k0_pay19, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_cst_3, Cert.Reference13Ideal.Read.val_main_cst_4]
  simp only [sum_1]
  blk_point [iblk, V, idx_val t]

/-- The step of layer 1 at one place, before the factor of the learning rate. -/
theorem step_1 (c : Dev nD) (t : Fin cfg0.N) (r : Fin 128) (k : Fin 1024) :
    k0_pay20 (k0_pay24 (iblk m c 0 t) (iblk m c 1 t) (iblk m c 2 t) (iblk m c 3 t) (iblk m c 4 t)) (View.ld (iblk m c 1 t) r0_7) (View.ld (iblk m c 1 t) r0_8) (View.ld (iblk m c 2 t) r0_10) (View.ld (iblk m c 3 t) r0_10) (View.ld (iblk m c 4 t) r0_10) (ix2 r k) = Cert.Reference13Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (1 : Fin 2) ⟨128 * t.val + r.val, row_lt t r⟩ k) := by
  pointwise [k0_pay20, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_v24, Cert.Reference13Ideal.Read.val_main_v25, Cert.Reference13Ideal.Read.val_main_v26, Cert.Reference13Ideal.Read.val_main_v27, Cert.Reference13Ideal.Read.val_main_v28, Cert.Reference13Ideal.Read.val_main_cst_5, Cert.Reference13Ideal.Read.val_main_cst_6, Cert.Reference13Ideal.Read.val_main_cst_7, Cert.Reference13Ideal.Read.val_main_cst_8]
  simp only [first_1, second_1]
  blk_point [iblk, V, idx_val t]

/-- The gradient. -/
theorem final5 (c : Dev nD) : (dats m 0 c).arrAt 5 (cfgs 0).N = Cert.Reference13Ideal.Read.val_main_v6 (F := Ideal) (m ((c : Thread nD τ).loc main_arg0)) (m ((c : Thread nD τ).loc main_arg1)) := by
  refine (dats m 0 c).arrAt_eq_of_covers 5 _ (by decide +kernel) fun (t : Fin cfg0.N) hf y => ?_
  blk_simp; rw [after0_5]
  frame_out
  canon_tiles x hx
  · refine (congrArg _ (eq_ix3 x)).trans ?_
    pointwise [k0_pay1]
    refine (sum_1 m c t (x 1) (x 2)).trans ?_
    blk_point [idx_val t]
  · refine (congrArg _ (eq_ix3 x)).trans ?_
    pointwise [k0_pay12]
    refine (sum_0 m c t (x 1) (x 2)).trans ?_
    blk_point [idx_val t]

/-- The change of the weights. -/
theorem final6 (c : Dev nD) : (dats m 0 c).arrAt 6 (cfgs 0).N = Cert.Reference13Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun (t : Fin cfg0.N) hf y => ?_
  blk_simp; rw [after0_6]
  frame_out
  canon_tiles x hx
  · refine (congrArg _ (eq_ix3 x)).trans ?_
    pointwise [k0_pay2, k0_pay21, Cert.Reference13Ideal.Read.val_main_v29, Cert.Reference13Ideal.Read.val_main_v30, Cert.Reference13Ideal.Read.val_main_cst_9]
    refine congrArg (_ * ·) ((step_1 m c t (x 1) (x 2)).trans ?_)
    blk_point [idx_val t]
  · refine (congrArg _ (eq_ix3 x)).trans ?_
    pointwise [k0_pay13]
    refine (step_0 m c t (x 1) (x 2)).trans ?_
    blk_point [idx_val t]

/-- The new first moment. -/
theorem final7 (c : Dev nD) : (dats m 0 c).arrAt 7 (cfgs 0).N = Cert.Reference13Ideal.Read.val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun (t : Fin cfg0.N) hf y => ?_
  blk_simp; rw [after0_7]
  frame_out
  canon_tiles x hx
  · refine (congrArg _ (eq_ix3 x)).trans ?_
    pointwise [k0_pay3]
    refine (first_1 m c t (x 1) (x 2)).trans ?_
    blk_point [idx_val t]
  · refine (congrArg _ (eq_ix3 x)).trans ?_
    pointwise [k0_pay14]
    refine (first_0 m c t (x 1) (x 2)).trans ?_
    blk_point [idx_val t]

/-- The new second moment. -/
theorem final8 (c : Dev nD) : (dats m 0 c).arrAt 8 (cfgs 0).N = Cert.Reference13Ideal.Read.val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun (t : Fin cfg0.N) hf y => ?_
  blk_simp; rw [after0_8]
  frame_out
  canon_tiles x hx
  · refine (congrArg _ (eq_ix3 x)).trans ?_
    pointwise [k0_pay4]
    refine (second_1 m c t (x 1) (x 2)).trans ?_
    blk_point [idx_val t]
  · refine (congrArg _ (eq_ix3 x)).trans ?_
    pointwise [k0_pay15]
    refine (second_0 m c t (x 1) (x 2)).trans ?_
    blk_point [idx_val t]

end Cert.Kernel13Ideal.Value
end
-- ==== Proof.Value14.lean ====
module

public import proofs.«01_k».proof.Proof.Gen.Kernel14Ideal.Value
public import proofs.«01_k».proof.Proof.Gen.Reference14Ideal.Read
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.Kernel14Ideal.Value

open Cert.Kernel14Ideal Cert.Kernel14Ideal.Gen

variable (m : (ℓ : Loc nD τ sig) → Buf (Elt Ideal) ℓ)

/-- The block indices of the windows at every grid point. -/
theorem idx_val : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0] :=
  (by decide +kernel : ∀ t : Fin grid0.N, _)

theorem row_lt (t : Fin cfg0.N) (r : Fin 512) : 512 * t.val + r.val < 1024 := by
  have h : t.val < 2 := lt_of_lt_of_eq t.isLt (show cfg0.N = 2 from N_0)
  omega

/-- The sum of the eight parts of layer 0 at one place. -/
theorem sum_0 (c : Dev nD) (t : Fin cfg0.N) (r : Fin 512) (k : Fin 512) :
    k0_pay8 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (ix2 r k) = Cert.Reference14Ideal.Read.val_main_v6 (F := Ideal) (m ((c : Thread nD τ).loc main_arg0)) (m ((c : Thread nD τ).loc main_arg1)) (ix3 (0 : Fin 2) ⟨512 * t.val + r.val, row_lt t r⟩ k) := by
  pointwise [k0_pay8, k0_pay22, k0_pay23, k0_pay6, k0_pay7, Cert.Reference14Ideal.Read.val_main_v0, Cert.Reference14Ideal.Read.val_main_v1, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_cst, Cert.Reference14Ideal.Read.val_main_cst_0]
  simp only [Fin.sum_univ_eight]
  blk_point [iblk, V, idx_val t]

/-- The sum of the eight parts of layer 1 at one place. -/
theorem sum_1 (c : Dev nD) (t : Fin cfg0.N) (r : Fin 512) (k : Fin 512) :
    k0_pay17 (k0_pay24 (iblk m c 0 t) (iblk m c 1 t) (iblk m c 2 t) (iblk m c 3 t) (iblk m c 4 t)) (View.ld (iblk m c 1 t) r0_7) (View.ld (iblk m c 1 t) r0_8) (ix2 r k) = Cert.Reference14Ideal.Read.val_main_v6 (F := Ideal) (m ((c : Thread nD τ).loc main_arg0)) (m ((c : Thread nD τ).loc main_arg1)) (ix3 (1 : Fin 2) ⟨512 * t.val + r.val, row_lt t r⟩ k) := by
  pointwise [k0_pay17, k0_pay24, k0_pay16, Cert.Reference14Ideal.Read.val_main_v0, Cert.Reference14Ideal.Read.val_main_v1, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_cst, Cert.Reference14Ideal.Read.val_main_cst_0]
  simp only [Fin.sum_univ_eight]
  blk_point [iblk, V, idx_val t]

/-- The first moment of layer 0 at one place. -/
theorem first_0 (c : Dev nD) (t : Fin cfg0.N) (r : Fin 512) (k : Fin 512) :
    k0_pay9 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 3 t) r0_9) (ix2 r k) = Cert.Reference14Ideal.Read.val_main_v11 (F := Ideal) (m ((c : Thread nD τ).loc main_arg0)) (m ((c : Thread nD τ).loc main_arg1)) (m ((c : Thread nD τ).loc main_arg3)) (ix3 (0 : Fin 2) ⟨512 * t.val + r.val, row_lt t r⟩ k) := by
  pointwise [k0_pay9, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_cst_1, Cert.Reference14Ideal.Read.val_main_cst_2]
  simp only [sum_0]
  blk_point [iblk, V, idx_val t]

/-- The second moment of layer 0 at one place. -/
theorem second_0 (c : Dev nD) (t : Fin cfg0.N) (r : Fin 512) (k : Fin 512) :
    k0_pay10 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 4 t) r0_9) (ix2 r k) = Cert.Reference14Ideal.Read.val_main_v17 (F := Ideal) (m ((c : Thread nD τ).loc main_arg0)) (m ((c : Thread nD τ).loc main_arg1)) (m ((c : Thread nD τ).loc main_arg4)) (ix3 (0 : Fin 2) ⟨512 * t.val + r.val, row_lt t r⟩ k) := by
  pointwise [k0_pay10, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_cst_3, Cert.Reference14Ideal.Read.val_main_cst_4]
  simp only [sum_0]
  blk_point [iblk, V, idx_val t]

/-- The step of layer 0 at one place. -/
theorem step_0 (c : Dev nD) (t : Fin cfg0.N) (r : Fin 512) (k : Fin 512) :
    k0_pay11 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 2 t) r0_9) (View.ld (iblk m c 3 t) r0_9) (View.ld (iblk m c 4 t) r0_9) (ix2 r k) = Cert.Reference14Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (0 : Fin 2) ⟨512 * t.val + r.val, row_lt t r⟩ k) := by
  pointwise [k0_pay11, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_v26, Cert.Reference14Ideal.Read.val_main_v27, Cert.Reference14Ideal.Read.val_main_v28, Cert.Reference14Ideal.Read.val_main_v29, Cert.Reference14Ideal.Read.val_main_v30, Cert.Reference14Ideal.Read.val_main_cst_5, Cert.Reference14Ideal.Read.val_main_cst_6, Cert.Reference14Ideal.Read.val_main_cst_7, Cert.Reference14Ideal.Read.val_main_cst_8, Cert.Reference14Ideal.Read.val_main_cst_9]
  simp only [first_0, second_0]
  blk_point [iblk, V, idx_val t]

/-- The first moment of layer 1 at one place. -/
theorem first_1 (c : Dev nD) (t : Fin cfg0.N) (r : Fin 512) (k : Fin 512) :
    k0_pay18 (k0_pay24 (iblk m c 0 t) (iblk m c 1 t) (iblk m c 2 t) (iblk m c 3 t) (iblk m c 4 t)) (View.ld (iblk m c 1 t) r0_7) (View.ld (iblk m c 1 t) r0_8) (View.ld (iblk m c 3 t) r0_10) (ix2 r k) = Cert.Reference14Ideal.Read.val_main_v11 (F := Ideal) (m ((c : Thread nD τ).loc main_arg0)) (m ((c : Thread nD τ).loc main_arg1)) (m ((c : Thread nD τ).loc main_arg3)) (ix3 (1 : Fin 2) ⟨512 * t.val + r.val, row_lt t r⟩ k) := by
  pointwise [k0_pay18, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_cst_1, Cert.Reference14Ideal.Read.val_main_cst_2]
  simp only [sum_1]
  blk_point [iblk, V, idx_val t]

/-- The second moment of layer 1 at one place. -/
theorem second_1 (c : Dev nD) (t : Fin cfg0.N) (r : Fin 512) (k : Fin 512) :
    k0_pay19 (k0_pay24 (iblk m c 0 t) (iblk m c 1 t) (iblk m c 2 t) (iblk m c 3 t) (iblk m c 4 t)) (View.ld (iblk m c 1 t) r0_7) (View.ld (iblk m c 1 t) r0_8) (View.ld (iblk m c 4 t) r0_10) (ix2 r k) = Cert.Reference14Ideal.Read.val_main_v17 (F := Ideal) (m ((c : Thread nD τ).loc main_arg0)) (m ((c : Thread nD τ).loc main_arg1)) (m ((c : Thread nD τ).loc main_arg4)) (ix3 (1 : Fin 2) ⟨512 * t.val + r.val, row_lt t r⟩ k) := by
  pointwise [k0_pay19, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_cst_3, Cert.Reference14Ideal.Read.val_main_cst_4]
  simp only [sum_1]
  blk_point [iblk, V, idx_val t]

/-- The step of layer 1 at one place, before the factor of the learning rate. -/
theorem step_1 (c : Dev nD) (t : Fin cfg0.N) (r : Fin 512) (k : Fin 512) :
    k0_pay20 (k0_pay24 (iblk m c 0 t) (iblk m c 1 t) (iblk m c 2 t) (iblk m c 3 t) (iblk m c 4 t)) (View.ld (iblk m c 1 t) r0_7) (View.ld (iblk m c 1 t) r0_8) (View.ld (iblk m c 2 t) r0_10) (View.ld (iblk m c 3 t) r0_10) (View.ld (iblk m c 4 t) r0_10) (ix2 r k) = Cert.Reference14Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (1 : Fin 2) ⟨512 * t.val + r.val, row_lt t r⟩ k) := by
  pointwise [k0_pay20, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_v26, Cert.Reference14Ideal.Read.val_main_v27, Cert.Reference14Ideal.Read.val_main_v28, Cert.Reference14Ideal.Read.val_main_cst_5, Cert.Reference14Ideal.Read.val_main_cst_6, Cert.Reference14Ideal.Read.val_main_cst_7, Cert.Reference14Ideal.Read.val_main_cst_8]
  simp only [first_1, second_1]
  blk_point [iblk, V, idx_val t]

/-- The gradient. -/
theorem final5 (c : Dev nD) : (dats m 0 c).arrAt 5 (cfgs 0).N = Cert.Reference14Ideal.Read.val_main_v6 (F := Ideal) (m ((c : Thread nD τ).loc main_arg0)) (m ((c : Thread nD τ).loc main_arg1)) := by
  refine (dats m 0 c).arrAt_eq_of_covers 5 _ (by decide +kernel) fun (t : Fin cfg0.N) hf y => ?_
  blk_simp; rw [after0_5]
  frame_out
  canon_tiles x hx
  · refine (congrArg _ (eq_ix3 x)).trans ?_
    pointwise [k0_pay1]
    refine (sum_1 m c t (x 1) (x 2)).trans ?_
    blk_point [idx_val t]
  · refine (congrArg _ (eq_ix3 x)).trans ?_
    pointwise [k0_pay12]
    refine (sum_0 m c t (x 1) (x 2)).trans ?_
    blk_point [idx_val t]

/-- The change of the weights. -/
theorem final6 (c : Dev nD) : (dats m 0 c).arrAt 6 (cfgs 0).N = Cert.Reference14Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun (t : Fin cfg0.N) hf y => ?_
  blk_simp; rw [after0_6]
  frame_out
  canon_tiles x hx
  · refine (congrArg _ (eq_ix3 x)).trans ?_
    pointwise [k0_pay2, k0_pay21, Cert.Reference14Ideal.Read.val_main_v29, Cert.Reference14Ideal.Read.val_main_v30, Cert.Reference14Ideal.Read.val_main_cst_9]
    refine congrArg (_ * ·) ((step_1 m c t (x 1) (x 2)).trans ?_)
    blk_point [idx_val t]
  · refine (congrArg _ (eq_ix3 x)).trans ?_
    pointwise [k0_pay13]
    refine (step_0 m c t (x 1) (x 2)).trans ?_
    blk_point [idx_val t]

/-- The new first moment. -/
theorem final7 (c : Dev nD) : (dats m 0 c).arrAt 7 (cfgs 0).N = Cert.Reference14Ideal.Read.val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun (t : Fin cfg0.N) hf y => ?_
  blk_simp; rw [after0_7]
  frame_out
  canon_tiles x hx
  · refine (congrArg _ (eq_ix3 x)).trans ?_
    pointwise [k0_pay3]
    refine (first_1 m c t (x 1) (x 2)).trans ?_
    blk_point [idx_val t]
  · refine (congrArg _ (eq_ix3 x)).trans ?_
    pointwise [k0_pay14]
    refine (first_0 m c t (x 1) (x 2)).trans ?_
    blk_point [idx_val t]

/-- The new second moment. -/
theorem final8 (c : Dev nD) : (dats m 0 c).arrAt 8 (cfgs 0).N = Cert.Reference14Ideal.Read.val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun (t : Fin cfg0.N) hf y => ?_
  blk_simp; rw [after0_8]
  frame_out
  canon_tiles x hx
  · refine (congrArg _ (eq_ix3 x)).trans ?_
    pointwise [k0_pay4]
    refine (second_1 m c t (x 1) (x 2)).trans ?_
    blk_point [idx_val t]
  · refine (congrArg _ (eq_ix3 x)).trans ?_
    pointwise [k0_pay15]
    refine (second_0 m c t (x 1) (x 2)).trans ?_
    blk_point [idx_val t]

end Cert.Kernel14Ideal.Value
end
-- ==== Proof.Value15.lean ====
module

public import proofs.«01_k».proof.Proof.Gen.Kernel15Ideal.Value
public import proofs.«01_k».proof.Proof.Gen.Reference15Ideal.Read
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.Kernel15Ideal.Value

open Cert.Kernel15Ideal Cert.Kernel15Ideal.Gen

variable (m : (ℓ : Loc nD τ sig) → Buf (Elt Ideal) ℓ)

/-- The block indices of the windows at every grid point. -/
theorem idx_val : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0] :=
  (by decide +kernel : ∀ t : Fin grid0.N, _)

theorem row_lt (t : Fin cfg0.N) (r : Fin 128) : 128 * t.val + r.val < 128 := by
  have h : t.val < 1 := lt_of_lt_of_eq t.isLt (show cfg0.N = 1 from N_0)
  omega

/-- The sum of the eight parts of layer 0 at one place. -/
theorem sum_0 (c : Dev nD) (t : Fin cfg0.N) (r : Fin 128) (k : Fin 1024) :
    k0_pay8 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (ix2 r k) = Cert.Reference15Ideal.Read.val_main_v6 (F := Ideal) (m ((c : Thread nD τ).loc main_arg0)) (m ((c : Thread nD τ).loc main_arg1)) (ix3 (0 : Fin 2) ⟨128 * t.val + r.val, row_lt t r⟩ k) := by
  pointwise [k0_pay8, k0_pay22, k0_pay23, k0_pay6, k0_pay7, Cert.Reference15Ideal.Read.val_main_v0, Cert.Reference15Ideal.Read.val_main_v1, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_cst, Cert.Reference15Ideal.Read.val_main_cst_0]
  simp only [Fin.sum_univ_eight]
  blk_point [iblk, V, idx_val t]

/-- The sum of the eight parts of layer 1 at one place. -/
theorem sum_1 (c : Dev nD) (t : Fin cfg0.N) (r : Fin 128) (k : Fin 1024) :
    k0_pay17 (k0_pay24 (iblk m c 0 t) (iblk m c 1 t) (iblk m c 2 t) (iblk m c 3 t) (iblk m c 4 t)) (View.ld (iblk m c 1 t) r0_7) (View.ld (iblk m c 1 t) r0_8) (ix2 r k) = Cert.Reference15Ideal.Read.val_main_v6 (F := Ideal) (m ((c : Thread nD τ).loc main_arg0)) (m ((c : Thread nD τ).loc main_arg1)) (ix3 (1 : Fin 2) ⟨128 * t.val + r.val, row_lt t r⟩ k) := by
  pointwise [k0_pay17, k0_pay24, k0_pay16, Cert.Reference15Ideal.Read.val_main_v0, Cert.Reference15Ideal.Read.val_main_v1, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_cst, Cert.Reference15Ideal.Read.val_main_cst_0]
  simp only [Fin.sum_univ_eight]
  blk_point [iblk, V, idx_val t]

/-- The first moment of layer 0 at one place. -/
theorem first_0 (c : Dev nD) (t : Fin cfg0.N) (r : Fin 128) (k : Fin 1024) :
    k0_pay9 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 3 t) r0_9) (ix2 r k) = Cert.Reference15Ideal.Read.val_main_v11 (F := Ideal) (m ((c : Thread nD τ).loc main_arg0)) (m ((c : Thread nD τ).loc main_arg1)) (m ((c : Thread nD τ).loc main_arg3)) (ix3 (0 : Fin 2) ⟨128 * t.val + r.val, row_lt t r⟩ k) := by
  pointwise [k0_pay9, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_cst_1, Cert.Reference15Ideal.Read.val_main_cst_2]
  simp only [sum_0]
  blk_point [iblk, V, idx_val t]

/-- The second moment of layer 0 at one place. -/
theorem second_0 (c : Dev nD) (t : Fin cfg0.N) (r : Fin 128) (k : Fin 1024) :
    k0_pay10 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 4 t) r0_9) (ix2 r k) = Cert.Reference15Ideal.Read.val_main_v17 (F := Ideal) (m ((c : Thread nD τ).loc main_arg0)) (m ((c : Thread nD τ).loc main_arg1)) (m ((c : Thread nD τ).loc main_arg4)) (ix3 (0 : Fin 2) ⟨128 * t.val + r.val, row_lt t r⟩ k) := by
  pointwise [k0_pay10, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_cst_3, Cert.Reference15Ideal.Read.val_main_cst_4]
  simp only [sum_0]
  blk_point [iblk, V, idx_val t]

/-- The step of layer 0 at one place. -/
theorem step_0 (c : Dev nD) (t : Fin cfg0.N) (r : Fin 128) (k : Fin 1024) :
    k0_pay11 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 2 t) r0_9) (View.ld (iblk m c 3 t) r0_9) (View.ld (iblk m c 4 t) r0_9) (ix2 r k) = Cert.Reference15Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (0 : Fin 2) ⟨128 * t.val + r.val, row_lt t r⟩ k) := by
  pointwise [k0_pay11, Cert.Reference15Ideal.Read.val_main_v18, Cert.Reference15Ideal.Read.val_main_v19, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_v29, Cert.Reference15Ideal.Read.val_main_v30, Cert.Reference15Ideal.Read.val_main_cst_5, Cert.Reference15Ideal.Read.val_main_cst_6, Cert.Reference15Ideal.Read.val_main_cst_7, Cert.Reference15Ideal.Read.val_main_cst_8, Cert.Reference15Ideal.Read.val_main_cst_9]
  simp only [first_0, second_0]
  blk_point [iblk, V, idx_val t]

/-- The first moment of layer 1 at one place. -/
theorem first_1 (c : Dev nD) (t : Fin cfg0.N) (r : Fin 128) (k : Fin 1024) :
    k0_pay18 (k0_pay24 (iblk m c 0 t) (iblk m c 1 t) (iblk m c 2 t) (iblk m c 3 t) (iblk m c 4 t)) (View.ld (iblk m c 1 t) r0_7) (View.ld (iblk m c 1 t) r0_8) (View.ld (iblk m c 3 t) r0_10) (ix2 r k) = Cert.Reference15Ideal.Read.val_main_v11 (F := Ideal) (m ((c : Thread nD τ).loc main_arg0)) (m ((c : Thread nD τ).loc main_arg1)) (m ((c : Thread nD τ).loc main_arg3)) (ix3 (1 : Fin 2) ⟨128 * t.val + r.val, row_lt t r⟩ k) := by
  pointwise [k0_pay18, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_cst_1, Cert.Reference15Ideal.Read.val_main_cst_2]
  simp only [sum_1]
  blk_point [iblk, V, idx_val t]

/-- The second moment of layer 1 at one place. -/
theorem second_1 (c : Dev nD) (t : Fin cfg0.N) (r : Fin 128) (k : Fin 1024) :
    k0_pay19 (k0_pay24 (iblk m c 0 t) (iblk m c 1 t) (iblk m c 2 t) (iblk m c 3 t) (iblk m c 4 t)) (View.ld (iblk m c 1 t) r0_7) (View.ld (iblk m c 1 t) r0_8) (View.ld (iblk m c 4 t) r0_10) (ix2 r k) = Cert.Reference15Ideal.Read.val_main_v17 (F := Ideal) (m ((c : Thread nD τ).loc main_arg0)) (m ((c : Thread nD τ).loc main_arg1)) (m ((c : Thread nD τ).loc main_arg4)) (ix3 (1 : Fin 2) ⟨128 * t.val + r.val, row_lt t r⟩ k) := by
  pointwise [k0_pay19, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_cst_3, Cert.Reference15Ideal.Read.val_main_cst_4]
  simp only [sum_1]
  blk_point [iblk, V, idx_val t]

/-- The step of layer 1 at one place, before the factor of the learning rate. -/
theorem step_1 (c : Dev nD) (t : Fin cfg0.N) (r : Fin 128) (k : Fin 1024) :
    k0_pay20 (k0_pay24 (iblk m c 0 t) (iblk m c 1 t) (iblk m c 2 t) (iblk m c 3 t) (iblk m c 4 t)) (View.ld (iblk m c 1 t) r0_7) (View.ld (iblk m c 1 t) r0_8) (View.ld (iblk m c 2 t) r0_10) (View.ld (iblk m c 3 t) r0_10) (View.ld (iblk m c 4 t) r0_10) (ix2 r k) = Cert.Reference15Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (1 : Fin 2) ⟨128 * t.val + r.val, row_lt t r⟩ k) := by
  pointwise [k0_pay20, Cert.Reference15Ideal.Read.val_main_v18, Cert.Reference15Ideal.Read.val_main_v19, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_cst_5, Cert.Reference15Ideal.Read.val_main_cst_6, Cert.Reference15Ideal.Read.val_main_cst_7, Cert.Reference15Ideal.Read.val_main_cst_8]
  simp only [first_1, second_1]
  blk_point [iblk, V, idx_val t]

/-- The gradient. -/
theorem final05 (c : Dev nD) : (dats m 0 c).arrAt 5 (cfgs 0).N = Cert.Reference15Ideal.Read.val_main_v6 (F := Ideal) (m ((c : Thread nD τ).loc main_arg0)) (m ((c : Thread nD τ).loc main_arg1)) := by
  refine (dats m 0 c).arrAt_eq_of_covers 5 _ (by decide +kernel) fun (t : Fin cfg0.N) hf y => ?_
  blk_simp; rw [after0_5]
  frame_out
  canon_tiles x hx
  · refine (congrArg _ (eq_ix3 x)).trans ?_
    pointwise [k0_pay1]
    refine (sum_1 m c t (x 1) (x 2)).trans ?_
    blk_point [idx_val t]
  · refine (congrArg _ (eq_ix3 x)).trans ?_
    pointwise [k0_pay12]
    refine (sum_0 m c t (x 1) (x 2)).trans ?_
    blk_point [idx_val t]

/-- The change of the weights. -/
theorem final06 (c : Dev nD) : (dats m 0 c).arrAt 6 (cfgs 0).N = Cert.Reference15Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun (t : Fin cfg0.N) hf y => ?_
  blk_simp; rw [after0_6]
  frame_out
  canon_tiles x hx
  · refine (congrArg _ (eq_ix3 x)).trans ?_
    pointwise [k0_pay2, k0_pay21, Cert.Reference15Ideal.Read.val_main_v29, Cert.Reference15Ideal.Read.val_main_v30, Cert.Reference15Ideal.Read.val_main_cst_9]
    refine congrArg (_ * ·) ((step_1 m c t (x 1) (x 2)).trans ?_)
    blk_point [idx_val t]
  · refine (congrArg _ (eq_ix3 x)).trans ?_
    pointwise [k0_pay13]
    refine (step_0 m c t (x 1) (x 2)).trans ?_
    blk_point [idx_val t]

/-- The new first moment. -/
theorem final07 (c : Dev nD) : (dats m 0 c).arrAt 7 (cfgs 0).N = Cert.Reference15Ideal.Read.val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun (t : Fin cfg0.N) hf y => ?_
  blk_simp; rw [after0_7]
  frame_out
  canon_tiles x hx
  · refine (congrArg _ (eq_ix3 x)).trans ?_
    pointwise [k0_pay3]
    refine (first_1 m c t (x 1) (x 2)).trans ?_
    blk_point [idx_val t]
  · refine (congrArg _ (eq_ix3 x)).trans ?_
    pointwise [k0_pay14]
    refine (first_0 m c t (x 1) (x 2)).trans ?_
    blk_point [idx_val t]

/-- The new second moment. -/
theorem final08 (c : Dev nD) : (dats m 0 c).arrAt 8 (cfgs 0).N = Cert.Reference15Ideal.Read.val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun (t : Fin cfg0.N) hf y => ?_
  blk_simp; rw [after0_8]
  frame_out
  canon_tiles x hx
  · refine (congrArg _ (eq_ix3 x)).trans ?_
    pointwise [k0_pay4]
    refine (second_1 m c t (x 1) (x 2)).trans ?_
    blk_point [idx_val t]
  · refine (congrArg _ (eq_ix3 x)).trans ?_
    pointwise [k0_pay15]
    refine (second_0 m c t (x 1) (x 2)).trans ?_
    blk_point [idx_val t]

end Cert.Kernel15Ideal.Value
end
-- ==== Proof.Value16.lean ====
module

public import proofs.«01_k».proof.Proof.Gen.Kernel16Ideal.Value
public import proofs.«01_k».proof.Proof.Gen.Reference16Ideal.Read
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.Kernel16Ideal.Value

open Cert.Kernel16Ideal Cert.Kernel16Ideal.Gen

variable (m : (ℓ : Loc nD τ sig) → Buf (Elt Ideal) ℓ)

/-- The block indices of the windows at every grid point. -/
theorem idx_val : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0] :=
  (by decide +kernel : ∀ t : Fin grid0.N, _)

theorem row_lt (t : Fin cfg0.N) (r : Fin 224) : 224 * t.val + r.val < 448 := by
  have h : t.val < 2 := lt_of_lt_of_eq t.isLt (show cfg0.N = 2 from N_0)
  omega

/-- The sum of the eight parts of layer 0 at one place. -/
theorem sum_0 (c : Dev nD) (t : Fin cfg0.N) (r : Fin 224) (k : Fin 1024) :
    k0_pay8 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (ix2 r k) = Cert.Reference16Ideal.Read.val_main_v6 (F := Ideal) (m ((c : Thread nD τ).loc main_arg0)) (m ((c : Thread nD τ).loc main_arg1)) (ix3 (0 : Fin 2) ⟨224 * t.val + r.val, row_lt t r⟩ k) := by
  pointwise [k0_pay8, k0_pay22, k0_pay23, k0_pay6, k0_pay7, Cert.Reference16Ideal.Read.val_main_v0, Cert.Reference16Ideal.Read.val_main_v1, Cert.Reference16Ideal.Read.val_main_v2, Cert.Reference16Ideal.Read.val_main_v3, Cert.Reference16Ideal.Read.val_main_v4, Cert.Reference16Ideal.Read.val_main_v5, Cert.Reference16Ideal.Read.val_main_v6, Cert.Reference16Ideal.Read.val_main_cst, Cert.Reference16Ideal.Read.val_main_cst_0]
  simp only [Fin.sum_univ_eight]
  blk_point [iblk, V, idx_val t]

/-- The sum of the eight parts of layer 1 at one place. -/
theorem sum_1 (c : Dev nD) (t : Fin cfg0.N) (r : Fin 224) (k : Fin 1024) :
    k0_pay17 (k0_pay24 (iblk m c 0 t) (iblk m c 1 t) (iblk m c 2 t) (iblk m c 3 t) (iblk m c 4 t)) (View.ld (iblk m c 1 t) r0_7) (View.ld (iblk m c 1 t) r0_8) (ix2 r k) = Cert.Reference16Ideal.Read.val_main_v6 (F := Ideal) (m ((c : Thread nD τ).loc main_arg0)) (m ((c : Thread nD τ).loc main_arg1)) (ix3 (1 : Fin 2) ⟨224 * t.val + r.val, row_lt t r⟩ k) := by
  pointwise [k0_pay17, k0_pay24, k0_pay16, Cert.Reference16Ideal.Read.val_main_v0, Cert.Reference16Ideal.Read.val_main_v1, Cert.Reference16Ideal.Read.val_main_v2, Cert.Reference16Ideal.Read.val_main_v3, Cert.Reference16Ideal.Read.val_main_v4, Cert.Reference16Ideal.Read.val_main_v5, Cert.Reference16Ideal.Read.val_main_v6, Cert.Reference16Ideal.Read.val_main_cst, Cert.Reference16Ideal.Read.val_main_cst_0]
  simp only [Fin.sum_univ_eight]
  blk_point [iblk, V, idx_val t]

/-- The first moment of layer 0 at one place. -/
theorem first_0 (c : Dev nD) (t : Fin cfg0.N) (r : Fin 224) (k : Fin 1024) :
    k0_pay9 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 3 t) r0_9) (ix2 r k) = Cert.Reference16Ideal.Read.val_main_v11 (F := Ideal) (m ((c : Thread nD τ).loc main_arg0)) (m ((c : Thread nD τ).loc main_arg1)) (m ((c : Thread nD τ).loc main_arg3)) (ix3 (0 : Fin 2) ⟨224 * t.val + r.val, row_lt t r⟩ k) := by
  pointwise [k0_pay9, Cert.Reference16Ideal.Read.val_main_v7, Cert.Reference16Ideal.Read.val_main_v8, Cert.Reference16Ideal.Read.val_main_v9, Cert.Reference16Ideal.Read.val_main_v10, Cert.Reference16Ideal.Read.val_main_v11, Cert.Reference16Ideal.Read.val_main_cst_1, Cert.Reference16Ideal.Read.val_main_cst_2]
  simp only [sum_0]
  blk_point [iblk, V, idx_val t]

/-- The second moment of layer 0 at one place. -/
theorem second_0 (c : Dev nD) (t : Fin cfg0.N) (r : Fin 224) (k : Fin 1024) :
    k0_pay10 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 4 t) r0_9) (ix2 r k) = Cert.Reference16Ideal.Read.val_main_v17 (F := Ideal) (m ((c : Thread nD τ).loc main_arg0)) (m ((c : Thread nD τ).loc main_arg1)) (m ((c : Thread nD τ).loc main_arg4)) (ix3 (0 : Fin 2) ⟨224 * t.val + r.val, row_lt t r⟩ k) := by
  pointwise [k0_pay10, Cert.Reference16Ideal.Read.val_main_v12, Cert.Reference16Ideal.Read.val_main_v13, Cert.Reference16Ideal.Read.val_main_v14, Cert.Reference16Ideal.Read.val_main_v15, Cert.Reference16Ideal.Read.val_main_v16, Cert.Reference16Ideal.Read.val_main_v17, Cert.Reference16Ideal.Read.val_main_cst_3, Cert.Reference16Ideal.Read.val_main_cst_4]
  simp only [sum_0]
  blk_point [iblk, V, idx_val t]

/-- The step of layer 0 at one place. -/
theorem step_0 (c : Dev nD) (t : Fin cfg0.N) (r : Fin 224) (k : Fin 1024) :
    k0_pay11 (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (View.ld (iblk m c 2 t) r0_9) (View.ld (iblk m c 3 t) r0_9) (View.ld (iblk m c 4 t) r0_9) (ix2 r k) = Cert.Reference16Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (0 : Fin 2) ⟨224 * t.val + r.val, row_lt t r⟩ k) := by
  pointwise [k0_pay11, Cert.Reference16Ideal.Read.val_main_v18, Cert.Reference16Ideal.Read.val_main_v19, Cert.Reference16Ideal.Read.val_main_v20, Cert.Reference16Ideal.Read.val_main_v21, Cert.Reference16Ideal.Read.val_main_v22, Cert.Reference16Ideal.Read.val_main_v23, Cert.Reference16Ideal.Read.val_main_v24, Cert.Reference16Ideal.Read.val_main_v25, Cert.Reference16Ideal.Read.val_main_v26, Cert.Reference16Ideal.Read.val_main_v27, Cert.Reference16Ideal.Read.val_main_v28, Cert.Reference16Ideal.Read.val_main_v29, Cert.Reference16Ideal.Read.val_main_v30, Cert.Reference16Ideal.Read.val_main_cst_5, Cert.Reference16Ideal.Read.val_main_cst_6, Cert.Reference16Ideal.Read.val_main_cst_7, Cert.Reference16Ideal.Read.val_main_cst_8, Cert.Reference16Ideal.Read.val_main_cst_9]
  simp only [first_0, second_0]
  blk_point [iblk, V, idx_val t]

/-- The first moment of layer 1 at one place. -/
theorem first_1 (c : Dev nD) (t : Fin cfg0.N) (r : Fin 224) (k : Fin 1024) :
    k0_pay18 (k0_pay24 (iblk m c 0 t) (iblk m c 1 t) (iblk m c 2 t) (iblk m c 3 t) (iblk m c 4 t)) (View.ld (iblk m c 1 t) r0_7) (View.ld (iblk m c 1 t) r0_8) (View.ld (iblk m c 3 t) r0_10) (ix2 r k) = Cert.Reference16Ideal.Read.val_main_v11 (F := Ideal) (m ((c : Thread nD τ).loc main_arg0)) (m ((c : Thread nD τ).loc main_arg1)) (m ((c : Thread nD τ).loc main_arg3)) (ix3 (1 : Fin 2) ⟨224 * t.val + r.val, row_lt t r⟩ k) := by
  pointwise [k0_pay18, Cert.Reference16Ideal.Read.val_main_v7, Cert.Reference16Ideal.Read.val_main_v8, Cert.Reference16Ideal.Read.val_main_v9, Cert.Reference16Ideal.Read.val_main_v10, Cert.Reference16Ideal.Read.val_main_v11, Cert.Reference16Ideal.Read.val_main_cst_1, Cert.Reference16Ideal.Read.val_main_cst_2]
  simp only [sum_1]
  blk_point [iblk, V, idx_val t]

/-- The second moment of layer 1 at one place. -/
theorem second_1 (c : Dev nD) (t : Fin cfg0.N) (r : Fin 224) (k : Fin 1024) :
    k0_pay19 (k0_pay24 (iblk m c 0 t) (iblk m c 1 t) (iblk m c 2 t) (iblk m c 3 t) (iblk m c 4 t)) (View.ld (iblk m c 1 t) r0_7) (View.ld (iblk m c 1 t) r0_8) (View.ld (iblk m c 4 t) r0_10) (ix2 r k) = Cert.Reference16Ideal.Read.val_main_v17 (F := Ideal) (m ((c : Thread nD τ).loc main_arg0)) (m ((c : Thread nD τ).loc main_arg1)) (m ((c : Thread nD τ).loc main_arg4)) (ix3 (1 : Fin 2) ⟨224 * t.val + r.val, row_lt t r⟩ k) := by
  pointwise [k0_pay19, Cert.Reference16Ideal.Read.val_main_v12, Cert.Reference16Ideal.Read.val_main_v13, Cert.Reference16Ideal.Read.val_main_v14, Cert.Reference16Ideal.Read.val_main_v15, Cert.Reference16Ideal.Read.val_main_v16, Cert.Reference16Ideal.Read.val_main_v17, Cert.Reference16Ideal.Read.val_main_cst_3, Cert.Reference16Ideal.Read.val_main_cst_4]
  simp only [sum_1]
  blk_point [iblk, V, idx_val t]

/-- The step of layer 1 at one place, before the factor of the learning rate. -/
theorem step_1 (c : Dev nD) (t : Fin cfg0.N) (r : Fin 224) (k : Fin 1024) :
    k0_pay20 (k0_pay24 (iblk m c 0 t) (iblk m c 1 t) (iblk m c 2 t) (iblk m c 3 t) (iblk m c 4 t)) (View.ld (iblk m c 1 t) r0_7) (View.ld (iblk m c 1 t) r0_8) (View.ld (iblk m c 2 t) r0_10) (View.ld (iblk m c 3 t) r0_10) (View.ld (iblk m c 4 t) r0_10) (ix2 r k) = Cert.Reference16Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (1 : Fin 2) ⟨224 * t.val + r.val, row_lt t r⟩ k) := by
  pointwise [k0_pay20, Cert.Reference16Ideal.Read.val_main_v18, Cert.Reference16Ideal.Read.val_main_v19, Cert.Reference16Ideal.Read.val_main_v20, Cert.Reference16Ideal.Read.val_main_v21, Cert.Reference16Ideal.Read.val_main_v22, Cert.Reference16Ideal.Read.val_main_v23, Cert.Reference16Ideal.Read.val_main_v24, Cert.Reference16Ideal.Read.val_main_v25, Cert.Reference16Ideal.Read.val_main_v26, Cert.Reference16Ideal.Read.val_main_v27, Cert.Reference16Ideal.Read.val_main_v28, Cert.Reference16Ideal.Read.val_main_cst_5, Cert.Reference16Ideal.Read.val_main_cst_6, Cert.Reference16Ideal.Read.val_main_cst_7, Cert.Reference16Ideal.Read.val_main_cst_8]
  simp only [first_1, second_1]
  blk_point [iblk, V, idx_val t]

/-- The gradient. -/
theorem final5 (c : Dev nD) : (dats m 0 c).arrAt 5 (cfgs 0).N = Cert.Reference16Ideal.Read.val_main_v6 (F := Ideal) (m ((c : Thread nD τ).loc main_arg0)) (m ((c : Thread nD τ).loc main_arg1)) := by
  refine (dats m 0 c).arrAt_eq_of_covers 5 _ (by decide +kernel) fun (t : Fin cfg0.N) hf y => ?_
  blk_simp; rw [after0_5]
  frame_out
  canon_tiles x hx
  · refine (congrArg _ (eq_ix3 x)).trans ?_
    pointwise [k0_pay1]
    refine (sum_1 m c t (x 1) (x 2)).trans ?_
    blk_point [idx_val t]
  · refine (congrArg _ (eq_ix3 x)).trans ?_
    pointwise [k0_pay12]
    refine (sum_0 m c t (x 1) (x 2)).trans ?_
    blk_point [idx_val t]

/-- The change of the weights. -/
theorem final6 (c : Dev nD) : (dats m 0 c).arrAt 6 (cfgs 0).N = Cert.Reference16Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun (t : Fin cfg0.N) hf y => ?_
  blk_simp; rw [after0_6]
  frame_out
  canon_tiles x hx
  · refine (congrArg _ (eq_ix3 x)).trans ?_
    pointwise [k0_pay2, k0_pay21, Cert.Reference16Ideal.Read.val_main_v29, Cert.Reference16Ideal.Read.val_main_v30, Cert.Reference16Ideal.Read.val_main_cst_9]
    refine congrArg (_ * ·) ((step_1 m c t (x 1) (x 2)).trans ?_)
    blk_point [idx_val t]
  · refine (congrArg _ (eq_ix3 x)).trans ?_
    pointwise [k0_pay13]
    refine (step_0 m c t (x 1) (x 2)).trans ?_
    blk_point [idx_val t]

/-- The new first moment. -/
theorem final7 (c : Dev nD) : (dats m 0 c).arrAt 7 (cfgs 0).N = Cert.Reference16Ideal.Read.val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun (t : Fin cfg0.N) hf y => ?_
  blk_simp; rw [after0_7]
  frame_out
  canon_tiles x hx
  · refine (congrArg _ (eq_ix3 x)).trans ?_
    pointwise [k0_pay3]
    refine (first_1 m c t (x 1) (x 2)).trans ?_
    blk_point [idx_val t]
  · refine (congrArg _ (eq_ix3 x)).trans ?_
    pointwise [k0_pay14]
    refine (first_0 m c t (x 1) (x 2)).trans ?_
    blk_point [idx_val t]

/-- The new second moment. -/
theorem final8 (c : Dev nD) : (dats m 0 c).arrAt 8 (cfgs 0).N = Cert.Reference16Ideal.Read.val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun (t : Fin cfg0.N) hf y => ?_
  blk_simp; rw [after0_8]
  frame_out
  canon_tiles x hx
  · refine (congrArg _ (eq_ix3 x)).trans ?_
    pointwise [k0_pay4]
    refine (second_1 m c t (x 1) (x 2)).trans ?_
    blk_point [idx_val t]
  · refine (congrArg _ (eq_ix3 x)).trans ?_
    pointwise [k0_pay15]
    refine (second_0 m c t (x 1) (x 2)).trans ?_
    blk_point [idx_val t]

end Cert.Kernel16Ideal.Value
end
-- ==== Proof.Value17.lean ====
module

public import proofs.«01_k».proof.Proof.SmallRun
public import proofs.«01_k».proof.Proof.Gen.Reference17Ideal.Read
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.Kernel17Ideal.Value

open Cert.Kernel17Ideal Cert.Kernel17Ideal.Gen Cert.Kernel17Ideal.SmallRun Cert.Reference17Ideal.Read

variable (m : (ℓ : Loc nD τ sig) → Buf (Elt Ideal) ℓ)

/-- The block indices of the windows at the one grid point. -/
theorem idx_val : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] ∧ win0_24.index t = ![0, 0] ∧ win0_25.index t = ![0, 0] ∧ win0_26.index t = ![0, 0] ∧ win0_27.index t = ![0, 0] ∧ win0_28.index t = ![0, 0] ∧ win0_29.index t = ![0, 0] ∧ win0_30.index t = ![0, 0] ∧ win0_31.index t = ![0, 0] ∧ win0_32.index t = ![0, 0] ∧ win0_33.index t = ![0, 0] ∧ win0_34.index t = ![0, 0] ∧ win0_35.index t = ![0, 0] ∧ win0_36.index t = ![0, 0] ∧ win0_37.index t = ![0, 0] ∧ win0_38.index t = ![0, 0] ∧ win0_39.index t = ![0, 0] ∧ win0_40.index t = ![0, 0] ∧ win0_41.index t = ![0, 0] ∧ win0_42.index t = ![0, 0] :=
  fun (t : Fin grid0.N) => by and_intros <;> revert t <;> decide +kernel

/-- The gradient of the mixer norms. -/
theorem final19 (c : Dev nD) : (dats m 0 c).arrAt 19 (cfgs 0).N = val_main_v0 (F := Ideal) (m ((c : Thread nD τ).loc main_arg0)) := by
  refine (dats m 0 c).arrAt_eq_of_covers 19 _ (by decide +kernel) fun (t : Fin cfg0.N) hf y => ?_
  blk_simp; rw [after0_19]; unfold out0_19; frame_out
  refine (congrArg _ (eq_ix2 y)).trans ?_
  pointwise [val_main_v0]
  blk_point [iblk, V, idx_val t]

/-- The change of the mixer norms. -/
theorem final20 (c : Dev nD) : (dats m 0 c).arrAt 20 (cfgs 0).N = val_main_v36 (F := Ideal) (m ((c : Thread nD τ).loc main_arg0)) (m ((c : Thread nD τ).loc main_arg1)) (m ((c : Thread nD τ).loc main_arg7)) (m ((c : Thread nD τ).loc main_arg13)) := by
  refine (dats m 0 c).arrAt_eq_of_covers 20 _ (by decide +kernel) fun (t : Fin cfg0.N) hf y => ?_
  blk_simp; rw [after0_20]; unfold out0_20; frame_out
  refine (congrArg _ (eq_ix2 y)).trans ?_
  pointwise [k0_pay8, k0_pay9, k0_pay6, k0_pay7, k0_pay4, k0_pay5, val_main_v0, val_main_v13, val_main_v14, val_main_v15, val_main_v16, val_main_v17, val_main_cst, val_main_cst_0, val_main_v18, val_main_v19, val_main_v20, val_main_v21, val_main_v22, val_main_v23, val_main_cst_1, val_main_cst_2, val_main_v24, val_main_v25, val_main_v26, val_main_v27, val_main_v28, val_main_v29, val_main_v30, val_main_v31, val_main_v32, val_main_v33, val_main_v34, val_main_v35, val_main_v36, val_main_cst_3, val_main_cst_4, val_main_cst_5, val_main_cst_6, val_main_cst_7]
  blk_point [iblk, V, idx_val t]

/-- The new first moment of the mixer norms. -/
theorem final21 (c : Dev nD) : (dats m 0 c).arrAt 21 (cfgs 0).N = val_main_v17 (F := Ideal) (m ((c : Thread nD τ).loc main_arg0)) (m ((c : Thread nD τ).loc main_arg7)) := by
  refine (dats m 0 c).arrAt_eq_of_covers 21 _ (by decide +kernel) fun (t : Fin cfg0.N) hf y => ?_
  blk_simp; rw [after0_21]; unfold out0_21; frame_out
  refine (congrArg _ (eq_ix2 y)).trans ?_
  pointwise [k0_pay4, val_main_v0, val_main_v13, val_main_v14, val_main_v15, val_main_v16, val_main_v17, val_main_cst, val_main_cst_0]
  blk_point [iblk, V, idx_val t]

/-- The new second moment of the mixer norms. -/
theorem final22 (c : Dev nD) : (dats m 0 c).arrAt 22 (cfgs 0).N = val_main_v23 (F := Ideal) (m ((c : Thread nD τ).loc main_arg0)) (m ((c : Thread nD τ).loc main_arg13)) := by
  refine (dats m 0 c).arrAt_eq_of_covers 22 _ (by decide +kernel) fun (t : Fin cfg0.N) hf y => ?_
  blk_simp; rw [after0_22]; unfold out0_22; frame_out
  refine (congrArg _ (eq_ix2 y)).trans ?_
  pointwise [k0_pay5, val_main_v0, val_main_v18, val_main_v19, val_main_v20, val_main_v21, val_main_v22, val_main_v23, val_main_cst_1, val_main_cst_2]
  blk_point [iblk, V, idx_val t]

/-- The gradient of the attention gains. -/
theorem final23 (c : Dev nD) : (dats m 0 c).arrAt 23 (cfgs 0).N = val_main_v3 (F := Ideal) (m ((c : Thread nD τ).loc main_arg0)) := by
  refine (dats m 0 c).arrAt_eq_of_covers 23 _ (by decide +kernel) fun (t : Fin cfg0.N) hf y => ?_
  blk_simp; rw [after0_23]; unfold out0_23; frame_out
  refine (congrArg _ (eq_ix2 y)).trans ?_
  pointwise [k0_pay1, val_main_v1, val_main_v2, val_main_v3]
  blk_point [iblk, V, idx_val t]

/-- The change of the attention gains. -/
theorem final24 (c : Dev nD) : (dats m 0 c).arrAt 24 (cfgs 0).N = val_main_v60 (F := Ideal) (m ((c : Thread nD τ).loc main_arg0)) (m ((c : Thread nD τ).loc main_arg2)) (m ((c : Thread nD τ).loc main_arg8)) (m ((c : Thread nD τ).loc main_arg14)) := by
  refine (dats m 0 c).arrAt_eq_of_covers 24 _ (by decide +kernel) fun (t : Fin cfg0.N) hf y => ?_
  blk_simp; rw [after0_24]; unfold out0_24; frame_out
  refine (congrArg _ (eq_ix2 y)).trans ?_
  pointwise [k0_pay1, k0_pay13, k0_pay12, k0_pay10, k0_pay11, val_main_v1, val_main_v2, val_main_v3, val_main_v37, val_main_v38, val_main_v39, val_main_v40, val_main_v41, val_main_cst_8, val_main_cst_9, val_main_v42, val_main_v43, val_main_v44, val_main_v45, val_main_v46, val_main_v47, val_main_cst_10, val_main_cst_11, val_main_v48, val_main_v49, val_main_v50, val_main_v51, val_main_v52, val_main_v53, val_main_v54, val_main_v55, val_main_v56, val_main_v57, val_main_v58, val_main_v59, val_main_v60, val_main_cst_12, val_main_cst_13, val_main_cst_14, val_main_cst_15, val_main_cst_16]
  blk_point [iblk, V, idx_val t]

/-- The new first moment of the attention gains. -/
theorem final25 (c : Dev nD) : (dats m 0 c).arrAt 25 (cfgs 0).N = val_main_v41 (F := Ideal) (m ((c : Thread nD τ).loc main_arg0)) (m ((c : Thread nD τ).loc main_arg8)) := by
  refine (dats m 0 c).arrAt_eq_of_covers 25 _ (by decide +kernel) fun (t : Fin cfg0.N) hf y => ?_
  blk_simp; rw [after0_25]; unfold out0_25; frame_out
  refine (congrArg _ (eq_ix2 y)).trans ?_
  pointwise [k0_pay1, k0_pay10, val_main_v1, val_main_v2, val_main_v3, val_main_v37, val_main_v38, val_main_v39, val_main_v40, val_main_v41, val_main_cst_8, val_main_cst_9]
  blk_point [iblk, V, idx_val t]

/-- The new second moment of the attention gains. -/
theorem final26 (c : Dev nD) : (dats m 0 c).arrAt 26 (cfgs 0).N = val_main_v47 (F := Ideal) (m ((c : Thread nD τ).loc main_arg0)) (m ((c : Thread nD τ).loc main_arg14)) := by
  refine (dats m 0 c).arrAt_eq_of_covers 26 _ (by decide +kernel) fun (t : Fin cfg0.N) hf y => ?_
  blk_simp; rw [after0_26]; unfold out0_26; frame_out
  refine (congrArg _ (eq_ix2 y)).trans ?_
  pointwise [k0_pay1, k0_pay11, val_main_v1, val_main_v2, val_main_v3, val_main_v42, val_main_v43, val_main_v44, val_main_v45, val_main_v46, val_main_v47, val_main_cst_10, val_main_cst_11]
  blk_point [iblk, V, idx_val t]

/-- The gradient of the lower bounds' logits. -/
theorem final27 (c : Dev nD) : (dats m 0 c).arrAt 27 (cfgs 0).N = val_main_v6 (F := Ideal) (m ((c : Thread nD τ).loc main_arg0)) := by
  refine (dats m 0 c).arrAt_eq_of_covers 27 _ (by decide +kernel) fun (t : Fin cfg0.N) hf y => ?_
  blk_simp; rw [after0_27]; unfold out0_27; frame_out
  refine (congrArg _ (eq_ix2 y)).trans ?_
  pointwise [k0_pay2, val_main_v4, val_main_v5, val_main_v6]
  blk_point [iblk, V, idx_val t]

/-- The change of the lower bounds' logits. -/
theorem final28 (c : Dev nD) : (dats m 0 c).arrAt 28 (cfgs 0).N = val_main_v84 (F := Ideal) (m ((c : Thread nD τ).loc main_arg0)) (m ((c : Thread nD τ).loc main_arg3)) (m ((c : Thread nD τ).loc main_arg9)) (m ((c : Thread nD τ).loc main_arg15)) := by
  refine (dats m 0 c).arrAt_eq_of_covers 28 _ (by decide +kernel) fun (t : Fin cfg0.N) hf y => ?_
  blk_simp; rw [after0_28]; unfold out0_28; frame_out
  refine (congrArg _ (eq_ix2 y)).trans ?_
  pointwise [k0_pay2, k0_pay16, k0_pay17, k0_pay18, k0_pay14, k0_pay15, val_main_v4, val_main_v5, val_main_v6, val_main_v61, val_main_v62, val_main_v63, val_main_v64, val_main_v65, val_main_cst_17, val_main_cst_18, val_main_v66, val_main_v67, val_main_v68, val_main_v69, val_main_v70, val_main_v71, val_main_cst_19, val_main_cst_20, val_main_v72, val_main_v73, val_main_v74, val_main_v75, val_main_v76, val_main_v77, val_main_v78, val_main_v79, val_main_v80, val_main_v81, val_main_v82, val_main_v83, val_main_v84, val_main_cst_21, val_main_cst_22, val_main_cst_23, val_main_cst_24, val_main_cst_25]
  blk_point [iblk, V, idx_val t]

/-- The new first moment of the lower bounds' logits. -/
theorem final29 (c : Dev nD) : (dats m 0 c).arrAt 29 (cfgs 0).N = val_main_v65 (F := Ideal) (m ((c : Thread nD τ).loc main_arg0)) (m ((c : Thread nD τ).loc main_arg9)) := by
  refine (dats m 0 c).arrAt_eq_of_covers 29 _ (by decide +kernel) fun (t : Fin cfg0.N) hf y => ?_
  blk_simp; rw [after0_29]; unfold out0_29; frame_out
  refine (congrArg _ (eq_ix2 y)).trans ?_
  pointwise [k0_pay2, k0_pay14, val_main_v4, val_main_v5, val_main_v6, val_main_v61, val_main_v62, val_main_v63, val_main_v64, val_main_v65, val_main_cst_17, val_main_cst_18]
  blk_point [iblk, V, idx_val t]

/-- The new second moment of the lower bounds' logits. -/
theorem final30 (c : Dev nD) : (dats m 0 c).arrAt 30 (cfgs 0).N = val_main_v71 (F := Ideal) (m ((c : Thread nD τ).loc main_arg0)) (m ((c : Thread nD τ).loc main_arg15)) := by
  refine (dats m 0 c).arrAt_eq_of_covers 30 _ (by decide +kernel) fun (t : Fin cfg0.N) hf y => ?_
  blk_simp; rw [after0_30]; unfold out0_30; frame_out
  refine (congrArg _ (eq_ix2 y)).trans ?_
  pointwise [k0_pay2, k0_pay15, val_main_v4, val_main_v5, val_main_v6, val_main_v66, val_main_v67, val_main_v68, val_main_v69, val_main_v70, val_main_v71, val_main_cst_19, val_main_cst_20]
  blk_point [iblk, V, idx_val t]

/-- The gradient of the recurrence gains. -/
theorem final31 (c : Dev nD) : (dats m 0 c).arrAt 31 (cfgs 0).N = val_main_v10 (F := Ideal) (m ((c : Thread nD τ).loc main_arg0)) := by
  refine (dats m 0 c).arrAt_eq_of_covers 31 _ (by decide +kernel) fun (t : Fin cfg0.N) hf y => ?_
  blk_simp; rw [after0_31]; unfold out0_31; frame_out
  refine (congrArg _ (eq_ix2 y)).trans ?_
  pointwise [k0_pay3, val_main_v7, val_main_v8, val_main_v9, val_main_v10]
  blk_point [iblk, V, idx_val t]

/-- The change of the recurrence gains. -/
theorem final32 (c : Dev nD) : (dats m 0 c).arrAt 32 (cfgs 0).N = val_main_v108 (F := Ideal) (m ((c : Thread nD τ).loc main_arg0)) (m ((c : Thread nD τ).loc main_arg4)) (m ((c : Thread nD τ).loc main_arg10)) (m ((c : Thread nD τ).loc main_arg16)) := by
  refine (dats m 0 c).arrAt_eq_of_covers 32 _ (by decide +kernel) fun (t : Fin cfg0.N) hf y => ?_
  blk_simp; rw [after0_32]; unfold out0_32; frame_out
  refine (congrArg _ (eq_ix2 y)).trans ?_
  pointwise [k0_pay3, k0_pay21, k0_pay22, k0_pay19, k0_pay20, val_main_v7, val_main_v8, val_main_v9, val_main_v10, val_main_v85, val_main_v86, val_main_v87, val_main_v88, val_main_v89, val_main_cst_26, val_main_cst_27, val_main_v90, val_main_v91, val_main_v92, val_main_v93, val_main_v94, val_main_v95, val_main_cst_28, val_main_cst_29, val_main_v96, val_main_v97, val_main_v98, val_main_v99, val_main_v100, val_main_v101, val_main_v102, val_main_v103, val_main_v104, val_main_v105, val_main_v106, val_main_v107, val_main_v108, val_main_cst_30, val_main_cst_31, val_main_cst_32, val_main_cst_33, val_main_cst_34]
  blk_point [iblk, V, idx_val t]

/-- The new first moment of the recurrence gains. -/
theorem final33 (c : Dev nD) : (dats m 0 c).arrAt 33 (cfgs 0).N = val_main_v89 (F := Ideal) (m ((c : Thread nD τ).loc main_arg0)) (m ((c : Thread nD τ).loc main_arg10)) := by
  refine (dats m 0 c).arrAt_eq_of_covers 33 _ (by decide +kernel) fun (t : Fin cfg0.N) hf y => ?_
  blk_simp; rw [after0_33]; unfold out0_33; frame_out
  refine (congrArg _ (eq_ix2 y)).trans ?_
  pointwise [k0_pay3, k0_pay19, val_main_v7, val_main_v8, val_main_v9, val_main_v10, val_main_v85, val_main_v86, val_main_v87, val_main_v88, val_main_v89, val_main_cst_26, val_main_cst_27]
  blk_point [iblk, V, idx_val t]

/-- The new second moment of the recurrence gains. -/
theorem final34 (c : Dev nD) : (dats m 0 c).arrAt 34 (cfgs 0).N = val_main_v95 (F := Ideal) (m ((c : Thread nD τ).loc main_arg0)) (m ((c : Thread nD τ).loc main_arg16)) := by
  refine (dats m 0 c).arrAt_eq_of_covers 34 _ (by decide +kernel) fun (t : Fin cfg0.N) hf y => ?_
  blk_simp; rw [after0_34]; unfold out0_34; frame_out
  refine (congrArg _ (eq_ix2 y)).trans ?_
  pointwise [k0_pay3, k0_pay20, val_main_v7, val_main_v8, val_main_v9, val_main_v10, val_main_v90, val_main_v91, val_main_v92, val_main_v93, val_main_v94, val_main_v95, val_main_cst_28, val_main_cst_29]
  blk_point [iblk, V, idx_val t]

/-- The gradient of the norms before the network. -/
theorem final35 (c : Dev nD) : (dats m 0 c).arrAt 35 (cfgs 0).N = val_main_v11 (F := Ideal) (m ((c : Thread nD τ).loc main_arg0)) := by
  refine (dats m 0 c).arrAt_eq_of_covers 35 _ (by decide +kernel) fun (t : Fin cfg0.N) hf y => ?_
  blk_simp; rw [after0_35]; unfold out0_35; frame_out
  refine (congrArg _ (eq_ix2 y)).trans ?_
  pointwise [val_main_v11]
  blk_point [iblk, V, idx_val t]

/-- The change of the norms before the network. -/
theorem final36 (c : Dev nD) : (dats m 0 c).arrAt 36 (cfgs 0).N = val_main_v132 (F := Ideal) (m ((c : Thread nD τ).loc main_arg0)) (m ((c : Thread nD τ).loc main_arg5)) (m ((c : Thread nD τ).loc main_arg11)) (m ((c : Thread nD τ).loc main_arg17)) := by
  refine (dats m 0 c).arrAt_eq_of_covers 36 _ (by decide +kernel) fun (t : Fin cfg0.N) hf y => ?_
  blk_simp; rw [after0_36]; unfold out0_36; frame_out
  refine (congrArg _ (eq_ix2 y)).trans ?_
  pointwise [k0_pay25, k0_pay26, k0_pay27, k0_pay23, k0_pay24, val_main_v11, val_main_v109, val_main_v110, val_main_v111, val_main_v112, val_main_v113, val_main_cst_35, val_main_cst_36, val_main_v114, val_main_v115, val_main_v116, val_main_v117, val_main_v118, val_main_v119, val_main_cst_37, val_main_cst_38, val_main_v120, val_main_v121, val_main_v122, val_main_v123, val_main_v124, val_main_v125, val_main_v126, val_main_v127, val_main_v128, val_main_v129, val_main_v130, val_main_v131, val_main_v132, val_main_cst_39, val_main_cst_40, val_main_cst_41, val_main_cst_42, val_main_cst_43]
  blk_point [iblk, V, idx_val t]

/-- The new first moment of the norms before the network. -/
theorem final37 (c : Dev nD) : (dats m 0 c).arrAt 37 (cfgs 0).N = val_main_v113 (F := Ideal) (m ((c : Thread nD τ).loc main_arg0)) (m ((c : Thread nD τ).loc main_arg11)) := by
  refine (dats m 0 c).arrAt_eq_of_covers 37 _ (by decide +kernel) fun (t : Fin cfg0.N) hf y => ?_
  blk_simp; rw [after0_37]; unfold out0_37; frame_out
  refine (congrArg _ (eq_ix2 y)).trans ?_
  pointwise [k0_pay23, val_main_v11, val_main_v109, val_main_v110, val_main_v111, val_main_v112, val_main_v113, val_main_cst_35, val_main_cst_36]
  blk_point [iblk, V, idx_val t]

/-- The new second moment of the norms before the network. -/
theorem final38 (c : Dev nD) : (dats m 0 c).arrAt 38 (cfgs 0).N = val_main_v119 (F := Ideal) (m ((c : Thread nD τ).loc main_arg0)) (m ((c : Thread nD τ).loc main_arg17)) := by
  refine (dats m 0 c).arrAt_eq_of_covers 38 _ (by decide +kernel) fun (t : Fin cfg0.N) hf y => ?_
  blk_simp; rw [after0_38]; unfold out0_38; frame_out
  refine (congrArg _ (eq_ix2 y)).trans ?_
  pointwise [k0_pay24, val_main_v11, val_main_v114, val_main_v115, val_main_v116, val_main_v117, val_main_v118, val_main_v119, val_main_cst_37, val_main_cst_38]
  blk_point [iblk, V, idx_val t]

/-- The gradient of the last norm. -/
theorem final39 (c : Dev nD) : (dats m 0 c).arrAt 39 (cfgs 0).N = val_main_v12 (F := Ideal) (m ((c : Thread nD τ).loc main_arg0)) := by
  refine (dats m 0 c).arrAt_eq_of_covers 39 _ (by decide +kernel) fun (t : Fin cfg0.N) hf y => ?_
  blk_simp; rw [after0_39]; unfold out0_39; frame_out
  refine (congrArg _ (eq_ix2 y)).trans ?_
  pointwise [val_main_v12]
  blk_point [iblk, V, idx_val t]

/-- The change of the last norm. -/
theorem final40 (c : Dev nD) : (dats m 0 c).arrAt 40 (cfgs 0).N = val_main_v156 (F := Ideal) (m ((c : Thread nD τ).loc main_arg0)) (m ((c : Thread nD τ).loc main_arg6)) (m ((c : Thread nD τ).loc main_arg12)) (m ((c : Thread nD τ).loc main_arg18)) := by
  refine (dats m 0 c).arrAt_eq_of_covers 40 _ (by decide +kernel) fun (t : Fin cfg0.N) hf y => ?_
  blk_simp; rw [after0_40]; unfold out0_40; frame_out
  refine (congrArg _ (eq_ix2 y)).trans ?_
  pointwise [k0_pay30, k0_pay28, k0_pay29, val_main_v12, val_main_v133, val_main_v134, val_main_v135, val_main_v136, val_main_v137, val_main_cst_44, val_main_cst_45, val_main_v138, val_main_v139, val_main_v140, val_main_v141, val_main_v142, val_main_v143, val_main_cst_46, val_main_cst_47, val_main_v144, val_main_v145, val_main_v146, val_main_v147, val_main_v148, val_main_v149, val_main_v150, val_main_v151, val_main_v152, val_main_v153, val_main_v154, val_main_v155, val_main_v156, val_main_cst_48, val_main_cst_49, val_main_cst_50, val_main_cst_51, val_main_cst_52]
  blk_point [iblk, V, idx_val t]

/-- The new first moment of the last norm. -/
theorem final41 (c : Dev nD) : (dats m 0 c).arrAt 41 (cfgs 0).N = val_main_v137 (F := Ideal) (m ((c : Thread nD τ).loc main_arg0)) (m ((c : Thread nD τ).loc main_arg12)) := by
  refine (dats m 0 c).arrAt_eq_of_covers 41 _ (by decide +kernel) fun (t : Fin cfg0.N) hf y => ?_
  blk_simp; rw [after0_41]; unfold out0_41; frame_out
  refine (congrArg _ (eq_ix2 y)).trans ?_
  pointwise [k0_pay28, val_main_v12, val_main_v133, val_main_v134, val_main_v135, val_main_v136, val_main_v137, val_main_cst_44, val_main_cst_45]
  blk_point [iblk, V, idx_val t]

/-- The new second moment of the last norm. -/
theorem final42 (c : Dev nD) : (dats m 0 c).arrAt 42 (cfgs 0).N = val_main_v143 (F := Ideal) (m ((c : Thread nD τ).loc main_arg0)) (m ((c : Thread nD τ).loc main_arg18)) := by
  refine (dats m 0 c).arrAt_eq_of_covers 42 _ (by decide +kernel) fun (t : Fin cfg0.N) hf y => ?_
  blk_simp; rw [after0_42]; unfold out0_42; frame_out
  refine (congrArg _ (eq_ix2 y)).trans ?_
  pointwise [k0_pay29, val_main_v12, val_main_v138, val_main_v139, val_main_v140, val_main_v141, val_main_v142, val_main_v143, val_main_cst_46, val_main_cst_47]
  blk_point [iblk, V, idx_val t]

end Cert.Kernel17Ideal.Value
end
-- ==== Proof.Value2.lean ====
module

public import proofs.«01_k».proof.Proof.Gen.Kernel2Ideal.Value
public import proofs.«01_k».proof.Proof.Gen.Reference2Ideal.Read
public import proofs.«01_k».proof.Proof.Blocks
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen

variable (m : (ℓ : Loc nD τ sig) → Buf (Elt Ideal) ℓ)

/-- The block indices of the windows at every grid point. -/
theorem idx_val : ∀ t : Fin cfg0.N, win0_0.index t = ![0, t.val]
    ∧ win0_1.index t = ![0, 0]
    ∧ win0_2.index t = ![t.val, 0] :=
  (by decide +kernel : ∀ t : Fin grid0.N, _)

theorem point (c : Dev nD) (t : Fin cfg0.N) (y) :
    k0_pay1 (k0_pay4 (k0_pay2 (View.ld (iblk m c 0 t) r0_0) (View.ld (iblk m c 1 t) r0_1) (View.ld (iblk m c 0 t)
      r0_2) (View.ld (iblk m c 1 t) r0_3) (View.ld (iblk m c 0 t) r0_4) (View.ld (iblk m c 1 t) r0_5)) (k0_pay3 (View.ld
      (iblk m c 0 t) r0_6) (View.ld (iblk m c 1 t) r0_7)) (View.ld (iblk m c 0 t) r0_8) (View.ld (iblk m c 1 t) r0_9)
      (View.ld (iblk m c 0 t) r0_10) (View.ld (iblk m c 1 t) r0_11) (View.ld (iblk m c 0 t) r0_12) (View.ld (iblk m c 1
      t) r0_13)) (k0_pay5 (View.ld (iblk m c 0 t) r0_14) (View.ld (iblk m c 1 t) r0_15)) y
      = Cert.Reference2Ideal.Read.val_main_v5 (F := Ideal) (m ((c : Thread nD τ).loc main_arg0)) (m ((c : Thread nD τ).loc
        main_arg2)) (((cfg0.win 2).blk t).view.emb y) := by
  pointwise [k0_pay1, k0_pay2, k0_pay3, k0_pay4, k0_pay5, Cert.Reference2Ideal.Read.val_main_v5,
    Cert.Reference2Ideal.Read.val_main_v4, Cert.Reference2Ideal.Read.val_main_v3, Cert.Reference2Ideal.Read.val_main_v1,
    Cert.Reference2Ideal.Read.val_main_v0, Cert.Reference2Ideal.Read.val_main_call0_v0, Cert.Reference2Ideal.Read.val_main_call0_cst]
  refine Eq.trans (Blocks.sum_eight fun l : Fin 4096 =>
    max ((show FVec Ideal S4096x512 .bf16 from iblk m c 0 t) (ix2 l (y 0))) 0
      * max ((show FVec Ideal S4096x512 .bf16 from iblk m c 0 t) (ix2 l (y 0))) 0
      * (show FVec Ideal S4096x1024 .bf16 from iblk m c 1 t) (ix2 l (y 1))) ?_
  blk_point [iblk, V, idx_val t]

/-- The result array after the run is the reference's term. -/
theorem final (c : Dev nD) : (dats m 0 c).arrAt 2 (cfgs 0).N
    = Cert.Reference2Ideal.Read.val_main_v5 (F := Ideal) (m ((c : Thread nD τ).loc main_arg0))
        (m ((c : Thread nD τ).loc main_arg2)) := by
  refine (dats m 0 c).arrAt_eq_of_covers 2 _ (by decide +kernel) fun t hf y => ?_
  blk_simp; rw [after0_2]; frame_out
  exact point m c t y

end Cert.Kernel2Ideal.Value
end
-- ==== Proof.Value3.lean ====
module

public import proofs.«01_k».proof.Proof.Gen.Kernel3Ideal.Value
public import proofs.«01_k».proof.Proof.Gen.Reference3Ideal.Read
public import proofs.«01_k».proof.Proof.Blocks
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen

variable (m : (ℓ : Loc nD τ sig) → Buf (Elt Ideal) ℓ)

/-- The block indices of the windows at every grid point. -/
theorem idx_val : ∀ t : Fin cfg0.N, win0_0.index t = ![0, t.val % 2]
    ∧ win0_1.index t = ![0, t.val / 2]
    ∧ win0_2.index t = ![t.val / 2, t.val % 2, 0] :=
  (by decide +kernel : ∀ t : Fin grid0.N, _)

set_option maxHeartbeats 1600000 in
/-- What a grid point stores is the reference at the index where it lies in the array. -/
theorem point (c : Dev nD) (t : Fin cfg0.N) (y) :
    out0_2 (iblk m c 0 t) (iblk m c 1 t) y
      = Cert.Reference3Ideal.Read.val_main_v5 (F := Ideal) (m ((c : Thread nD τ).loc main_arg0)) (m ((c : Thread nD τ).loc main_arg2))
        (((cfg0.win 2).blk t).view.emb y) := by
  canon_tiles x h
  · open_payloads
    pointwise [k0_pay1, k0_pay2, k0_pay3, k0_pay4, k0_pay5,
    Cert.Reference3Ideal.Read.val_main_v0,
    Cert.Reference3Ideal.Read.val_main_v1,
    Cert.Reference3Ideal.Read.val_main_v2,
    Cert.Reference3Ideal.Read.val_main_v3,
    Cert.Reference3Ideal.Read.val_main_v4,
    Cert.Reference3Ideal.Read.val_main_v5]
    refine Eq.trans (Blocks.sum_eight fun l : Fin 4096 =>
      (show FVec Ideal S4096x512 .bf16 from iblk m c 0 t) (ix2 l (x 1))
        * (show FVec Ideal S4096x1024 .bf16 from iblk m c 1 t) (ix2 l ⟨512 + (x 2).val, by omega⟩)) ?_
    refine Eq.trans (Finset.sum_congr rfl fun l _ => mul_comm (G := EReal) _ _) ?_
    blk_point [iblk, V, idx_val t]
  · open_payloads
    pointwise [k0_pay1, k0_pay2, k0_pay3, k0_pay4, k0_pay5,
    Cert.Reference3Ideal.Read.val_main_v0,
    Cert.Reference3Ideal.Read.val_main_v1,
    Cert.Reference3Ideal.Read.val_main_v2,
    Cert.Reference3Ideal.Read.val_main_v3,
    Cert.Reference3Ideal.Read.val_main_v4,
    Cert.Reference3Ideal.Read.val_main_v5]
    refine Eq.trans (Blocks.sum_eight fun l : Fin 4096 =>
      (show FVec Ideal S4096x512 .bf16 from iblk m c 0 t) (ix2 l (x 1))
        * (show FVec Ideal S4096x1024 .bf16 from iblk m c 1 t) (ix2 l ⟨(x 2).val, by omega⟩)) ?_
    refine Eq.trans (Finset.sum_congr rfl fun l _ => mul_comm (G := EReal) _ _) ?_
    blk_point [iblk, V, idx_val t]

/-- The result array after the run is the reference's term. -/
theorem final (c : Dev nD) : (dats m 0 c).arrAt 2 (cfgs 0).N
    = Cert.Reference3Ideal.Read.val_main_v5 (F := Ideal) (m ((c : Thread nD τ).loc main_arg0)) (m ((c : Thread nD τ).loc main_arg2)) := by
  refine (dats m 0 c).arrAt_eq_of_covers 2 _ (by decide +kernel) fun t hf y => ?_
  blk_simp; rw [after0_2]
  exact point m c t y

end Cert.Kernel3Ideal.Value
end
-- ==== Proof.Value4.lean ====
module

public import proofs.«01_k».proof.Proof.Gen.Kernel4Ideal.Value
public import proofs.«01_k».proof.Proof.Gen.Reference4Ideal.Read
public import proofs.«01_k».proof.Proof.Blocks
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.Kernel4Ideal.Value

open Cert.Kernel4Ideal Cert.Kernel4Ideal.Gen

variable (m : (ℓ : Loc nD τ sig) → Buf (Elt Ideal) ℓ)

/-- The block indices of the windows at every grid point. -/
theorem idx_val : ∀ t : Fin cfg0.N, win0_0.index t = ![0, t.val]
    ∧ win0_1.index t = ![0, 0]
    ∧ win0_2.index t = ![t.val, 0] :=
  (by decide +kernel : ∀ t : Fin grid0.N, _)

/-- What a grid point stores is the reference at the index where it lies in the array. -/
theorem point (c : Dev nD) (t : Fin cfg0.N) (y) :
    k0_pay1 (k0_pay2 (View.ld (iblk m c 0 t) r0_0) (View.ld (iblk m c 1 t) r0_1) (View.ld (iblk m c 0 t) r0_2)
      (View.ld (iblk m c 1 t) r0_3) (View.ld (iblk m c 0 t) r0_4) (View.ld (iblk m c 1 t) r0_5) (View.ld (iblk m c 0 t)
      r0_6) (View.ld (iblk m c 1 t) r0_7) (View.ld (iblk m c 0 t) r0_8) (View.ld (iblk m c 1 t) r0_9)) (k0_pay3 (View.ld
      (iblk m c 0 t) r0_10)) (View.ld (iblk m c 1 t) r0_11) (View.ld (iblk m c 0 t) r0_12) (View.ld (iblk m c 1 t)
      r0_13) (View.ld (iblk m c 0 t) r0_14) (View.ld (iblk m c 1 t) r0_15) y
      = Cert.Reference4Ideal.Read.val_main_v3 (F := Ideal) (m ((c : Thread nD τ).loc main_arg0)) (m ((c : Thread nD τ).loc main_arg2))
        (((cfg0.win 2).blk t).view.emb y) := by
  pointwise [k0_pay1, k0_pay2, k0_pay3,
    Cert.Reference4Ideal.Read.val_main_v0,
    Cert.Reference4Ideal.Read.val_main_v1,
    Cert.Reference4Ideal.Read.val_main_v2,
    Cert.Reference4Ideal.Read.val_main_v3]
  refine Eq.trans (Blocks.sum_eight fun l : Fin 4096 =>
    (show FVec Ideal S4096x512 .bf16 from iblk m c 0 t) (ix2 l (y 0))
      * (show FVec Ideal S4096x1024 .bf16 from iblk m c 1 t) (ix2 l (y 1))) ?_
  refine Eq.trans (Finset.sum_congr rfl fun l _ => mul_comm (G := EReal) _ _) ?_
  blk_point [iblk, V, idx_val t]

/-- The result array after the run is the reference's term. -/
theorem final (c : Dev nD) : (dats m 0 c).arrAt 2 (cfgs 0).N
    = Cert.Reference4Ideal.Read.val_main_v3 (F := Ideal) (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.Kernel4Ideal.Value
end
-- ==== Proof.Value6.lean ====
module

public import proofs.«01_k».proof.Proof.Gen.Kernel6Ideal.Value
public import proofs.«01_k».proof.Proof.Gen.Reference6Ideal.Read
public import proofs.«01_k».proof.Proof.Blocks
public import proofs.«01_k».proof.Proof.RmsBackward
public import proofs.«01_k».proof.Pre_finite
public import Idealize.ShloMosaic.Lib.Pipeline.ValueKit
public import Idealize.ShloMosaic.Lib.Pipeline.ReadBack
public import Idealize.ShloMosaic.Lib.StableHlo.ReadAt

set_option maxRecDepth 16384

@[expose] public noncomputable section

open Idealize.ShloMosaic Idealize.ShloMosaic.TcCoe Idealize.SL.Sem
open Idealize.ShloMosaic.Pipeline (Dat)
open scoped BigOperators

namespace Cert.Kernel6Ideal.Value

open Cert.Kernel6Ideal Cert.Kernel6Ideal.Gen

open Cert.RmsBackward

variable (m : (ℓ : Loc nD τ sig) → Buf (Elt Ideal) ℓ)

/-- The block indices of the windows at every grid point. -/
theorem idx_val : ∀ t : Fin cfg0.N, win0_0.index t = ![0, t.val, 0]
    ∧ win0_1.index t = ![0, t.val, 0]
    ∧ win0_2.index t = ![0, 0, 0]
    ∧ win0_3.index t = ![t.val, 0]
    ∧ win0_4.index t = ![0, 0, 0]
    ∧ win0_5.index t = ![t.val, 0]
    ∧ win0_6.index t = ![t.val, 0]
    ∧ win0_7.index t = ![t.val, 0]
    ∧ win0_8.index t = ![0, 0] :=
  (by decide +kernel : ∀ t : Fin grid0.N, _)

theorem row_lt (t : Fin cfg0.N) (r : Fin 512) : 512 * t.val + r.val < 4096 := by
  have h : t.val < 8 := lt_of_lt_of_eq t.isLt (show cfg0.N = 8 from N_0)
  omega

theorem copy_lt (t : Fin cfg0.N) (x : Fin 64) (p : Fin 8) : (t.val * 64 + x.val) * 8 + p.val < 4096 := by
  have h : t.val < 8 := lt_of_lt_of_eq t.isLt (show cfg0.N = 8 from N_0)
  omega

/-- The gradient past the projection: seven blocks of columns, added up, are one product. -/
theorem grads (c : Dev nD) (t : Fin cfg0.N) (r : Fin 512) (k : Fin 1024) :
    k0_pay7 (k0_pay5 (View.ld (iblk m c 0 t) (Rect.unit ![0, 0, 0] ![1, 512, 512] inb_S3x512x512_S1x512x512_0_0_0)) (View.ld (iblk m c 2 t) (Rect.unit ![0, 0, 0] ![1, 512, 1024] inb_S1x3584x1024_S1x512x1024_0_0_0)) (View.ld (iblk m c 0 t) (Rect.unit ![1, 0, 0] ![1, 512, 512] inb_S3x512x512_S1x512x512_1_0_0)) (View.ld (iblk m c 2 t) (Rect.unit ![0, 512, 0] ![1, 512, 1024] inb_S1x3584x1024_S1x512x1024_0_512_0)) (View.ld (iblk m c 0 t) (Rect.unit ![2, 0, 0] ![1, 512, 512] inb_S3x512x512_S1x512x512_2_0_0)) (View.ld (iblk m c 2 t) (Rect.unit ![0, 1024, 0] ![1, 512, 1024] inb_S1x3584x1024_S1x512x1024_0_1024_0)) (View.ld (iblk m c 1 t) (Rect.unit ![0, 0, 0] ![1, 512, 512] inb_S4x512x512_S1x512x512_0_0_0)) (View.ld (iblk m c 2 t) (Rect.unit ![0, 1536, 0] ![1, 512, 1024] inb_S1x3584x1024_S1x512x1024_0_1536_0)))
        (k0_pay6 (View.ld (iblk m c 1 t) (Rect.unit ![1, 0, 0] ![1, 512, 512] inb_S4x512x512_S1x512x512_1_0_0))) (View.ld (iblk m c 2 t) (Rect.unit ![0, 2048, 0] ![1, 512, 1024] inb_S1x3584x1024_S1x512x1024_0_2048_0)) (View.ld (iblk m c 1 t) (Rect.unit ![2, 0, 0] ![1, 512, 512] inb_S4x512x512_S1x512x512_2_0_0)) (View.ld (iblk m c 2 t) (Rect.unit ![0, 2560, 0] ![1, 512, 1024] inb_S1x3584x1024_S1x512x1024_0_2560_0)) (View.ld (iblk m c 1 t) (Rect.unit ![3, 0, 0] ![1, 512, 512] inb_S4x512x512_S1x512x512_3_0_0)) (View.ld (iblk m c 2 t) (Rect.unit ![0, 3072, 0] ![1, 512, 1024] inb_S1x3584x1024_S1x512x1024_0_3072_0)) (ix2 r k)
      = Cert.Reference6Ideal.Read.val_main_v21 (F := Ideal) (m ((c : Thread nD τ).loc main_arg2)) (m ((c : Thread nD τ).loc main_arg3)) (ix2 ⟨512 * t.val + r.val, row_lt t r⟩ k) := by
  pointwise [k0_pay5, k0_pay6, k0_pay7, Cert.Reference6Ideal.Read.val_main_v21]
  refine Eq.trans ?_ (Blocks.sum_seven fun l : Fin 3584 =>
    (show FVec Ideal S4096x3584 .f32 from m ((c : Thread nD τ).loc main_arg3)) (ix2 ⟨512 * t.val + r.val, row_lt t r⟩ l)
      * (show FVec Ideal S1024x3584 .f32 from m ((c : Thread nD τ).loc main_arg2)) (ix2 k l))
  blk_point [iblk, V, idx_val t]

/-- One over the root of a row's mean square. -/
theorem root (c : Dev nD) (t : Fin cfg0.N) (r : Fin 512) :
    k0_pay8 (iblk m c 3 t) (ix2 r (0 : Fin 1)) = Cert.Reference6Ideal.Read.val_main_v13 (F := Ideal) (m ((c : Thread nD τ).loc main_arg0)) (ix2 ⟨512 * t.val + r.val, row_lt t r⟩ (0 : Fin 1)) := by
  pointwise [k0_pay8, Cert.Reference6Ideal.Read.val_main_v6, Cert.Reference6Ideal.Read.val_main_v7, Cert.Reference6Ideal.Read.val_main_v8, Cert.Reference6Ideal.Read.val_main_v9, Cert.Reference6Ideal.Read.val_main_v10, Cert.Reference6Ideal.Read.val_main_v11, Cert.Reference6Ideal.Read.val_main_v12, Cert.Reference6Ideal.Read.val_main_v13, Cert.Reference6Ideal.Read.val_main_cst, Cert.Reference6Ideal.Read.val_main_cst_0, Cert.Reference6Ideal.Read.val_main_cst_1]
  blk_point [iblk, V, idx_val t]

/-- A row of the stream over its norm. -/
theorem normed (c : Dev nD) (t : Fin cfg0.N) (r : Fin 512) (k : Fin 1024) :
    k0_pay9 (iblk m c 3 t) (ix2 r k) = Cert.Reference6Ideal.Read.val_main_v18 (F := Ideal) (m ((c : Thread nD τ).loc main_arg0)) (ix2 ⟨512 * t.val + r.val, row_lt t r⟩ k) := by
  pointwise [k0_pay9, Cert.Reference6Ideal.Read.val_main_v17, Cert.Reference6Ideal.Read.val_main_v18]
  simp only [root]
  blk_point [iblk, V, idx_val t]

/-- The gradient past the gain. -/
theorem gained (c : Dev nD) (t : Fin cfg0.N) {a0 : FVec Ideal S512x1024 .f32} {a1 : FVec Ideal S512x512 .bf16} {a2 a4 a6 : FVec Ideal S1x512x1024 .bf16} {a3 a5 : FVec Ideal S1x512x512 .bf16}
    (h : ∀ (r : Fin 512) (k : Fin 1024), k0_pay7 a0 a1 a2 a3 a4 a5 a6 (ix2 r k) = Cert.Reference6Ideal.Read.val_main_v21 (F := Ideal) (m ((c : Thread nD τ).loc main_arg2)) (m ((c : Thread nD τ).loc main_arg3)) (ix2 ⟨512 * t.val + r.val, row_lt t r⟩ k)) (r : Fin 512) (k : Fin 1024) :
    k0_pay10 a0 a1 a2 a3 a4 a5 a6 (iblk m c 4 t) (ix2 r k)
      = Cert.Reference6Ideal.Read.val_main_v23 (F := Ideal) (m ((c : Thread nD τ).loc main_arg1)) (m ((c : Thread nD τ).loc main_arg2)) (m ((c : Thread nD τ).loc main_arg3)) (ix2 ⟨512 * t.val + r.val, row_lt t r⟩ k) := by
  pointwise [k0_pay10, Cert.Reference6Ideal.Read.val_main_v0, Cert.Reference6Ideal.Read.val_main_v1, Cert.Reference6Ideal.Read.val_main_v2, Cert.Reference6Ideal.Read.val_main_v3, Cert.Reference6Ideal.Read.val_main_v4, Cert.Reference6Ideal.Read.val_main_v5, Cert.Reference6Ideal.Read.val_main_v23]
  simp only [h]
  blk_point [iblk, V, idx_val t]

/-- The gradient along the normed row. -/
theorem share (c : Dev nD) (t : Fin cfg0.N) {a0 : FVec Ideal S512x1024 .f32} {a1 : FVec Ideal S512x512 .bf16} {a2 a4 a6 : FVec Ideal S1x512x1024 .bf16} {a3 a5 : FVec Ideal S1x512x512 .bf16}
    (h : ∀ (r : Fin 512) (k : Fin 1024), k0_pay7 a0 a1 a2 a3 a4 a5 a6 (ix2 r k) = Cert.Reference6Ideal.Read.val_main_v21 (F := Ideal) (m ((c : Thread nD τ).loc main_arg2)) (m ((c : Thread nD τ).loc main_arg3)) (ix2 ⟨512 * t.val + r.val, row_lt t r⟩ k)) (r : Fin 512) :
    k0_pay11 a0 a1 a2 a3 a4 a5 a6 (iblk m c 3 t) (iblk m c 4 t) (ix1 r)
      = ∑ k : Fin 1024, Cert.Reference6Ideal.Read.val_main_v23 (F := Ideal) (m ((c : Thread nD τ).loc main_arg1)) (m ((c : Thread nD τ).loc main_arg2)) (m ((c : Thread nD τ).loc main_arg3)) (ix2 ⟨512 * t.val + r.val, row_lt t r⟩ k) * Cert.Reference6Ideal.Read.val_main_v18 (F := Ideal) (m ((c : Thread nD τ).loc main_arg0)) (ix2 ⟨512 * t.val + r.val, row_lt t r⟩ k) := by
  pointwise [k0_pay11]
  simp only [gained m c t h, normed]

/-- The gradient past the gain is a real number when the arguments are. -/
theorem real_gained (c : Dev nD) (h1 : ∀ i, IsReal (m ((c : Thread nD τ).loc main_arg1) i)) (h2 : ∀ i, IsReal (m ((c : Thread nD τ).loc main_arg2) i))
    (h3 : ∀ i, IsReal (m ((c : Thread nD τ).loc main_arg3) i)) (r : Fin 4096) (k : Fin 1024) :
    IsReal (Cert.Reference6Ideal.Read.val_main_v23 (F := Ideal) (m ((c : Thread nD τ).loc main_arg1)) (m ((c : Thread nD τ).loc main_arg2)) (m ((c : Thread nD τ).loc main_arg3)) (ix2 r k)) := by
  pointwise [Cert.Reference6Ideal.Read.val_main_v0, Cert.Reference6Ideal.Read.val_main_v1, Cert.Reference6Ideal.Read.val_main_v2, Cert.Reference6Ideal.Read.val_main_v3, Cert.Reference6Ideal.Read.val_main_v4, Cert.Reference6Ideal.Read.val_main_v5, Cert.Reference6Ideal.Read.val_main_v21, Cert.Reference6Ideal.Read.val_main_v23]
  exact (IsReal.sum _ _ fun l => (h3 _).mul (h2 _)).mul (h1 _)

/-- The gradient of the stream at one place: the norm's derivative, beside what comes past the layer. -/
theorem point (c : Dev nD) (t : Fin cfg0.N) {a0 : FVec Ideal S512x1024 .f32} {a1 : FVec Ideal S512x512 .bf16} {a2 a4 a6 : FVec Ideal S1x512x1024 .bf16} {a3 a5 : FVec Ideal S1x512x512 .bf16}
    (h : ∀ (r : Fin 512) (k : Fin 1024), k0_pay7 a0 a1 a2 a3 a4 a5 a6 (ix2 r k) = Cert.Reference6Ideal.Read.val_main_v21 (F := Ideal) (m ((c : Thread nD τ).loc main_arg2)) (m ((c : Thread nD τ).loc main_arg3)) (ix2 ⟨512 * t.val + r.val, row_lt t r⟩ k))
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i)) (r : Fin 512) (k : Fin 1024) :
    k0_pay1 (k0_pay8 (iblk m c 3 t)) (k0_pay9 (iblk m c 3 t)) (k0_pay10 a0 a1 a2 a3 a4 a5 a6 (iblk m c 4 t)) (k0_pay11 a0 a1 a2 a3 a4 a5 a6 (iblk m c 3 t) (iblk m c 4 t)) (iblk m c 5 t) (ix2 r k)
      = Cert.Reference6Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ k) := by
  obtain ⟨e, he, hev⟩ := eps_val
  have hd := rms_backward (x := fun j : Fin 1024 => m ((c : Thread nD τ).loc main_arg0) (ix2 ⟨512 * t.val + r.val, row_lt t r⟩ j)) (fun j => h0 (ix2 ⟨512 * t.val + r.val, row_lt t r⟩ j))
    (fun j : Fin 1024 => real_gained m c h1 h2 h3 ⟨512 * t.val + r.val, row_lt t r⟩ j) (by norm_num : (0 : ℝ) < 1024) he k
    (q := Cert.Reference6Ideal.Read.val_main_v12 (F := Ideal) (m ((c : Thread nD τ).loc main_arg0)) (ix2 ⟨512 * t.val + r.val, row_lt t r⟩ (0 : Fin 1)))
    (by rw [← hev, ← n1024_val]; pointwise [Cert.Reference6Ideal.Read.val_main_v6, Cert.Reference6Ideal.Read.val_main_v7, Cert.Reference6Ideal.Read.val_main_v8, Cert.Reference6Ideal.Read.val_main_v9, Cert.Reference6Ideal.Read.val_main_v10, Cert.Reference6Ideal.Read.val_main_v11, Cert.Reference6Ideal.Read.val_main_v12, Cert.Reference6Ideal.Read.val_main_cst, Cert.Reference6Ideal.Read.val_main_cst_0, Cert.Reference6Ideal.Read.val_main_cst_1])
  pointwise [k0_pay1, Cert.Reference6Ideal.Read.val_main_v13, Cert.Reference6Ideal.Read.val_main_v14, Cert.Reference6Ideal.Read.val_main_v15, Cert.Reference6Ideal.Read.val_main_v16, Cert.Reference6Ideal.Read.val_main_v17, Cert.Reference6Ideal.Read.val_main_v18, Cert.Reference6Ideal.Read.val_main_v24, Cert.Reference6Ideal.Read.val_main_v25, Cert.Reference6Ideal.Read.val_main_v26, Cert.Reference6Ideal.Read.val_main_v27, Cert.Reference6Ideal.Read.val_main_v28, Cert.Reference6Ideal.Read.val_main_v29, Cert.Reference6Ideal.Read.val_main_v30, Cert.Reference6Ideal.Read.val_main_v31, Cert.Reference6Ideal.Read.val_main_v32, Cert.Reference6Ideal.Read.val_main_v33, Cert.Reference6Ideal.Read.val_main_v34, Cert.Reference6Ideal.Read.val_main_v35, Cert.Reference6Ideal.Read.val_main_v36, Cert.Reference6Ideal.Read.val_main_v37, Cert.Reference6Ideal.Read.val_main_v40, Cert.Reference6Ideal.Read.val_main_cst_2, Cert.Reference6Ideal.Read.val_main_cst_3, Cert.Reference6Ideal.Read.val_main_cst_4, Cert.Reference6Ideal.Read.val_main_cst_5]
  simp only [gained m c t h, normed, share m c t h, root, Fin.sum_univ_one, n1024_val, neg_half_val]
  pointwise [Cert.Reference6Ideal.Read.val_main_v13, Cert.Reference6Ideal.Read.val_main_v17, Cert.Reference6Ideal.Read.val_main_v18]
  refine congrArg₂ (· + ·) ?_ hd
  blk_point [iblk, V, idx_val t]

/-- One grid point's part of the gain's gradient. -/
theorem part (c : Dev nD) (t : Fin cfg0.N) {a0 : FVec Ideal S512x1024 .f32} {a1 : FVec Ideal S512x512 .bf16} {a2 a4 a6 : FVec Ideal S1x512x1024 .bf16} {a3 a5 : FVec Ideal S1x512x512 .bf16}
    (h : ∀ (r : Fin 512) (k : Fin 1024), k0_pay7 a0 a1 a2 a3 a4 a5 a6 (ix2 r k) = Cert.Reference6Ideal.Read.val_main_v21 (F := Ideal) (m ((c : Thread nD τ).loc main_arg2)) (m ((c : Thread nD τ).loc main_arg3)) (ix2 ⟨512 * t.val + r.val, row_lt t r⟩ k)) (p : Fin 8) (k : Fin 1024) :
    k0_pay3 (k0_pay7 a0 a1 a2 a3 a4 a5 a6) (k0_pay9 (iblk m c 3 t)) (ix2 p k)
      = ∑ x : Fin 64, Cert.Reference6Ideal.Read.val_main_v22 (F := Ideal) (m ((c : Thread nD τ).loc main_arg0)) (m ((c : Thread nD τ).loc main_arg2)) (m ((c : Thread nD τ).loc main_arg3)) (ix2 ⟨(t.val * 64 + x.val) * 8 + p.val, copy_lt t x p⟩ k) := by
  pointwise [k0_pay3, Cert.Reference6Ideal.Read.val_main_v22]
  simp only [h, normed]
  refine Finset.sum_congr rfl fun x _ => ?_
  rw [mul_comm]
  blk_point [iblk, V, idx_val t]

/-- The gain's gradient: the parts of all points are the sum over all rows of a copy. -/
theorem parts (c : Dev nD) (p : Fin 8) (k : Fin 1024) :
    (∑ t : Fin 8, ∑ x : Fin 64, Cert.Reference6Ideal.Read.val_main_v22 (F := Ideal) (m ((c : Thread nD τ).loc main_arg0)) (m ((c : Thread nD τ).loc main_arg2)) (m ((c : Thread nD τ).loc main_arg3)) (ix2 ⟨(t.val * 64 + x.val) * 8 + p.val, by omega⟩ k))
      = Cert.Reference6Ideal.Read.val_main_v39 (F := Ideal) (m ((c : Thread nD τ).loc main_arg0)) (m ((c : Thread nD τ).loc main_arg2)) (m ((c : Thread nD τ).loc main_arg3)) (ix2 p k) := by
  pointwise [Cert.Reference6Ideal.Read.val_main_v38, Cert.Reference6Ideal.Read.val_main_v39, Cert.Reference6Ideal.Read.val_main_cst_6]
  refine Eq.trans ?_ ((reduce_copies _ _ _ p k).trans (zero_add _)).symm
  pointwise [Cert.Reference6Ideal.Read.val_main_v22]
  refine Eq.trans (Fin.sum_mul_add_fin 8 64 fun l : Fin 512 => Cert.Reference6Ideal.Read.val_main_v18 (F := Ideal) (m ((c : Thread nD τ).loc main_arg0)) (ix2 ⟨l.val * 8 + p.val, by omega⟩ k) * Cert.Reference6Ideal.Read.val_main_v21 (F := Ideal) (m ((c : Thread nD τ).loc main_arg2)) (m ((c : Thread nD τ).loc main_arg3)) (ix2 ⟨l.val * 8 + p.val, by omega⟩ k)) ?_
  blk_point []

/-- A later point adds its part to what is there. -/
theorem carried (a b : FVec Ideal S512x1024 .f32) (acc : FVec Ideal S8x1024 .f32) (j : S8x1024.Idx) :
    k0_pay4 a b acc j = acc j + k0_pay3 a b j := by
  obtain ⟨p, k, rfl⟩ : ∃ (p : Fin 8) (k : Fin 1024), j = ix2 p k := ⟨j 0, j 1, eq_ix2 j⟩
  pointwise [k0_pay4, k0_pay3]

/-- The gradient past the projection, as the body computes it. -/
def grad (c : Dev nD) (t : Fin cfg0.N) : FVec Ideal S512x1024 .f32 :=
  k0_pay7 (k0_pay5 (View.ld (iblk m c 0 t) (Rect.unit ![0, 0, 0] ![1, 512, 512] inb_S3x512x512_S1x512x512_0_0_0)) (View.ld (iblk m c 2 t) (Rect.unit ![0, 0, 0] ![1, 512, 1024] inb_S1x3584x1024_S1x512x1024_0_0_0)) (View.ld (iblk m c 0 t) (Rect.unit ![1, 0, 0] ![1, 512, 512] inb_S3x512x512_S1x512x512_1_0_0)) (View.ld (iblk m c 2 t) (Rect.unit ![0, 512, 0] ![1, 512, 1024] inb_S1x3584x1024_S1x512x1024_0_512_0)) (View.ld (iblk m c 0 t) (Rect.unit ![2, 0, 0] ![1, 512, 512] inb_S3x512x512_S1x512x512_2_0_0)) (View.ld (iblk m c 2 t) (Rect.unit ![0, 1024, 0] ![1, 512, 1024] inb_S1x3584x1024_S1x512x1024_0_1024_0)) (View.ld (iblk m c 1 t) (Rect.unit ![0, 0, 0] ![1, 512, 512] inb_S4x512x512_S1x512x512_0_0_0)) (View.ld (iblk m c 2 t) (Rect.unit ![0, 1536, 0] ![1, 512, 1024] inb_S1x3584x1024_S1x512x1024_0_1536_0)))
        (k0_pay6 (View.ld (iblk m c 1 t) (Rect.unit ![1, 0, 0] ![1, 512, 512] inb_S4x512x512_S1x512x512_1_0_0))) (View.ld (iblk m c 2 t) (Rect.unit ![0, 2048, 0] ![1, 512, 1024] inb_S1x3584x1024_S1x512x1024_0_2048_0)) (View.ld (iblk m c 1 t) (Rect.unit ![2, 0, 0] ![1, 512, 512] inb_S4x512x512_S1x512x512_2_0_0)) (View.ld (iblk m c 2 t) (Rect.unit ![0, 2560, 0] ![1, 512, 1024] inb_S1x3584x1024_S1x512x1024_0_2560_0)) (View.ld (iblk m c 1 t) (Rect.unit ![3, 0, 0] ![1, 512, 512] inb_S4x512x512_S1x512x512_3_0_0)) (View.ld (iblk m c 2 t) (Rect.unit ![0, 3072, 0] ![1, 512, 1024] inb_S1x3584x1024_S1x512x1024_0_3072_0))

/-- The first array after the run is the gradient of the stream. -/
theorem final6 (c : Dev nD) (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i)) :
    (dats m 0 c).arrAt 6 (cfgs 0).N = Cert.Reference6Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun (t : Fin cfg0.N) hf y => ?_
  have hp := point m c t (grads m c t) h0 h1 h2 h3 (y 0) (y 1)
  have ht : t.val < 8 := lt_of_lt_of_eq t.isLt (show cfg0.N = 8 from N_0)
  blk_simp; rw [after0_6]
  by_cases h : t.val % 8 = 0
  · rw [outsAt0_A m c t h (by omega)]
    frame_out
    refine (congrArg _ (eq_ix2 y)).trans (hp.trans ?_)
    blk_point [idx_val t]
  · rw [outsAt0_B m c t h (by omega)]
    frame_out
    refine (congrArg _ (eq_ix2 y)).trans (hp.trans ?_)
    blk_point [idx_val t]

/-- The second array after the run is the same in the narrow format. -/
theorem final7 (c : Dev nD) (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i)) :
    (dats m 0 c).arrAt 7 (cfgs 0).N = Cert.Reference6Ideal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun (t : Fin cfg0.N) hf y => ?_
  have hp := point m c t (grads m c t) h0 h1 h2 h3 (y 0) (y 1)
  have ht : t.val < 8 := lt_of_lt_of_eq t.isLt (show cfg0.N = 8 from N_0)
  blk_simp; rw [after0_7]
  by_cases h : t.val % 8 = 0
  · rw [outsAt0_A m c t h (by omega)]
    frame_out
    refine (congrArg _ (eq_ix2 y)).trans (hp.trans ?_)
    pointwise [Cert.Reference6Ideal.Read.val_main_v41]
    blk_point [idx_val t]
  · rw [outsAt0_B m c t h (by omega)]
    frame_out
    refine (congrArg _ (eq_ix2 y)).trans (hp.trans ?_)
    pointwise [Cert.Reference6Ideal.Read.val_main_v41]
    blk_point [idx_val t]

/-- The third array after the run is the gradient of the gain's eight copies. -/
theorem final8 (c : Dev nD) : (dats m 0 c).arrAt 8 (cfgs 0).N = Cert.Reference6Ideal.Read.val_main_v39 (F := Ideal) (m ((c : Thread nD τ).loc main_arg0)) (m ((c : Thread nD τ).loc main_arg2)) (m ((c : Thread nD τ).loc main_arg3)) := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => 0)
    (fun t j => k0_pay3 (grad m c t) (k0_pay9 (iblk m c 3 t)) j)
    (fun t h j => by
      rw [outsAt0_A m c t h (by have : t.val < 8 := lt_of_lt_of_eq t.isLt (show cfg0.N = 8 from N_0); omega)]
      frame_out
      exact (zero_add _).symm)
    (fun t h j => by
      rw [outsAt0_B m c t h (by have : t.val < 8 := lt_of_lt_of_eq t.isLt (show cfg0.N = 8 from N_0); omega)]
      frame_out
      exact carried _ _ _ j)
    (le_of_eq N_0) t0_7 rfl j, zero_add]
  obtain ⟨p, k, rfl⟩ : ∃ (p : Fin 8) (k : Fin 1024), j = ix2 p k := ⟨j 0, j 1, eq_ix2 j⟩
  exact (Finset.sum_congr rfl fun t _ => part m c t (grads m c t) p k).trans (parts m c p k)

end Cert.Kernel6Ideal.Value
end
-- ==== Proof.Value7.lean ====
module

public import proofs.«01_k».proof.Proof.Gen.Kernel7Ideal.Value
public import proofs.«01_k».proof.Proof.Gen.Reference7Ideal.Read
public import proofs.«01_k».proof.Proof.Blocks
public import proofs.«01_k».proof.Proof.RmsBackward
public import proofs.«01_k».proof.Pre_finite
public import Idealize.ShloMosaic.Lib.Pipeline.ValueKit
public import Idealize.ShloMosaic.Lib.Pipeline.ReadBack
public import Idealize.ShloMosaic.Lib.StableHlo.ReadAt

set_option maxRecDepth 16384

@[expose] public noncomputable section

open Idealize.ShloMosaic Idealize.ShloMosaic.TcCoe Idealize.SL.Sem
open Idealize.ShloMosaic.Pipeline (Dat)
open scoped BigOperators

namespace Cert.Kernel7Ideal.Value

open Cert.Kernel7Ideal Cert.Kernel7Ideal.Gen

open Cert.RmsBackward

variable (m : (ℓ : Loc nD τ sig) → Buf (Elt Ideal) ℓ)

/-- The block indices of the windows at every grid point. -/
theorem idx_val : ∀ t : Fin cfg0.N, win0_0.index t = ![0, t.val, 0]
    ∧ win0_1.index t = ![0, t.val, 0]
    ∧ win0_2.index t = ![0, 0, 0]
    ∧ win0_3.index t = ![t.val, 0]
    ∧ win0_4.index t = ![1, 0, 0]
    ∧ win0_5.index t = ![t.val, 0]
    ∧ win0_6.index t = ![t.val, 0]
    ∧ win0_7.index t = ![t.val, 0]
    ∧ win0_8.index t = ![0, 0] :=
  (by decide +kernel : ∀ t : Fin grid0.N, _)

theorem row_lt (t : Fin cfg0.N) (r : Fin 512) : 512 * t.val + r.val < 4096 := by
  have h : t.val < 8 := lt_of_lt_of_eq t.isLt (show cfg0.N = 8 from N_0)
  omega

theorem copy_lt (t : Fin cfg0.N) (x : Fin 64) (p : Fin 8) : (t.val * 64 + x.val) * 8 + p.val < 4096 := by
  have h : t.val < 8 := lt_of_lt_of_eq t.isLt (show cfg0.N = 8 from N_0)
  omega

/-- The gradient past the projection: seven blocks of columns, added up, are one product. -/
theorem grads (c : Dev nD) (t : Fin cfg0.N) (r : Fin 512) (k : Fin 1024) :
    k0_pay7 (k0_pay5 (View.ld (iblk m c 0 t) (Rect.unit ![0, 0, 0] ![1, 512, 512] inb_S3x512x512_S1x512x512_0_0_0)) (View.ld (iblk m c 2 t) (Rect.unit ![0, 0, 0] ![1, 512, 1024] inb_S1x3584x1024_S1x512x1024_0_0_0)) (View.ld (iblk m c 0 t) (Rect.unit ![1, 0, 0] ![1, 512, 512] inb_S3x512x512_S1x512x512_1_0_0)) (View.ld (iblk m c 2 t) (Rect.unit ![0, 512, 0] ![1, 512, 1024] inb_S1x3584x1024_S1x512x1024_0_512_0)) (View.ld (iblk m c 0 t) (Rect.unit ![2, 0, 0] ![1, 512, 512] inb_S3x512x512_S1x512x512_2_0_0)) (View.ld (iblk m c 2 t) (Rect.unit ![0, 1024, 0] ![1, 512, 1024] inb_S1x3584x1024_S1x512x1024_0_1024_0)) (View.ld (iblk m c 1 t) (Rect.unit ![0, 0, 0] ![1, 512, 512] inb_S4x512x512_S1x512x512_0_0_0)) (View.ld (iblk m c 2 t) (Rect.unit ![0, 1536, 0] ![1, 512, 1024] inb_S1x3584x1024_S1x512x1024_0_1536_0)))
        (k0_pay6 (View.ld (iblk m c 1 t) (Rect.unit ![1, 0, 0] ![1, 512, 512] inb_S4x512x512_S1x512x512_1_0_0))) (View.ld (iblk m c 2 t) (Rect.unit ![0, 2048, 0] ![1, 512, 1024] inb_S1x3584x1024_S1x512x1024_0_2048_0)) (View.ld (iblk m c 1 t) (Rect.unit ![2, 0, 0] ![1, 512, 512] inb_S4x512x512_S1x512x512_2_0_0)) (View.ld (iblk m c 2 t) (Rect.unit ![0, 2560, 0] ![1, 512, 1024] inb_S1x3584x1024_S1x512x1024_0_2560_0)) (View.ld (iblk m c 1 t) (Rect.unit ![3, 0, 0] ![1, 512, 512] inb_S4x512x512_S1x512x512_3_0_0)) (View.ld (iblk m c 2 t) (Rect.unit ![0, 3072, 0] ![1, 512, 1024] inb_S1x3584x1024_S1x512x1024_0_3072_0)) (ix2 r k)
      = Cert.Reference7Ideal.Read.val_main_v21 (F := Ideal) (m ((c : Thread nD τ).loc main_arg2)) (m ((c : Thread nD τ).loc main_arg3)) (ix2 ⟨512 * t.val + r.val, row_lt t r⟩ k) := by
  pointwise [k0_pay5, k0_pay6, k0_pay7, Cert.Reference7Ideal.Read.val_main_v21]
  refine Eq.trans ?_ (Blocks.sum_seven fun l : Fin 3584 =>
    (show FVec Ideal S4096x3584 .f32 from m ((c : Thread nD τ).loc main_arg3)) (ix2 ⟨512 * t.val + r.val, row_lt t r⟩ l)
      * (show FVec Ideal S1024x3584 .f32 from m ((c : Thread nD τ).loc main_arg2)) (ix2 k l))
  blk_point [iblk, V, idx_val t]

/-- One over the root of a row's mean square. -/
theorem root (c : Dev nD) (t : Fin cfg0.N) (r : Fin 512) :
    k0_pay8 (iblk m c 3 t) (ix2 r (0 : Fin 1)) = Cert.Reference7Ideal.Read.val_main_v13 (F := Ideal) (m ((c : Thread nD τ).loc main_arg0)) (ix2 ⟨512 * t.val + r.val, row_lt t r⟩ (0 : Fin 1)) := by
  pointwise [k0_pay8, Cert.Reference7Ideal.Read.val_main_v6, Cert.Reference7Ideal.Read.val_main_v7, Cert.Reference7Ideal.Read.val_main_v8, Cert.Reference7Ideal.Read.val_main_v9, Cert.Reference7Ideal.Read.val_main_v10, Cert.Reference7Ideal.Read.val_main_v11, Cert.Reference7Ideal.Read.val_main_v12, Cert.Reference7Ideal.Read.val_main_v13, Cert.Reference7Ideal.Read.val_main_cst, Cert.Reference7Ideal.Read.val_main_cst_0, Cert.Reference7Ideal.Read.val_main_cst_1]
  blk_point [iblk, V, idx_val t]

/-- A row of the stream over its norm. -/
theorem normed (c : Dev nD) (t : Fin cfg0.N) (r : Fin 512) (k : Fin 1024) :
    k0_pay9 (iblk m c 3 t) (ix2 r k) = Cert.Reference7Ideal.Read.val_main_v18 (F := Ideal) (m ((c : Thread nD τ).loc main_arg0)) (ix2 ⟨512 * t.val + r.val, row_lt t r⟩ k) := by
  pointwise [k0_pay9, Cert.Reference7Ideal.Read.val_main_v17, Cert.Reference7Ideal.Read.val_main_v18]
  simp only [root]
  blk_point [iblk, V, idx_val t]

/-- The gradient past the gain. -/
theorem gained (c : Dev nD) (t : Fin cfg0.N) {a0 : FVec Ideal S512x1024 .f32} {a1 : FVec Ideal S512x512 .bf16} {a2 a4 a6 : FVec Ideal S1x512x1024 .bf16} {a3 a5 : FVec Ideal S1x512x512 .bf16}
    (h : ∀ (r : Fin 512) (k : Fin 1024), k0_pay7 a0 a1 a2 a3 a4 a5 a6 (ix2 r k) = Cert.Reference7Ideal.Read.val_main_v21 (F := Ideal) (m ((c : Thread nD τ).loc main_arg2)) (m ((c : Thread nD τ).loc main_arg3)) (ix2 ⟨512 * t.val + r.val, row_lt t r⟩ k)) (r : Fin 512) (k : Fin 1024) :
    k0_pay10 a0 a1 a2 a3 a4 a5 a6 (iblk m c 4 t) (ix2 r k)
      = Cert.Reference7Ideal.Read.val_main_v23 (F := Ideal) (m ((c : Thread nD τ).loc main_arg1)) (m ((c : Thread nD τ).loc main_arg2)) (m ((c : Thread nD τ).loc main_arg3)) (ix2 ⟨512 * t.val + r.val, row_lt t r⟩ k) := by
  pointwise [k0_pay10, Cert.Reference7Ideal.Read.val_main_v0, Cert.Reference7Ideal.Read.val_main_v1, Cert.Reference7Ideal.Read.val_main_v2, Cert.Reference7Ideal.Read.val_main_v3, Cert.Reference7Ideal.Read.val_main_v4, Cert.Reference7Ideal.Read.val_main_v5, Cert.Reference7Ideal.Read.val_main_v23]
  simp only [h]
  blk_point [iblk, V, idx_val t]

/-- The gradient along the normed row. -/
theorem share (c : Dev nD) (t : Fin cfg0.N) {a0 : FVec Ideal S512x1024 .f32} {a1 : FVec Ideal S512x512 .bf16} {a2 a4 a6 : FVec Ideal S1x512x1024 .bf16} {a3 a5 : FVec Ideal S1x512x512 .bf16}
    (h : ∀ (r : Fin 512) (k : Fin 1024), k0_pay7 a0 a1 a2 a3 a4 a5 a6 (ix2 r k) = Cert.Reference7Ideal.Read.val_main_v21 (F := Ideal) (m ((c : Thread nD τ).loc main_arg2)) (m ((c : Thread nD τ).loc main_arg3)) (ix2 ⟨512 * t.val + r.val, row_lt t r⟩ k)) (r : Fin 512) :
    k0_pay11 a0 a1 a2 a3 a4 a5 a6 (iblk m c 3 t) (iblk m c 4 t) (ix1 r)
      = ∑ k : Fin 1024, Cert.Reference7Ideal.Read.val_main_v23 (F := Ideal) (m ((c : Thread nD τ).loc main_arg1)) (m ((c : Thread nD τ).loc main_arg2)) (m ((c : Thread nD τ).loc main_arg3)) (ix2 ⟨512 * t.val + r.val, row_lt t r⟩ k) * Cert.Reference7Ideal.Read.val_main_v18 (F := Ideal) (m ((c : Thread nD τ).loc main_arg0)) (ix2 ⟨512 * t.val + r.val, row_lt t r⟩ k) := by
  pointwise [k0_pay11]
  simp only [gained m c t h, normed]

/-- The gradient past the gain is a real number when the arguments are. -/
theorem real_gained (c : Dev nD) (h1 : ∀ i, IsReal (m ((c : Thread nD τ).loc main_arg1) i)) (h2 : ∀ i, IsReal (m ((c : Thread nD τ).loc main_arg2) i))
    (h3 : ∀ i, IsReal (m ((c : Thread nD τ).loc main_arg3) i)) (r : Fin 4096) (k : Fin 1024) :
    IsReal (Cert.Reference7Ideal.Read.val_main_v23 (F := Ideal) (m ((c : Thread nD τ).loc main_arg1)) (m ((c : Thread nD τ).loc main_arg2)) (m ((c : Thread nD τ).loc main_arg3)) (ix2 r k)) := by
  pointwise [Cert.Reference7Ideal.Read.val_main_v0, Cert.Reference7Ideal.Read.val_main_v1, Cert.Reference7Ideal.Read.val_main_v2, Cert.Reference7Ideal.Read.val_main_v3, Cert.Reference7Ideal.Read.val_main_v4, Cert.Reference7Ideal.Read.val_main_v5, Cert.Reference7Ideal.Read.val_main_v21, Cert.Reference7Ideal.Read.val_main_v23]
  exact (IsReal.sum _ _ fun l => (h3 _).mul (h2 _)).mul (h1 _)

/-- The gradient of the stream at one place: the norm's derivative, beside what comes past the layer. -/
theorem point (c : Dev nD) (t : Fin cfg0.N) {a0 : FVec Ideal S512x1024 .f32} {a1 : FVec Ideal S512x512 .bf16} {a2 a4 a6 : FVec Ideal S1x512x1024 .bf16} {a3 a5 : FVec Ideal S1x512x512 .bf16}
    (h : ∀ (r : Fin 512) (k : Fin 1024), k0_pay7 a0 a1 a2 a3 a4 a5 a6 (ix2 r k) = Cert.Reference7Ideal.Read.val_main_v21 (F := Ideal) (m ((c : Thread nD τ).loc main_arg2)) (m ((c : Thread nD τ).loc main_arg3)) (ix2 ⟨512 * t.val + r.val, row_lt t r⟩ k))
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i)) (r : Fin 512) (k : Fin 1024) :
    k0_pay1 (k0_pay8 (iblk m c 3 t)) (k0_pay9 (iblk m c 3 t)) (k0_pay10 a0 a1 a2 a3 a4 a5 a6 (iblk m c 4 t)) (k0_pay11 a0 a1 a2 a3 a4 a5 a6 (iblk m c 3 t) (iblk m c 4 t)) (iblk m c 5 t) (ix2 r k)
      = Cert.Reference7Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ k) := by
  obtain ⟨e, he, hev⟩ := eps_val
  have hd := rms_backward (x := fun j : Fin 1024 => m ((c : Thread nD τ).loc main_arg0) (ix2 ⟨512 * t.val + r.val, row_lt t r⟩ j)) (fun j => h0 (ix2 ⟨512 * t.val + r.val, row_lt t r⟩ j))
    (fun j : Fin 1024 => real_gained m c h1 h2 h3 ⟨512 * t.val + r.val, row_lt t r⟩ j) (by norm_num : (0 : ℝ) < 1024) he k
    (q := Cert.Reference7Ideal.Read.val_main_v12 (F := Ideal) (m ((c : Thread nD τ).loc main_arg0)) (ix2 ⟨512 * t.val + r.val, row_lt t r⟩ (0 : Fin 1)))
    (by rw [← hev, ← n1024_val]; pointwise [Cert.Reference7Ideal.Read.val_main_v6, Cert.Reference7Ideal.Read.val_main_v7, Cert.Reference7Ideal.Read.val_main_v8, Cert.Reference7Ideal.Read.val_main_v9, Cert.Reference7Ideal.Read.val_main_v10, Cert.Reference7Ideal.Read.val_main_v11, Cert.Reference7Ideal.Read.val_main_v12, Cert.Reference7Ideal.Read.val_main_cst, Cert.Reference7Ideal.Read.val_main_cst_0, Cert.Reference7Ideal.Read.val_main_cst_1])
  pointwise [k0_pay1, Cert.Reference7Ideal.Read.val_main_v13, Cert.Reference7Ideal.Read.val_main_v14, Cert.Reference7Ideal.Read.val_main_v15, Cert.Reference7Ideal.Read.val_main_v16, Cert.Reference7Ideal.Read.val_main_v17, Cert.Reference7Ideal.Read.val_main_v18, Cert.Reference7Ideal.Read.val_main_v24, Cert.Reference7Ideal.Read.val_main_v25, Cert.Reference7Ideal.Read.val_main_v26, Cert.Reference7Ideal.Read.val_main_v27, Cert.Reference7Ideal.Read.val_main_v28, Cert.Reference7Ideal.Read.val_main_v29, Cert.Reference7Ideal.Read.val_main_v30, Cert.Reference7Ideal.Read.val_main_v31, Cert.Reference7Ideal.Read.val_main_v32, Cert.Reference7Ideal.Read.val_main_v33, Cert.Reference7Ideal.Read.val_main_v34, Cert.Reference7Ideal.Read.val_main_v35, Cert.Reference7Ideal.Read.val_main_v36, Cert.Reference7Ideal.Read.val_main_v37, Cert.Reference7Ideal.Read.val_main_v40, Cert.Reference7Ideal.Read.val_main_cst_2, Cert.Reference7Ideal.Read.val_main_cst_3, Cert.Reference7Ideal.Read.val_main_cst_4, Cert.Reference7Ideal.Read.val_main_cst_5]
  simp only [gained m c t h, normed, share m c t h, root, Fin.sum_univ_one, n1024_val, neg_half_val]
  pointwise [Cert.Reference7Ideal.Read.val_main_v13, Cert.Reference7Ideal.Read.val_main_v17, Cert.Reference7Ideal.Read.val_main_v18]
  refine congrArg₂ (· + ·) ?_ hd
  blk_point [iblk, V, idx_val t]

/-- One grid point's part of the gain's gradient. -/
theorem part (c : Dev nD) (t : Fin cfg0.N) {a0 : FVec Ideal S512x1024 .f32} {a1 : FVec Ideal S512x512 .bf16} {a2 a4 a6 : FVec Ideal S1x512x1024 .bf16} {a3 a5 : FVec Ideal S1x512x512 .bf16}
    (h : ∀ (r : Fin 512) (k : Fin 1024), k0_pay7 a0 a1 a2 a3 a4 a5 a6 (ix2 r k) = Cert.Reference7Ideal.Read.val_main_v21 (F := Ideal) (m ((c : Thread nD τ).loc main_arg2)) (m ((c : Thread nD τ).loc main_arg3)) (ix2 ⟨512 * t.val + r.val, row_lt t r⟩ k)) (p : Fin 8) (k : Fin 1024) :
    k0_pay3 (k0_pay7 a0 a1 a2 a3 a4 a5 a6) (k0_pay9 (iblk m c 3 t)) (ix2 p k)
      = ∑ x : Fin 64, Cert.Reference7Ideal.Read.val_main_v22 (F := Ideal) (m ((c : Thread nD τ).loc main_arg0)) (m ((c : Thread nD τ).loc main_arg2)) (m ((c : Thread nD τ).loc main_arg3)) (ix2 ⟨(t.val * 64 + x.val) * 8 + p.val, copy_lt t x p⟩ k) := by
  pointwise [k0_pay3, Cert.Reference7Ideal.Read.val_main_v22]
  simp only [h, normed]
  refine Finset.sum_congr rfl fun x _ => ?_
  rw [mul_comm]
  blk_point [iblk, V, idx_val t]

/-- The gain's gradient: the parts of all points are the sum over all rows of a copy. -/
theorem parts (c : Dev nD) (p : Fin 8) (k : Fin 1024) :
    (∑ t : Fin 8, ∑ x : Fin 64, Cert.Reference7Ideal.Read.val_main_v22 (F := Ideal) (m ((c : Thread nD τ).loc main_arg0)) (m ((c : Thread nD τ).loc main_arg2)) (m ((c : Thread nD τ).loc main_arg3)) (ix2 ⟨(t.val * 64 + x.val) * 8 + p.val, by omega⟩ k))
      = Cert.Reference7Ideal.Read.val_main_v39 (F := Ideal) (m ((c : Thread nD τ).loc main_arg0)) (m ((c : Thread nD τ).loc main_arg2)) (m ((c : Thread nD τ).loc main_arg3)) (ix2 p k) := by
  pointwise [Cert.Reference7Ideal.Read.val_main_v38, Cert.Reference7Ideal.Read.val_main_v39, Cert.Reference7Ideal.Read.val_main_cst_6]
  refine Eq.trans ?_ ((reduce_copies _ _ _ p k).trans (zero_add _)).symm
  pointwise [Cert.Reference7Ideal.Read.val_main_v22]
  refine Eq.trans (Fin.sum_mul_add_fin 8 64 fun l : Fin 512 => Cert.Reference7Ideal.Read.val_main_v18 (F := Ideal) (m ((c : Thread nD τ).loc main_arg0)) (ix2 ⟨l.val * 8 + p.val, by omega⟩ k) * Cert.Reference7Ideal.Read.val_main_v21 (F := Ideal) (m ((c : Thread nD τ).loc main_arg2)) (m ((c : Thread nD τ).loc main_arg3)) (ix2 ⟨l.val * 8 + p.val, by omega⟩ k)) ?_
  blk_point []

/-- A later point adds its part to what is there. -/
theorem carried (a b : FVec Ideal S512x1024 .f32) (acc : FVec Ideal S8x1024 .f32) (j : S8x1024.Idx) :
    k0_pay4 a b acc j = acc j + k0_pay3 a b j := by
  obtain ⟨p, k, rfl⟩ : ∃ (p : Fin 8) (k : Fin 1024), j = ix2 p k := ⟨j 0, j 1, eq_ix2 j⟩
  pointwise [k0_pay4, k0_pay3]

/-- The gradient past the projection, as the body computes it. -/
def grad (c : Dev nD) (t : Fin cfg0.N) : FVec Ideal S512x1024 .f32 :=
  k0_pay7 (k0_pay5 (View.ld (iblk m c 0 t) (Rect.unit ![0, 0, 0] ![1, 512, 512] inb_S3x512x512_S1x512x512_0_0_0)) (View.ld (iblk m c 2 t) (Rect.unit ![0, 0, 0] ![1, 512, 1024] inb_S1x3584x1024_S1x512x1024_0_0_0)) (View.ld (iblk m c 0 t) (Rect.unit ![1, 0, 0] ![1, 512, 512] inb_S3x512x512_S1x512x512_1_0_0)) (View.ld (iblk m c 2 t) (Rect.unit ![0, 512, 0] ![1, 512, 1024] inb_S1x3584x1024_S1x512x1024_0_512_0)) (View.ld (iblk m c 0 t) (Rect.unit ![2, 0, 0] ![1, 512, 512] inb_S3x512x512_S1x512x512_2_0_0)) (View.ld (iblk m c 2 t) (Rect.unit ![0, 1024, 0] ![1, 512, 1024] inb_S1x3584x1024_S1x512x1024_0_1024_0)) (View.ld (iblk m c 1 t) (Rect.unit ![0, 0, 0] ![1, 512, 512] inb_S4x512x512_S1x512x512_0_0_0)) (View.ld (iblk m c 2 t) (Rect.unit ![0, 1536, 0] ![1, 512, 1024] inb_S1x3584x1024_S1x512x1024_0_1536_0)))
        (k0_pay6 (View.ld (iblk m c 1 t) (Rect.unit ![1, 0, 0] ![1, 512, 512] inb_S4x512x512_S1x512x512_1_0_0))) (View.ld (iblk m c 2 t) (Rect.unit ![0, 2048, 0] ![1, 512, 1024] inb_S1x3584x1024_S1x512x1024_0_2048_0)) (View.ld (iblk m c 1 t) (Rect.unit ![2, 0, 0] ![1, 512, 512] inb_S4x512x512_S1x512x512_2_0_0)) (View.ld (iblk m c 2 t) (Rect.unit ![0, 2560, 0] ![1, 512, 1024] inb_S1x3584x1024_S1x512x1024_0_2560_0)) (View.ld (iblk m c 1 t) (Rect.unit ![3, 0, 0] ![1, 512, 512] inb_S4x512x512_S1x512x512_3_0_0)) (View.ld (iblk m c 2 t) (Rect.unit ![0, 3072, 0] ![1, 512, 1024] inb_S1x3584x1024_S1x512x1024_0_3072_0))

/-- The first array after the run is the gradient of the stream. -/
theorem final6 (c : Dev nD) (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i)) :
    (dats m 0 c).arrAt 6 (cfgs 0).N = Cert.Reference7Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun (t : Fin cfg0.N) hf y => ?_
  have hp := point m c t (grads m c t) h0 h1 h2 h3 (y 0) (y 1)
  have ht : t.val < 8 := lt_of_lt_of_eq t.isLt (show cfg0.N = 8 from N_0)
  blk_simp; rw [after0_6]
  by_cases h : t.val % 8 = 0
  · rw [outsAt0_A m c t h (by omega)]
    frame_out
    refine (congrArg _ (eq_ix2 y)).trans (hp.trans ?_)
    blk_point [idx_val t]
  · rw [outsAt0_B m c t h (by omega)]
    frame_out
    refine (congrArg _ (eq_ix2 y)).trans (hp.trans ?_)
    blk_point [idx_val t]

/-- The second array after the run is the same in the narrow format. -/
theorem final7 (c : Dev nD) (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i)) :
    (dats m 0 c).arrAt 7 (cfgs 0).N = Cert.Reference7Ideal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun (t : Fin cfg0.N) hf y => ?_
  have hp := point m c t (grads m c t) h0 h1 h2 h3 (y 0) (y 1)
  have ht : t.val < 8 := lt_of_lt_of_eq t.isLt (show cfg0.N = 8 from N_0)
  blk_simp; rw [after0_7]
  by_cases h : t.val % 8 = 0
  · rw [outsAt0_A m c t h (by omega)]
    frame_out
    refine (congrArg _ (eq_ix2 y)).trans (hp.trans ?_)
    pointwise [Cert.Reference7Ideal.Read.val_main_v41]
    blk_point [idx_val t]
  · rw [outsAt0_B m c t h (by omega)]
    frame_out
    refine (congrArg _ (eq_ix2 y)).trans (hp.trans ?_)
    pointwise [Cert.Reference7Ideal.Read.val_main_v41]
    blk_point [idx_val t]

/-- The third array after the run is the gradient of the gain's eight copies. -/
theorem final8 (c : Dev nD) : (dats m 0 c).arrAt 8 (cfgs 0).N = Cert.Reference7Ideal.Read.val_main_v39 (F := Ideal) (m ((c : Thread nD τ).loc main_arg0)) (m ((c : Thread nD τ).loc main_arg2)) (m ((c : Thread nD τ).loc main_arg3)) := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => 0)
    (fun t j => k0_pay3 (grad m c t) (k0_pay9 (iblk m c 3 t)) j)
    (fun t h j => by
      rw [outsAt0_A m c t h (by have : t.val < 8 := lt_of_lt_of_eq t.isLt (show cfg0.N = 8 from N_0); omega)]
      frame_out
      exact (zero_add _).symm)
    (fun t h j => by
      rw [outsAt0_B m c t h (by have : t.val < 8 := lt_of_lt_of_eq t.isLt (show cfg0.N = 8 from N_0); omega)]
      frame_out
      exact carried _ _ _ j)
    (le_of_eq N_0) t0_7 rfl j, zero_add]
  obtain ⟨p, k, rfl⟩ : ∃ (p : Fin 8) (k : Fin 1024), j = ix2 p k := ⟨j 0, j 1, eq_ix2 j⟩
  exact (Finset.sum_congr rfl fun t _ => part m c t (grads m c t) p k).trans (parts m c p k)

end Cert.Kernel7Ideal.Value
end
-- ==== Proof.Value8.lean ====
module

public import proofs.«01_k».proof.Proof.Gen.Kernel8Ideal.Value
public import proofs.«01_k».proof.Proof.Gen.Reference8Ideal.Read
public import proofs.«01_k».proof.Proof.Blocks
public import Idealize.ShloMosaic.Lib.Pipeline.ValueKit
public import Idealize.ShloMosaic.Lib.Pipeline.ReadBack

set_option maxRecDepth 16384

@[expose] public noncomputable section

open Idealize.ShloMosaic Idealize.ShloMosaic.TcCoe Idealize.SL.Sem
open Idealize.ShloMosaic.Pipeline (Dat)
open scoped BigOperators

namespace Cert.Kernel8Ideal.Value

open Cert.Kernel8Ideal Cert.Kernel8Ideal.Gen

variable (m : (ℓ : Loc nD τ sig) → Buf (Elt Ideal) ℓ)

/-- The block indices of the windows at every grid point. -/
theorem idx_val : ∀ t : Fin cfg0.N, win0_0.index t = ![t.val, 0]
    ∧ win0_1.index t = ![t.val, 0]
    ∧ win0_2.index t = ![0, 0, 0]
    ∧ win0_3.index t = ![0, 0, 0]
    ∧ win0_4.index t = ![0, 0, 0, 0]
    ∧ win0_5.index t = ![0, 0, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

theorem row_lt (t : Fin cfg0.N) (r : Fin 512) : 512 * t.val + r.val < 4096 := by
  have h : t.val < 8 := lt_of_lt_of_eq t.isLt (show cfg0.N = 8 from N_0)
  omega

/-- A row of the residual stream after the output projection. -/
theorem mid (c : Dev nD) (t : Fin cfg0.N) (r : Fin 512) (k : Fin 1024) :
    k0_pay2 (iblk m c 0 t) (iblk m c 1 t) (iblk m c 3 t) (ix2 r k)
      = Cert.Reference8Ideal.Read.val_main_v1 (F := Ideal) (m ((c : Thread nD τ).loc main_arg0)) (m ((c : Thread nD τ).loc main_arg1)) (m ((c : Thread nD τ).loc main_arg3)) (ix2 ⟨512 * t.val + r.val, row_lt t r⟩ k) := by
  pointwise [k0_pay2, Cert.Reference8Ideal.Read.val_main_v0, Cert.Reference8Ideal.Read.val_main_v1]
  blk_point [iblk, V, idx_val t]

/-- A row of the normalised stream. -/
theorem normed (c : Dev nD) (t : Fin cfg0.N) (r : Fin 512) (k : Fin 1024) :
    k0_pay3 (iblk m c 0 t) (iblk m c 1 t) (iblk m c 3 t) (iblk m c 2 t) (ix2 r k)
      = Cert.Reference8Ideal.Read.val_main_v16 (F := Ideal) (m ((c : Thread nD τ).loc main_arg0)) (m ((c : Thread nD τ).loc main_arg1)) (m ((c : Thread nD τ).loc main_arg2)) (m ((c : Thread nD τ).loc main_arg3)) (ix2 ⟨512 * t.val + r.val, row_lt t r⟩ k) := by
  pointwise [k0_pay3, Cert.Reference8Ideal.Read.val_main_v2, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_v8, Cert.Reference8Ideal.Read.val_main_v9, Cert.Reference8Ideal.Read.val_main_v10, Cert.Reference8Ideal.Read.val_main_v11, Cert.Reference8Ideal.Read.val_main_v12, Cert.Reference8Ideal.Read.val_main_v13, Cert.Reference8Ideal.Read.val_main_v14, Cert.Reference8Ideal.Read.val_main_v15, Cert.Reference8Ideal.Read.val_main_v16, Cert.Reference8Ideal.Read.val_main_cst, Cert.Reference8Ideal.Read.val_main_cst_0, Cert.Reference8Ideal.Read.val_main_cst_1]
  simp only [mid]
  blk_point [iblk, V, idx_val t]

/-- The inner activations of one block of columns, before the squared relu. -/
theorem inner (c : Dev nD) (t : Fin cfg0.N) (j : ℕ) (hj : j < 8)
    (inb : ∀ a, ![0, j, 0, 0] a + ![1, 1, 1024, 512] a ≤ S1x8x1024x512.size a) (r x : Fin 512) :
    k0_pay8 (k0_pay3 (iblk m c 0 t) (iblk m c 1 t) (iblk m c 3 t) (iblk m c 2 t))
        (View.ld (iblk m c 4 t) (Rect.unit ![0, j, 0, 0] ![1, 1, 1024, 512] inb)) (ix2 r x)
      = Cert.Reference8Ideal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ ⟨512 * j + x.val, by omega⟩) := by
  pointwise [k0_pay8, Cert.Reference8Ideal.Read.val_main_v17]
  simp only [normed]
  blk_point [iblk, V, idx_val t]

/-- The squared relu of one block of columns. -/
theorem act (c : Dev nD) (t : Fin cfg0.N) (j : ℕ) (hj : j < 8)
    (inb : ∀ a, ![0, j, 0, 0] a + ![1, 1, 1024, 512] a ≤ S1x8x1024x512.size a) (r x : Fin 512) :
    k0_pay10 (k0_pay3 (iblk m c 0 t) (iblk m c 1 t) (iblk m c 3 t) (iblk m c 2 t))
        (View.ld (iblk m c 4 t) (Rect.unit ![0, j, 0, 0] ![1, 1, 1024, 512] inb)) (ix2 r x)
      = Cert.Reference8Ideal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ ⟨512 * j + x.val, by omega⟩) := by
  pointwise [k0_pay10, Cert.Reference8Ideal.Read.val_main_v18, Cert.Reference8Ideal.Read.val_main_v19, Cert.Reference8Ideal.Read.val_main_call0_v0, Cert.Reference8Ideal.Read.val_main_call0_cst]
  rw [inner m c t j hj inb]

/-- The second array after the run is the residual stream after the output projection. -/
theorem final7 (c : Dev nD) : (dats m 0 c).arrAt 7 (cfgs 0).N = Cert.Reference8Ideal.Read.val_main_v1 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp; rw [after0_7]
  frame_out
  refine (congrArg _ (eq_ix2 y)).trans ((mid m c t (y 0) (y 1)).trans ?_)
  blk_point [iblk, V, idx_val t]

/-- The fourth array after the run is the normalised stream. -/
theorem final9 (c : Dev nD) : (dats m 0 c).arrAt 9 (cfgs 0).N = Cert.Reference8Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp; rw [after0_9]
  frame_out
  refine (congrArg _ (eq_ix2 y)).trans ((normed m c t (y 0) (y 1)).trans ?_)
  pointwise [Cert.Reference8Ideal.Read.val_main_v23]
  blk_point [iblk, V, idx_val t]

/-- Every block of columns of the inner activations. -/
theorem inner_rounded (c : Dev nD) (t : Fin cfg0.N) (j : ℕ) (hj : j < 8)
    (inb : ∀ a, ![0, j, 0, 0] a + ![1, 1, 1024, 512] a ≤ S1x8x1024x512.size a) (r x : Fin 512) :
    k0_pay9 (k0_pay3 (iblk m c 0 t) (iblk m c 1 t) (iblk m c 3 t) (iblk m c 2 t))
        (View.ld (iblk m c 4 t) (Rect.unit ![0, j, 0, 0] ![1, 1, 1024, 512] inb)) (ix2 r x)
      = Cert.Reference8Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ ⟨512 * j + x.val, by omega⟩) :=
  inner m c t j hj inb r x

/-- The third array after the run is the inner activations. -/
theorem final8 (c : Dev nD) : (dats m 0 c).arrAt 8 (cfgs 0).N = Cert.Reference8Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp; rw [after0_8]
  frame_out
  canon_tiles x h
  all_goals
    refine (congrArg _ (eq_ix2 x)).trans ((inner_rounded m c t _ (by decide) _ (x 0) (x 1)).trans ?_)
    blk_point [iblk, V, idx_val t]

/-- The first array after the run is the output of the layer. -/
theorem final6 (c : Dev nD) : (dats m 0 c).arrAt 6 (cfgs 0).N = Cert.Reference8Ideal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  unfold outsAt0
  frame_open
  simp (disch := decide) only [↓ View.readCov_skip, ↓ View.readCov_cons_toLoadRect, ↓ View.readCov_fill]
  frame_out
  simp only [show @k0_pay13 Ideal _ = k0_pay10 from rfl, show @k0_pay16 Ideal _ = k0_pay10 from rfl,
    show @k0_pay19 Ideal _ = k0_pay10 from rfl, show @k0_pay26 Ideal _ = k0_pay10 from rfl,
    show @k0_pay29 Ideal _ = k0_pay10 from rfl,
    show ∀ a b, k0_pay23 (F := Ideal) (k0_pay20 a b) k0_pay22 = k0_pay10 a b from fun _ _ => rfl,
    show ∀ a b c d w, k0_pay7 (F := Ideal) (k0_pay4 a b c d w) k0_pay6 = k0_pay10 (k0_pay3 a b c d) w from fun _ _ _ _ _ => rfl]
  obtain ⟨r, k, rfl⟩ : ∃ (r : Fin 512) (k : Fin 1024), y = ix2 r k := ⟨y 0, y 1, eq_ix2 y⟩
  pointwise [k0_pay1, k0_pay30, k0_pay31, Cert.Reference8Ideal.Read.val_main_v20, Cert.Reference8Ideal.Read.val_main_v21]
  simp (disch := decide) only [act, mid, Nat.mul_zero, Nat.zero_add, Nat.reduceMul]
  refine Eq.trans (Blocks.add_sum_eight _ fun l : Fin 4096 =>
    Cert.Reference8Ideal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ l)
      * (show FVec Ideal S1x4096x1024 .bf16 from iblk m c 5 t) (ix3 0 l k)) ?_
  blk_point [iblk, V, idx_val t]

end Cert.Kernel8Ideal.Value
end
-- ==== Proof.Value9.lean ====
module

public import proofs.«01_k».proof.Proof.Gen.Kernel9Ideal.Value
public import proofs.«01_k».proof.Proof.Gen.Reference9Ideal.Read
public import proofs.«01_k».proof.Proof.Blocks
public import proofs.«01_k».proof.Proof.RmsBackward
public import proofs.«01_k».proof.Proof.LossBackward
public import proofs.«01_k».proof.Pre_finite9
public import Idealize.ShloMosaic.Lib.Pipeline.ValueKit
public import Idealize.ShloMosaic.Lib.Pipeline.ReadBack
public import Idealize.ShloMosaic.Lib.StableHlo.ReadAt

set_option maxRecDepth 16384

@[expose] public noncomputable section

open Idealize.ShloMosaic Idealize.ShloMosaic.TcCoe Idealize.SL.Sem
open Idealize.ShloMosaic.Pipeline (Dat)
open scoped BigOperators

namespace Cert.Kernel9Ideal.Value

open Cert.Kernel9Ideal Cert.Kernel9Ideal.Gen Cert.RmsBackward Cert.LossBackward

variable (m : (ℓ : Loc nD τ sig) → Buf (Elt Ideal) ℓ)

/-- The block indices of the windows at every grid point. -/
theorem idx_val : ∀ t : Fin cfg0.N, win0_0.index t = ![t.val, 0]
    ∧ win0_1.index t = ![t.val, 0]
    ∧ win0_2.index t = ![1, 0, 0]
    ∧ win0_3.index t = ![0, 0, 0]
    ∧ win0_4.index t = ![0, 0, 0, 0]
    ∧ win0_5.index t = ![0, 0, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![0, 0]
    ∧ win0_14.index t = ![0, 0] :=
  (by decide +kernel : ∀ t : Fin grid0.N, _)

theorem row_lt (t : Fin cfg0.N) (r : Fin 512) : 512 * t.val + r.val < 4096 := by
  have h : t.val < 8 := lt_of_lt_of_eq t.isLt (show cfg0.N = 8 from N_0)
  omega

theorem copy_lt (t : Fin cfg0.N) (x : Fin 64) (p : Fin 8) : (t.val * 64 + x.val) * 8 + p.val < 4096 := by
  have h : t.val < 8 := lt_of_lt_of_eq t.isLt (show cfg0.N = 8 from N_0)
  omega

/-- A row of the residual stream after the output projection. -/
theorem mid (c : Dev nD) (t : Fin cfg0.N) (r : Fin 512) (k : Fin 1024) :
    k0_pay3 (iblk m c 0 t) (iblk m c 1 t) (iblk m c 3 t) (ix2 r k) = Cert.Reference9Ideal.Read.val_main_v1 (F := Ideal) (m ((c : Thread nD τ).loc main_arg0)) (m ((c : Thread nD τ).loc main_arg1)) (m ((c : Thread nD τ).loc main_arg3)) (ix2 ⟨512 * t.val + r.val, row_lt t r⟩ k) := by
  pointwise [k0_pay3, Cert.Reference9Ideal.Read.val_main_v0, Cert.Reference9Ideal.Read.val_main_v1]
  blk_point [iblk, V, idx_val t]

/-- A row of the normalised stream. -/
theorem normed (c : Dev nD) (t : Fin cfg0.N) (r : Fin 512) (k : Fin 1024) :
    (k0_pay4 (iblk m c 0 t) (iblk m c 1 t) (iblk m c 3 t) (iblk m c 2 t)) (ix2 r k) = Cert.Reference9Ideal.Read.val_main_v16 (F := Ideal) (m ((c : Thread nD τ).loc main_arg0)) (m ((c : Thread nD τ).loc main_arg1)) (m ((c : Thread nD τ).loc main_arg2)) (m ((c : Thread nD τ).loc main_arg3)) (ix2 ⟨512 * t.val + r.val, row_lt t r⟩ k) := by
  pointwise [k0_pay4, Cert.Reference9Ideal.Read.val_main_v2, Cert.Reference9Ideal.Read.val_main_v3, Cert.Reference9Ideal.Read.val_main_v4, Cert.Reference9Ideal.Read.val_main_v5, Cert.Reference9Ideal.Read.val_main_v6, Cert.Reference9Ideal.Read.val_main_v7, Cert.Reference9Ideal.Read.val_main_v8, Cert.Reference9Ideal.Read.val_main_v9, Cert.Reference9Ideal.Read.val_main_v10, Cert.Reference9Ideal.Read.val_main_v11, Cert.Reference9Ideal.Read.val_main_v12, Cert.Reference9Ideal.Read.val_main_v13, Cert.Reference9Ideal.Read.val_main_v14, Cert.Reference9Ideal.Read.val_main_v15, Cert.Reference9Ideal.Read.val_main_v16, Cert.Reference9Ideal.Read.val_main_cst, Cert.Reference9Ideal.Read.val_main_cst_0, Cert.Reference9Ideal.Read.val_main_cst_1]
  simp only [mid]
  blk_point [iblk, V, idx_val t]

/-- The inner activations of one block of columns, before the squared relu. -/
theorem inner (c : Dev nD) (t : Fin cfg0.N) (j : ℕ) (hj : j < 8)
    (inb : ∀ a, ![0, j, 0, 0] a + ![1, 1, 1024, 512] a ≤ S1x8x1024x512.size a) (r x : Fin 512) :
    k0_pay9 (k0_pay4 (iblk m c 0 t) (iblk m c 1 t) (iblk m c 3 t) (iblk m c 2 t)) (View.ld (iblk m c 4 t) (Rect.unit ![0, j, 0, 0] ![1, 1, 1024, 512] inb)) (ix2 r x)
      = Cert.Reference9Ideal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ ⟨512 * j + x.val, by omega⟩) := by
  pointwise [k0_pay9, Cert.Reference9Ideal.Read.val_main_v17]
  simp only [normed]
  blk_point [iblk, V, idx_val t]

/-- The same in the narrow format. -/
theorem inner_rounded (c : Dev nD) (t : Fin cfg0.N) (j : ℕ) (hj : j < 8)
    (inb : ∀ a, ![0, j, 0, 0] a + ![1, 1, 1024, 512] a ≤ S1x8x1024x512.size a) (r x : Fin 512) :
    k0_pay10 (k0_pay4 (iblk m c 0 t) (iblk m c 1 t) (iblk m c 3 t) (iblk m c 2 t)) (View.ld (iblk m c 4 t) (Rect.unit ![0, j, 0, 0] ![1, 1, 1024, 512] inb)) (ix2 r x)
      = Cert.Reference9Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ ⟨512 * j + x.val, by omega⟩) :=
  inner m c t j hj inb r x

/-- The squared relu of one block of columns. -/
theorem act (c : Dev nD) (t : Fin cfg0.N) (j : ℕ) (hj : j < 8)
    (inb : ∀ a, ![0, j, 0, 0] a + ![1, 1, 1024, 512] a ≤ S1x8x1024x512.size a) (r x : Fin 512) :
    k0_pay11 (k0_pay4 (iblk m c 0 t) (iblk m c 1 t) (iblk m c 3 t) (iblk m c 2 t)) (View.ld (iblk m c 4 t) (Rect.unit ![0, j, 0, 0] ![1, 1, 1024, 512] inb)) (ix2 r x)
      = Cert.Reference9Ideal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ ⟨512 * j + x.val, by omega⟩) := by
  pointwise [k0_pay11, Cert.Reference9Ideal.Read.val_main_v18, Cert.Reference9Ideal.Read.val_main_v19, Cert.Reference9Ideal.Read.val_main_call0_v0, Cert.Reference9Ideal.Read.val_main_call0_cst]
  rw [inner m c t j hj inb]

/-- The first five products with the down projection added to the middle stream, as the body computes them. -/
def five (c : Dev nD) (t : Fin cfg0.N) : FVec Ideal S512x1024 .f32 :=
  k0_pay31 (k0_pay3 (iblk m c 0 t) (iblk m c 1 t) (iblk m c 3 t))
    (k0_pay11 (k0_pay4 (iblk m c 0 t) (iblk m c 1 t) (iblk m c 3 t) (iblk m c 2 t)) (View.ld (iblk m c 4 t) (Rect.unit ![0, 0, 0, 0] ![1, 1, 1024, 512] inb_S1x8x1024x512_S1x1x1024x512_0_0_0_0))) (View.ld (iblk m c 5 t) (Rect.unit ![0, 0, 0] ![1, 512, 1024] inb_S1x4096x1024_S1x512x1024_0_0_0))
    (k0_pay11 (k0_pay4 (iblk m c 0 t) (iblk m c 1 t) (iblk m c 3 t) (iblk m c 2 t)) (View.ld (iblk m c 4 t) (Rect.unit ![0, 1, 0, 0] ![1, 1, 1024, 512] inb_S1x8x1024x512_S1x1x1024x512_0_1_0_0))) (View.ld (iblk m c 5 t) (Rect.unit ![0, 512, 0] ![1, 512, 1024] inb_S1x4096x1024_S1x512x1024_0_512_0))
    (k0_pay11 (k0_pay4 (iblk m c 0 t) (iblk m c 1 t) (iblk m c 3 t) (iblk m c 2 t)) (View.ld (iblk m c 4 t) (Rect.unit ![0, 2, 0, 0] ![1, 1, 1024, 512] inb_S1x8x1024x512_S1x1x1024x512_0_2_0_0))) (View.ld (iblk m c 5 t) (Rect.unit ![0, 1024, 0] ![1, 512, 1024] inb_S1x4096x1024_S1x512x1024_0_1024_0))
    (k0_pay11 (k0_pay4 (iblk m c 0 t) (iblk m c 1 t) (iblk m c 3 t) (iblk m c 2 t)) (View.ld (iblk m c 4 t) (Rect.unit ![0, 3, 0, 0] ![1, 1, 1024, 512] inb_S1x8x1024x512_S1x1x1024x512_0_3_0_0))) (View.ld (iblk m c 5 t) (Rect.unit ![0, 1536, 0] ![1, 512, 1024] inb_S1x4096x1024_S1x512x1024_0_1536_0))
    (k0_pay11 (k0_pay4 (iblk m c 0 t) (iblk m c 1 t) (iblk m c 3 t) (iblk m c 2 t)) (View.ld (iblk m c 4 t) (Rect.unit ![0, 4, 0, 0] ![1, 1, 1024, 512] inb_S1x8x1024x512_S1x1x1024x512_0_4_0_0))) (View.ld (iblk m c 5 t) (Rect.unit ![0, 2048, 0] ![1, 512, 1024] inb_S1x4096x1024_S1x512x1024_0_2048_0))

/-- The last three blocks of the activations and of the down projection. -/
def act5 (c : Dev nD) (t : Fin cfg0.N) : FVec Ideal S512x512 .bf16 := (k0_pay11 (k0_pay4 (iblk m c 0 t) (iblk m c 1 t) (iblk m c 3 t) (iblk m c 2 t)) (View.ld (iblk m c 4 t) (Rect.unit ![0, 5, 0, 0] ![1, 1, 1024, 512] inb_S1x8x1024x512_S1x1x1024x512_0_5_0_0)))
def act6 (c : Dev nD) (t : Fin cfg0.N) : FVec Ideal S512x512 .bf16 := (k0_pay11 (k0_pay4 (iblk m c 0 t) (iblk m c 1 t) (iblk m c 3 t) (iblk m c 2 t)) (View.ld (iblk m c 4 t) (Rect.unit ![0, 6, 0, 0] ![1, 1, 1024, 512] inb_S1x8x1024x512_S1x1x1024x512_0_6_0_0)))
def act7 (c : Dev nD) (t : Fin cfg0.N) : FVec Ideal S512x512 .bf16 := (k0_pay11 (k0_pay4 (iblk m c 0 t) (iblk m c 1 t) (iblk m c 3 t) (iblk m c 2 t)) (View.ld (iblk m c 4 t) (Rect.unit ![0, 7, 0, 0] ![1, 1, 1024, 512] inb_S1x8x1024x512_S1x1x1024x512_0_7_0_0)))
def down5 (c : Dev nD) (t : Fin cfg0.N) : FVec Ideal S512x1024 .bf16 := k0_pay32 (View.ld (iblk m c 5 t) (Rect.unit ![0, 2560, 0] ![1, 512, 1024] inb_S1x4096x1024_S1x512x1024_0_2560_0))
def down6 (c : Dev nD) (t : Fin cfg0.N) : FVec Ideal S1x512x1024 .bf16 := (View.ld (iblk m c 5 t) (Rect.unit ![0, 3072, 0] ![1, 512, 1024] inb_S1x4096x1024_S1x512x1024_0_3072_0))
def down7 (c : Dev nD) (t : Fin cfg0.N) : FVec Ideal S1x512x1024 .bf16 := (View.ld (iblk m c 5 t) (Rect.unit ![0, 3584, 0] ![1, 512, 1024] inb_S1x4096x1024_S1x512x1024_0_3584_0))

/-- A row of the layer's output. -/
theorem out (c : Dev nD) (t : Fin cfg0.N) (r : Fin 512) (k : Fin 1024) :
    k0_pay33 (five m c t) (act5 m c t) (down5 m c t) (act6 m c t) (down6 m c t) (act7 m c t) (down7 m c t) (ix2 r k) = Cert.Reference9Ideal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + r.val, row_lt t r⟩ k) := by
  pointwise [k0_pay33, five, act5, act6, act7, down5, down6, down7, k0_pay31, k0_pay32, Cert.Reference9Ideal.Read.val_main_v20, Cert.Reference9Ideal.Read.val_main_v21]
  simp (disch := decide) only [act, mid, Nat.mul_zero, Nat.zero_add, Nat.reduceMul]
  refine Eq.trans (Blocks.add_sum_eight _ fun l : Fin 4096 => Cert.Reference9Ideal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + r.val, row_lt t r⟩ l)
      * (show FVec Ideal S1x4096x1024 .bf16 from iblk m c 5 t) (ix3 0 l k)) ?_
  blk_point [iblk, V, idx_val t]

/-- One over the root of a row's mean square. -/
theorem root (c : Dev nD) (t : Fin cfg0.N) (r : Fin 512) :
    k0_pay39 (k0_pay37 (five m c t) (act5 m c t) (down5 m c t) (act6 m c t) (down6 m c t) (act7 m c t) (down7 m c t)) k0_pay38 (ix2 r (0 : Fin 1)) = Cert.Reference9Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + r.val, row_lt t r⟩ (0 : Fin 1)) := by
  pointwise [k0_pay39, k0_pay37, k0_pay38, Cert.Reference9Ideal.Read.val_main_v26, Cert.Reference9Ideal.Read.val_main_v29, Cert.Reference9Ideal.Read.val_main_v30, Cert.Reference9Ideal.Read.val_main_v31, Cert.Reference9Ideal.Read.val_main_v32, Cert.Reference9Ideal.Read.val_main_v33, Cert.Reference9Ideal.Read.val_main_v34, Cert.Reference9Ideal.Read.val_main_v35, Cert.Reference9Ideal.Read.val_main_cst_2, Cert.Reference9Ideal.Read.val_main_cst_3, Cert.Reference9Ideal.Read.val_main_cst_4, Cert.Reference9Ideal.Read.val_main_cst_5]
  simp only [out]

/-- A row of the output over its norm. -/
theorem normed_out (c : Dev nD) (t : Fin cfg0.N) (r : Fin 512) (k : Fin 1024) :
    k0_pay40 (k0_pay33 (five m c t) (act5 m c t) (down5 m c t) (act6 m c t) (down6 m c t) (act7 m c t) (down7 m c t)) (k0_pay37 (five m c t) (act5 m c t) (down5 m c t) (act6 m c t) (down6 m c t) (act7 m c t) (down7 m c t)) k0_pay38 (ix2 r k) = Cert.Reference9Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + r.val, row_lt t r⟩ k) := by
  pointwise [k0_pay40, Cert.Reference9Ideal.Read.val_main_v39, Cert.Reference9Ideal.Read.val_main_v40]
  simp only [root, out]

/-- The error at one place. -/
theorem error (c : Dev nD) (t : Fin cfg0.N) (r : Fin 512) (k : Fin 1024) :
    k0_pay35 (five m c t) (act5 m c t) (down5 m c t) (act6 m c t) (down6 m c t) (act7 m c t) (down7 m c t) (iblk m c 6 t) (iblk m c 7 t) (ix2 r k) = Cert.Reference9Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨512 * t.val + r.val, row_lt t r⟩ k) := by
  pointwise [k0_pay35, k0_pay34, Cert.Reference9Ideal.Read.val_main_v22, Cert.Reference9Ideal.Read.val_main_v23, Cert.Reference9Ideal.Read.val_main_v24, Cert.Reference9Ideal.Read.val_main_v25, Cert.Reference9Ideal.Read.val_main_v26, Cert.Reference9Ideal.Read.val_main_v29, Cert.Reference9Ideal.Read.val_main_v30, Cert.Reference9Ideal.Read.val_main_v31, Cert.Reference9Ideal.Read.val_main_v32, Cert.Reference9Ideal.Read.val_main_v33, Cert.Reference9Ideal.Read.val_main_v34, Cert.Reference9Ideal.Read.val_main_v35, Cert.Reference9Ideal.Read.val_main_v39, Cert.Reference9Ideal.Read.val_main_v40, Cert.Reference9Ideal.Read.val_main_v41, Cert.Reference9Ideal.Read.val_main_v42, Cert.Reference9Ideal.Read.val_main_cst_2, Cert.Reference9Ideal.Read.val_main_cst_3, Cert.Reference9Ideal.Read.val_main_cst_4, Cert.Reference9Ideal.Read.val_main_cst_5]
  simp only [out]
  blk_point [iblk, V, idx_val t]

/-- The gradient past the last gain. -/
theorem back (c : Dev nD) (t : Fin cfg0.N) (r : Fin 512) (k : Fin 1024) :
    k0_pay36 (five m c t) (act5 m c t) (down5 m c t) (act6 m c t) (down6 m c t) (act7 m c t) (down7 m c t) (iblk m c 6 t) (iblk m c 7 t) (ix2 r k) = Cert.Reference9Ideal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨512 * t.val + r.val, row_lt t r⟩ k) := by
  refine Eq.trans ?_ (error_share _ _ _ _ _ _ _ _ _ k)
  pointwise [k0_pay36]
  simp only [error]

/-- The gradient at the normed row. -/
theorem gained (c : Dev nD) (t : Fin cfg0.N) (r : Fin 512) (k : Fin 1024) :
    k0_pay36 (five m c t) (act5 m c t) (down5 m c t) (act6 m c t) (down6 m c t) (act7 m c t) (down7 m c t) (iblk m c 6 t) (iblk m c 7 t) (ix2 r k) * k0_pay34 (iblk m c 6 t) (ix2 (0 : Fin 1) k) = Cert.Reference9Ideal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨512 * t.val + r.val, row_lt t r⟩ k) := by
  pointwise [k0_pay34, Cert.Reference9Ideal.Read.val_main_v22, Cert.Reference9Ideal.Read.val_main_v23, Cert.Reference9Ideal.Read.val_main_v24, Cert.Reference9Ideal.Read.val_main_v25, Cert.Reference9Ideal.Read.val_main_v59]
  simp only [back]
  blk_point [iblk, V, idx_val t]

/-- The gradient of the output at one place. -/
theorem point (c : Dev nD) (t : Fin cfg0.N) (ho : ∀ r k, IsReal (Cert.Reference9Ideal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r k))) (hg : ∀ r k, IsReal (Cert.Reference9Ideal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r k))) (r : Fin 512) (k : Fin 1024) :
    k0_pay41 (k0_pay33 (five m c t) (act5 m c t) (down5 m c t) (act6 m c t) (down6 m c t) (act7 m c t) (down7 m c t)) (k0_pay34 (iblk m c 6 t)) (k0_pay36 (five m c t) (act5 m c t) (down5 m c t) (act6 m c t) (down6 m c t) (act7 m c t) (down7 m c t) (iblk m c 6 t) (iblk m c 7 t)) (k0_pay37 (five m c t) (act5 m c t) (down5 m c t) (act6 m c t) (down6 m c t) (act7 m c t) (down7 m c t)) k0_pay38 (ix2 r k) = Cert.Reference9Ideal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨512 * t.val + r.val, row_lt t r⟩ k) := by
  rw [dy_eq _ _ _ _ _ _ _ _ ho hg, ← n1024_val]
  pointwise [k0_pay41]
  simp only [root, normed_out, gained]

/-- One grid point's part of the gain's gradient. -/
theorem part (c : Dev nD) (t : Fin cfg0.N) (p : Fin 8) (k : Fin 1024) :
    k0_pay43 (k0_pay33 (five m c t) (act5 m c t) (down5 m c t) (act6 m c t) (down6 m c t) (act7 m c t) (down7 m c t)) (k0_pay36 (five m c t) (act5 m c t) (down5 m c t) (act6 m c t) (down6 m c t) (act7 m c t) (down7 m c t) (iblk m c 6 t) (iblk m c 7 t)) (k0_pay37 (five m c t) (act5 m c t) (down5 m c t) (act6 m c t) (down6 m c t) (act7 m c t) (down7 m c t)) k0_pay38 (ix2 p k)
      = ∑ x : Fin 64, Cert.Reference9Ideal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨(t.val * 64 + x.val) * 8 + p.val, copy_lt t x p⟩ k) := by
  pointwise [k0_pay43, Cert.Reference9Ideal.Read.val_main_v58]
  simp only [back, normed_out]
  refine Finset.sum_congr rfl fun x _ => ?_
  rw [mul_comm]
  blk_point []

/-- A later point adds its part to what is there. -/
theorem carried (a b : FVec Ideal S512x1024 .f32) (d e : FVec Ideal S512x1 .f32) (acc : FVec Ideal S8x1024 .f32) (j : S8x1024.Idx) :
    k0_pay44 a b d e acc j = acc j + k0_pay43 a b d e j := by
  obtain ⟨p, k, rfl⟩ : ∃ (p : Fin 8) (k : Fin 1024), j = ix2 p k := ⟨j 0, j 1, eq_ix2 j⟩
  pointwise [k0_pay44, k0_pay43]

/-- One grid point's part of the loss. -/
theorem loss_part (c : Dev nD) (t : Fin cfg0.N) (p : Fin 8) (k : Fin 128) :
    k0_pay1 (k0_pay45 (k0_pay35 (five m c t) (act5 m c t) (down5 m c t) (act6 m c t) (down6 m c t) (act7 m c t) (down7 m c t) (iblk m c 6 t) (iblk m c 7 t))) (ix2 p k)
      = ∑ x : Fin 64, Cert.Reference9Ideal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix1 ⟨(t.val * 64 + x.val) * 8 + p.val, copy_lt t x p⟩) := by
  pointwise [k0_pay1, k0_pay45, Cert.Reference9Ideal.Read.val_main_v43, Cert.Reference9Ideal.Read.val_main_v46, Cert.Reference9Ideal.Read.val_main_v47, Cert.Reference9Ideal.Read.val_main_v48, Cert.Reference9Ideal.Read.val_main_v49, Cert.Reference9Ideal.Read.val_main_v50, Cert.Reference9Ideal.Read.val_main_cst_8, Cert.Reference9Ideal.Read.val_main_cst_9, Cert.Reference9Ideal.Read.val_main_cst_10]
  simp only [error]
  blk_point []

theorem loss_carried (a : FVec Ideal S64x8x128 .f32) (acc : FVec Ideal S8x128 .f32) (j : S8x128.Idx) :
    k0_pay2 a acc j = acc j + k0_pay1 a j := by
  obtain ⟨p, k, rfl⟩ : ∃ (p : Fin 8) (k : Fin 128), j = ix2 p k := ⟨j 0, j 1, eq_ix2 j⟩
  pointwise [k0_pay2, k0_pay1]

/-! ## What a grid point leaves in each window -/

theorem left_8 (c : Dev nD) (t : Fin cfg0.N) : (outsAt0 m c t.val t.isLt).1 = k0_pay41 (k0_pay33 (five m c t) (act5 m c t) (down5 m c t) (act6 m c t) (down6 m c t) (act7 m c t) (down7 m c t)) (k0_pay34 (iblk m c 6 t)) (k0_pay36 (five m c t) (act5 m c t) (down5 m c t) (act6 m c t) (down6 m c t) (act7 m c t) (down7 m c t) (iblk m c 6 t) (iblk m c 7 t)) (k0_pay37 (five m c t) (act5 m c t) (down5 m c t) (act6 m c t) (down6 m c t) (act7 m c t) (down7 m c t)) k0_pay38 := by
  have ht : t.val < 8 := lt_of_lt_of_eq t.isLt (show cfg0.N = 8 from N_0)
  by_cases h : t.val % 8 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

theorem left_9 (c : Dev nD) (t : Fin cfg0.N) : (outsAt0 m c t.val t.isLt).2.1 = k0_pay3 (iblk m c 0 t) (iblk m c 1 t) (iblk m c 3 t) := by
  have ht : t.val < 8 := lt_of_lt_of_eq t.isLt (show cfg0.N = 8 from N_0)
  by_cases h : t.val % 8 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out

theorem left_11 (c : Dev nD) (t : Fin cfg0.N) : (outsAt0 m c t.val t.isLt).2.2.2.1 = k0_pay4 (iblk m c 0 t) (iblk m c 1 t) (iblk m c 3 t) (iblk m c 2 t) := by
  have ht : t.val < 8 := lt_of_lt_of_eq t.isLt (show cfg0.N = 8 from N_0)
  by_cases h : t.val % 8 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out

theorem left_12 (c : Dev nD) (t : Fin cfg0.N) : (outsAt0 m c t.val t.isLt).2.2.2.2.1 = k0_pay42 (k0_pay33 (five m c t) (act5 m c t) (down5 m c t) (act6 m c t) (down6 m c t) (act7 m c t) (down7 m c t)) (k0_pay34 (iblk m c 6 t)) (k0_pay36 (five m c t) (act5 m c t) (down5 m c t) (act6 m c t) (down6 m c t) (act7 m c t) (down7 m c t) (iblk m c 6 t) (iblk m c 7 t)) (k0_pay37 (five m c t) (act5 m c t) (down5 m c t) (act6 m c t) (down6 m c t) (act7 m c t) (down7 m c t)) k0_pay38 := by
  have ht : t.val < 8 := lt_of_lt_of_eq t.isLt (show cfg0.N = 8 from N_0)
  by_cases h : t.val % 8 = 0
  on_goal 1 => rw [outsAt0_A m c t h (by omega) h (by omega)]
  on_goal 2 => rw [outsAt0_B m c t h (by omega) h (by omega)]
  all_goals
    funext y
    frame_open
    simp (disch := decide) only [↓ View.readCov_skip, ↓ View.readCov_cons_toLoadRect, ↓ View.readCov_fill]
    frame_out
    rfl

/-- The eight tiles of the inner activations. -/
theorem left_10 (c : Dev nD) (t : Fin cfg0.N) (y : S512x4096.Idx) : (outsAt0 m c t.val t.isLt).2.2.1 y = Cert.Reference9Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + (y 0).val, row_lt t (y 0)⟩ (y 1)) := by
  have ht : t.val < 8 := lt_of_lt_of_eq t.isLt (show cfg0.N = 8 from N_0)
  by_cases h : t.val % 8 = 0
  on_goal 1 => rw [outsAt0_A m c t h (by omega) h (by omega)]
  on_goal 2 => rw [outsAt0_B m c t h (by omega) h (by omega)]
  all_goals
    frame_open
    frame_out
    canon_tiles x hx
    all_goals
      obtain ⟨r, k, rfl⟩ : ∃ (r : Fin 512) (k : Fin 512), x = ix2 r k := ⟨x 0, x 1, eq_ix2 x⟩
      simp only [ix2_0, ix2_1] at hx0 hx1
      refine (inner_rounded m c t _ (by decide) _ r k).trans ?_
      blk_point []

/-! ## The arrays after the run -/

theorem narrow (a b : FVec Ideal S512x1024 .f32) (g : FVec Ideal S1x1024 .f32) (d e : FVec Ideal S512x1 .f32) (r : Fin 512) (k : Fin 1024) :
    k0_pay42 a g b d e (ix2 r k) = k0_pay41 a g b d e (ix2 r k) := by
  pointwise [k0_pay42]

/-- The gradient of the layer's output. -/
theorem final8 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) : (dats m 0 c).arrAt 8 (cfgs 0).N = Cert.Reference9Ideal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have ho := real_out _ _ _ _ _ _ h0 h1 h2 h3 h4 h5
  have hg := real_grad _ _ _ _ _ _ _ _ h6 h7 ho
  refine (dats m 0 c).arrAt_eq_of_covers 8 _ (by decide +kernel) fun (t : Fin cfg0.N) hf y => ?_
  have hq := point m c t ho hg (y 0) (y 1)
  blk_simp; rw [after0_8, left_8]
  refine (congrArg _ (eq_ix2 y)).trans ?_
  refine hq.trans ?_
  blk_point [idx_val t]

/-- The middle stream. -/
theorem final9 (c : Dev nD) : (dats m 0 c).arrAt 9 (cfgs 0).N = Cert.Reference9Ideal.Read.val_main_v1 (F := Ideal) (m ((c : Thread nD τ).loc main_arg0)) (m ((c : Thread nD τ).loc main_arg1)) (m ((c : Thread nD τ).loc main_arg3)) := by
  refine (dats m 0 c).arrAt_eq_of_covers 9 _ (by decide +kernel) fun (t : Fin cfg0.N) hf y => ?_
  have hq := mid m c t (y 0) (y 1)
  blk_simp; rw [after0_9, left_9]
  refine (congrArg _ (eq_ix2 y)).trans ?_
  refine hq.trans ?_
  blk_point [idx_val t]

/-- The inner activations. -/
theorem final10 (c : Dev nD) : (dats m 0 c).arrAt 10 (cfgs 0).N = Cert.Reference9Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun (t : Fin cfg0.N) hf y => ?_
  have hq := left_10 m c t y
  blk_simp; rw [after0_10, left_10]
  blk_point [idx_val t]

/-- The normed middle stream. -/
theorem final11 (c : Dev nD) : (dats m 0 c).arrAt 11 (cfgs 0).N = Cert.Reference9Ideal.Read.val_main_v79 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun (t : Fin cfg0.N) hf y => ?_
  have hq := normed m c t (y 0) (y 1)
  blk_simp; rw [after0_11, left_11]
  refine (congrArg _ (eq_ix2 y)).trans ?_
  refine hq.trans ?_
  pointwise [Cert.Reference9Ideal.Read.val_main_v79]
  blk_point [idx_val t]

/-- The gradient of the layer's output in the narrow format. -/
theorem final12 (c : Dev nD) (h0 : ∀ i, IsReal ((m ((c : Thread nD τ).loc main_arg0)) i)) (h1 : ∀ i, IsReal ((m ((c : Thread nD τ).loc main_arg1)) i)) (h2 : ∀ i, IsReal ((m ((c : Thread nD τ).loc main_arg2)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) : (dats m 0 c).arrAt 12 (cfgs 0).N = Cert.Reference9Ideal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have ho := real_out _ _ _ _ _ _ h0 h1 h2 h3 h4 h5
  have hg := real_grad _ _ _ _ _ _ _ _ h6 h7 ho
  refine (dats m 0 c).arrAt_eq_of_covers 12 _ (by decide +kernel) fun (t : Fin cfg0.N) hf y => ?_
  have hq := point m c t ho hg (y 0) (y 1)
  blk_simp; rw [after0_12, left_12]
  refine (congrArg _ (eq_ix2 y)).trans ?_
  refine (narrow _ _ _ _ _ _ _).trans (hq.trans ?_)
  pointwise [Cert.Reference9Ideal.Read.val_main_v80]
  blk_point [idx_val t]

/-- The gradient of the eight copies of the last norm's gain. -/
theorem final13 (c : Dev nD) : (dats m 0 c).arrAt 13 (cfgs 0).N = Cert.Reference9Ideal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 13 t0_7 (by decide +kernel) _ fun j => ?_
  blk_simp
  rw [after0_13, Pipeline.eq_sum_fin_of_reset_step_apply_last (fun n h => (outsAt0 m c n h).2.2.2.2.2.1) 8 (fun _ => 0)
    (fun t j => k0_pay43 (k0_pay33 (five m c t) (act5 m c t) (down5 m c t) (act6 m c t) (down6 m c t) (act7 m c t) (down7 m c t)) (k0_pay36 (five m c t) (act5 m c t) (down5 m c t) (act6 m c t) (down6 m c t) (act7 m c t) (down7 m c t) (iblk m c 6 t) (iblk m c 7 t)) (k0_pay37 (five m c t) (act5 m c t) (down5 m c t) (act6 m c t) (down6 m c t) (act7 m c t) (down7 m c t)) k0_pay38 j)
    (fun t h j => by
      have ht : t.val < 8 := lt_of_lt_of_eq t.isLt (show cfg0.N = 8 from N_0)
      rw [outsAt0_A m c t h (by omega) h (by omega)]
      frame_open
      simp (disch := decide) only [↓ View.readCov_skip, ↓ View.readCov_cons_toLoadRect, ↓ View.readCov_fill]
      frame_out
      exact (zero_add _).symm)
    (fun t h j => by
      have ht : t.val < 8 := lt_of_lt_of_eq t.isLt (show cfg0.N = 8 from N_0)
      rw [outsAt0_B m c t h (by omega) h (by omega)]
      frame_open
      simp (disch := decide) only [↓ View.readCov_skip, ↓ View.readCov_cons_toLoadRect, ↓ View.readCov_fill]
      frame_out
      exact carried _ _ _ _ _ j)
    (le_of_eq N_0) t0_7 rfl j, zero_add]
  obtain ⟨p, k, rfl⟩ : ∃ (p : Fin 8) (k : Fin 1024), j = ix2 p k := ⟨j 0, j 1, eq_ix2 j⟩
  exact (Finset.sum_congr rfl fun t _ => part m c t p k).trans (dgain_eq _ _ _ _ _ _ _ _ p k)

/-- The loss, by the residue of the row. -/
theorem final14 (c : Dev nD) : (dats m 0 c).arrAt 14 (cfgs 0).N = Cert.Reference9Ideal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 14 t0_7 (by decide +kernel) _ fun j => ?_
  blk_simp
  rw [after0_14, Pipeline.eq_sum_fin_of_reset_step_apply_last (fun n h => (outsAt0 m c n h).2.2.2.2.2.2) 8 (fun _ => 0)
    (fun t j => k0_pay1 (k0_pay45 (k0_pay35 (five m c t) (act5 m c t) (down5 m c t) (act6 m c t) (down6 m c t) (act7 m c t) (down7 m c t) (iblk m c 6 t) (iblk m c 7 t))) j)
    (fun t h j => by
      have ht : t.val < 8 := lt_of_lt_of_eq t.isLt (show cfg0.N = 8 from N_0)
      rw [outsAt0_A m c t h (by omega) h (by omega)]
      frame_open
      simp (disch := decide) only [↓ View.readCov_skip, ↓ View.readCov_cons_toLoadRect, ↓ View.readCov_fill]
      frame_out
      exact (zero_add _).symm)
    (fun t h j => by
      have ht : t.val < 8 := lt_of_lt_of_eq t.isLt (show cfg0.N = 8 from N_0)
      rw [outsAt0_B m c t h (by omega) h (by omega)]
      frame_open
      simp (disch := decide) only [↓ View.readCov_skip, ↓ View.readCov_cons_toLoadRect, ↓ View.readCov_fill]
      frame_out
      exact loss_carried _ _ j)
    (le_of_eq N_0) t0_7 rfl j, zero_add]
  obtain ⟨p, k, rfl⟩ : ∃ (p : Fin 8) (k : Fin 128), j = ix2 p k := ⟨j 0, j 1, eq_ix2 j⟩
  exact (Finset.sum_congr rfl fun t _ => loss_part m c t p k).trans (loss_eq _ _ _ _ _ _ _ _ p k)

end Cert.Kernel9Ideal.Value
end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Reference1Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Reference17Ideal
public import proofs.«01_k».proof.Proof.Gen.Pre_finite1
public import proofs.«01_k».proof.Proof.Gen.Pre_finite
public import proofs.«01_k».proof.Proof.Gen.Pre_finite9
public import proofs.«01_k».proof.Proof.Blocks
public import proofs.«01_k».proof.Proof.LossBackward
public import proofs.«01_k».proof.Proof.MlpBackward0
public import proofs.«01_k».proof.Proof.MlpBackward1
public import proofs.«01_k».proof.Proof.RmsBackward
public import proofs.«01_k».proof.Proof.SmallFrames
public import proofs.«01_k».proof.Proof.SmallResults
public import proofs.«01_k».proof.Proof.SmallRun
public import proofs.«01_k».proof.Proof.Value1
public import proofs.«01_k».proof.Proof.Value10
public import proofs.«01_k».proof.Proof.Value11
public import proofs.«01_k».proof.Proof.Value12
public import proofs.«01_k».proof.Proof.Value13
public import proofs.«01_k».proof.Proof.Value14
public import proofs.«01_k».proof.Proof.Value15
public import proofs.«01_k».proof.Proof.Value16
public import proofs.«01_k».proof.Proof.Value17
public import proofs.«01_k».proof.Proof.Value2
public import proofs.«01_k».proof.Proof.Value3
public import proofs.«01_k».proof.Proof.Value4
public import proofs.«01_k».proof.Proof.Value6
public import proofs.«01_k».proof.Proof.Value7
public import proofs.«01_k».proof.Proof.Value8
public import proofs.«01_k».proof.Proof.Value9
public import Idealize.ShloMosaic.Adequacy
public import Idealize.ShloMosaic.Init
public import Idealize.ShloMosaic.Lib.Claim
public import Idealize.ShloMosaic.Lib.Quiescent
public import proofs.«01_k».proof.Proof.Gen.Kernel1Ideal.Value
public import proofs.«01_k».proof.Proof.Gen.Reference1Ideal.Run
public import proofs.«01_k».proof.Proof.Gen.Reference1Ideal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Reference17Ideal.Run
public import proofs.«01_k».proof.Proof.Gen.Reference17Ideal.Read

@[expose] public section

noncomputable section

namespace Cert.Proof

open Idealize.ShloMosaic Idealize.SL.Sem Cert.Kernel2
open Cert.RmsBackward

/-- Every run of `Reference2Ideal` ends with its arguments unchanged and every counter at zero. -/
theorem quiescent_Reference2Ideal : Cert.quiescent_Reference2Ideal := fun m ρ _ =>
  (θ_run Cert.Reference2Ideal.defs _ _).mono (fun r h => ⟨fun c => (h c).2,
      Idealize.ShloMosaic.sem_eq_zero_of_no_sems (by decide) r.2⟩) (Cert.Reference2Ideal.Value.run (F := Ideal) m ρ)

/-- Every run of `Reference3Ideal` ends with its arguments unchanged and every counter at zero. -/
theorem quiescent_Reference3Ideal : Cert.quiescent_Reference3Ideal := fun m ρ _ =>
  (θ_run Cert.Reference3Ideal.defs _ _).mono (fun r h => ⟨fun c => (h c).2,
      Idealize.ShloMosaic.sem_eq_zero_of_no_sems (by decide) r.2⟩) (Cert.Reference3Ideal.Value.run (F := Ideal) m ρ)

/-- Every run of `Reference4Ideal` ends with its arguments unchanged and every counter at zero. -/
theorem quiescent_Reference4Ideal : Cert.quiescent_Reference4Ideal := fun m ρ _ =>
  (θ_run Cert.Reference4Ideal.defs _ _).mono (fun r h => ⟨fun c => (h c).2,
      Idealize.ShloMosaic.sem_eq_zero_of_no_sems (by decide) r.2⟩) (Cert.Reference4Ideal.Value.run (F := Ideal) m ρ)

/-- Every run of `Reference1Ideal` ends with its arguments unchanged and every counter at zero. -/
theorem quiescent_Reference1Ideal : Cert.quiescent_Reference1Ideal := fun m ρ _ =>
  (θ_run Cert.Reference1Ideal.defs _ _).mono (fun r h => ⟨fun c => (h c).2.2.2.2.2.2.2.2,
      Idealize.ShloMosaic.sem_eq_zero_of_no_sems (by decide) r.2⟩) (Cert.Reference1Ideal.Value.run (F := Ideal) m ρ)

/-- Every run of `Reference1Ideal` ends with its arguments unchanged and every counter at zero. -/
theorem quiescent_Reference1Ideal_pre_finite1 : Cert.quiescent_Reference1Ideal_pre_finite1 := fun m ρ _ =>
  (θ_run Cert.Reference1Ideal.defs _ _).mono (fun r h => ⟨fun c => (h c).2.2.2.2.2.2.2.2,
      Idealize.ShloMosaic.sem_eq_zero_of_no_sems (by decide) r.2⟩) (Cert.Reference1Ideal.Value.run (F := Ideal) m ρ)

/-- Every run of `Reference12Ideal` ends with its arguments unchanged and every counter at zero. -/
theorem quiescent_Reference12Ideal : Cert.quiescent_Reference12Ideal := fun m ρ _ =>
  (θ_run Cert.Reference12Ideal.defs _ _).mono (fun r h => ⟨fun c => (h c).2.2.2.2.2.2.2.2,
      Idealize.ShloMosaic.sem_eq_zero_of_no_sems (by decide) r.2⟩) (Cert.Reference12Ideal.Value.run (F := Ideal) m ρ)

/-- Every run of `Reference12Ideal` ends with its arguments unchanged and every counter at zero. -/
theorem quiescent_Reference12Ideal_pre_finite1 : Cert.quiescent_Reference12Ideal_pre_finite1 := fun m ρ _ =>
  (θ_run Cert.Reference12Ideal.defs _ _).mono (fun r h => ⟨fun c => (h c).2.2.2.2.2.2.2.2,
      Idealize.ShloMosaic.sem_eq_zero_of_no_sems (by decide) r.2⟩) (Cert.Reference12Ideal.Value.run (F := Ideal) m ρ)

/-- Every run of `Reference6Ideal` ends with its arguments unchanged and every counter at zero. -/
theorem quiescent_Reference6Ideal : Cert.quiescent_Reference6Ideal := fun m ρ _ =>
  (θ_run Cert.Reference6Ideal.defs _ _).mono (fun r h => ⟨fun c => (h c).2.2.2,
      Idealize.ShloMosaic.sem_eq_zero_of_no_sems (by decide) r.2⟩) (Cert.Reference6Ideal.Value.run (F := Ideal) m ρ)

/-- Every run of `Reference6Ideal` ends with its arguments unchanged and every counter at zero. -/
theorem quiescent_Reference6Ideal_pre_finite : Cert.quiescent_Reference6Ideal_pre_finite := fun m ρ _ =>
  (θ_run Cert.Reference6Ideal.defs _ _).mono (fun r h => ⟨fun c => (h c).2.2.2,
      Idealize.ShloMosaic.sem_eq_zero_of_no_sems (by decide) r.2⟩) (Cert.Reference6Ideal.Value.run (F := Ideal) m ρ)

/-- Every run of `Reference7Ideal` ends with its arguments unchanged and every counter at zero. -/
theorem quiescent_Reference7Ideal : Cert.quiescent_Reference7Ideal := fun m ρ _ =>
  (θ_run Cert.Reference7Ideal.defs _ _).mono (fun r h => ⟨fun c => (h c).2.2.2,
      Idealize.ShloMosaic.sem_eq_zero_of_no_sems (by decide) r.2⟩) (Cert.Reference7Ideal.Value.run (F := Ideal) m ρ)

/-- Every run of `Reference7Ideal` ends with its arguments unchanged and every counter at zero. -/
theorem quiescent_Reference7Ideal_pre_finite : Cert.quiescent_Reference7Ideal_pre_finite := fun m ρ _ =>
  (θ_run Cert.Reference7Ideal.defs _ _).mono (fun r h => ⟨fun c => (h c).2.2.2,
      Idealize.ShloMosaic.sem_eq_zero_of_no_sems (by decide) r.2⟩) (Cert.Reference7Ideal.Value.run (F := Ideal) m ρ)

/-- Every run of `Reference8Ideal` ends with its arguments unchanged and every counter at zero. -/
theorem quiescent_Reference8Ideal : Cert.quiescent_Reference8Ideal := fun m ρ _ =>
  (θ_run Cert.Reference8Ideal.defs _ _).mono (fun r h => ⟨fun c => (h c).2.2.2.2,
      Idealize.ShloMosaic.sem_eq_zero_of_no_sems (by decide) r.2⟩) (Cert.Reference8Ideal.Value.run (F := Ideal) m ρ)

/-- Every run of `Reference9Ideal` ends with its arguments unchanged and every counter at zero. -/
theorem quiescent_Reference9Ideal : Cert.quiescent_Reference9Ideal := fun m ρ _ =>
  (θ_run Cert.Reference9Ideal.defs _ _).mono (fun r h => ⟨fun c => (h c).2.2.2.2.2.2.2,
      Idealize.ShloMosaic.sem_eq_zero_of_no_sems (by decide) r.2⟩) (Cert.Reference9Ideal.Value.run (F := Ideal) m ρ)

/-- Every run of `Reference9Ideal` ends with its arguments unchanged and every counter at zero. -/
theorem quiescent_Reference9Ideal_pre_finite9 : Cert.quiescent_Reference9Ideal_pre_finite9 := fun m ρ _ =>
  (θ_run Cert.Reference9Ideal.defs _ _).mono (fun r h => ⟨fun c => (h c).2.2.2.2.2.2.2,
      Idealize.ShloMosaic.sem_eq_zero_of_no_sems (by decide) r.2⟩) (Cert.Reference9Ideal.Value.run (F := Ideal) m ρ)

/-- Every run of `Reference10Ideal` ends with its arguments unchanged and every counter at zero. -/
theorem quiescent_Reference10Ideal : Cert.quiescent_Reference10Ideal := fun m ρ _ =>
  (θ_run Cert.Reference10Ideal.defs _ _).mono (fun r h => ⟨fun c => (h c).2.2,
      Idealize.ShloMosaic.sem_eq_zero_of_no_sems (by decide) r.2⟩) (Cert.Reference10Ideal.Value.run (F := Ideal) m ρ)

/-- Every run of `Reference11Ideal` ends with its arguments unchanged and every counter at zero. -/
theorem quiescent_Reference11Ideal : Cert.quiescent_Reference11Ideal := fun m ρ _ =>
  (θ_run Cert.Reference11Ideal.defs _ _).mono (fun r h => ⟨fun c => (h c).2.2,
      Idealize.ShloMosaic.sem_eq_zero_of_no_sems (by decide) r.2⟩) (Cert.Reference11Ideal.Value.run (F := Ideal) m ρ)

/-- Every run of `Reference13Ideal` ends with its arguments unchanged and every counter at zero. -/
theorem quiescent_Reference13Ideal : Cert.quiescent_Reference13Ideal := fun m ρ _ =>
  (θ_run Cert.Reference13Ideal.defs _ _).mono (fun r h => ⟨fun c => (h c).2.2.2.2,
      Idealize.ShloMosaic.sem_eq_zero_of_no_sems (by decide) r.2⟩) (Cert.Reference13Ideal.Value.run (F := Ideal) m ρ)

/-- Every run of `Reference14Ideal` ends with its arguments unchanged and every counter at zero. -/
theorem quiescent_Reference14Ideal : Cert.quiescent_Reference14Ideal := fun m ρ _ =>
  (θ_run Cert.Reference14Ideal.defs _ _).mono (fun r h => ⟨fun c => (h c).2.2.2.2,
      Idealize.ShloMosaic.sem_eq_zero_of_no_sems (by decide) r.2⟩) (Cert.Reference14Ideal.Value.run (F := Ideal) m ρ)

/-- Every run of `Reference15Ideal` ends with its arguments unchanged and every counter at zero. -/
theorem quiescent_Reference15Ideal : Cert.quiescent_Reference15Ideal := fun m ρ _ =>
  (θ_run Cert.Reference15Ideal.defs _ _).mono (fun r h => ⟨fun c => (h c).2.2.2.2,
      Idealize.ShloMosaic.sem_eq_zero_of_no_sems (by decide) r.2⟩) (Cert.Reference15Ideal.Value.run (F := Ideal) m ρ)

/-- Every run of `Reference16Ideal` ends with its arguments unchanged and every counter at zero. -/
theorem quiescent_Reference16Ideal : Cert.quiescent_Reference16Ideal := fun m ρ _ =>
  (θ_run Cert.Reference16Ideal.defs _ _).mono (fun r h => ⟨fun c => (h c).2.2.2.2,
      Idealize.ShloMosaic.sem_eq_zero_of_no_sems (by decide) r.2⟩) (Cert.Reference16Ideal.Value.run (F := Ideal) m ρ)

/-- Every run of `Reference17Ideal` ends with its arguments unchanged and every counter at zero. -/
theorem quiescent_Reference17Ideal : Cert.quiescent_Reference17Ideal := fun m ρ _ =>
  (θ_run Cert.Reference17Ideal.defs _ _).mono (fun r h => ⟨fun c => (h c).2.2.2.2.2.2.2.2.2.2.2.2.2.2.2.2.2.2.2.2.2.2.2.2,
      Idealize.ShloMosaic.sem_eq_zero_of_no_sems (by decide) r.2⟩) (Cert.Reference17Ideal.Value.run (F := Ideal) m ρ)

/-- Over the reals with infinities, `Kernel2Ideal` and `Reference2Ideal` leave the same values in the result array. -/
theorem algebraic_Kernel2Ideal_Reference2Ideal : Cert.algebraic_Kernel2Ideal_Reference2Ideal := by
  pair_intro
  · run_from Cert.Kernel2Ideal.Gen.run_main m g
  · run_from Cert.Reference2Ideal.Value.run m' g'
    exact (Cert.Kernel2Ideal.Value.final m c).symm

/-- Over the reals with infinities, `Kernel3Ideal` and `Reference3Ideal` leave the same values in the result array. -/
theorem algebraic_Kernel3Ideal_Reference3Ideal : Cert.algebraic_Kernel3Ideal_Reference3Ideal := by
  pair_intro
  · run_from Cert.Kernel3Ideal.Gen.run_main m g
  · run_from Cert.Reference3Ideal.Value.run m' g'
    exact (Cert.Kernel3Ideal.Value.final m c).symm

/-- Over the reals with infinities, `Kernel4Ideal` and `Reference4Ideal` leave the same values in the result array. -/
theorem algebraic_Kernel4Ideal_Reference4Ideal : Cert.algebraic_Kernel4Ideal_Reference4Ideal := by
  pair_intro
  · run_from Cert.Kernel4Ideal.Gen.run_main m g
  · run_from Cert.Reference4Ideal.Value.run m' g'
    exact (Cert.Kernel4Ideal.Value.final m c).symm

set_option maxHeartbeats 4000000 in
/-- Over the reals with infinities, `Kernel1Ideal` and `Reference1Ideal` leave the same values in each result array. -/
theorem algebraic_Kernel1Ideal_Reference1Ideal_pre_finite1 : Cert.algebraic_Kernel1Ideal_Reference1Ideal_pre_finite1 := by
  pair_intro
  · exact Cert.Kernel1Ideal.Value.run_blocks m g
  · run_from Cert.Reference1Ideal.Value.run m' g'
    · have e := Cert.Reference1Ideal.Read.val_main_v78_eq (F := Ideal) (StableHlo.launchContents m' c)
      simp only [StableHlo.launchContents_devRef, hagree c] at e
      exact e.trans (Cert.Kernel1Ideal.Value.final10 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm
    · have e := Cert.Reference1Ideal.Read.val_main_v107_eq (F := Ideal) (StableHlo.launchContents m' c)
      simp only [StableHlo.launchContents_devRef, hagree c] at e
      exact e.trans (Cert.Kernel1Ideal.Value.final11 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm
    · have e := Cert.Reference1Ideal.Read.val_main_v108_eq (F := Ideal) (StableHlo.launchContents m' c)
      simp only [StableHlo.launchContents_devRef, hagree c] at e
      exact e.trans (Cert.Kernel1Ideal.Value.final12 m c).symm
    · have e := Cert.Reference1Ideal.Read.val_main_v83_eq (F := Ideal) (StableHlo.launchContents m' c)
      simp only [StableHlo.launchContents_devRef, hagree c] at e
      exact e.trans (Cert.Kernel1Ideal.Value.final13 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm
    · have e := Cert.Reference1Ideal.Read.val_main_v99_eq (F := Ideal) (StableHlo.launchContents m' c)
      simp only [StableHlo.launchContents_devRef, hagree c] at e
      exact e.trans (Cert.Kernel1Ideal.Value.final14 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm
    · have e := Cert.Reference1Ideal.Read.val_main_v106_eq (F := Ideal) (StableHlo.launchContents m' c)
      simp only [StableHlo.launchContents_devRef, hagree c] at e
      exact e.trans (Cert.Kernel1Ideal.Value.final15 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm
    · have e := Cert.Reference1Ideal.Read.val_main_v80_eq (F := Ideal) (StableHlo.launchContents m' c)
      simp only [StableHlo.launchContents_devRef, hagree c] at e
      exact e.trans (Cert.Kernel1Ideal.Value.final16 m c).symm
    · have e := Cert.Reference1Ideal.Read.val_main_v101_eq (F := Ideal) (StableHlo.launchContents m' c)
      simp only [StableHlo.launchContents_devRef, hagree c] at e
      exact e.trans (Cert.Kernel1Ideal.Value.final17 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm

set_option maxHeartbeats 4000000 in
/-- Over the reals with infinities, `Kernel12Ideal` and `Reference12Ideal` leave the same values in each result array. -/
theorem algebraic_Kernel12Ideal_Reference12Ideal_pre_finite1 : Cert.algebraic_Kernel12Ideal_Reference12Ideal_pre_finite1 := by
  pair_intro
  · exact Cert.Kernel12Ideal.Value.run_blocks m g
  · run_from Cert.Reference12Ideal.Value.run m' g'
    · have e := Cert.Reference12Ideal.Read.val_main_v78_eq (F := Ideal) (StableHlo.launchContents m' c)
      simp only [StableHlo.launchContents_devRef, hagree c] at e
      exact e.trans (Cert.Kernel12Ideal.Value.final10 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm
    · have e := Cert.Reference12Ideal.Read.val_main_v107_eq (F := Ideal) (StableHlo.launchContents m' c)
      simp only [StableHlo.launchContents_devRef, hagree c] at e
      exact e.trans (Cert.Kernel12Ideal.Value.final11 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm
    · have e := Cert.Reference12Ideal.Read.val_main_v108_eq (F := Ideal) (StableHlo.launchContents m' c)
      simp only [StableHlo.launchContents_devRef, hagree c] at e
      exact e.trans (Cert.Kernel12Ideal.Value.final12 m c).symm
    · have e := Cert.Reference12Ideal.Read.val_main_v83_eq (F := Ideal) (StableHlo.launchContents m' c)
      simp only [StableHlo.launchContents_devRef, hagree c] at e
      exact e.trans (Cert.Kernel12Ideal.Value.final13 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm
    · have e := Cert.Reference12Ideal.Read.val_main_v99_eq (F := Ideal) (StableHlo.launchContents m' c)
      simp only [StableHlo.launchContents_devRef, hagree c] at e
      exact e.trans (Cert.Kernel12Ideal.Value.final14 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm
    · have e := Cert.Reference12Ideal.Read.val_main_v106_eq (F := Ideal) (StableHlo.launchContents m' c)
      simp only [StableHlo.launchContents_devRef, hagree c] at e
      exact e.trans (Cert.Kernel12Ideal.Value.final15 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm
    · have e := Cert.Reference12Ideal.Read.val_main_v80_eq (F := Ideal) (StableHlo.launchContents m' c)
      simp only [StableHlo.launchContents_devRef, hagree c] at e
      exact e.trans (Cert.Kernel12Ideal.Value.final16 m c).symm
    · have e := Cert.Reference12Ideal.Read.val_main_v101_eq (F := Ideal) (StableHlo.launchContents m' c)
      simp only [StableHlo.launchContents_devRef, hagree c] at e
      exact e.trans (Cert.Kernel12Ideal.Value.final17 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2.1) (isReal_of_finite (hpre c).2.2.2.2.2.2.2.2)).symm

/-- Over the reals with infinities, `Kernel6Ideal` and `Reference6Ideal` leave the same values in each result array. -/
theorem algebraic_Kernel6Ideal_Reference6Ideal_pre_finite : Cert.algebraic_Kernel6Ideal_Reference6Ideal_pre_finite := by
  pair_intro
  · run_from Cert.Kernel6Ideal.Gen.run_main m g
  · run_from Cert.Reference6Ideal.Value.run m' g'
    · rw [Cert.Reference6Ideal.Read.val_main_v40_eq, (hagree c).1, (hagree c).2.1, (hagree c).2.2.1, (hagree c).2.2.2.1, (hagree c).2.2.2.2]
      exact (Cert.Kernel6Ideal.Value.final6 m c (isReal_of_finite (hpre c).1) (isReal_of_finite (hpre c).2.1) (isReal_of_finite (hpre c).2.2.1) (isReal_of_finite (hpre c).2.2.2.1)).symm
    · rw [Cert.Reference6Ideal.Read.val_main_v41_eq, (hagree c).1, (hagree c).2.1, (hagree c).2.2.1, (hagree c).2.2.2.1, (hagree c).2.2.2.2]
      exact (Cert.Kernel6Ideal.Value.final7 m c (isReal_of_finite (hpre c).1) (isReal_of_finite (hpre c).2.1) (isReal_of_finite (hpre c).2.2.1) (isReal_of_finite (hpre c).2.2.2.1)).symm
    · exact (Cert.Kernel6Ideal.Value.final8 m c).symm

/-- Over the reals with infinities, `Kernel7Ideal` and `Reference7Ideal` leave the same values in each result array. -/
theorem algebraic_Kernel7Ideal_Reference7Ideal_pre_finite : Cert.algebraic_Kernel7Ideal_Reference7Ideal_pre_finite := by
  pair_intro
  · run_from Cert.Kernel7Ideal.Gen.run_main m g
  · run_from Cert.Reference7Ideal.Value.run m' g'
    · rw [Cert.Reference7Ideal.Read.val_main_v40_eq, (hagree c).1, (hagree c).2.1, (hagree c).2.2.1, (hagree c).2.2.2.1, (hagree c).2.2.2.2]
      exact (Cert.Kernel7Ideal.Value.final6 m c (isReal_of_finite (hpre c).1) (isReal_of_finite (hpre c).2.1) (isReal_of_finite (hpre c).2.2.1) (isReal_of_finite (hpre c).2.2.2.1)).symm
    · rw [Cert.Reference7Ideal.Read.val_main_v41_eq, (hagree c).1, (hagree c).2.1, (hagree c).2.2.1, (hagree c).2.2.2.1, (hagree c).2.2.2.2]
      exact (Cert.Kernel7Ideal.Value.final7 m c (isReal_of_finite (hpre c).1) (isReal_of_finite (hpre c).2.1) (isReal_of_finite (hpre c).2.2.1) (isReal_of_finite (hpre c).2.2.2.1)).symm
    · exact (Cert.Kernel7Ideal.Value.final8 m c).symm

/-- Over the reals with infinities, `Kernel8Ideal` and `Reference8Ideal` leave the same values in each result array. -/
theorem algebraic_Kernel8Ideal_Reference8Ideal : Cert.algebraic_Kernel8Ideal_Reference8Ideal := by
  pair_intro
  · run_from Cert.Kernel8Ideal.Gen.run_main m g
  · run_from Cert.Reference8Ideal.Value.run m' g'
    · exact (Cert.Kernel8Ideal.Value.final6 m c).symm
    · exact (Cert.Kernel8Ideal.Value.final7 m c).symm
    · exact (Cert.Kernel8Ideal.Value.final8 m c).symm
    · exact (Cert.Kernel8Ideal.Value.final9 m c).symm

set_option maxHeartbeats 4000000 in
/-- Over the reals with infinities, `Kernel9Ideal` and `Reference9Ideal` leave the same values in each result array. -/
theorem algebraic_Kernel9Ideal_Reference9Ideal_pre_finite9 : Cert.algebraic_Kernel9Ideal_Reference9Ideal_pre_finite9 := by
  pair_intro
  · run_from Cert.Kernel9Ideal.Gen.run_main m g
  · run_from Cert.Reference9Ideal.Value.run m' g'
    · rw [Cert.Reference9Ideal.Read.val_main_v71_eq, (hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.Kernel9Ideal.Value.final8 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2)).symm
    · exact (Cert.Kernel9Ideal.Value.final9 m c).symm
    · exact (Cert.Kernel9Ideal.Value.final10 m c).symm
    · exact (Cert.Kernel9Ideal.Value.final11 m c).symm
    · rw [Cert.Reference9Ideal.Read.val_main_v80_eq, (hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.Kernel9Ideal.Value.final12 m c (isReal_of_finite (hpre c).1) (isReal_of_finite (hpre c).2.1) (isReal_of_finite (hpre c).2.2.1) (isReal_of_finite (hpre c).2.2.2.1) (isReal_of_finite (hpre c).2.2.2.2.1) (isReal_of_finite (hpre c).2.2.2.2.2.1) (isReal_of_finite (hpre c).2.2.2.2.2.2.1) (isReal_of_finite (hpre c).2.2.2.2.2.2.2)).symm
    · rw [Cert.Reference9Ideal.Read.val_main_v73_eq, (hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.Kernel9Ideal.Value.final13 m c).symm
    · rw [Cert.Reference9Ideal.Read.val_main_v77_eq, (hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.Kernel9Ideal.Value.final14 m c).symm

/-- Over the reals with infinities, `Kernel10Ideal` and `Reference10Ideal` leave the same values in each result array. -/
theorem algebraic_Kernel10Ideal_Reference10Ideal : Cert.algebraic_Kernel10Ideal_Reference10Ideal := by
  pair_intro
  · run_from Cert.Kernel10Ideal.Gen.run_main m g
  · run_from Cert.Reference10Ideal.Value.run m' g'
    · rw [Cert.Reference10Ideal.Read.val_main_v85_eq, (hagree c).1, (hagree c).2.1, (hagree c).2.2]
      exact (Cert.Kernel10Ideal.Value.final5 m c).symm
    · exact (Cert.Kernel10Ideal.Value.final6 m c).symm

/-- Over the reals with infinities, `Kernel11Ideal` and `Reference11Ideal` leave the same values in each result array. -/
theorem algebraic_Kernel11Ideal_Reference11Ideal : Cert.algebraic_Kernel11Ideal_Reference11Ideal := by
  pair_intro
  · run_from Cert.Kernel11Ideal.Gen.run_main m g
  · run_from Cert.Reference11Ideal.Value.run m' g'
    · rw [Cert.Reference11Ideal.Read.val_main_v85_eq, (hagree c).1, (hagree c).2.1, (hagree c).2.2]
      exact (Cert.Kernel11Ideal.Value.final5 m c).symm
    · exact (Cert.Kernel11Ideal.Value.final6 m c).symm

/-- Over the reals with infinities, `Kernel13Ideal` and `Reference13Ideal` leave the same values in each result array. -/
theorem algebraic_Kernel13Ideal_Reference13Ideal : Cert.algebraic_Kernel13Ideal_Reference13Ideal := by
  pair_intro
  · run_from Cert.Kernel13Ideal.Gen.run_main m g
  · run_from Cert.Reference13Ideal.Value.run m' g'
    · exact (Cert.Kernel13Ideal.Value.final5 m c).symm
    · exact (Cert.Kernel13Ideal.Value.final6 m c).symm
    · exact (Cert.Kernel13Ideal.Value.final7 m c).symm
    · exact (Cert.Kernel13Ideal.Value.final8 m c).symm

/-- Over the reals with infinities, `Kernel14Ideal` and `Reference14Ideal` leave the same values in each result array. -/
theorem algebraic_Kernel14Ideal_Reference14Ideal : Cert.algebraic_Kernel14Ideal_Reference14Ideal := by
  pair_intro
  · run_from Cert.Kernel14Ideal.Gen.run_main m g
  · run_from Cert.Reference14Ideal.Value.run m' g'
    · exact (Cert.Kernel14Ideal.Value.final5 m c).symm
    · exact (Cert.Kernel14Ideal.Value.final6 m c).symm
    · exact (Cert.Kernel14Ideal.Value.final7 m c).symm
    · exact (Cert.Kernel14Ideal.Value.final8 m c).symm

/-- Over the reals with infinities, `Kernel15Ideal` and `Reference15Ideal` leave the same values in each result array. -/
theorem algebraic_Kernel15Ideal_Reference15Ideal : Cert.algebraic_Kernel15Ideal_Reference15Ideal := by
  pair_intro
  · run_from Cert.Kernel15Ideal.Gen.run_main m g
  · run_from Cert.Reference15Ideal.Value.run m' g'
    · exact (Cert.Kernel15Ideal.Value.final05 m c).symm
    · exact (Cert.Kernel15Ideal.Value.final06 m c).symm
    · exact (Cert.Kernel15Ideal.Value.final07 m c).symm
    · exact (Cert.Kernel15Ideal.Value.final08 m c).symm

/-- Over the reals with infinities, `Kernel16Ideal` and `Reference16Ideal` leave the same values in each result array. -/
theorem algebraic_Kernel16Ideal_Reference16Ideal : Cert.algebraic_Kernel16Ideal_Reference16Ideal := by
  pair_intro
  · run_from Cert.Kernel16Ideal.Gen.run_main m g
  · run_from Cert.Reference16Ideal.Value.run m' g'
    · exact (Cert.Kernel16Ideal.Value.final5 m c).symm
    · exact (Cert.Kernel16Ideal.Value.final6 m c).symm
    · exact (Cert.Kernel16Ideal.Value.final7 m c).symm
    · exact (Cert.Kernel16Ideal.Value.final8 m c).symm

set_option maxHeartbeats 4000000 in
/-- Over the reals with infinities, `Kernel17Ideal` and `Reference17Ideal` leave the same values in each result array. -/
theorem algebraic_Kernel17Ideal_Reference17Ideal : Cert.algebraic_Kernel17Ideal_Reference17Ideal := by
  pair_intro
  · exact Cert.Kernel17Ideal.SmallRun.run_blocks m g
  · run_from Cert.Reference17Ideal.Value.run m' g'
    · have e := Cert.Reference17Ideal.Read.val_main_v0_eq (F := Ideal) (StableHlo.launchContents m' c)
      simp only [StableHlo.launchContents_devRef, hagree c] at e
      exact e.trans (Cert.Kernel17Ideal.Value.final19 m c).symm
    · have e := Cert.Reference17Ideal.Read.val_main_v36_eq (F := Ideal) (StableHlo.launchContents m' c)
      simp only [StableHlo.launchContents_devRef, hagree c] at e
      exact e.trans (Cert.Kernel17Ideal.Value.final20 m c).symm
    · have e := Cert.Reference17Ideal.Read.val_main_v17_eq (F := Ideal) (StableHlo.launchContents m' c)
      simp only [StableHlo.launchContents_devRef, hagree c] at e
      exact e.trans (Cert.Kernel17Ideal.Value.final21 m c).symm
    · have e := Cert.Reference17Ideal.Read.val_main_v23_eq (F := Ideal) (StableHlo.launchContents m' c)
      simp only [StableHlo.launchContents_devRef, hagree c] at e
      exact e.trans (Cert.Kernel17Ideal.Value.final22 m c).symm
    · have e := Cert.Reference17Ideal.Read.val_main_v3_eq (F := Ideal) (StableHlo.launchContents m' c)
      simp only [StableHlo.launchContents_devRef, hagree c] at e
      exact e.trans (Cert.Kernel17Ideal.Value.final23 m c).symm
    · have e := Cert.Reference17Ideal.Read.val_main_v60_eq (F := Ideal) (StableHlo.launchContents m' c)
      simp only [StableHlo.launchContents_devRef, hagree c] at e
      exact e.trans (Cert.Kernel17Ideal.Value.final24 m c).symm
    · have e := Cert.Reference17Ideal.Read.val_main_v41_eq (F := Ideal) (StableHlo.launchContents m' c)
      simp only [StableHlo.launchContents_devRef, hagree c] at e
      exact e.trans (Cert.Kernel17Ideal.Value.final25 m c).symm
    · have e := Cert.Reference17Ideal.Read.val_main_v47_eq (F := Ideal) (StableHlo.launchContents m' c)
      simp only [StableHlo.launchContents_devRef, hagree c] at e
      exact e.trans (Cert.Kernel17Ideal.Value.final26 m c).symm
    · have e := Cert.Reference17Ideal.Read.val_main_v6_eq (F := Ideal) (StableHlo.launchContents m' c)
      simp only [StableHlo.launchContents_devRef, hagree c] at e
      exact e.trans (Cert.Kernel17Ideal.Value.final27 m c).symm
    · have e := Cert.Reference17Ideal.Read.val_main_v84_eq (F := Ideal) (StableHlo.launchContents m' c)
      simp only [StableHlo.launchContents_devRef, hagree c] at e
      exact e.trans (Cert.Kernel17Ideal.Value.final28 m c).symm
    · have e := Cert.Reference17Ideal.Read.val_main_v65_eq (F := Ideal) (StableHlo.launchContents m' c)
      simp only [StableHlo.launchContents_devRef, hagree c] at e
      exact e.trans (Cert.Kernel17Ideal.Value.final29 m c).symm
    · have e := Cert.Reference17Ideal.Read.val_main_v71_eq (F := Ideal) (StableHlo.launchContents m' c)
      simp only [StableHlo.launchContents_devRef, hagree c] at e
      exact e.trans (Cert.Kernel17Ideal.Value.final30 m c).symm
    · have e := Cert.Reference17Ideal.Read.val_main_v10_eq (F := Ideal) (StableHlo.launchContents m' c)
      simp only [StableHlo.launchContents_devRef, hagree c] at e
      exact e.trans (Cert.Kernel17Ideal.Value.final31 m c).symm
    · have e := Cert.Reference17Ideal.Read.val_main_v108_eq (F := Ideal) (StableHlo.launchContents m' c)
      simp only [StableHlo.launchContents_devRef, hagree c] at e
      exact e.trans (Cert.Kernel17Ideal.Value.final32 m c).symm
    · have e := Cert.Reference17Ideal.Read.val_main_v89_eq (F := Ideal) (StableHlo.launchContents m' c)
      simp only [StableHlo.launchContents_devRef, hagree c] at e
      exact e.trans (Cert.Kernel17Ideal.Value.final33 m c).symm
    · have e := Cert.Reference17Ideal.Read.val_main_v95_eq (F := Ideal) (StableHlo.launchContents m' c)
      simp only [StableHlo.launchContents_devRef, hagree c] at e
      exact e.trans (Cert.Kernel17Ideal.Value.final34 m c).symm
    · have e := Cert.Reference17Ideal.Read.val_main_v11_eq (F := Ideal) (StableHlo.launchContents m' c)
      simp only [StableHlo.launchContents_devRef, hagree c] at e
      exact e.trans (Cert.Kernel17Ideal.Value.final35 m c).symm
    · have e := Cert.Reference17Ideal.Read.val_main_v132_eq (F := Ideal) (StableHlo.launchContents m' c)
      simp only [StableHlo.launchContents_devRef, hagree c] at e
      exact e.trans (Cert.Kernel17Ideal.Value.final36 m c).symm
    · have e := Cert.Reference17Ideal.Read.val_main_v113_eq (F := Ideal) (StableHlo.launchContents m' c)
      simp only [StableHlo.launchContents_devRef, hagree c] at e
      exact e.trans (Cert.Kernel17Ideal.Value.final37 m c).symm
    · have e := Cert.Reference17Ideal.Read.val_main_v119_eq (F := Ideal) (StableHlo.launchContents m' c)
      simp only [StableHlo.launchContents_devRef, hagree c] at e
      exact e.trans (Cert.Kernel17Ideal.Value.final38 m c).symm
    · have e := Cert.Reference17Ideal.Read.val_main_v12_eq (F := Ideal) (StableHlo.launchContents m' c)
      simp only [StableHlo.launchContents_devRef, hagree c] at e
      exact e.trans (Cert.Kernel17Ideal.Value.final39 m c).symm
    · have e := Cert.Reference17Ideal.Read.val_main_v156_eq (F := Ideal) (StableHlo.launchContents m' c)
      simp only [StableHlo.launchContents_devRef, hagree c] at e
      exact e.trans (Cert.Kernel17Ideal.Value.final40 m c).symm
    · have e := Cert.Reference17Ideal.Read.val_main_v137_eq (F := Ideal) (StableHlo.launchContents m' c)
      simp only [StableHlo.launchContents_devRef, hagree c] at e
      exact e.trans (Cert.Kernel17Ideal.Value.final41 m c).symm
    · have e := Cert.Reference17Ideal.Read.val_main_v143_eq (F := Ideal) (StableHlo.launchContents m' c)
      simp only [StableHlo.launchContents_devRef, hagree c] at e
      exact e.trans (Cert.Kernel17Ideal.Value.final42 m c).symm

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel1.Gen.facts, Cert.Kernel1Ideal.Gen.facts, Cert.Reference1Ideal.Gen.facts, Cert.Kernel12.Gen.facts, Cert.Kernel12Ideal.Gen.facts, Cert.Reference12Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Pre_finite1.Gen.facts, Cert.Pre_finite.Gen.facts, Cert.Pre_finite9.Gen.facts,
  fun m ρ _ => Cert.Kernel2.Gen.frame m ρ,
  fun m ρ _ => Cert.Kernel2Ideal.Gen.frame m ρ,
  quiescent_Reference2Ideal,
  fun m ρ _ => Cert.Kernel3.Gen.frame m ρ,
  fun m ρ _ => Cert.Kernel3Ideal.Gen.frame m ρ,
  quiescent_Reference3Ideal,
  fun m ρ _ => Cert.Kernel4.Gen.frame m ρ,
  fun m ρ _ => Cert.Kernel4Ideal.Gen.frame m ρ,
  quiescent_Reference4Ideal,
  fun m ρ _ => Cert.Kernel1.Gen.frame m ρ,
  fun m ρ _ => Cert.Kernel1Ideal.Gen.frame m ρ,
  fun m ρ _ => Cert.Kernel1Ideal.Gen.frame m ρ,
  quiescent_Reference1Ideal,
  quiescent_Reference1Ideal_pre_finite1,
  fun m ρ _ => Cert.Kernel12.Gen.frame m ρ,
  fun m ρ _ => Cert.Kernel12Ideal.Gen.frame m ρ,
  fun m ρ _ => Cert.Kernel12Ideal.Gen.frame m ρ,
  quiescent_Reference12Ideal,
  quiescent_Reference12Ideal_pre_finite1,
  fun m ρ _ => Cert.Kernel6.Gen.frame m ρ,
  fun m ρ _ => Cert.Kernel6Ideal.Gen.frame m ρ,
  fun m ρ _ => Cert.Kernel6Ideal.Gen.frame m ρ,
  quiescent_Reference6Ideal,
  quiescent_Reference6Ideal_pre_finite,
  fun m ρ _ => Cert.Kernel7.Gen.frame m ρ,
  fun m ρ _ => Cert.Kernel7Ideal.Gen.frame m ρ,
  fun m ρ _ => Cert.Kernel7Ideal.Gen.frame m ρ,
  quiescent_Reference7Ideal,
  quiescent_Reference7Ideal_pre_finite,
  fun m ρ _ => Cert.Kernel8.Gen.frame m ρ,
  fun m ρ _ => Cert.Kernel8Ideal.Gen.frame m ρ,
  quiescent_Reference8Ideal,
  fun m ρ _ => Cert.Kernel9.Gen.frame m ρ,
  fun m ρ _ => Cert.Kernel9Ideal.Gen.frame m ρ,
  fun m ρ _ => Cert.Kernel9Ideal.Gen.frame m ρ,
  quiescent_Reference9Ideal,
  quiescent_Reference9Ideal_pre_finite9,
  fun m ρ _ => Cert.Kernel10.Gen.frame m ρ,
  fun m ρ _ => Cert.Kernel10Ideal.Gen.frame m ρ,
  quiescent_Reference10Ideal,
  fun m ρ _ => Cert.Kernel11.Gen.frame m ρ,
  fun m ρ _ => Cert.Kernel11Ideal.Gen.frame m ρ,
  quiescent_Reference11Ideal,
  fun m ρ _ => Cert.Kernel13.Gen.frame m ρ,
  fun m ρ _ => Cert.Kernel13Ideal.Gen.frame m ρ,
  quiescent_Reference13Ideal,
  fun m ρ _ => Cert.Kernel14.Gen.frame m ρ,
  fun m ρ _ => Cert.Kernel14Ideal.Gen.frame m ρ,
  quiescent_Reference14Ideal,
  fun m ρ _ => Cert.Kernel15.Gen.frame m ρ,
  fun m ρ _ => Cert.Kernel15Ideal.Gen.frame m ρ,
  quiescent_Reference15Ideal,
  fun m ρ _ => Cert.Kernel16.Gen.frame m ρ,
  fun m ρ _ => Cert.Kernel16Ideal.Gen.frame m ρ,
  quiescent_Reference16Ideal,
  Cert.Kernel17.SmallFrames.frame,
  fun m ρ _ => Cert.Kernel17Ideal.SmallRun.frame m ρ,
  quiescent_Reference17Ideal,
  trivial,
  algebraic_Kernel2Ideal_Reference2Ideal,
  trivial,
  algebraic_Kernel3Ideal_Reference3Ideal,
  trivial,
  algebraic_Kernel4Ideal_Reference4Ideal,
  trivial,
  algebraic_Kernel1Ideal_Reference1Ideal_pre_finite1,
  trivial,
  algebraic_Kernel12Ideal_Reference12Ideal_pre_finite1,
  trivial,
  algebraic_Kernel6Ideal_Reference6Ideal_pre_finite,
  trivial,
  algebraic_Kernel7Ideal_Reference7Ideal_pre_finite,
  trivial,
  algebraic_Kernel8Ideal_Reference8Ideal,
  trivial,
  algebraic_Kernel9Ideal_Reference9Ideal_pre_finite9,
  trivial,
  algebraic_Kernel10Ideal_Reference10Ideal,
  trivial,
  algebraic_Kernel11Ideal_Reference11Ideal,
  trivial,
  algebraic_Kernel13Ideal_Reference13Ideal,
  trivial,
  algebraic_Kernel14Ideal_Reference14Ideal,
  trivial,
  algebraic_Kernel15Ideal_Reference15Ideal,
  trivial,
  algebraic_Kernel16Ideal_Reference16Ideal,
  trivial,
  algebraic_Kernel17Ideal_Reference17Ideal⟩

end Cert.Proof

end
